-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3DD53B95#32 ((((Real.sqrt 192) * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥
  ∧ IdealRules.named_const.Statement Cert.Kernel2Ideal.κ "scale_log2e" .f32 0x3DD53B95#32 ((((Real.sqrt 192) * (Real.log 2))⁻¹ : ℝ) : EReal)
  ∧ IdealRules.named_const.Statement Cert.Kernel2Ideal.κ "log2e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "inv_width" .f32 0x3BAAAAAB#32 ((192⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v45_0)) (v1 : (c : Dev Cert.Kernel3Ideal.nD) → Buf (Elt Ideal) ((c.tc : Thread Cert.Kernel3Ideal.nD Cert.Kernel3Ideal.τ).loc Cert.Kernel3Ideal.main_v45_1)) (v2 : (c : Dev Cert.Kernel3Ideal.nD) → Buf (Elt Ideal) ((c.tc : Thread Cert.Kernel3Ideal.nD Cert.Kernel3Ideal.τ).loc Cert.Kernel3Ideal.main_v45_2)) (v3 : (c : Dev Cert.Kernel3Ideal.nD) → Buf (Elt Ideal) ((c.tc : Thread Cert.Kernel3Ideal.nD Cert.Kernel3Ideal.τ).loc Cert.Kernel3Ideal.main_v45_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v45_0) = v0 c
          ∧ r.2.mem ((c.tc : Thread Cert.Kernel3Ideal.nD Cert.Kernel3Ideal.τ).loc Cert.Kernel3Ideal.main_v45_1) = v1 c
          ∧ r.2.mem ((c.tc : Thread Cert.Kernel3Ideal.nD Cert.Kernel3Ideal.τ).loc Cert.Kernel3Ideal.main_v45_2) = v2 c
          ∧ r.2.mem ((c.tc : Thread Cert.Kernel3Ideal.nD Cert.Kernel3Ideal.τ).loc Cert.Kernel3Ideal.main_v45_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v137) = v0 c
          ∧ r.2.mem ((c.tc : Thread Cert.Reference3Ideal.nD Cert.Reference3Ideal.τ).loc Cert.Reference3Ideal.main_v140) = v1 c
          ∧ r.2.mem ((c.tc : Thread Cert.Reference3Ideal.nD Cert.Reference3Ideal.τ).loc Cert.Reference3Ideal.main_v143) = v2 c
          ∧ r.2.mem ((c.tc : Thread Cert.Reference3Ideal.nD Cert.Reference3Ideal.τ).loc Cert.Reference3Ideal.main_v145) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v12_7)) (v1 : (c : Dev Cert.Kernel4Ideal.nD) → Buf (Elt Ideal) ((c.tc : Thread Cert.Kernel4Ideal.nD Cert.Kernel4Ideal.τ).loc Cert.Kernel4Ideal.main_v12_8)) (v2 : (c : Dev Cert.Kernel4Ideal.nD) → Buf (Elt Ideal) ((c.tc : Thread Cert.Kernel4Ideal.nD Cert.Kernel4Ideal.τ).loc Cert.Kernel4Ideal.main_v12_12)) (v3 : (c : Dev Cert.Kernel4Ideal.nD) → Buf (Elt Ideal) ((c.tc : Thread Cert.Kernel4Ideal.nD Cert.Kernel4Ideal.τ).loc Cert.Kernel4Ideal.main_v12_13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_7) = v0 c
          ∧ r.2.mem ((c.tc : Thread Cert.Kernel4Ideal.nD Cert.Kernel4Ideal.τ).loc Cert.Kernel4Ideal.main_v12_8) = v1 c
          ∧ r.2.mem ((c.tc : Thread Cert.Kernel4Ideal.nD Cert.Kernel4Ideal.τ).loc Cert.Kernel4Ideal.main_v12_12) = v2 c
          ∧ r.2.mem ((c.tc : Thread Cert.Kernel4Ideal.nD Cert.Kernel4Ideal.τ).loc Cert.Kernel4Ideal.main_v12_13) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v107) = v0 c
          ∧ r.2.mem ((c.tc : Thread Cert.Reference4Ideal.nD Cert.Reference4Ideal.τ).loc Cert.Reference4Ideal.main_v104) = v1 c
          ∧ r.2.mem ((c.tc : Thread Cert.Reference4Ideal.nD Cert.Reference4Ideal.τ).loc Cert.Reference4Ideal.main_v111) = v2 c
          ∧ r.2.mem ((c.tc : Thread Cert.Reference4Ideal.nD Cert.Reference4Ideal.τ).loc Cert.Reference4Ideal.main_v112) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  reducesTo_S8192x4x192_S_d0_1_2 : S8192x4x192.ReducesTo [0, 1, 2] S_
  h_S_ : 0 < S_.numel
  bcast_S_S8192x4x128 : S_.BroadcastsInDim S8192x4x128 (![] : Fin 0 → Fin S8192x4x128.rank)
  reducesTo_S8192x4x128_S_d0_1_2 : S8192x4x128.ReducesTo [0, 1, 2] S_

variable [Facts]

def fn_part1 {F : FTy → Type} [FloatOps F] (main_v13 : IVec S_ 1) (main_v16 : IVec S8192x4x128 1) : IVec S_ 1 :=
  let main_c_5 : IVec S_ 1 := constantI S_ 1 1#1
  let main_v17 : IVec S_ 1 := (fun x v => Host.reduce IntOp.andi x v reducesTo_S8192x4x128_S_d0_1_2 h_S_) main_v16 main_c_5
  let main_v18 : IVec S_ 1 := andi main_v13 main_v17
  main_v18

def fn {F : FTy → Type} [FloatOps F] (main_arg0 : FVec F S8192x4x192 .f32) (main_arg1 : FVec F S8192x4x192 .f32) (main_arg2 : FVec F S8192x4x128 .f32) (main_arg3 : FVec F S8192x4x128 .f32) : IVec S_ 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_c : IVec S_ 1 := constantI S_ 1 1#1
  let main_v3 : IVec S_ 1 := (fun x v => Host.reduce IntOp.andi x v reducesTo_S8192x4x192_S_d0_1_2 h_S_) main_v2 main_c
  let main_v4 : FVec F S8192x4x192 .f32 := Host.absf main_arg1
  let main_cst_0 : FVec F S_ .f32 := constant S_ .f32 0x7F800000#32
  let main_v5 : FVec F S8192x4x192 .f32 := broadcastInDim S8192x4x192 ![] bcast_S_S8192x4x192 main_cst_0
  let main_v6 : IVec S8192x4x192 1 := cmpf .olt main_v4 main_v5
  let main_c_1 : IVec S_ 1 := constantI S_ 1 1#1
  let main_v7 : IVec S_ 1 := (fun x v => Host.reduce IntOp.andi x v reducesTo_S8192x4x192_S_d0_1_2 h_S_) main_v6 main_c_1
  let main_v8 : IVec S_ 1 := andi main_v3 main_v7
  let main_v9 : FVec F S8192x4x128 .f32 := Host.absf main_arg2
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  let main_c_3 : IVec S_ 1 := constantI S_ 1 1#1
  let main_v12 : IVec S_ 1 := (fun x v => Host.reduce IntOp.andi x v reducesTo_S8192x4x128_S_d0_1_2 h_S_) main_v11 main_c_3
  let main_v13 : IVec S_ 1 := andi main_v8 main_v12
  let main_v14 : FVec F S8192x4x128 .f32 := Host.absf main_arg3
  let main_cst_4 : FVec F S_ .f32 := constant S_ .f32 0x7F800000#32
  let main_v15 : FVec F S8192x4x128 .f32 := broadcastInDim S8192x4x128 ![] bcast_S_S8192x4x128 main_cst_4
  let main_v16 : IVec S8192x4x128 1 := cmpf .olt main_v14 main_v15
  fn_part1 (F := F) main_v13 main_v16
-- ==== Pre_finite2.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  reducesTo_S8192x4x192_S_d0_1_2 : S8192x4x192.ReducesTo [0, 1, 2] S_
  h_S_ : 0 < S_.numel
  bcast_S_S8192x4x128 : S_.BroadcastsInDim S8192x4x128 (![] : Fin 0 → Fin S8192x4x128.rank)
  reducesTo_S8192x4x128_S_d0_1_2 : S8192x4x128.ReducesTo [0, 1, 2] S_

variable [Facts]

def fn {F : FTy → Type} [FloatOps F] (main_arg0 : FVec F S8192x4x192 .f32) (main_arg1 : FVec F S8192x4x192 .f32) (main_arg2 : FVec F S8192x4x128 .f32) : IVec S_ 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_c : IVec S_ 1 := constantI S_ 1 1#1
  let main_v3 : IVec S_ 1 := (fun x v => Host.reduce IntOp.andi x v reducesTo_S8192x4x192_S_d0_1_2 h_S_) main_v2 main_c
  let main_v4 : FVec F S8192x4x192 .f32 := Host.absf main_arg1
  let main_cst_0 : FVec F S_ .f32 := constant S_ .f32 0x7F800000#32
  let main_v5 : FVec F S8192x4x192 .f32 := broadcastInDim S8192x4x192 ![] bcast_S_S8192x4x192 main_cst_0
  let main_v6 : IVec S8192x4x192 1 := cmpf .olt main_v4 main_v5
  let main_c_1 : IVec S_ 1 := constantI S_ 1 1#1
  let main_v7 : IVec S_ 1 := (fun x v => Host.reduce IntOp.andi x v reducesTo_S8192x4x192_S_d0_1_2 h_S_) main_v6 main_c_1
  let main_v8 : IVec S_ 1 := andi main_v3 main_v7
  let main_v9 : FVec F S8192x4x128 .f32 := Host.absf main_arg2
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  let main_c_3 : IVec S_ 1 := constantI S_ 1 1#1
  let main_v12 : IVec S_ 1 := (fun x v => Host.reduce IntOp.andi x v reducesTo_S8192x4x128_S_d0_1_2 h_S_) main_v11 main_c_3
  let main_v13 : IVec S_ 1 := andi main_v8 main_v12
  main_v13
-- ==== Kernel.lean ====
abbrev S8192x4x192 : Shape := ⟨3, ![8192, 4, 192]⟩
abbrev S8192x4x128 : Shape := ⟨3, ![8192, 4, 128]⟩
abbrev S_ : Shape := ⟨0, ![]⟩
abbrev S8192x4x256 : Shape := ⟨3, ![8192, 4, 256]⟩
abbrev S8192x1024 : Shape := ⟨2, ![8192, 1024]⟩
abbrev S8192x512 : Shape := ⟨2, ![8192, 512]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S8192x4 : Shape := ⟨2, ![8192, 4]⟩
abbrev S4x1x8192 : Shape := ⟨3, ![4, 1, 8192]⟩
abbrev S4x8x8192 : Shape := ⟨3, ![4, 8, 8192]⟩
abbrev S32x8192 : Shape := ⟨2, ![32, 8192]⟩
abbrev S512x256 : Shape := ⟨2, ![512, 256]⟩
abbrev S512x128 : Shape := ⟨2, ![512, 128]⟩
abbrev S8192x256 : Shape := ⟨2, ![8192, 256]⟩
abbrev S8192x128 : Shape := ⟨2, ![8192, 128]⟩
abbrev S8x8192 : Shape := ⟨2, ![8, 8192]⟩
abbrev S512x512 : Shape := ⟨2, ![512, 512]⟩
abbrev S1x512 : Shape := ⟨2, ![1, 512]⟩

abbrev nBuf : Space → Nat
  | .hbm => 69
  | .vmem => 22
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S_, .i32⟩
  | .hbm, ⟨5, _⟩ => ⟨S_, .f32⟩
  | .hbm, ⟨6, _⟩ => ⟨S8192x4x256, .f32⟩
  | .hbm, ⟨7, _⟩ => ⟨S8192x1024, .f32⟩
  | .hbm, ⟨8, _⟩ => ⟨S8192x1024, .bf16⟩
  | .hbm, ⟨9, _⟩ => ⟨S_, .i32⟩
  | .hbm, ⟨10, _⟩ => ⟨S_, .f32⟩
  | .hbm, ⟨11, _⟩ => ⟨S8192x4x256, .f32⟩
  | .hbm, ⟨12, _⟩ => ⟨S8192x1024, .f32⟩
  | .hbm, ⟨13, _⟩ => ⟨S8192x1024, .bf16⟩
  | .hbm, ⟨14, _⟩ => ⟨S8192x512, .f32⟩
  | .hbm, ⟨15, _⟩ => ⟨S8192x512, .bf16⟩
  | .hbm, ⟨16, _⟩ => ⟨S4x8192x8192, .f32⟩
  | .hbm, ⟨17, _⟩ => ⟨S_, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S8192, .i32⟩
  | .hbm, ⟨22, _⟩ => ⟨S1x8192, .i32⟩
  | .hbm, ⟨23, _⟩ => ⟨S8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x8192x8192, .i1⟩
  | .hbm, ⟨29, _⟩ => ⟨S_, .f32⟩
  | .hbm, ⟨30, _⟩ => ⟨S_, .f32⟩
  | .hbm, ⟨31, _⟩ => ⟨S4x8192x8192, .i1⟩
  | .hbm, ⟨32, _⟩ => ⟨S4x8192x8192, .f32⟩
  | .hbm, ⟨33, _⟩ => ⟨S4x8192x8192, .f32⟩
  | .hbm, ⟨34, _⟩ => ⟨S_, .f32⟩
  | .hbm, ⟨35, _⟩ => ⟨S4x8192, .f32⟩
  | .hbm, ⟨36, _⟩ => ⟨S4x8192x1, .f32⟩
  | .hbm, ⟨37, _⟩ => ⟨S4x8192x8192, .f32⟩
  | .hbm, ⟨38, _⟩ => ⟨S4x8192x8192, .f32⟩
  | .hbm, ⟨39, _⟩ => ⟨S4x8192x8192, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x1, .f32⟩
  | .hbm, ⟨44, _⟩ => ⟨S4x8192x1, .f32⟩
  | .hbm, ⟨45, _⟩ => ⟨S4x8192, .f32⟩
  | .hbm, ⟨46, _⟩ => ⟨S_, .f32⟩
  | .hbm, ⟨47, _⟩ => ⟨S_, .f32⟩
  | .hbm, ⟨48, _⟩ => ⟨S4x8192, .f32⟩
  | .hbm, ⟨49, _⟩ => ⟨S4x8192, .f32⟩
  | .hbm, ⟨50, _⟩ => ⟨S4x8192x8192, .f32⟩
  | .hbm, ⟨51, _⟩ => ⟨S4x8192x8192, .f32⟩
  | .hbm, ⟨52, _⟩ => ⟨S4x128x8192, .f32⟩
  | .hbm, ⟨53, _⟩ => ⟨S8192x4x128, .f32⟩
  | .hbm, ⟨54, _⟩ => ⟨S8192x4x128, .f32⟩
  | .hbm, ⟨55, _⟩ => ⟨S_, .f32⟩
  | .hbm, ⟨56, _⟩ => ⟨S8192x4, .f32⟩
  | .hbm, ⟨57, _⟩ => ⟨S4x8192, .f32⟩
  | .hbm, ⟨58, _⟩ => ⟨S8192x512, .f32⟩
  | .hbm, ⟨59, _⟩ => ⟨S8192x512, .bf16⟩
  | .hbm, ⟨60, _⟩ => ⟨S4x1x8192, .f32⟩
  | .hbm, ⟨61, _⟩ => ⟨S4x8x8192, .f32⟩
  | .hbm, ⟨62, _⟩ => ⟨S32x8192, .f32⟩
  | .hbm, ⟨63, _⟩ => ⟨S4x1x8192, .f32⟩
  | .hbm, ⟨64, _⟩ => ⟨S4x8x8192, .f32⟩
  | .hbm, ⟨65, _⟩ => ⟨S32x8192, .f32⟩
  | .hbm, ⟨66, _⟩ => ⟨S8192x1024, .f32⟩
  | .hbm, ⟨67, _⟩ => ⟨S8192x1024, .f32⟩
  | .hbm, ⟨68, _⟩ => ⟨S8192x512, .f32⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S8192x256, .bf16⟩
  | .local _ .vmem, ⟨5, _⟩ => ⟨S8192x256, .bf16⟩
  | .local _ .vmem, ⟨6, _⟩ => ⟨S8192x128, .bf16⟩
  | .local _ .vmem, ⟨7, _⟩ => ⟨S8192x128, .bf16⟩
  | .local _ .vmem, ⟨8, _⟩ => ⟨S8x8192, .f32⟩
  | .local _ .vmem, ⟨9, _⟩ => ⟨S8x8192, .f32⟩
  | .local _ .vmem, ⟨10, _⟩ => ⟨S8x8192, .f32⟩
  | .local _ .vmem, ⟨11, _⟩ => ⟨S8x8192, .f32⟩
  | .local _ .vmem, ⟨12, _⟩ => ⟨S8192x256, .f32⟩
  | .local _ .vmem, ⟨13, _⟩ => ⟨S8192x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49_0 : Ref sig .tc := ⟨.hbm, 66, rfl⟩
abbrev main_v49_1 : Ref sig .tc := ⟨.hbm, 67, rfl⟩
abbrev main_v49_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_9 : Index := 0#32
  ![v13.toNat, 0]
def k0_off2 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v20 : Index := Scalar.indexCast v12
  let c0_13 : Index := 0#32
  ![v20.toNat, 0]
def k0_mult2 (i : grid0.Coords) : BitVec 32 :=
  let arg1 : BitVec 32 := BitVec.ofNat 32 (i 1).val
  let c1_i32 : BitVec 32 := 1#32
  let v27 : BitVec 32 := Scalar.addi arg1 c1_i32
  let c15_i32 : BitVec 32 := 15#32
  let v28 : BitVec 32 := Scalar.minsi v27 c15_i32
  let c512_i32_17 : BitVec 32 := 512#32
  let v29 : BitVec 32 := Scalar.muli v28 c512_i32_17
  v29
def k0_off3 (i : grid0.Coords) : Fin 2 → Nat :=
  let arg1 : BitVec 32 := BitVec.ofNat 32 (i 1).val
  let c1_i32 : BitVec 32 := 1#32
  let v27 : BitVec 32 := Scalar.addi arg1 c1_i32
  let c15_i32 : BitVec 32 := 15#32
  let v28 : BitVec 32 := Scalar.minsi v27 c15_i32
  let c512_i32_17 : BitVec 32 := 512#32
  let v29 : BitVec 32 := Scalar.muli v28 c512_i32_17
  let v30 : BitVec 32 := v29
  let v31 : Index := Scalar.indexCast v30
  let c0_18 : Index := 0#32
  ![v31.toNat, 0]
def k0_off4 (i : grid0.Coords) : Fin 2 → Nat :=
  let arg1 : BitVec 32 := BitVec.ofNat 32 (i 1).val
  let c1_i32 : BitVec 32 := 1#32
  let v27 : BitVec 32 := Scalar.addi arg1 c1_i32
  let c15_i32 : BitVec 32 := 15#32
  let v28 : BitVec 32 := Scalar.minsi v27 c15_i32
  let c512_i32_17 : BitVec 32 := 512#32
  let v29 : BitVec 32 := Scalar.muli v28 c512_i32_17
  let v30 : BitVec 32 := v29
  let v38 : Index := Scalar.indexCast v30
  let c0_22 : Index := 0#32
  ![v38.toNat, 0]
def k0_mult3 (i : grid0.Coords) : BitVec 32 :=
  let arg1 : BitVec 32 := BitVec.ofNat 32 (i 1).val
  let c512_i32_26 : BitVec 32 := 512#32
  let v45 : BitVec 32 := Scalar.muli arg1 c512_i32_26
  v45
def k0_off5 (i : grid0.Coords) : Fin 2 → Nat :=
  let c0_31 : Index := 0#32
  let arg1 : BitVec 32 := BitVec.ofNat 32 (i 1).val
  let c512_i32_26 : BitVec 32 := 512#32
  let v45 : BitVec 32 := Scalar.muli arg1 c512_i32_26
  let v46 : BitVec 32 := v45
  let v55 : Index := Scalar.indexCast v46
  ![0, v55.toNat]
@[reducible] def k0_t1_loop (i : grid0.Coords) : Scf.Loop 32 :=
  let c0_i32_58 : BitVec 32 := 0#32
  let c15_i32_50 : BitVec 32 := 15#32
  let arg1 : BitVec 32 := BitVec.ofNat 32 (i 1).val
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_60 : BitVec 32 := 1#32
  ⟨c0_i32_58, v115, c1_i32_60⟩
def k0_mult4 (i : grid0.Coords) (k0_t1 : Fin (k0_t1_loop i).trips) : BitVec 32 :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c1_i32_72 : BitVec 32 := 1#32
  let v132 : BitVec 32 := Scalar.addi v131 c1_i32_72
  let c512_i32_73 : BitVec 32 := 512#32
  let v133 : BitVec 32 := Scalar.muli v132 c512_i32_73
  v133
def k0_off6 (i : grid0.Coords) (k0_t1 : Fin (k0_t1_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c1_i32_72 : BitVec 32 := 1#32
  let v132 : BitVec 32 := Scalar.addi v131 c1_i32_72
  let c512_i32_73 : BitVec 32 := 512#32
  let v133 : BitVec 32 := Scalar.muli v132 c512_i32_73
  let v134 : BitVec 32 := v133
  let v135 : Index := Scalar.indexCast v134
  let c0_74 : Index := 0#32
  ![v135.toNat, 0]
def k0_off7 (i : grid0.Coords) (k0_t1 : Fin (k0_t1_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c1_i32_72 : BitVec 32 := 1#32
  let v132 : BitVec 32 := Scalar.addi v131 c1_i32_72
  let c512_i32_73 : BitVec 32 := 512#32
  let v133 : BitVec 32 := Scalar.muli v132 c512_i32_73
  let v134 : BitVec 32 := v133
  let v142 : Index := Scalar.indexCast v134
  let c0_78 : Index := 0#32
  ![v142.toNat, 0]
def k0_mult5 (i : grid0.Coords) (k0_t1 : Fin (k0_t1_loop i).trips) : BitVec 32 :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c512_i32_82 : BitVec 32 := 512#32
  let v149 : BitVec 32 := Scalar.muli v131 c512_i32_82
  v149
def k0_off8 (i : grid0.Coords) (k0_t1 : Fin (k0_t1_loop i).trips) : Fin 2 → Nat :=
  let c0_86 : Index := 0#32
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c512_i32_82 : BitVec 32 := 512#32
  let v149 : BitVec 32 := Scalar.muli v131 c512_i32_82
  let v150 : BitVec 32 := v149
  let v154 : Index := Scalar.indexCast v150
  ![0, v154.toNat]
def k0_off9 (i : grid0.Coords) (k0_t1 : Fin (k0_t1_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c512_i32_82 : BitVec 32 := 512#32
  let v149 : BitVec 32 := Scalar.muli v131 c512_i32_82
  let v150 : BitVec 32 := v149
  let v171 : Index := Scalar.indexCast v150
  let c0_92 : Index := 0#32
  ![v171.toNat, 0]
def k0_off10 (i : grid0.Coords) (k0_t1 : Fin (k0_t1_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c512_i32_82 : BitVec 32 := 512#32
  let v149 : BitVec 32 := Scalar.muli v131 c512_i32_82
  let v150 : BitVec 32 := v149
  let v179 : Index := Scalar.indexCast v150
  let c0_98 : Index := 0#32
  ![v179.toNat, 0]
def k0_mult6 (i : grid0.Coords) (k0_t1 : Fin (k0_t1_loop i).trips) : BitVec 32 :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c2_i32_105 : BitVec 32 := 2#32
  let v192 : BitVec 32 := Scalar.addi v131 c2_i32_105
  let c15_i32_106 : BitVec 32 := 15#32
  let v193 : BitVec 32 := Scalar.minsi v192 c15_i32_106
  let c512_i32_107 : BitVec 32 := 512#32
  let v194 : BitVec 32 := Scalar.muli v193 c512_i32_107
  v194
def k0_off11 (i : grid0.Coords) (k0_t1 : Fin (k0_t1_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c2_i32_105 : BitVec 32 := 2#32
  let v192 : BitVec 32 := Scalar.addi v131 c2_i32_105
  let c15_i32_106 : BitVec 32 := 15#32
  let v193 : BitVec 32 := Scalar.minsi v192 c15_i32_106
  let c512_i32_107 : BitVec 32 := 512#32
  let v194 : BitVec 32 := Scalar.muli v193 c512_i32_107
  let v195 : BitVec 32 := v194
  let v196 : Index := Scalar.indexCast v195
  let c0_108 : Index := 0#32
  ![v196.toNat, 0]
def k0_off12 (i : grid0.Coords) (k0_t1 : Fin (k0_t1_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c2_i32_105 : BitVec 32 := 2#32
  let v192 : BitVec 32 := Scalar.addi v131 c2_i32_105
  let c15_i32_106 : BitVec 32 := 15#32
  let v193 : BitVec 32 := Scalar.minsi v192 c15_i32_106
  let c512_i32_107 : BitVec 32 := 512#32
  let v194 : BitVec 32 := Scalar.muli v193 c512_i32_107
  let v195 : BitVec 32 := v194
  let v203 : Index := Scalar.indexCast v195
  let c0_112 : Index := 0#32
  ![v203.toNat, 0]
def k0_mult7 (i : grid0.Coords) (k0_t1 : Fin (k0_t1_loop i).trips) : BitVec 32 :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c1_i32_116 : BitVec 32 := 1#32
  let v210 : BitVec 32 := Scalar.addi v131 c1_i32_116
  let c512_i32_117 : BitVec 32 := 512#32
  let v211 : BitVec 32 := Scalar.muli v210 c512_i32_117
  v211
def k0_off13 (i : grid0.Coords) (k0_t1 : Fin (k0_t1_loop i).trips) : Fin 2 → Nat :=
  let c0_121 : Index := 0#32
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c1_i32_60 : BitVec 32 := 1#32
  let arg15 : BitVec 32 := Scf.iv c0_i32_58 c1_i32_60 k0_t1
  let v130 : BitVec 32 := Scalar.muli c2_i32_71 arg15
  let v131 : BitVec 32 := Scalar.addi v129 v130
  let c1_i32_116 : BitVec 32 := 1#32
  let v210 : BitVec 32 := Scalar.addi v131 c1_i32_116
  let c512_i32_117 : BitVec 32 := 512#32
  let v211 : BitVec 32 := Scalar.muli v210 c512_i32_117
  let v212 : BitVec 32 := v211
  let v216 : Index := Scalar.indexCast v212
  ![0, v216.toNat]
@[reducible] def k0_t2_loop (i : grid0.Coords) : Scf.Loop 32 :=
  let c0_i32_58 : BitVec 32 := 0#32
  let c15_i32_50 : BitVec 32 := 15#32
  let arg1 : BitVec 32 := BitVec.ofNat 32 (i 1).val
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let v112 : BitVec 32 := Scalar.addi c0_i32_58 v111
  let c1_i32_61 : BitVec 32 := 1#32
  ⟨v115, v112, c1_i32_61⟩
def k0_mult8 (i : grid0.Coords) (k0_t2 : Fin (k0_t2_loop i).trips) : BitVec 32 :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c1_i32_72 : BitVec 32 := 1#32
  let v132 : BitVec 32 := Scalar.addi v131 c1_i32_72
  let c512_i32_73 : BitVec 32 := 512#32
  let v133 : BitVec 32 := Scalar.muli v132 c512_i32_73
  v133
def k0_off14 (i : grid0.Coords) (k0_t2 : Fin (k0_t2_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c1_i32_72 : BitVec 32 := 1#32
  let v132 : BitVec 32 := Scalar.addi v131 c1_i32_72
  let c512_i32_73 : BitVec 32 := 512#32
  let v133 : BitVec 32 := Scalar.muli v132 c512_i32_73
  let v134 : BitVec 32 := v133
  let v135 : Index := Scalar.indexCast v134
  let c0_74 : Index := 0#32
  ![v135.toNat, 0]
def k0_off15 (i : grid0.Coords) (k0_t2 : Fin (k0_t2_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c1_i32_72 : BitVec 32 := 1#32
  let v132 : BitVec 32 := Scalar.addi v131 c1_i32_72
  let c512_i32_73 : BitVec 32 := 512#32
  let v133 : BitVec 32 := Scalar.muli v132 c512_i32_73
  let v134 : BitVec 32 := v133
  let v142 : Index := Scalar.indexCast v134
  let c0_78 : Index := 0#32
  ![v142.toNat, 0]
def k0_mult9 (i : grid0.Coords) (k0_t2 : Fin (k0_t2_loop i).trips) : BitVec 32 :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c512_i32_82 : BitVec 32 := 512#32
  let v149 : BitVec 32 := Scalar.muli v131 c512_i32_82
  v149
def k0_off16 (i : grid0.Coords) (k0_t2 : Fin (k0_t2_loop i).trips) : Fin 2 → Nat :=
  let c0_86 : Index := 0#32
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c512_i32_82 : BitVec 32 := 512#32
  let v149 : BitVec 32 := Scalar.muli v131 c512_i32_82
  let v150 : BitVec 32 := v149
  let v154 : Index := Scalar.indexCast v150
  ![0, v154.toNat]
def k0_off17 (i : grid0.Coords) (k0_t2 : Fin (k0_t2_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c512_i32_82 : BitVec 32 := 512#32
  let v149 : BitVec 32 := Scalar.muli v131 c512_i32_82
  let v150 : BitVec 32 := v149
  let v171 : Index := Scalar.indexCast v150
  let c0_92 : Index := 0#32
  ![v171.toNat, 0]
def k0_off18 (i : grid0.Coords) (k0_t2 : Fin (k0_t2_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c512_i32_82 : BitVec 32 := 512#32
  let v149 : BitVec 32 := Scalar.muli v131 c512_i32_82
  let v150 : BitVec 32 := v149
  let v179 : Index := Scalar.indexCast v150
  let c0_98 : Index := 0#32
  ![v179.toNat, 0]
def k0_mult10 (i : grid0.Coords) (k0_t2 : Fin (k0_t2_loop i).trips) : BitVec 32 :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c2_i32_105 : BitVec 32 := 2#32
  let v192 : BitVec 32 := Scalar.addi v131 c2_i32_105
  let c15_i32_106 : BitVec 32 := 15#32
  let v193 : BitVec 32 := Scalar.minsi v192 c15_i32_106
  let c512_i32_107 : BitVec 32 := 512#32
  let v194 : BitVec 32 := Scalar.muli v193 c512_i32_107
  v194
def k0_off19 (i : grid0.Coords) (k0_t2 : Fin (k0_t2_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c2_i32_105 : BitVec 32 := 2#32
  let v192 : BitVec 32 := Scalar.addi v131 c2_i32_105
  let c15_i32_106 : BitVec 32 := 15#32
  let v193 : BitVec 32 := Scalar.minsi v192 c15_i32_106
  let c512_i32_107 : BitVec 32 := 512#32
  let v194 : BitVec 32 := Scalar.muli v193 c512_i32_107
  let v195 : BitVec 32 := v194
  let v196 : Index := Scalar.indexCast v195
  let c0_108 : Index := 0#32
  ![v196.toNat, 0]
def k0_off20 (i : grid0.Coords) (k0_t2 : Fin (k0_t2_loop i).trips) : Fin 2 → Nat :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c2_i32_105 : BitVec 32 := 2#32
  let v192 : BitVec 32 := Scalar.addi v131 c2_i32_105
  let c15_i32_106 : BitVec 32 := 15#32
  let v193 : BitVec 32 := Scalar.minsi v192 c15_i32_106
  let c512_i32_107 : BitVec 32 := 512#32
  let v194 : BitVec 32 := Scalar.muli v193 c512_i32_107
  let v195 : BitVec 32 := v194
  let v203 : Index := Scalar.indexCast v195
  let c0_112 : Index := 0#32
  ![v203.toNat, 0]
def k0_mult11 (i : grid0.Coords) (k0_t2 : Fin (k0_t2_loop i).trips) : BitVec 32 :=
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c1_i32_116 : BitVec 32 := 1#32
  let v210 : BitVec 32 := Scalar.addi v131 c1_i32_116
  let c512_i32_117 : BitVec 32 := 512#32
  let v211 : BitVec 32 := Scalar.muli v210 c512_i32_117
  v211
def k0_off21 (i : grid0.Coords) (k0_t2 : Fin (k0_t2_loop i).trips) : Fin 2 → Nat :=
  let c0_121 : Index := 0#32
  let arg1 : BitVec 32 := BitVec.ofNat 32 (i 1).val
  let c1_i32_70 : BitVec 32 := 1#32
  let v129 : BitVec 32 := Scalar.addi arg1 c1_i32_70
  let c2_i32_71 : BitVec 32 := 2#32
  let c0_i32_58 : BitVec 32 := 0#32
  let c15_i32_50 : BitVec 32 := 15#32
  let v93 : BitVec 32 := Scalar.subi c15_i32_50 arg1
  let c0_i32_51 : BitVec 32 := 0#32
  let v95 : BitVec 1 := Scalar.cmpi .sgt v93 c0_i32_51
  let v96 : BitVec 32 := Scalar.extui v95
  let c0_i32_52 : BitVec 32 := 0#32
  let v97 : BitVec 1 := Scalar.cmpi .slt v93 c0_i32_52
  let v98 : BitVec 32 := Scalar.extui v97
  let v99 : BitVec 32 := Scalar.subi v96 v98
  let c2_i32 : BitVec 32 := 2#32
  let c0_i32_53 : BitVec 32 := 0#32
  let v100 : BitVec 1 := Scalar.cmpi .sgt c2_i32 c0_i32_53
  let v101 : BitVec 32 := Scalar.extui v100
  let c0_i32_54 : BitVec 32 := 0#32
  let v102 : BitVec 1 := Scalar.cmpi .slt c2_i32 c0_i32_54
  let v103 : BitVec 32 := Scalar.extui v102
  let v104 : BitVec 32 := Scalar.subi v101 v103
  let v105 : BitVec 1 := Scalar.cmpi .ne v99 v104
  let v106 : BitVec 32 := Scalar.remsi v93 c2_i32
  let c0_i32_55 : BitVec 32 := 0#32
  let v107 : BitVec 1 := Scalar.cmpi .ne v106 c0_i32_55
  let v108 : BitVec 1 := Scalar.andi v105 v107
  let v94 : BitVec 32 := Scalar.divsi v93 c2_i32
  let c1_i32_56 : BitVec 32 := 1#32
  let v109 : BitVec 32 := Scalar.subi v94 c1_i32_56
  let v110 : BitVec 32 := Scalar.select v108 v109 v94
  let v111 : BitVec 32 := Scalar.subi v110 c0_i32_58
  let c1_i32_59 : BitVec 32 := 1#32
  let v113 : BitVec 32 := Scalar.divsi v111 c1_i32_59
  let v114 : BitVec 32 := Scalar.muli v113 c1_i32_59
  let v115 : BitVec 32 := Scalar.addi c0_i32_58 v114
  let c1_i32_61 : BitVec 32 := 1#32
  let arg15 : BitVec 32 := Scf.iv v115 c1_i32_61 k0_t2
  let v130 : BitVec 32 := Scalar.muli c2_i32_71 arg15
  let v131 : BitVec 32 := Scalar.addi v129 v130
  let c1_i32_116 : BitVec 32 := 1#32
  let v210 : BitVec 32 := Scalar.addi v131 c1_i32_116
  let c512_i32_117 : BitVec 32 := 512#32
  let v211 : BitVec 32 := Scalar.muli v210 c512_i32_117
  let v212 : BitVec 32 := v211
  let v216 : Index := Scalar.indexCast v212
  ![0, v216.toNat]
def k0_cond2 (i : grid0.Coords) : BitVec 1 :=
  let c15_i32_50 : BitVec 32 := 15#32
  let arg1 : BitVec 32 := BitVec.ofNat 32 (i 1).val
  let v93 : BitVec 32 := Scalar.subi c15_i32_50 arg1
  let c2_i32_62 : BitVec 32 := 2#32
  let c0_i32_63 : BitVec 32 := 0#32
  let v116 : BitVec 1 := Scalar.cmpi .eq c2_i32_62 c0_i32_63
  let c1_i32_64 : BitVec 32 := 1#32
  let v117 : BitVec 32 := Scalar.select v116 c1_i32_64 c2_i32_62
  let v118 : BitVec 32 := Scalar.remsi v93 v117
  let c0_i32_66 : BitVec 32 := 0#32
  let v120 : BitVec 1 := Scalar.cmpi .slt v118 c0_i32_66
  let c0_i32_67 : BitVec 32 := 0#32
  let v121 : BitVec 1 := Scalar.cmpi .slt v117 c0_i32_67
  let v122 : BitVec 1 := Scalar.xori v120 v121
  let c0_i32_65 : BitVec 32 := 0#32
  let v119 : BitVec 1 := Scalar.cmpi .ne v118 c0_i32_65
  let v123 : BitVec 1 := Scalar.andi v122 v119
  let v124 : BitVec 32 := Scalar.addi v118 v117
  let v125 : BitVec 32 := Scalar.select v123 v124 v118
  let c1_i32_68 : BitVec 32 := 1#32
  let v126 : BitVec 1 := Scalar.cmpi .eq v125 c1_i32_68
  let v127 : BitVec 32 := Scalar.extui v126
  let c0_i32_69 : BitVec 32 := 0#32
  let v128 : BitVec 1 := Scalar.cmpi .ne v127 c0_i32_69
  v128

def k0_mult12 : BitVec 32 :=
  let c7680_i32 : BitVec 32 := 7680#32
  c7680_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | "scale_log2e" => some ((((Real.sqrt 192) * (Real.log 2))⁻¹ : ℝ) : EReal)
  | _ => none
-- ==== ReferenceIdeal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x8192x192 : Shape := ⟨3, ![4, 8192, 192]⟩
abbrev S8192x4x256 : Shape := ⟨3, ![8192, 4, 256]⟩
abbrev S8192x1024 : Shape := ⟨2, ![8192, 1024]⟩
abbrev S8192x512 : Shape := ⟨2, ![8192, 512]⟩

abbrev nBuf : Space → Nat
  | .hbm => 106
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S4x8192x8192, .f32⟩
  | .hbm, ⟨5, _⟩ => ⟨S_, .f32⟩
  | .hbm, ⟨6, _⟩ => ⟨S_, .f32⟩
  | .hbm, ⟨7, _⟩ => ⟨S4x8192x8192, .f32⟩
  | .hbm, ⟨8, _⟩ => ⟨S4x8192x8192, .f32⟩
  | .hbm, ⟨9, _⟩ => ⟨S8192, .i32⟩
  | .hbm, ⟨10, _⟩ => ⟨S1x8192, .i32⟩
  | .hbm, ⟨11, _⟩ => ⟨S8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x8192x8192, .i1⟩
  | .hbm, ⟨17, _⟩ => ⟨S_, .f32⟩
  | .hbm, ⟨18, _⟩ => ⟨S_, .f32⟩
  | .hbm, ⟨19, _⟩ => ⟨S4x8192x8192, .i1⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192x8192, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S4x8192x8192, .f32⟩
  | .hbm, ⟨28, _⟩ => ⟨S4x8192x8192, .i1⟩
  | .hbm, ⟨29, _⟩ => ⟨S4x8192x8192, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .i1⟩
  | .hbm, ⟨38, _⟩ => ⟨S_, .f32⟩
  | .hbm, ⟨39, _⟩ => ⟨S4x8192, .f32⟩
  | .hbm, ⟨40, _⟩ => ⟨S4x8192, .i1⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S_, .f32⟩
  | .hbm, ⟨46, _⟩ => ⟨S4x8192, .f32⟩
  | .hbm, ⟨47, _⟩ => ⟨S4x8192, .f32⟩
  | .hbm, ⟨48, _⟩ => ⟨S4x8192, .f32⟩
  | .hbm, ⟨49, _⟩ => ⟨S4x8192x1, .f32⟩
  | .hbm, ⟨50, _⟩ => ⟨S4x8192x8192, .f32⟩
  | .hbm, ⟨51, _⟩ => ⟨S4x8192x8192, .f32⟩
  | .hbm, ⟨52, _⟩ => ⟨S4x8192x8192, .f32⟩
  | .hbm, ⟨53, _⟩ => ⟨S_, .f32⟩
  | .hbm, ⟨54, _⟩ => ⟨S4x8192, .f32⟩
  | .hbm, ⟨55, _⟩ => ⟨S4x8192x1, .f32⟩
  | .hbm, ⟨56, _⟩ => ⟨S4x8192x8192, .f32⟩
  | .hbm, ⟨57, _⟩ => ⟨S4x8192x8192, .f32⟩
  | .hbm, ⟨58, _⟩ => ⟨S4x8192x1, .f32⟩
  | .hbm, ⟨59, _⟩ => ⟨S_, .f32⟩
  | .hbm, ⟨60, _⟩ => ⟨S4x8192x1, .f32⟩
  | .hbm, ⟨61, _⟩ => ⟨S4x8192x1, .f32⟩
  | .hbm, ⟨62, _⟩ => ⟨S4x128x8192, .f32⟩
  | .hbm, ⟨63, _⟩ => ⟨S8192x4x128, .f32⟩
  | .hbm, ⟨64, _⟩ => ⟨S4x128x8192, .f32⟩
  | .hbm, ⟨65, _⟩ => ⟨S4x8192x8192, .f32⟩
  | .hbm, ⟨66, _⟩ => ⟨S4x128x8192, .f32⟩
  | .hbm, ⟨67, _⟩ => ⟨S8192x4x128, .f32⟩
  | .hbm, ⟨68, _⟩ => ⟨S4x8192x8192, .f32⟩
  | .hbm, ⟨69, _⟩ => ⟨S4x8192x8192, .f32⟩
  | .hbm, ⟨70, _⟩ => ⟨S4x8192x8192, .f32⟩
  | .hbm, ⟨71, _⟩ => ⟨S_, .f32⟩
  | .hbm, ⟨72, _⟩ => ⟨S4x8192, .f32⟩
  | .hbm, ⟨73, _⟩ => ⟨S4x8192x1, .f32⟩
  | .hbm, ⟨74, _⟩ => ⟨S4x8192x1, .f32⟩
  | .hbm, ⟨75, _⟩ => ⟨S4x8192x8192, .f32⟩
  | .hbm, ⟨76, _⟩ => ⟨S4x8192x8192, .f32⟩
  | .hbm, ⟨77, _⟩ => ⟨S_, .f32⟩
  | .hbm, ⟨78, _⟩ => ⟨S4x8192, .f32⟩
  | .hbm, ⟨79, _⟩ => ⟨S4x8192x8192, .f32⟩
  | .hbm, ⟨80, _⟩ => ⟨S4x8192x8192, .f32⟩
  | .hbm, ⟨81, _⟩ => ⟨S4x8192x8192, .f32⟩
  | .hbm, ⟨82, _⟩ => ⟨S_, .f32⟩
  | .hbm, ⟨83, _⟩ => ⟨S4x8192x8192, .f32⟩
  | .hbm, ⟨84, _⟩ => ⟨S4x8192x8192, .f32⟩
  | .hbm, ⟨85, _⟩ => ⟨S4x8192x8192, .f32⟩
  | .hbm, ⟨86, _⟩ => ⟨S4x8192x8192, .f32⟩
  | .hbm, ⟨87, _⟩ => ⟨S4x8192x192, .f32⟩
  | .hbm, ⟨88, _⟩ => ⟨S8192x4x192, .f32⟩
  | .hbm, ⟨89, _⟩ => ⟨S4x8192x192, .f32⟩
  | .hbm, ⟨90, _⟩ => ⟨S8192x4x192, .f32⟩
  | .hbm, ⟨91, _⟩ => ⟨S_, .f32⟩
  | .hbm, ⟨92, _⟩ => ⟨S_, .f32⟩
  | .hbm, ⟨93, _⟩ => ⟨S8192x4x192, .f32⟩
  | .hbm, ⟨94, _⟩ => ⟨S8192x4x192, .f32⟩
  | .hbm, ⟨95, _⟩ => ⟨S_, .i32⟩
  | .hbm, ⟨96, _⟩ => ⟨S_, .f32⟩
  | .hbm, ⟨97, _⟩ => ⟨S8192x4x256, .f32⟩
  | .hbm, ⟨98, _⟩ => ⟨S8192x1024, .f32⟩
  | .hbm, ⟨99, _⟩ => ⟨S8192x4x192, .f32⟩
  | .hbm, ⟨100, _⟩ => ⟨S8192x4x192, .f32⟩
  | .hbm, ⟨101, _⟩ => ⟨S_, .i32⟩
  | .hbm, ⟨102, _⟩ => ⟨S_, .f32⟩
  | .hbm, ⟨103, _⟩ => ⟨S8192x4x256, .f32⟩
  | .hbm, ⟨104, _⟩ => ⟨S8192x1024, .f32⟩
  | .hbm, ⟨105, _⟩ => ⟨S8192x512, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c : Ref sig .tc := ⟨.hbm, 95, rfl⟩
abbrev main_call2_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_call3_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Kernel2.lean ====
abbrev S8192x4x192 : Shape := ⟨3, ![8192, 4, 192]⟩
abbrev S8192x4x128 : Shape := ⟨3, ![8192, 4, 128]⟩
abbrev S_ : Shape := ⟨0, ![]⟩
abbrev S8192x4x256 : Shape := ⟨3, ![8192, 4, 256]⟩
abbrev S8192x1024 : Shape := ⟨2, ![8192, 1024]⟩
abbrev S8192x512 : Shape := ⟨2, ![8192, 512]⟩
abbrev S32x8192 : Shape := ⟨2, ![32, 8192]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S8x512 : Shape := ⟨2, ![8, 512]⟩
abbrev S512x512 : Shape := ⟨2, ![512, 512]⟩
abbrev S128x512 : Shape := ⟨2, ![128, 512]⟩
abbrev S512 : Shape := ⟨1, ![512]⟩
abbrev S1x512 : Shape := ⟨2, ![1, 512]⟩

abbrev nBuf : Space → Nat
  | .hbm => 17
  | .vmem => 15
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S_, .i32⟩
  | .hbm, ⟨4, _⟩ => ⟨S_, .f32⟩
  | .hbm, ⟨5, _⟩ => ⟨S8192x4x256, .f32⟩
  | .hbm, ⟨6, _⟩ => ⟨S8192x1024, .f32⟩
  | .hbm, ⟨7, _⟩ => ⟨S8192x1024, .bf16⟩
  | .hbm, ⟨8, _⟩ => ⟨S_, .i32⟩
  | .hbm, ⟨9, _⟩ => ⟨S_, .f32⟩
  | .hbm, ⟨10, _⟩ => ⟨S8192x4x256, .f32⟩
  | .hbm, ⟨11, _⟩ => ⟨S8192x1024, .f32⟩
  | .hbm, ⟨12, _⟩ => ⟨S8192x1024, .bf16⟩
  | .hbm, ⟨13, _⟩ => ⟨S8192x512, .f32⟩
  | .hbm, ⟨14, _⟩ => ⟨S8192x512, .bf16⟩
  | .hbm, ⟨15, _⟩ => ⟨S8192x512, .f32⟩
  | .hbm, ⟨16, _⟩ => ⟨S32x8192, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S8x512, .f32⟩
  | .local _ .vmem, ⟨9, _⟩ => ⟨S8x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | .local _ .vmem, ⟨13, _⟩ => ⟨S8x512, .f32⟩
  | .local _ .vmem, ⟨14, _⟩ => ⟨S128x512, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  c0_i32
@[reducible] def k0_t1_loop (i : grid0.Coords) : Scf.Loop 32 :=
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_21 : BitVec 32 := 1#32
  ⟨c0_i32_19, v43, c1_i32_21⟩
def k0_mult2 (i : grid0.Coords) (k0_t1 : Fin (k0_t1_loop i).trips) : BitVec 32 :=
  let c2_i32_53 : BitVec 32 := 2#32
  let c0_i32_19 : BitVec 32 := 0#32
  let c1_i32_21 : BitVec 32 := 1#32
  let arg12 : BitVec 32 := Scf.iv c0_i32_19 c1_i32_21 k0_t1
  let v85 : BitVec 32 := Scalar.muli c2_i32_53 arg12
  let c1_i32_54 : BitVec 32 := 1#32
  let v86 : BitVec 32 := Scalar.addi v85 c1_i32_54
  let c512_i32 : BitVec 32 := 512#32
  let v87 : BitVec 32 := Scalar.muli v86 c512_i32
  v87
def k0_off1 (i : grid0.Coords) (k0_t1 : Fin (k0_t1_loop i).trips) (c1_i32_54 : BitVec 32) : Fin 2 → Nat :=
  let c2_i32_53 : BitVec 32 := 2#32
  let c0_i32_19 : BitVec 32 := 0#32
  let c1_i32_21 : BitVec 32 := 1#32
  let arg12 : BitVec 32 := Scf.iv c0_i32_19 c1_i32_21 k0_t1
  let v85 : BitVec 32 := Scalar.muli c2_i32_53 arg12
  let v86 : BitVec 32 := Scalar.addi v85 c1_i32_54
  let c512_i32 : BitVec 32 := 512#32
  let v87 : BitVec 32 := Scalar.muli v86 c512_i32
  let v88 : BitVec 32 := v87
  let v89 : Index := Scalar.indexCast v88
  let c0_55 : Index := 0#32
  ![v89.toNat, 0]
def k0_mult3 (i : grid0.Coords) (k0_t1 : Fin (k0_t1_loop i).trips) : BitVec 32 :=
  let c2_i32_53 : BitVec 32 := 2#32
  let c0_i32_19 : BitVec 32 := 0#32
  let c1_i32_21 : BitVec 32 := 1#32
  let arg12 : BitVec 32 := Scf.iv c0_i32_19 c1_i32_21 k0_t1
  let v85 : BitVec 32 := Scalar.muli c2_i32_53 arg12
  let c512_i32_73 : BitVec 32 := 512#32
  let v125 : BitVec 32 := Scalar.muli v85 c512_i32_73
  v125
def k0_off2 (i : grid0.Coords) (k0_t1 : Fin (k0_t1_loop i).trips) : Fin 2 → Nat :=
  let c2_i32_53 : BitVec 32 := 2#32
  let c0_i32_19 : BitVec 32 := 0#32
  let c1_i32_21 : BitVec 32 := 1#32
  let arg12 : BitVec 32 := Scf.iv c0_i32_19 c1_i32_21 k0_t1
  let v85 : BitVec 32 := Scalar.muli c2_i32_53 arg12
  let c512_i32_73 : BitVec 32 := 512#32
  let v125 : BitVec 32 := Scalar.muli v85 c512_i32_73
  let v126 : BitVec 32 := v125
  let v127 : Index := Scalar.indexCast v126
  let c0_74 : Index := 0#32
  ![v127.toNat, 0]
def k0_mult4 (i : grid0.Coords) (k0_t1 : Fin (k0_t1_loop i).trips) : BitVec 32 :=
  let c2_i32_53 : BitVec 32 := 2#32
  let c0_i32_19 : BitVec 32 := 0#32
  let c1_i32_21 : BitVec 32 := 1#32
  let arg12 : BitVec 32 := Scf.iv c0_i32_19 c1_i32_21 k0_t1
  let v85 : BitVec 32 := Scalar.muli c2_i32_53 arg12
  let c2_i32_80 : BitVec 32 := 2#32
  let v139 : BitVec 32 := Scalar.addi v85 c2_i32_80
  let c512_i32_81 : BitVec 32 := 512#32
  let v140 : BitVec 32 := Scalar.muli v139 c512_i32_81
  v140
def k0_mult5 (i : grid0.Coords) (k0_t1 : Fin (k0_t1_loop i).trips) : BitVec 32 :=
  let c2_i32_53 : BitVec 32 := 2#32
  let c0_i32_19 : BitVec 32 := 0#32
  let c1_i32_21 : BitVec 32 := 1#32
  let arg12 : BitVec 32 := Scf.iv c0_i32_19 c1_i32_21 k0_t1
  let v85 : BitVec 32 := Scalar.muli c2_i32_53 arg12
  let c1_i32_86 : BitVec 32 := 1#32
  let v149 : BitVec 32 := Scalar.addi v85 c1_i32_86
  let c512_i32_101 : BitVec 32 := 512#32
  let v179 : BitVec 32 := Scalar.muli v149 c512_i32_101
  v179
def k0_off3 (i : grid0.Coords) (k0_t1 : Fin (k0_t1_loop i).trips) : Fin 2 → Nat :=
  let c2_i32_53 : BitVec 32 := 2#32
  let c0_i32_19 : BitVec 32 := 0#32
  let c1_i32_21 : BitVec 32 := 1#32
  let arg12 : BitVec 32 := Scf.iv c0_i32_19 c1_i32_21 k0_t1
  let v85 : BitVec 32 := Scalar.muli c2_i32_53 arg12
  let c1_i32_86 : BitVec 32 := 1#32
  let v149 : BitVec 32 := Scalar.addi v85 c1_i32_86
  let c512_i32_101 : BitVec 32 := 512#32
  let v179 : BitVec 32 := Scalar.muli v149 c512_i32_101
  let v180 : BitVec 32 := v179
  let v181 : Index := Scalar.indexCast v180
  let c0_102 : Index := 0#32
  ![v181.toNat, 0]
@[reducible] def k0_t2_loop (i : grid0.Coords) : Scf.Loop 32 :=
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let v40 : BitVec 32 := Scalar.addi c0_i32_19 v39
  let c1_i32_22 : BitVec 32 := 1#32
  ⟨v43, v40, c1_i32_22⟩
def k0_mult6 (i : grid0.Coords) (k0_t2 : Fin (k0_t2_loop i).trips) : BitVec 32 :=
  let c2_i32_53 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v85 : BitVec 32 := Scalar.muli c2_i32_53 arg12
  let c1_i32_54 : BitVec 32 := 1#32
  let v86 : BitVec 32 := Scalar.addi v85 c1_i32_54
  let c512_i32 : BitVec 32 := 512#32
  let v87 : BitVec 32 := Scalar.muli v86 c512_i32
  v87
def k0_off4 (i : grid0.Coords) (k0_t2 : Fin (k0_t2_loop i).trips) (c1_i32_54 : BitVec 32) : Fin 2 → Nat :=
  let c2_i32_53 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v85 : BitVec 32 := Scalar.muli c2_i32_53 arg12
  let v86 : BitVec 32 := Scalar.addi v85 c1_i32_54
  let c512_i32 : BitVec 32 := 512#32
  let v87 : BitVec 32 := Scalar.muli v86 c512_i32
  let v88 : BitVec 32 := v87
  let v89 : Index := Scalar.indexCast v88
  let c0_55 : Index := 0#32
  ![v89.toNat, 0]
def k0_mult7 (i : grid0.Coords) (k0_t2 : Fin (k0_t2_loop i).trips) : BitVec 32 :=
  let c2_i32_53 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v85 : BitVec 32 := Scalar.muli c2_i32_53 arg12
  let c512_i32_73 : BitVec 32 := 512#32
  let v125 : BitVec 32 := Scalar.muli v85 c512_i32_73
  v125
def k0_off5 (i : grid0.Coords) (k0_t2 : Fin (k0_t2_loop i).trips) : Fin 2 → Nat :=
  let c2_i32_53 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v85 : BitVec 32 := Scalar.muli c2_i32_53 arg12
  let c512_i32_73 : BitVec 32 := 512#32
  let v125 : BitVec 32 := Scalar.muli v85 c512_i32_73
  let v126 : BitVec 32 := v125
  let v127 : Index := Scalar.indexCast v126
  let c0_74 : Index := 0#32
  ![v127.toNat, 0]
def k0_mult8 (i : grid0.Coords) (k0_t2 : Fin (k0_t2_loop i).trips) : BitVec 32 :=
  let c2_i32_53 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v85 : BitVec 32 := Scalar.muli c2_i32_53 arg12
  let c2_i32_80 : BitVec 32 := 2#32
  let v139 : BitVec 32 := Scalar.addi v85 c2_i32_80
  let c512_i32_81 : BitVec 32 := 512#32
  let v140 : BitVec 32 := Scalar.muli v139 c512_i32_81
  v140
def k0_mult9 (i : grid0.Coords) (k0_t2 : Fin (k0_t2_loop i).trips) : BitVec 32 :=
  let c2_i32_53 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v85 : BitVec 32 := Scalar.muli c2_i32_53 arg12
  let c1_i32_86 : BitVec 32 := 1#32
  let v149 : BitVec 32 := Scalar.addi v85 c1_i32_86
  let c512_i32_101 : BitVec 32 := 512#32
  let v179 : BitVec 32 := Scalar.muli v149 c512_i32_101
  v179
def k0_off6 (i : grid0.Coords) (k0_t2 : Fin (k0_t2_loop i).trips) : Fin 2 → Nat :=
  let c2_i32_53 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v85 : BitVec 32 := Scalar.muli c2_i32_53 arg12
  let c1_i32_86 : BitVec 32 := 1#32
  let v149 : BitVec 32 := Scalar.addi v85 c1_i32_86
  let c512_i32_101 : BitVec 32 := 512#32
  let v179 : BitVec 32 := Scalar.muli v149 c512_i32_101
  let v180 : BitVec 32 := v179
  let v181 : Index := Scalar.indexCast v180
  let c0_102 : Index := 0#32
  ![v181.toNat, 0]
def k0_cond1 (i : grid0.Coords) : BitVec 1 :=
  let arg1 : BitVec 32 := BitVec.ofNat 32 (i 1).val
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi arg1 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c0_i32_29 : BitVec 32 := 0#32
  let v54 : BitVec 1 := Scalar.cmpi .eq v53 c0_i32_29
  let v55 : BitVec 32 := Scalar.extui v54
  let c0_i32_30 : BitVec 32 := 0#32
  let v56 : BitVec 1 := Scalar.cmpi .ne v55 c0_i32_30
  v56

def k0_mult10 (i : grid0.Coords) : BitVec 32 :=
  let arg1 : BitVec 32 := BitVec.ofNat 32 (i 1).val
  let c512_i32 : BitVec 32 := 512#32
  let v119 : BitVec 32 := Scalar.muli arg1 c512_i32
  v119
def k0_off7 (i : grid0.Coords) : Fin 2 → Nat :=
  let arg1 : BitVec 32 := BitVec.ofNat 32 (i 1).val
  let c512_i32 : BitVec 32 := 512#32
  let v119 : BitVec 32 := Scalar.muli arg1 c512_i32
  let v120 : BitVec 32 := v119
  let v121 : Index := Scalar.indexCast v120
  let c0_68 : Index := 0#32
  ![v121.toNat, 0]
def k0_cond2 (i : grid0.Coords) : BitVec 1 :=
  let arg1 : BitVec 32 := BitVec.ofNat 32 (i 1).val
  let c2_i32_31 : BitVec 32 := 2#32
  let c0_i32_32 : BitVec 32 := 0#32
  let v57 : BitVec 1 := Scalar.cmpi .eq c2_i32_31 c0_i32_32
  let c1_i32_33 : BitVec 32 := 1#32
  let v58 : BitVec 32 := Scalar.select v57 c1_i32_33 c2_i32_31
  let v59 : BitVec 32 := Scalar.remsi arg1 v58
  let c0_i32_35 : BitVec 32 := 0#32
  let v61 : BitVec 1 := Scalar.cmpi .slt v59 c0_i32_35
  let c0_i32_36 : BitVec 32 := 0#32
  let v62 : BitVec 1 := Scalar.cmpi .slt v58 c0_i32_36
  let v63 : BitVec 1 := Scalar.xori v61 v62
  let c0_i32_34 : BitVec 32 := 0#32
  let v60 : BitVec 1 := Scalar.cmpi .ne v59 c0_i32_34
  let v64 : BitVec 1 := Scalar.andi v63 v60
  let v65 : BitVec 32 := Scalar.addi v59 v58
  let v66 : BitVec 32 := Scalar.select v64 v65 v59
  let c1_i32_37 : BitVec 32 := 1#32
  let v67 : BitVec 1 := Scalar.cmpi .eq v66 c1_i32_37
  let v68 : BitVec 32 := Scalar.extui v67
  let c0_i32_38 : BitVec 32 := 0#32
  let v69 : BitVec 1 := Scalar.cmpi .ne v68 c0_i32_38
  v69

def k0_mult11 (i : grid0.Coords) : BitVec 32 :=
  let arg1 : BitVec 32 := BitVec.ofNat 32 (i 1).val
  let c512_i32 : BitVec 32 := 512#32
  let v85 : BitVec 32 := Scalar.muli arg1 c512_i32
  v85
def k0_off8 (i : grid0.Coords) : Fin 2 → Nat :=
  let arg1 : BitVec 32 := BitVec.ofNat 32 (i 1).val
  let c512_i32 : BitVec 32 := 512#32
  let v85 : BitVec 32 := Scalar.muli arg1 c512_i32
  let v86 : BitVec 32 := v85
  let v87 : Index := Scalar.indexCast v86
  let c0_53 : Index := 0#32
  ![v87.toNat, 0]
def k0_mult12 (i : grid0.Coords) : BitVec 32 :=
  let arg1 : BitVec 32 := BitVec.ofNat 32 (i 1).val
  let c1_i32_57 : BitVec 32 := 1#32
  let v94 : BitVec 32 := Scalar.subi arg1 c1_i32_57
  let c512_i32_72 : BitVec 32 := 512#32
  let v124 : BitVec 32 := Scalar.muli v94 c512_i32_72
  v124
def k0_off9 (i : grid0.Coords) : Fin 2 → Nat :=
  let arg1 : BitVec 32 := BitVec.ofNat 32 (i 1).val
  let c1_i32_57 : BitVec 32 := 1#32
  let v94 : BitVec 32 := Scalar.subi arg1 c1_i32_57
  let c512_i32_72 : BitVec 32 := 512#32
  let v124 : BitVec 32 := Scalar.muli v94 c512_i32_72
  let v125 : BitVec 32 := v124
  let v126 : Index := Scalar.indexCast v125
  let c0_73 : Index := 0#32
  ![v126.toNat, 0]
def k0_mult13 (i : grid0.Coords) : BitVec 32 :=
  let arg1 : BitVec 32 := BitVec.ofNat 32 (i 1).val
  let c512_i32_94 : BitVec 32 := 512#32
  let v172 : BitVec 32 := Scalar.muli arg1 c512_i32_94
  v172
def k0_off10 (i : grid0.Coords) : Fin 2 → Nat :=
  let arg1 : BitVec 32 := BitVec.ofNat 32 (i 1).val
  let c512_i32_94 : BitVec 32 := 512#32
  let v172 : BitVec 32 := Scalar.muli arg1 c512_i32_94
  let v173 : BitVec 32 := v172
  let v174 : Index := Scalar.indexCast v173
  let c0_95 : Index := 0#32
  ![v174.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "log2e" => some (((Real.log 2)⁻¹ : ℝ) : EReal)
  | "mask" => some ⊥
  | "scale_log2e" => some ((((Real.sqrt 192) * (Real.log 2))⁻¹ : ℝ) : EReal)
  | _ => none
-- ==== Reference2Ideal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S8192x512 : Shape := ⟨2, ![8192, 512]⟩
abbrev S4x8x8192 : Shape := ⟨3, ![4, 8, 8192]⟩
abbrev S32x8192 : Shape := ⟨2, ![32, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S4x8192x8192, .f32⟩
  | .hbm, ⟨4, _⟩ => ⟨S_, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S8192, .i32⟩
  | .hbm, ⟨9, _⟩ => ⟨S1x8192, .i32⟩
  | .hbm, ⟨10, _⟩ => ⟨S8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S4x8192x8192, .i1⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S_, .f32⟩
  | .hbm, ⟨27, _⟩ => ⟨S4x8192, .f32⟩
  | .hbm, ⟨28, _⟩ => ⟨S4x8192, .f32⟩
  | .hbm, ⟨29, _⟩ => ⟨S4x8192x8192, .f32⟩
  | .hbm, ⟨30, _⟩ => ⟨S_, .f32⟩
  | .hbm, ⟨31, _⟩ => ⟨S_, .f32⟩
  | .hbm, ⟨32, _⟩ => ⟨S4x8192x8192, .f32⟩
  | .hbm, ⟨33, _⟩ => ⟨S4x8192x8192, .f32⟩
  | .hbm, ⟨34, _⟩ => ⟨S8192, .i32⟩
  | .hbm, ⟨35, _⟩ => ⟨S1x8192, .i32⟩
  | .hbm, ⟨36, _⟩ => ⟨S8192, .i32⟩
  | .hbm, ⟨37, _⟩ => ⟨S8192x1, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S1x8192x8192, .i1⟩
  | .hbm, ⟨42, _⟩ => ⟨S_, .f32⟩
  | .hbm, ⟨43, _⟩ => ⟨S_, .f32⟩
  | .hbm, ⟨44, _⟩ => ⟨S4x8192x8192, .i1⟩
  | .hbm, ⟨45, _⟩ => ⟨S4x8192x8192, .f32⟩
  | .hbm, ⟨46, _⟩ => ⟨S4x8192x8192, .f32⟩
  | .hbm, ⟨47, _⟩ => ⟨S_, .f32⟩
  | .hbm, ⟨48, _⟩ => ⟨S4x8192, .f32⟩
  | .hbm, ⟨49, _⟩ => ⟨S_, .f32⟩
  | .hbm, ⟨50, _⟩ => ⟨S4x8192, .f32⟩
  | .hbm, ⟨51, _⟩ => ⟨S4x8192, .f32⟩
  | .hbm, ⟨52, _⟩ => ⟨S4x8192x1, .f32⟩
  | .hbm, ⟨53, _⟩ => ⟨S4x8192x8192, .f32⟩
  | .hbm, ⟨54, _⟩ => ⟨S4x8192x8192, .f32⟩
  | .hbm, ⟨55, _⟩ => ⟨S4x8192x8192, .f32⟩
  | .hbm, ⟨56, _⟩ => ⟨S_, .f32⟩
  | .hbm, ⟨57, _⟩ => ⟨S4x8192, .f32⟩
  | .hbm, ⟨58, _⟩ => ⟨S4x8192x1, .f32⟩
  | .hbm, ⟨59, _⟩ => ⟨S4x8192x8192, .f32⟩
  | .hbm, ⟨60, _⟩ => ⟨S4x8192x8192, .f32⟩
  | .hbm, ⟨61, _⟩ => ⟨S4x128x8192, .f32⟩
  | .hbm, ⟨62, _⟩ => ⟨S8192x4x128, .f32⟩
  | .hbm, ⟨63, _⟩ => ⟨S8192x512, .f32⟩
  | .hbm, ⟨64, _⟩ => ⟨S4x8x8192, .f32⟩
  | .hbm, ⟨65, _⟩ => ⟨S32x8192, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Kernel3.lean ====
abbrev S8192x1024 : Shape := ⟨2, ![8192, 1024]⟩
abbrev S8192 : Shape := ⟨1, ![8192]⟩
abbrev S1x1024 : Shape := ⟨2, ![1, 1024]⟩
abbrev S1024x3008 : Shape := ⟨2, ![1024, 3008]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S1x192 : Shape := ⟨2, ![1, 192]⟩
abbrev S_ : Shape := ⟨0, ![]⟩
abbrev S1024x64 : Shape := ⟨2, ![1024, 64]⟩
abbrev S1024x448 : Shape := ⟨2, ![1024, 448]⟩
abbrev S1024x512 : Shape := ⟨2, ![1024, 512]⟩
abbrev S1024x1024 : Shape := ⟨2, ![1024, 1024]⟩
abbrev S1024x3072 : Shape := ⟨2, ![1024, 3072]⟩
abbrev S256x4x192 : Shape := ⟨3, ![256, 4, 192]⟩
abbrev S256x4x256 : Shape := ⟨3, ![256, 4, 256]⟩
abbrev S256x1024 : Shape := ⟨2, ![256, 1024]⟩
abbrev S128x4x2x128 : Shape := ⟨4, ![128, 4, 2, 128]⟩
abbrev S128x2x4x128 : Shape := ⟨4, ![128, 2, 4, 128]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S8192x96 : Shape := ⟨2, ![8192, 96]⟩
abbrev S8192x3072 : Shape := ⟨2, ![8192, 3072]⟩
abbrev S8192x512 : Shape := ⟨2, ![8192, 512]⟩
abbrev S512x1024 : Shape := ⟨2, ![512, 1024]⟩
abbrev S512x128 : Shape := ⟨2, ![512, 128]⟩
abbrev S512x3072 : Shape := ⟨2, ![512, 3072]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 75
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1x1024, .f32⟩
  | .hbm, ⟨3, _⟩ => ⟨S1024x3008, .f32⟩
  | .hbm, ⟨4, _⟩ => ⟨S1x256, .f32⟩
  | .hbm, ⟨5, _⟩ => ⟨S256x768, .f32⟩
  | .hbm, ⟨6, _⟩ => ⟨S1x128, .f32⟩
  | .hbm, ⟨7, _⟩ => ⟨S128x1024, .f32⟩
  | .hbm, ⟨8, _⟩ => ⟨S1x192, .f32⟩
  | .hbm, ⟨9, _⟩ => ⟨S1x192, .f32⟩
  | .hbm, ⟨10, _⟩ => ⟨S_, .f32⟩
  | .hbm, ⟨11, _⟩ => ⟨S1024x64, .f32⟩
  | .hbm, ⟨12, _⟩ => ⟨S1024x448, .f32⟩
  | .hbm, ⟨13, _⟩ => ⟨S1024x512, .f32⟩
  | .hbm, ⟨14, _⟩ => ⟨S1024x1024, .f32⟩
  | .hbm, ⟨15, _⟩ => ⟨S1024x512, .f32⟩
  | .hbm, ⟨16, _⟩ => ⟨S1024x512, .f32⟩
  | .hbm, ⟨17, _⟩ => ⟨S1024x3072, .f32⟩
  | .hbm, ⟨18, _⟩ => ⟨S256x4x192, .f32⟩
  | .hbm, ⟨19, _⟩ => ⟨S_, .i32⟩
  | .hbm, ⟨20, _⟩ => ⟨S_, .f32⟩
  | .hbm, ⟨21, _⟩ => ⟨S256x4x256, .f32⟩
  | .hbm, ⟨22, _⟩ => ⟨S256x1024, .f32⟩
  | .hbm, ⟨23, _⟩ => ⟨S128x4x2x128, .f32⟩
  | .hbm, ⟨24, _⟩ => ⟨S128x2x4x128, .f32⟩
  | .hbm, ⟨25, _⟩ => ⟨S128x1024, .f32⟩
  | .hbm, ⟨26, _⟩ => ⟨S_, .i32⟩
  | .hbm, ⟨27, _⟩ => ⟨S_, .f32⟩
  | .hbm, ⟨28, _⟩ => ⟨S1x256, .f32⟩
  | .hbm, ⟨29, _⟩ => ⟨S_, .i32⟩
  | .hbm, ⟨30, _⟩ => ⟨S_, .f32⟩
  | .hbm, ⟨31, _⟩ => ⟨S1x256, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S8192, .f32⟩
  | .hbm, ⟨49, _⟩ => ⟨S8192x1, .f32⟩
  | .hbm, ⟨50, _⟩ => ⟨S1x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S8192x32, .f32⟩
  | .hbm, ⟨56, _⟩ => ⟨S_, .f32⟩
  | .hbm, ⟨57, _⟩ => ⟨S8192x64, .f32⟩
  | .hbm, ⟨58, _⟩ => ⟨S8192x128, .f32⟩
  | .hbm, ⟨59, _⟩ => ⟨S_, .f32⟩
  | .hbm, ⟨60, _⟩ => ⟨S8192x32, .f32⟩
  | .hbm, ⟨61, _⟩ => ⟨S_, .f32⟩
  | .hbm, ⟨62, _⟩ => ⟨S8192x64, .f32⟩
  | .hbm, ⟨63, _⟩ => ⟨S8192x128, .f32⟩
  | .hbm, ⟨64, _⟩ => ⟨S8192x32, .f32⟩
  | .hbm, ⟨65, _⟩ => ⟨S_, .f32⟩
  | .hbm, ⟨66, _⟩ => ⟨S8192x96, .f32⟩
  | .hbm, ⟨67, _⟩ => ⟨S8192x128, .f32⟩
  | .hbm, ⟨68, _⟩ => ⟨S1024x3072, .bf16⟩
  | .hbm, ⟨69, _⟩ => ⟨S256x1024, .bf16⟩
  | .hbm, ⟨70, _⟩ => ⟨S128x1024, .bf16⟩
  | .hbm, ⟨71, _⟩ => ⟨S8192x3072, .f32⟩
  | .hbm, ⟨72, _⟩ => ⟨S8192x1024, .bf16⟩
  | .hbm, ⟨73, _⟩ => ⟨S8192x1024, .bf16⟩
  | .hbm, ⟨74, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1024x3072, .bf16⟩
  | .local _ .vmem, ⟨10, _⟩ => ⟨S1x256, .f32⟩
  | .local _ .vmem, ⟨11, _⟩ => ⟨S256x1024, .bf16⟩
  | .local _ .vmem, ⟨12, _⟩ => ⟨S1x128, .f32⟩
  | .local _ .vmem, ⟨13, _⟩ => ⟨S128x1024, .bf16⟩
  | .local _ .vmem, ⟨14, _⟩ => ⟨S1x256, .f32⟩
  | .local _ .vmem, ⟨15, _⟩ => ⟨S1x256, .f32⟩
  | .local _ .vmem, ⟨16, _⟩ => ⟨S512x3072, .f32⟩
  | .local _ .vmem, ⟨17, _⟩ => ⟨S512x3072, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_call1_v0 : Ref sig .tc := ⟨.hbm, 27, rfl⟩
abbrev main_v13 : Ref sig .tc := ⟨.hbm, 28, rfl⟩
abbrev main_c_1 : Ref sig .tc := ⟨.hbm, 29, rfl⟩
abbrev main_call2_v0 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_v45_2 : Ref sig .tc := ⟨.hbm, 73, rfl⟩
abbrev main_v45_3 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel3Ideal.lean ====
variable {F : FTy → Type} [FloatOps F] [Named F]
def κ : String → Option EReal := fun
  | "inv_width" => some ((192⁻¹ : ℝ) : EReal)
  | _ => none
-- ==== Reference3Ideal.lean ====
abbrev S8192x1024 : Shape := ⟨2, ![8192, 1024]⟩
abbrev S8192 : Shape := ⟨1, ![8192]⟩
abbrev S1x1024 : Shape := ⟨2, ![1, 1024]⟩
abbrev S1024x3008 : Shape := ⟨2, ![1024, 3008]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S1x192 : Shape := ⟨2, ![1, 192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x3008 : Shape := ⟨2, ![8192, 3008]⟩
abbrev S8192x256 : Shape := ⟨2, ![8192, 256]⟩
abbrev S8192x128 : Shape := ⟨2, ![8192, 128]⟩
abbrev S8192x64 : Shape := ⟨2, ![8192, 64]⟩
abbrev S8192x768 : Shape := ⟨2, ![8192, 768]⟩
abbrev S8192x4x192 : Shape := ⟨3, ![8192, 4, 192]⟩
abbrev S8192x4x256 : Shape := ⟨3, ![8192, 4, 256]⟩
abbrev S8192x4x128 : Shape := ⟨3, ![8192, 4, 128]⟩
abbrev S8192x1x64 : Shape := ⟨3, ![8192, 1, 64]⟩
abbrev S8192x4x64 : Shape := ⟨3, ![8192, 4, 64]⟩
abbrev S8192x4 : Shape := ⟨2, ![8192, 4]⟩
abbrev S8192x4x1 : Shape := ⟨3, ![8192, 4, 1]⟩
abbrev S1x1x192 : Shape := ⟨3, ![1, 1, 192]⟩
abbrev S8192x1x32 : Shape := ⟨3, ![8192, 1, 32]⟩
abbrev S8192x4x32 : Shape := ⟨3, ![8192, 4, 32]⟩
abbrev S8192x448 : Shape := ⟨2, ![8192, 448]⟩
abbrev S8192x512 : Shape := ⟨2, ![8192, 512]⟩
abbrev S8192x3072 : Shape := ⟨2, ![8192, 3072]⟩

abbrev nBuf : Space → Nat
  | .hbm => 182
  | .vmem => 0
  | .smem => 0
  | _ => 0

abbrev hbmTy0_0 (i : Nat) : BufTy := match i % 128 with
  | 0 => ⟨S8192x1024, .f32⟩
  | 1 => ⟨S8192, .i32⟩
  | 2 => ⟨S1x1024, .f32⟩
  | 3 => ⟨S1024x3008, .f32⟩
  | 4 => ⟨S1x256, .f32⟩
  | 5 => ⟨S256x768, .f32⟩
  | 6 => ⟨S1x128, .f32⟩
  | 7 => ⟨S128x1024, .f32⟩
  | 8 => ⟨S1x192, .f32⟩
  | 9 => ⟨S1x192, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S8192, .f32⟩
  | 27 => ⟨S8192x1, .f32⟩
  | 28 => ⟨S1x32, .f32⟩
  | 29 => ⟨S8192x32, .f32⟩
  | 30 => ⟨S8192x32, .f32⟩
  | 31 => ⟨S8192x32, .f32⟩
  | 32 => ⟨S8192x32, .f32⟩
  | 33 => ⟨S8192x32, .f32⟩
  | 34 => ⟨S8192x1024, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1, .f32⟩
  | 45 => ⟨S8192x1024, .f32⟩
  | 46 => ⟨S8192x1024, .f32⟩
  | 47 => ⟨S8192x1024, .f32⟩
  | 48 => ⟨S8192x1024, .f32⟩
  | 49 => ⟨S8192x3008, .f32⟩
  | 50 => ⟨S8192x256, .f32⟩
  | 51 => ⟨S8192x128, .f32⟩
  | 52 => ⟨S8192x64, .f32⟩
  | 53 => ⟨S8192x256, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1, .f32⟩
  | 64 => ⟨S8192x256, .f32⟩
  | 65 => ⟨S8192x256, .f32⟩
  | 66 => ⟨S8192x256, .f32⟩
  | 67 => ⟨S8192x256, .f32⟩
  | 68 => ⟨S8192x768, .f32⟩
  | 69 => ⟨S8192x4x192, .f32⟩
  | 70 => ⟨S8192x128, .f32⟩
  | 71 => ⟨S_, .f32⟩
  | 72 => ⟨S8192, .f32⟩
  | 73 => ⟨S8192x1, .f32⟩
  | 74 => ⟨S_, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x1, .f32⟩
  | 81 => ⟨S8192x128, .f32⟩
  | 82 => ⟨S8192x128, .f32⟩
  | 83 => ⟨S8192x128, .f32⟩
  | 84 => ⟨S8192x128, .f32⟩
  | 85 => ⟨S8192x1024, .f32⟩
  | 86 => ⟨S8192x4x256, .f32⟩
  | 87 => ⟨S8192x4x128, .f32⟩
  | 88 => ⟨S8192x4x128, .f32⟩
  | 89 => ⟨S8192x1x64, .f32⟩
  | 90 => ⟨S8192x4x64, .f32⟩
  | 91 => ⟨S8192x4x192, .f32⟩
  | 92 => ⟨S8192x4x192, .f32⟩
  | 93 => ⟨S_, .f32⟩
  | 94 => ⟨S8192x4, .f32⟩
  | 95 => ⟨S8192x4x1, .f32⟩
  | 96 => ⟨S_, .f32⟩
  | 97 => ⟨S8192x4x1, .f32⟩
  | 98 => ⟨S8192x4x1, .f32⟩
  | 99 => ⟨S_, .f32⟩
  | 100 => ⟨S8192x4x1, .f32⟩
  | 101 => ⟨S8192x4x1, .f32⟩
  | 102 => ⟨S8192x4x1, .f32⟩
  | 103 => ⟨S8192x4x192, .f32⟩
  | 104 => ⟨S8192x4x192, .f32⟩
  | 105 => ⟨S1x1x192, .f32⟩
  | 106 => ⟨S8192x4x192, .f32⟩
  | 107 => ⟨S8192x4x192, .f32⟩
  | 108 => ⟨S8192x4x192, .f32⟩
  | 109 => ⟨S_, .f32⟩
  | 110 => ⟨S8192x4, .f32⟩
  | 111 => ⟨S8192x4x1, .f32⟩
  | 112 => ⟨S_, .f32⟩
  | 113 => ⟨S8192x4x1, .f32⟩
  | 114 => ⟨S8192x4x1, .f32⟩
  | 115 => ⟨S_, .f32⟩
  | 116 => ⟨S8192x4x1, .f32⟩
  | 117 => ⟨S8192x4x1, .f32⟩
  | 118 => ⟨S8192x4x1, .f32⟩
  | 119 => ⟨S8192x4x192, .f32⟩
  | 120 => ⟨S8192x4x192, .f32⟩
  | 121 => ⟨S1x1x192, .f32⟩
  | 122 => ⟨S8192x4x192, .f32⟩
  | 123 => ⟨S8192x4x192, .f32⟩
  | 124 => ⟨S8192x4x128, .f32⟩
  | 125 => ⟨S8192x4x64, .f32⟩
  | 126 => ⟨S8192x1x32, .f32⟩
  | 127 => ⟨S8192x1x32, .f32⟩
  | _ => ⟨S8192x1024, .f32⟩

abbrev hbmTy0_1 (i : Nat) : BufTy := match i % 128 with
  | 0 => ⟨S8192x4x32, .f32⟩
  | 1 => ⟨S8192x4x32, .f32⟩
  | 2 => ⟨S8192x4x32, .f32⟩
  | 3 => ⟨S8192x4x32, .f32⟩
  | 4 => ⟨S8192x4x32, .f32⟩
  | 5 => ⟨S8192x4x32, .f32⟩
  | 6 => ⟨S8192x4x32, .f32⟩
  | 7 => ⟨S8192x4x32, .f32⟩
  | 8 => ⟨S8192x4x32, .f32⟩
  | 9 => ⟨S8192x4x32, .f32⟩
  | 10 => ⟨S8192x4x32, .f32⟩
  | 11 => ⟨S8192x4x32, .f32⟩
  | 12 => ⟨S8192x4x64, .f32⟩
  | 13 => ⟨S8192x4x192, .f32⟩
  | 14 => ⟨S8192x4x128, .f32⟩
  | 15 => ⟨S8192x4x64, .f32⟩
  | 16 => ⟨S8192x1x32, .f32⟩
  | 17 => ⟨S8192x1x32, .f32⟩
  | 18 => ⟨S8192x4x32, .f32⟩
  | 19 => ⟨S8192x4x32, .f32⟩
  | 20 => ⟨S8192x4x32, .f32⟩
  | 21 => ⟨S8192x4x32, .f32⟩
  | 22 => ⟨S8192x4x32, .f32⟩
  | 23 => ⟨S8192x4x32, .f32⟩
  | 24 => ⟨S8192x4x32, .f32⟩
  | 25 => ⟨S8192x4x32, .f32⟩
  | 26 => ⟨S8192x4x32, .f32⟩
  | 27 => ⟨S8192x4x32, .f32⟩
  | 28 => ⟨S8192x4x32, .f32⟩
  | 29 => ⟨S8192x4x32, .f32⟩
  | 30 => ⟨S8192x4x64, .f32⟩
  | 31 => ⟨S8192x4x192, .f32⟩
  | 32 => ⟨S8192x448, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S_, .i32⟩
  | 39 => ⟨S_, .f32⟩
  | 40 => ⟨S8192x512, .f32⟩
  | 41 => ⟨S8192x3072, .f32⟩
  | 42 => ⟨S_, .i32⟩
  | 43 => ⟨S_, .f32⟩
  | 44 => ⟨S8192x4x256, .f32⟩
  | 45 => ⟨S8192x1024, .f32⟩
  | 46 => ⟨S8192x1024, .bf16⟩
  | 47 => ⟨S_, .i32⟩
  | 48 => ⟨S_, .f32⟩
  | 49 => ⟨S8192x4x256, .f32⟩
  | 50 => ⟨S8192x1024, .f32⟩
  | 51 => ⟨S8192x1024, .bf16⟩
  | 52 => ⟨S8192x512, .f32⟩
  | 53 => ⟨S8192x512, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_cst_18 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_c : Ref sig .tc := ⟨.hbm, 166, rfl⟩
abbrev main_call0_v0 : Ref sig .tc := ⟨.hbm, 167, rfl⟩
abbrev main_v136 : Ref sig .tc := ⟨.hbm, 168, rfl⟩
abbrev main_v137 : Ref sig .tc := ⟨.hbm, 169, rfl⟩
abbrev main_c_19 : Ref sig .tc := ⟨.hbm, 170, rfl⟩
abbrev main_call1_v0 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_c_20 : Ref sig .tc := ⟨.hbm, 175, rfl⟩
abbrev main_call2_v0 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩

abbrev nD : Nat := 1
abbrev τ : Topo := Topo.v7x

variable {F : FTy → Type} [FloatOps F]
-- ==== Kernel4.lean ====
abbrev S8192x512 : Shape := ⟨2, ![8192, 512]⟩
abbrev S8192x3008 : Shape := ⟨2, ![8192, 3008]⟩
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S3x512 : Shape := ⟨2, ![3, 512]⟩
abbrev S1x512 : Shape := ⟨2, ![1, 512]⟩
abbrev S1x1024 : Shape := ⟨2, ![1, 1024]⟩
abbrev S8192x448 : Shape := ⟨2, ![8192, 448]⟩
abbrev S_ : Shape := ⟨0, ![]⟩
abbrev S8192x3072 : Shape := ⟨2, ![8192, 3072]⟩
abbrev S8x512 : Shape := ⟨2, ![8, 512]⟩
abbrev S32x8192 : Shape := ⟨2, ![32, 8192]⟩
abbrev S1x128 : Shape := ⟨2, ![1, 128]⟩
abbrev S256x512 : Shape := ⟨2, ![256, 512]⟩
abbrev S8x1024 : Shape := ⟨2, ![8, 1024]⟩
abbrev S256x256 : Shape := ⟨2, ![256, 256]⟩
abbrev S32x256 : Shape := ⟨2, ![32, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩
abbrev S512 : Shape := ⟨1, ![512]⟩
abbrev S256x128 : Shape := ⟨2, ![256, 128]⟩
abbrev S128x256 : Shape := ⟨2, ![128, 256]⟩
abbrev S8x256 : Shape := ⟨2, ![8, 256]⟩

abbrev nBuf : Space → Nat
  | .hbm => 42
  | .vmem => 43
  | .smem => 0
  | _ => 0

abbrev bufTy : (tb : Table) → Fin (tcTables nBuf tb) → BufTy
  | .hbm, ⟨0, _⟩ => ⟨S8192x512, .f32⟩
  | .hbm, ⟨1, _⟩ => ⟨S8192x3008, .f32⟩
  | .hbm, ⟨2, _⟩ => ⟨S8192x1024, .f32⟩
  | .hbm, ⟨3, _⟩ => ⟨S8192x256, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S256x1024, .f32⟩
  | .hbm, ⟨8, _⟩ => ⟨S3x512, .f32⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S8192x448, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .i32⟩
  | .hbm, ⟨19, _⟩ => ⟨S_, .f32⟩
  | .hbm, ⟨20, _⟩ => ⟨S8192x512, .f32⟩
  | .hbm, ⟨21, _⟩ => ⟨S8192x3072, .f32⟩
  | .hbm, ⟨22, _⟩ => ⟨S1024x1024, .bf16⟩
  | .hbm, ⟨23, _⟩ => ⟨S1024x1024, .bf16⟩
  | .hbm, ⟨24, _⟩ => ⟨S256x1024, .bf16⟩
  | .hbm, ⟨25, _⟩ => ⟨S_, .i32⟩
  | .hbm, ⟨26, _⟩ => ⟨S_, .f32⟩
  | .hbm, ⟨27, _⟩ => ⟨S8x512, .f32⟩
  | .hbm, ⟨28, _⟩ => ⟨S8192x1024, .f32⟩
  | .hbm, ⟨29, _⟩ => ⟨S8192x512, .bf16⟩
  | .hbm, ⟨30, _⟩ => ⟨S32x8192, .f32⟩
  | .hbm, ⟨31, _⟩ => ⟨S8192x512, .bf16⟩
  | .hbm, ⟨32, _⟩ => ⟨S8192x1024, .bf16⟩
  | .hbm, ⟨33, _⟩ => ⟨S8192x512, .f32⟩
  | .hbm, ⟨34, _⟩ => ⟨S1024x1024, .f32⟩
  | .hbm, ⟨35, _⟩ => ⟨S1024x1024, .f32⟩
  | .hbm, ⟨36, _⟩ => ⟨S256x1024, .f32⟩
  | .hbm, ⟨37, _⟩ => ⟨S8x512, .f32⟩
  | .hbm, ⟨38, _⟩ => ⟨S1x512, .f32⟩
  | .hbm, ⟨39, _⟩ => ⟨S1x512, .f32⟩
  | .hbm, ⟨40, _⟩ => ⟨S1x1024, .f32⟩
  | .hbm, ⟨41, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S256x1024, .f32⟩
  | .local _ .vmem, ⟨11, _⟩ => ⟨S256x1024, .f32⟩
  | .local _ .vmem, ⟨12, _⟩ => ⟨S256x256, .f32⟩
  | .local _ .vmem, ⟨13, _⟩ => ⟨S256x256, .f32⟩
  | .local _ .vmem, ⟨14, _⟩ => ⟨S256x1024, .f32⟩
  | .local _ .vmem, ⟨15, _⟩ => ⟨S256x1024, .f32⟩
  | .local _ .vmem, ⟨16, _⟩ => ⟨S1024x1024, .bf16⟩
  | .local _ .vmem, ⟨17, _⟩ => ⟨S1024x1024, .bf16⟩
  | .local _ .vmem, ⟨18, _⟩ => ⟨S256x1024, .bf16⟩
  | .local _ .vmem, ⟨19, _⟩ => ⟨S8x512, .f32⟩
  | .local _ .vmem, ⟨20, _⟩ => ⟨S1x512, .f32⟩
  | .local _ .vmem, ⟨21, _⟩ => ⟨S1x512, .f32⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S256x512, .bf16⟩
  | .local _ .vmem, ⟨26, _⟩ => ⟨S256x512, .bf16⟩
  | .local _ .vmem, ⟨27, _⟩ => ⟨S32x256, .f32⟩
  | .local _ .vmem, ⟨28, _⟩ => ⟨S32x256, .f32⟩
  | .local _ .vmem, ⟨29, _⟩ => ⟨S256x512, .bf16⟩
  | .local _ .vmem, ⟨30, _⟩ => ⟨S256x512, .bf16⟩
  | .local _ .vmem, ⟨31, _⟩ => ⟨S256x1024, .bf16⟩
  | .local _ .vmem, ⟨32, _⟩ => ⟨S256x1024, .bf16⟩
  | .local _ .vmem, ⟨33, _⟩ => ⟨S256x512, .f32⟩
  | .local _ .vmem, ⟨34, _⟩ => ⟨S256x512, .f32⟩
  | .local _ .vmem, ⟨35, _⟩ => ⟨S1024x1024, .f32⟩
  | .local _ .vmem, ⟨36, _⟩ => ⟨S1024x1024, .f32⟩
  | .local _ .vmem, ⟨37, _⟩ => ⟨S256x1024, .f32⟩
  | .local _ .vmem, ⟨38, _⟩ => ⟨S8x512, .f32⟩
  | .local _ .vmem, ⟨39, _⟩ => ⟨S1x512, .f32⟩
  | .local _ .vmem, ⟨40, _⟩ => ⟨S1x512, .f32⟩
  | .local _ .vmem, ⟨41, _⟩ => ⟨S1x1024, .f32⟩
  | .local _ .vmem, ⟨42, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_call1_v0 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v12_3 : Ref sig .tc := ⟨.hbm, 31, rfl⟩
abbrev main_v12_4 : Ref sig .tc := ⟨.hbm, 32, rfl⟩
abbrev main_v12_5 : Ref sig .tc := ⟨.hbm, 33, rfl⟩
abbrev main_v12_6 : Ref sig .tc := ⟨.hbm, 34, rfl⟩
abbrev main_v12_7 : Ref sig .tc := ⟨.hbm, 35, rfl⟩
abbrev main_v12_8 : Ref sig .tc := ⟨.hbm, 36, rfl⟩
abbrev main_v12_9 : Ref sig .tc := ⟨.hbm, 37, rfl⟩
abbrev main_v12_10 : Ref sig .tc := ⟨.hbm, 38, rfl⟩
abbrev main_v12_11 : Ref sig .tc := ⟨.hbm, 39, rfl⟩
abbrev main_v12_12 : Ref sig .tc := ⟨.hbm, 40, rfl⟩
abbrev main_v12_13 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_stg27_0 : Ref sig .tc := ⟨.vmem, 41, rfl⟩
abbrev cc0_stg28_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40
abbrev cc0_sem27_0 : DmaSem sig := 41
abbrev cc0_sem28_0 : DmaSem sig := 42

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1024x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== Reference4Ideal.lean ====
abbrev S8192x512 : Shape := ⟨2, ![8192, 512]⟩
abbrev S8192x3008 : Shape := ⟨2, ![8192, 3008]⟩
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S3x512 : Shape := ⟨2, ![3, 512]⟩
abbrev S1x512 : Shape := ⟨2, ![1, 512]⟩
abbrev S1x1024 : Shape := ⟨2, ![1, 1024]⟩
abbrev S8192x448 : Shape := ⟨2, ![8192, 448]⟩
abbrev S_ : Shape := ⟨0, ![]⟩
abbrev S8192 : Shape := ⟨1, ![8192]⟩
abbrev S8192x1 : Shape := ⟨2, ![8192, 1]⟩
abbrev S2x512 : Shape := ⟨2, ![2, 512]⟩
abbrev S8194x512 : Shape := ⟨2, ![8194, 512]⟩
abbrev S512 : Shape := ⟨1, ![512]⟩
abbrev S1024x256 : Shape := ⟨2, ![1024, 256]⟩
abbrev S1024 : Shape := ⟨1, ![1024]⟩
abbrev S1x128 : Shape := ⟨2, ![1, 128]⟩

abbrev nBuf : Space → Nat
  | .hbm => 163
  | .vmem => 0
  | .smem => 0
  | _ => 0

abbrev hbmTy0_0 (i : Nat) : BufTy := match i % 128 with
  | 0 => ⟨S8192x512, .f32⟩
  | 1 => ⟨S8192x3008, .f32⟩
  | 2 => ⟨S8192x1024, .f32⟩
  | 3 => ⟨S8192x256, .f32⟩
  | 4 => ⟨S8192x1024, .f32⟩
  | 5 => ⟨S1024x1024, .f32⟩
  | 6 => ⟨S1024x1024, .f32⟩
  | 7 => ⟨S256x1024, .f32⟩
  | 8 => ⟨S3x512, .f32⟩
  | 9 => ⟨S1x512, .f32⟩
  | 10 => ⟨S1x512, .f32⟩
  | 11 => ⟨S1x1024, .f32⟩
  | 12 => ⟨S8192x448, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S_, .f32⟩
  | 45 => ⟨S2x512, .f32⟩
  | 46 => ⟨S8194x512, .f32⟩
  | 47 => ⟨S1x512, .f32⟩
  | 48 => ⟨S512, .f32⟩
  | 49 => ⟨S8192x512, .f32⟩
  | 50 => ⟨S1x512, .f32⟩
  | 51 => ⟨S8192x512, .f32⟩
  | 52 => ⟨S8192x512, .f32⟩
  | 53 => ⟨S1x512, .f32⟩
  | 54 => ⟨S512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S8192x512, .f32⟩
  | 63 => ⟨S1x512, .f32⟩
  | 64 => ⟨S8192x512, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1, .f32⟩
  | 89 => ⟨S8192x512, .f32⟩
  | 90 => ⟨S8192x512, .f32⟩
  | 91 => ⟨S8192x512, .f32⟩
  | 92 => ⟨S8192x512, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x1, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S_, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x512, .f32⟩

abbrev hbmTy0_1 (i : Nat) : BufTy := match i % 128 with
  | 0 => ⟨S8192x1024, .f32⟩
  | 1 => ⟨S_, .f32⟩
  | 2 => ⟨S8192x1024, .f32⟩
  | 3 => ⟨S8192x1024, .f32⟩
  | 4 => ⟨S_, .f32⟩
  | 5 => ⟨S8192, .f32⟩
  | 6 => ⟨S_, .f32⟩
  | 7 => ⟨S8192, .f32⟩
  | 8 => ⟨S8192, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S8192, .f32⟩
  | 17 => ⟨S_, .f32⟩
  | 18 => ⟨S8192, .f32⟩
  | 19 => ⟨S8192, .f32⟩
  | 20 => ⟨S8192x1024, .f32⟩
  | 21 => ⟨S8192x1024, .f32⟩
  | 22 => ⟨S8192x1024, .f32⟩
  | 23 => ⟨S8192x1024, .f32⟩
  | 24 => ⟨S1024x256, .f32⟩
  | 25 => ⟨S256x1024, .f32⟩
  | 26 => ⟨S8192x1024, .f32⟩
  | 27 => ⟨S1024x1024, .f32⟩
  | 28 => ⟨S1024x1024, .f32⟩
  | 29 => ⟨S8192x1024, .f32⟩
  | 30 => ⟨S8192x1024, .f32⟩
  | 31 => ⟨S_, .f32⟩
  | 32 => ⟨S1024, .f32⟩
  | 33 => ⟨S1x1024, .f32⟩
  | 34 => ⟨S1x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_3 : Ref sig .tc := ⟨.hbm, 79, rfl⟩
abbrev main_v47 : Ref sig .tc := ⟨.hbm, 80, rfl⟩
abbrev main_v48 : Ref sig .tc := ⟨.hbm, 81, rfl⟩
abbrev main_cst_4 : Ref sig .tc := ⟨.hbm, 82, rfl⟩
abbrev main_v49 : Ref sig .tc := ⟨.hbm, 83, rfl⟩
abbrev main_v50 : Ref sig .tc := ⟨.hbm, 84, rfl⟩
abbrev main_cst_5 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_6 : Ref sig .tc := ⟨.hbm, 97, rfl⟩
abbrev main_v62 : Ref sig .tc := ⟨.hbm, 98, rfl⟩
abbrev main_v63 : Ref sig .tc := ⟨.hbm, 99, rfl⟩
abbrev main_cst_7 : Ref sig .tc := ⟨.hbm, 100, rfl⟩
abbrev main_v64 : Ref sig .tc := ⟨.hbm, 101, rfl⟩
abbrev main_v65 : Ref sig .tc := ⟨.hbm, 102, rfl⟩
abbrev main_cst_8 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_9 : Ref sig .tc := ⟨.hbm, 114, rfl⟩
abbrev main_v76 : Ref sig .tc := ⟨.hbm, 115, rfl⟩
abbrev main_v77 : Ref sig .tc := ⟨.hbm, 116, rfl⟩
abbrev main_cst_10 : Ref sig .tc := ⟨.hbm, 117, rfl⟩
abbrev main_v78 : Ref sig .tc := ⟨.hbm, 118, rfl⟩
abbrev main_v79 : Ref sig .tc := ⟨.hbm, 119, rfl⟩
abbrev main_cst_11 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_cst_13 : Ref sig .tc := ⟨.hbm, 132, rfl⟩
abbrev main_v90 : Ref sig .tc := ⟨.hbm, 133, rfl⟩
abbrev main_cst_14 : Ref sig .tc := ⟨.hbm, 134, rfl⟩
abbrev main_v91 : Ref sig .tc := ⟨.hbm, 135, rfl⟩
abbrev main_v92 : Ref sig .tc := ⟨.hbm, 136, rfl⟩
abbrev main_cst_15 : Ref sig .tc := ⟨.hbm, 137, rfl⟩
abbrev main_v93 : Ref sig .tc := ⟨.hbm, 138, rfl⟩
abbrev main_cst_16 : Ref sig .tc := ⟨.hbm, 139, rfl⟩
abbrev main_v94 : Ref sig .tc := ⟨.hbm, 140, rfl⟩
abbrev main_cst_17 : Ref sig .tc := ⟨.hbm, 141, rfl⟩
abbrev main_cst_18 : Ref sig .tc := ⟨.hbm, 142, rfl⟩
abbrev main_v95 : Ref sig .tc := ⟨.hbm, 143, rfl⟩
abbrev main_v96 : Ref sig .tc := ⟨.hbm, 144, rfl⟩
abbrev main_cst_19 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_20 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩

abbrev nD : Nat := 1
abbrev τ : Topo := Topo.v7x

variable {F : FTy → Type} [FloatOps F]
-- ==== Proof.Run.Offsets.lean ====
/-
  Where the kernel's loads and stores lie, as plain numbers. Grid point `i = (head, j)` works on key block `j`;
  trip `k` of the loop works on query blocks `j+1+2k` and `j+2+2k` (512 rows each) and prepares block `j+3+2k`,
  held back to the last one (15).
-/
module

public import proofs.«01_k».proof.Proof.Gen.KernelIdeal.Loops
public import Idealize.ShloMosaic.Lib.Affine

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

theorem off1_eq : ∀ i : grid0.Coords, k0_off1 i = ![512 * (i 1).val, 0] := by decide +kernel
theorem off2_eq : ∀ i : grid0.Coords, k0_off2 i = ![512 * (i 1).val, 0] := by decide +kernel
theorem off3_eq : ∀ i : grid0.Coords, k0_off3 i = ![512 * min ((i 1).val + 1) 15, 0] := by decide +kernel
theorem off4_eq : ∀ i : grid0.Coords, k0_off4 i = ![512 * min ((i 1).val + 1) 15, 0] := by decide +kernel
theorem off5_eq : ∀ i : grid0.Coords, k0_off5 i = ![0, 512 * (i 1).val] := by decide +kernel
theorem off6_eq : ∀ (i : grid0.Coords) (k : Fin (k0_t1_loop i).trips), k0_off6 i k = ![512 * ((i 1).val + 2 * k.val + 2), 0] := by decide +kernel
theorem off7_eq : ∀ (i : grid0.Coords) (k : Fin (k0_t1_loop i).trips), k0_off7 i k = ![512 * ((i 1).val + 2 * k.val + 2), 0] := by decide +kernel
theorem off8_eq : ∀ (i : grid0.Coords) (k : Fin (k0_t1_loop i).trips), k0_off8 i k = ![0, 512 * ((i 1).val + 2 * k.val + 1)] := by decide +kernel
theorem off9_eq : ∀ (i : grid0.Coords) (k : Fin (k0_t1_loop i).trips), k0_off9 i k = ![512 * ((i 1).val + 2 * k.val + 1), 0] := by decide +kernel
theorem off10_eq : ∀ (i : grid0.Coords) (k : Fin (k0_t1_loop i).trips), k0_off10 i k = ![512 * ((i 1).val + 2 * k.val + 1), 0] := by decide +kernel
theorem off11_eq : ∀ (i : grid0.Coords) (k : Fin (k0_t1_loop i).trips), k0_off11 i k = ![512 * min ((i 1).val + 2 * k.val + 3) 15, 0] := by decide +kernel
theorem off12_eq : ∀ (i : grid0.Coords) (k : Fin (k0_t1_loop i).trips), k0_off12 i k = ![512 * min ((i 1).val + 2 * k.val + 3) 15, 0] := by decide +kernel
theorem off13_eq : ∀ (i : grid0.Coords) (k : Fin (k0_t1_loop i).trips), k0_off13 i k = ![0, 512 * ((i 1).val + 2 * k.val + 2)] := by decide +kernel

/-- Half the blocks after `j`, rounded down, is how often the loop runs; -/
theorem trips_eq : ∀ i : grid0.Coords, (k0_t1_loop i).trips = (15 - (i 1).val) / 2 := by decide +kernel
/-- the last block is left over when their number is odd. -/
theorem cond2_eq : ∀ i : grid0.Coords, k0_cond2 i = 1#1 ↔ (15 - (i 1).val) % 2 = 1 := by decide +kernel

/-- The head's first point, as the body tests for it. -/
theorem first_iff : ∀ i : grid0.Coords,
    (Scalar.cmpi .ne (Scalar.extui (Scalar.cmpi .eq (BitVec.ofNat 32 (i 1).val) 0#32) : BitVec 32) 0#32 = 1#1) ↔ (i 1).val = 0 := by
  decide +kernel

instance (i : grid0.Coords) : ClosedOff (k0_off1 i) := ⟨_, off1_eq i⟩
instance (i : grid0.Coords) (k : Fin (k0_t1_loop i).trips) : ClosedOff (k0_off6 i k) := ⟨_, off6_eq i k⟩
instance (i : grid0.Coords) (k : Fin (k0_t1_loop i).trips) : ClosedOff (k0_off10 i k) := ⟨_, off10_eq i k⟩

end Cert.KernelIdeal.Run

end
-- ==== Proof.Run.Model.lean ====
/-
  What one grid point of the kernel computes, as functions of the arrays its windows hold: the key block `kv`
  and value block `vv`, the head's whole `q`, `d_o`, row log-sum and `delta`, and what `dq` held before.
  A block number past the last one reads the last one, as the kernel's `minimum` does.
-/
module

public import proofs.«01_k».proof.Proof.Run.Offsets
public import Idealize.ShloMosaic.Lib.WritesUnit
public import Idealize.ShloMosaic.Lib.Pipeline.FrameBody
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F] [Named F]

/-- The first row of block `u`, held back to the last block. -/
abbrev rowOff (u : ℕ) : Fin 2 → ℕ := ![512 * min u 15, 0]
abbrev colOff (u : ℕ) : Fin 2 → ℕ := ![0, 512 * min u 15]

theorem inb256 (u : ℕ) : ∀ a, rowOff u a + S512x256.size a ≤ S8192x256.size a := by
  intro a; fin_cases a
  · show 512 * min u 15 + 512 ≤ 8192; omega
  · show 0 + 256 ≤ 256; omega
theorem inb128 (u : ℕ) : ∀ a, rowOff u a + S512x128.size a ≤ S8192x128.size a := by
  intro a; fin_cases a
  · show 512 * min u 15 + 512 ≤ 8192; omega
  · show 0 + 128 ≤ 128; omega
theorem inbStat (u : ℕ) : ∀ a, colOff u a + S1x512.size a ≤ S8x8192.size a := by
  intro a; fin_cases a
  · show 0 + 1 ≤ 8; omega
  · show 512 * min u 15 + 512 ≤ 8192; omega

/-- Rows of block `u` of a 256 wide array, -/
def rows256 {e : EltTy} (X : S8192x256.Idx → Elt F e) (u : ℕ) : S512x256.Idx → Elt F e :=
  View.ld X (Rect.unit (s := S8192x256) (rowOff u) S512x256.size (inb256 u))
/-- of a 128 wide array, -/
def rows128 {e : EltTy} (X : S8192x128.Idx → Elt F e) (u : ℕ) : S512x128.Idx → Elt F e :=
  View.ld X (Rect.unit (s := S8192x128) (rowOff u) S512x128.size (inb128 u))
/-- and the block's lane values of a per-row statistic. -/
def stats {e : EltTy} (X : S8x8192.Idx → Elt F e) (u : ℕ) : S1x512.Idx → Elt F e :=
  View.ld X (Rect.unit (s := S8x8192) (colOff u) S1x512.size (inbStat u))

/-- `X` with the rows of block `u` replaced by `w`. -/
def upd {e : EltTy} (X : S8192x256.Idx → Elt F e) (u : ℕ) (w : S512x256.Idx → Elt F e) : S8192x256.Idx → Elt F e :=
  fun y => if h : ∀ a, rowOff u a ≤ (y a).val ∧ (y a).val < rowOff u a + S512x256.size a
    then w (Rect.unitLocal (s := S8192x256) (off := rowOff u) (size := S512x256.size) y h) else X y

section Point

variable (kv : FVec F S512x256 .bf16) (vv : FVec F S512x128 .bf16) (Q : S8192x256.Idx → Elt F .bf16) (O : S8192x128.Idx → Elt F .bf16)
  (L D : S8x8192.Idx → Elt F .f32) (j : ℕ)

/-- Scores of the key block against query block `u`, -/
def sc (u : ℕ) : FVec F S512x512 .f32 := k0_pay6 kv (rows256 Q u)
/-- and the value block against `d_o`'s block `u`. -/
def dp (u : ℕ) : FVec F S512x512 .f32 := k0_pay7 vv (rows128 O u)
/-- The probabilities' gradient of block `u`, -/
def ds (u : ℕ) : FVec F S512x512 .bf16 := k0_pay18 (sc kv Q u) (stats L u) (dp vv O u) (stats D u)
/-- and on the diagonal block, where later keys are masked. -/
def dsDiag : FVec F S512x512 .bf16 := k0_pay48 (sc kv Q j) (stats L j) (dp vv O j) (stats D j)

/-- `dv` after the diagonal block and `n` blocks past it. -/
def dvAt : ℕ → FVec F S512x128 .f32
  | 0 => k0_pay49 (k0_pay47 (sc kv Q j) (stats L j)) k0_pay40 (rows128 O j)
  | n + 1 => k0_pay19 (sc kv Q (j + n + 1)) (stats L (j + n + 1)) (dvAt n) (rows128 O (j + n + 1))
/-- `dk` likewise. -/
def dkAt : ℕ → FVec F S512x256 .f32
  | 0 => k0_pay50 (dsDiag kv vv Q O L D j) k0_pay39 (rows256 Q j)
  | n + 1 => k0_pay1 (ds kv vv Q O L D (j + n + 1)) (dkAt n) (rows256 Q (j + n + 1))
/-- The head's `dq` likewise, from what it held before. -/
def dqAt (X : S8192x256.Idx → Elt F .f32) : ℕ → S8192x256.Idx → Elt F .f32
  | 0 => upd X j (k0_pay51 kv (dsDiag kv vv Q O L D j) (rows256 X j))
  | n + 1 => upd (dqAt X n) (j + n + 1) (k0_pay2 kv (ds kv vv Q O L D (j + n + 1)) (rows256 (dqAt X n) (j + n + 1)))

end Point

/-! ## The kernel's loads and stores in these names -/

omit [FloatOps F] [Named F] in
theorem ld_congr {s : Shape} {e : EltTy} (X : s.Idx → Elt F e) {off off' size : Fin s.rank → ℕ} (h : off = off') (inb) (inb') :
    View.ld X (Rect.unit (s := s) off size inb) = View.ld X (Rect.unit (s := s) off' size inb') := by subst h; rfl

omit [FloatOps F] [Named F] in
theorem ld_rows256 {e : EltTy} (X : S8192x256.Idx → Elt F e) {off : Fin 2 → ℕ} {u : ℕ} (h : off = ![512 * u, 0]) (hu : u ≤ 15) (inb) :
    View.ld X (Rect.unit (s := S8192x256) off S512x256.size inb) = rows256 X u :=
  ld_congr X (h.trans (by rw [rowOff, Nat.min_eq_left hu])) _ _
omit [FloatOps F] [Named F] in
theorem ld_rows128 {e : EltTy} (X : S8192x128.Idx → Elt F e) {off : Fin 2 → ℕ} {u : ℕ} (h : off = ![512 * u, 0]) (hu : u ≤ 15) (inb) :
    View.ld X (Rect.unit (s := S8192x128) off S512x128.size inb) = rows128 X u :=
  ld_congr X (h.trans (by rw [rowOff, Nat.min_eq_left hu])) _ _
omit [FloatOps F] [Named F] in
theorem ld_stats {e : EltTy} (X : S8x8192.Idx → Elt F e) {off : Fin 2 → ℕ} {u : ℕ} (h : off = ![0, 512 * u]) (hu : u ≤ 15) (inb) :
    View.ld X (Rect.unit (s := S8x8192) off S1x512.size inb) = stats X u :=
  ld_congr X (h.trans (by rw [colOff, Nat.min_eq_left hu])) _ _

omit [FloatOps F] [Named F] in
/-- A store into block `u` of an array's whole rows. -/
theorem read_store {sig' : RefSig} {κ' : Kind} {sp : Space} (v : View sig' κ' sp S8192x256 .f32) (f : v.ty.Contents (Elt F))
    {off : Fin 2 → ℕ} {u : ℕ} (h : off = ![512 * u, 0]) (hu : u ≤ 15) (inb) (w : S512x256.Idx → Elt F .f32)
    (Ls : List (View.Piece (Elt F) S8192x256 .f32)) :
    v.read (Elt F) (v.writes (Elt F) f (⟨Rect.unit (s := S8192x256) off S512x256.size inb, w⟩ :: Ls))
      = upd (v.read (Elt F) (v.writes (Elt F) f Ls)) u w := by
  funext y
  exact View.read_writes_cons_unit v f inb w Ls y (h.trans (by rw [rowOff, Nat.min_eq_left hu]))

omit [FloatOps F] [Named F] in
/-- Rows of another block are what they were. -/
theorem rows256_upd {e : EltTy} (X : S8192x256.Idx → Elt F e) (u u' : ℕ) (hu : u ≤ 15) (hu' : u' ≤ 15) (hne : u ≠ u') (w) :
    rows256 (upd X u w) u' = rows256 X u' := by
  funext x
  unfold rows256 upd
  refine dif_neg fun h => ?_
  have h0 := h 0
  have hx := (x 0).isLt
  change 512 * min u 15 ≤ 512 * min u' 15 + 1 * (x 0).val ∧ 512 * min u' 15 + 1 * (x 0).val < 512 * min u 15 + 512 at h0
  change (x 0).val < 512 at hx
  omega

/-! ## The same of a buffer's contents -/

section Reads

variable {sig' : RefSig} {κ' : Kind} {sp : Space}

omit [FloatOps F] [Named F] in
theorem at256 {e : EltTy} (v : View sig' κ' sp S8192x256 e) (f : v.ty.Contents (Elt F)) {off : Fin 2 → ℕ} {u : ℕ}
    (h : off = ![512 * u, 0]) (hu : u ≤ 15) (inb) :
    v.readAt (Elt F) (Rect.unit (s := S8192x256) off S512x256.size inb).toLoadRect f = rows256 (v.read (Elt F) f) u :=
  ld_rows256 _ h hu inb
omit [FloatOps F] [Named F] in
theorem at128 {e : EltTy} (v : View sig' κ' sp S8192x128 e) (f : v.ty.Contents (Elt F)) {off : Fin 2 → ℕ} {u : ℕ}
    (h : off = ![512 * u, 0]) (hu : u ≤ 15) (inb) :
    v.readAt (Elt F) (Rect.unit (s := S8192x128) off S512x128.size inb).toLoadRect f = rows128 (v.read (Elt F) f) u :=
  ld_rows128 _ h hu inb
omit [FloatOps F] [Named F] in
theorem atStat {e : EltTy} (v : View sig' κ' sp S8x8192 e) (f : v.ty.Contents (Elt F)) {off : Fin 2 → ℕ} {u : ℕ}
    (h : off = ![0, 512 * u]) (hu : u ≤ 15) (inb) :
    v.readAt (Elt F) (Rect.unit (s := S8x8192) off S1x512.size inb).toLoadRect f = stats (v.read (Elt F) f) u :=
  ld_stats _ h hu inb
omit [FloatOps F] [Named F] in
theorem atWhole {s : Shape} {e : EltTy} (v : View sig' κ' sp s e) (f : v.ty.Contents (Elt F)) {off : Fin s.rank → ℕ}
    (h : off = fun _ => 0) (inb) :
    v.readAt (Elt F) (Rect.unit (s := s) off s.size inb).toLoadRect f = v.read (Elt F) f :=
  View.ld_unit_zero h inb _
omit [FloatOps F] [Named F] in
theorem readWhole {s : Shape} {e : EltTy} (v : View sig' κ' sp s e) (f : v.ty.Contents (Elt F)) {off : Fin s.rank → ℕ}
    (h : off = fun _ => 0) (inb) (w : s.Idx → Elt F e) (Ls : List (View.Piece (Elt F) s e)) :
    v.read (Elt F) (v.writes (Elt F) f (⟨Rect.unit (s := s) off s.size inb, w⟩ :: Ls)) = w := by
  funext y
  exact View.read_writes_cons_unit_of_mem v f inb w Ls y y h fun a => (Nat.zero_add _).symm

theorem zero2 : (![0, 0] : Fin 2 → ℕ) = fun _ => 0 := by decide

omit [FloatOps F] [Named F] in
/-- A block past the last is the last. -/
theorem rows256_min {e : EltTy} (X : S8192x256.Idx → Elt F e) (u : ℕ) : rows256 X (min u 15) = rows256 X u :=
  ld_congr X (by rw [rowOff, rowOff, Nat.min_assoc, Nat.min_self]) _ _
omit [FloatOps F] [Named F] in
theorem rows128_min {e : EltTy} (X : S8192x128.Idx → Elt F e) (u : ℕ) : rows128 X (min u 15) = rows128 X u :=
  ld_congr X (by rw [rowOff, rowOff, Nat.min_assoc, Nat.min_self]) _ _

end Reads

/-! ## The same computation under the several names it is printed with -/

theorem pay16_eq : k0_pay16 (F := F) = k0_pay7 := rfl
theorem pay15_eq (v8 : FVec F S512x256 .bf16) (v) : k0_pay15 (k0_pay14 (F := F) v8 v) = k0_pay6 v8 v := rfl
theorem pay1_eq (p : FVec F S512x512 .f32) (d a q) : k0_pay12 (F := F) p d a q = k0_pay1 (k0_pay10 p d) a q := rfl
theorem pay2_eq (p : FVec F S512x512 .f32) (d a q) : k0_pay13 (F := F) q p d a = k0_pay2 q (k0_pay10 p d) a := rfl
theorem pay18_eq (s : FVec F S512x512 .f32) (l d e) : k0_pay10 (F := F) (k0_pay8 s l) (k0_pay9 d e) = k0_pay18 s l d e := rfl
theorem pay19_eq (s : FVec F S512x512 .f32) (l d e) : k0_pay11 (F := F) (k0_pay8 s l) d e = k0_pay19 s l d e := rfl
theorem pay43_eq (x : Vec F S512x256 .bf16) (v) : k0_pay43 (F := F) x v = k0_pay6 (k0_pay41 x) v := rfl
theorem pay44_eq (x : Vec F S512x128 .bf16) (v) : k0_pay44 (F := F) x v = k0_pay7 (k0_pay42 x) v := rfl
theorem pay45_eq : k0_pay45 (F := F) = k0_pay6 := rfl
theorem pay46_eq : k0_pay46 (F := F) = k0_pay7 := rfl
theorem pay35_eq : k0_pay35 (F := F) = k0_pay18 := rfl
theorem pay36_eq : k0_pay36 (F := F) = k0_pay19 := rfl
theorem pay37_eq (s : FVec F S512x512 .f32) (l d e a q) : k0_pay37 (F := F) s l d e a q = k0_pay1 (k0_pay18 s l d e) a q := rfl
theorem pay5_eq : k0_pay5 (F := F) = k0_pay2 := rfl

end Cert.KernelIdeal.Run

end
-- ==== Proof.Run.Body.lean ====
/-
  One grid point of the kernel, run: what it leaves in its result windows and scratch buffers.
-/
module

public import proofs.«01_k».proof.Proof.Run.Model
public import Idealize.ShloMosaic.Lib.LoopRemainder
public import Idealize.ShloMosaic.Lib.Exec
public import Idealize.ShloMosaic.Lib.Tactic
public import Idealize.ShloMosaic.Lib.Pipeline.Kit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Body

variable (c : Dev nD) (i : grid0.Coords)
  (arg2 : Memref sig .tc .vmem S512x256 .bf16) (harg2 : arg2.IsWhole)
  (arg3 : Memref sig .tc .vmem S512x128 .bf16) (harg3 : arg3.IsWhole)
  (arg4 : Memref sig .tc .vmem S8192x256 .bf16) (harg4 : arg4.IsWhole)
  (arg5 : Memref sig .tc .vmem S8192x128 .bf16) (harg5 : arg5.IsWhole)
  (arg6 : Memref sig .tc .vmem S8x8192 .f32) (harg6 : arg6.IsWhole)
  (arg7 : Memref sig .tc .vmem S8x8192 .f32) (harg7 : arg7.IsWhole)
  (arg8 : Memref sig .tc .vmem S8192x256 .f32) (harg8 : arg8.IsWhole)
  (arg9 : Memref sig .tc .vmem S512x256 .f32) (harg9 : arg9.IsWhole)
  (arg10 : Memref sig .tc .vmem S512x128 .f32) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S512x512 .f32) (harg13 : arg13.IsWhole)
  (arg14 : Memref sig .tc .vmem S512x512 .f32) (harg14 : arg14.IsWhole)
  (kv : FVec F S512x256 .bf16) (vv : FVec F S512x128 .bf16) (Q : S8192x256.Idx → Elt F .bf16) (O : S8192x128.Idx → Elt F .bf16)
  (L D : S8x8192.Idx → Elt F .f32) (X : S8192x256.Idx → Elt F .f32)

/-- The buffers once the diagonal block and `n` more blocks are done: the accumulators hold what the model
    says, the second pair of scratch buffers holds the next block's scores, the first pair anything. -/
def held (n : ℕ) : sProp 𝕄 :=
  iprop(owns (c : Thread nD τ) arg4 fullShare Q ∗ owns (c : Thread nD τ) arg5 fullShare O
    ∗ owns (c : Thread nD τ) arg6 fullShare L ∗ owns (c : Thread nD τ) arg7 fullShare D
    ∗ owns (c : Thread nD τ) arg8 fullShare (dqAt kv vv Q O L D (i 1).val X n)
    ∗ owns (c : Thread nD τ) arg9 fullShare (dkAt kv vv Q O L D (i 1).val n)
    ∗ owns (c : Thread nD τ) arg10 fullShare (dvAt kv Q O L (i 1).val n)
    ∗ (∃ d, owns (c : Thread nD τ) arg11 fullShare d) ∗ (∃ d, owns (c : Thread nD τ) arg12 fullShare d)
    ∗ owns (c : Thread nD τ) arg13 fullShare (sc kv Q ((i 1).val + n + 1))
    ∗ owns (c : Thread nD τ) arg14 fullShare (dp vv O ((i 1).val + n + 1)))

set_option maxHeartbeats 4000000 in
/-- One trip of the loop does two blocks. -/
theorem trip (arg1 : BitVec 32) (k : Fin (k0_t1_loop i).trips) (u : Unit) :
    held c i arg4 arg5 arg6 arg7 arg8 arg9 arg10 arg11 arg12 arg13 arg14 kv vv Q O L D X (2 * k.val) ⊢
      wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg1 kv vv k u)
        (fun _ => held c i arg4 arg5 arg6 arg7 arg8 arg9 arg10 arg11 arg12 arg13 arg14 kv vv Q O L D X (2 * (k.val + 1))) := by
  have hk : k.val < (15 - (i 1).val) / 2 := trips_eq i ▸ k.isLt
  unfold held owns
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, %h11, H11⟩, ⟨%d12, %f12, %h12, H12⟩, ⟨%f13, %h13, H13⟩, ⟨%f14, %h14, H14⟩⟩
  have hj : (i 1).val ≤ 15 := by have := (i 1).isLt; exact Nat.le_of_lt_succ this
  have u1 : (i 1).val + 2 * k.val + 1 ≤ 15 := by omega
  have u2 : (i 1).val + 2 * k.val + 2 ≤ 15 := by omega
  have u3 : min ((i 1).val + 2 * k.val + 3) 15 ≤ 15 := Nat.min_le_right _ _
  have e2 : 2 * (k.val + 1) = 2 * k.val + 1 + 1 := by omega
  have e3 : (i 1).val + 2 * (k.val + 1) + 1 = (i 1).val + 2 * k.val + 3 := by omega
  have q1 : ∀ inb, _ = rows256 Q _ := fun inb => (at256 arg4.view f4 (off10_eq i k) u1 inb).trans (by rw [h4])
  have q2 : ∀ inb, _ = rows256 Q _ := fun inb => (at256 arg4.view f4 (off6_eq i k) u2 inb).trans (by rw [h4])
  have q3 : ∀ inb, _ = rows256 Q ((i 1).val + 2 * k.val + 3) := fun inb => (at256 arg4.view f4 (off11_eq i k) u3 inb).trans (by rw [h4, rows256_min])
  have o1 : ∀ inb, _ = rows128 O _ := fun inb => (at128 arg5.view f5 (off9_eq i k) u1 inb).trans (by rw [h5])
  have o2 : ∀ inb, _ = rows128 O _ := fun inb => (at128 arg5.view f5 (off7_eq i k) u2 inb).trans (by rw [h5])
  have o3 : ∀ inb, _ = rows128 O ((i 1).val + 2 * k.val + 3) := fun inb => (at128 arg5.view f5 (off12_eq i k) u3 inb).trans (by rw [h5, rows128_min])
  have l1 : ∀ inb, _ = stats L _ := fun inb => (atStat arg6.view f6 (off8_eq i k) u1 inb).trans (by rw [h6])
  have l2 : ∀ inb, _ = stats L _ := fun inb => (atStat arg6.view f6 (off13_eq i k) u2 inb).trans (by rw [h6])
  have d1 : ∀ inb, _ = stats D _ := fun inb => (atStat arg7.view f7 (off8_eq i k) u1 inb).trans (by rw [h7])
  have d2 : ∀ inb, _ = stats D _ := fun inb => (atStat arg7.view f7 (off13_eq i k) u2 inb).trans (by rw [h7])
  have x1 : ∀ inb, _ = rows256 (dqAt kv vv Q O L D (i 1).val X (2 * k.val)) _ := fun inb => (at256 arg8.view f8 (off10_eq i k) u1 inb).trans (by rw [h8])
  have x2 : ∀ inb, _ = rows256 (dqAt kv vv Q O L D (i 1).val X (2 * k.val)) _ := fun inb => (at256 arg8.view f8 (off6_eq i k) u2 inb).trans (by rw [h8])
  have w9 : ∀ inb, _ = _ := fun inb => (atWhole arg9.view f9 zero2 inb).trans h9
  have w10 : ∀ inb, _ = _ := fun inb => (atWhole arg10.view f10 zero2 inb).trans h10
  have w13 : ∀ inb, _ = _ := fun inb => (atWhole arg13.view f13 zero2 inb).trans h13
  have w14 : ∀ inb, _ = _ := fun inb => (atWhole arg14.view f14 zero2 inb).trans h14
  sl_unfold [k0_t1_body]
  sl_exec
  sl_step
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]
  · iexists _; isplitr; swap; (· iexact H8); ipureintro
    rw [e2]
    refine (read_store _ _ (off6_eq i k) u2 _ _ _).trans ?_
    refine (congrArg (fun z => upd z _ _) (read_store _ _ (off10_eq i k) u1 _ _ _)).trans ?_
    sl_unfold_run_names
    rw [View.readCov_cons_toLoadRect, View.readCov_cons_toLoadRect]
    rw [← rows256_upd (dqAt kv vv Q O L D (i 1).val X (2 * k.val)) ((i 1).val + 2 * k.val + 1) ((i 1).val + 2 * k.val + 2) u1 u2 (by omega)
      (k0_pay13 kv (k0_pay8 (sc kv Q ((i 1).val + 2 * k.val + 1)) (stats L ((i 1).val + 2 * k.val + 1)))
        (k0_pay9 (dp vv O ((i 1).val + 2 * k.val + 1)) (stats D ((i 1).val + 2 * k.val + 1))) (rows256 (dqAt kv vv Q O L D (i 1).val X (2 * k.val)) ((i 1).val + 2 * k.val + 1)))]
    show upd (upd (View.read _ _ f8) _ _) _ _ = _
    rw [h8]
    rfl
  isplitl [H9]
  · iexists _; isplitr; swap; (· iexact H9); ipureintro
    rw [e2]
    refine (readWhole _ _ zero2 _ _ _).trans ?_
    sl_unfold_run_names
    rw [View.readCov_cons_toLoadRect, View.readCov_cons_toLoadRect, View.readCov_cons_toLoadRect]
    rfl
  isplitl [H10]
  · iexists _; isplitr; swap; (· iexact H10); ipureintro
    rw [e2]
    refine (readWhole _ _ zero2 _ _ _).trans ?_
    sl_unfold_run_names
    rw [View.readCov_cons_toLoadRect, View.readCov_cons_toLoadRect]
    rfl
  isplitl [H11]
  · iexists _, _; isplitr; swap; (· iexact H11); ipureintro; rfl
  isplitl [H12]
  · iexists _, _; isplitr; swap; (· iexact H12); ipureintro; rfl
  isplitl [H13]
  · iexists _; isplitr; swap; (· iexact H13); ipureintro
    refine (readWhole _ _ zero2 _ _ _).trans ?_
    sl_unfold_run_names
    exact (pay15_eq kv _).trans (congrArg (sc kv Q) e3.symm)
  · iexists _; isplitr; swap; (· iexact H14); ipureintro
    refine (readWhole _ _ zero2 _ _ _).trans ?_
    rw [pay16_eq]; exact congrArg (dp vv O) e3.symm

/-- The loop does the blocks in pairs. -/
abbrev pairs (arg1 : BitVec 32) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg1 kv vv :=
  ⟨fun k _ => held c i arg4 arg5 arg6 arg7 arg8 arg9 arg10 arg11 arg12 arg13 arg14 kv vv Q O L D X (2 * k),
    fun k u => trip c i arg2 harg2 arg3 harg3 arg4 harg4 arg5 harg5 arg6 harg6 arg7 harg7 arg8 harg8 arg9 harg9 arg10 harg10 arg11 harg11 arg12 harg12 arg13 harg13 arg14 harg14 kv vv Q O L D X arg1 k u⟩

/-- The buffers at the end of the point: all blocks from the diagonal to the last are done. -/
def done : sProp 𝕄 :=
  iprop(owns (c : Thread nD τ) arg4 fullShare Q ∗ owns (c : Thread nD τ) arg5 fullShare O
    ∗ owns (c : Thread nD τ) arg6 fullShare L ∗ owns (c : Thread nD τ) arg7 fullShare D
    ∗ owns (c : Thread nD τ) arg8 fullShare (dqAt kv vv Q O L D (i 1).val X (15 - (i 1).val))
    ∗ owns (c : Thread nD τ) arg9 fullShare (dkAt kv vv Q O L D (i 1).val (15 - (i 1).val))
    ∗ owns (c : Thread nD τ) arg10 fullShare (dvAt kv Q O L (i 1).val (15 - (i 1).val))
    ∗ (∃ d, owns (c : Thread nD τ) arg11 fullShare d) ∗ (∃ d, owns (c : Thread nD τ) arg12 fullShare d)
    ∗ (∃ d, owns (c : Thread nD τ) arg13 fullShare d) ∗ (∃ d, owns (c : Thread nD τ) arg14 fullShare d))

/-- What the accumulator of the head's `dq` holds before the diagonal block: zero at the head's first point. -/
def dqIn (X0 : S8192x256.Idx → Elt F .f32) : S8192x256.Idx → Elt F .f32 := if (i 1).val = 0 then k0_pay38 else X0

set_option maxHeartbeats 8000000 in
/-- The whole point. -/
theorem pointRun (K : S512x256.Idx → Elt F .bf16) (V : S512x128.Idx → Elt F .bf16) (K' : PUnit → sProp 𝕄) :
    iprop(owns (c : Thread nD τ) arg2 fullShare K ∗ owns (c : Thread nD τ) arg3 fullShare V
        ∗ owns (c : Thread nD τ) arg4 fullShare Q ∗ owns (c : Thread nD τ) arg5 fullShare O
        ∗ owns (c : Thread nD τ) arg6 fullShare L ∗ owns (c : Thread nD τ) arg7 fullShare D
        ∗ owns (c : Thread nD τ) arg8 fullShare X
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg2 fullShare K ∗ owns (c : Thread nD τ) arg3 fullShare V
            ∗ done c i arg4 arg5 arg6 arg7 arg8 arg9 arg10 arg11 arg12 arg13 arg14 (k0_pay41 K) (k0_pay42 V) Q O L D (dqIn i X)) -∗ K' ⟨⟩))
      ⊢ wp frame (wpE (defs₀ (F := F)) Variants.none (c : Thread nD τ) none) Set.univ
        (cc0_flash_bwd (F := F) i arg2 harg2 arg3 harg3 arg4 harg4 arg5 harg5 arg6 harg6 arg7 harg7 arg8 harg8 arg9 harg9 arg10 harg10 arg11 harg11 arg12 harg12 arg13 harg13 arg14 harg14) K' := by
  have hj : (i 1).val ≤ 15 := by have := (i 1).isLt; exact Nat.le_of_lt_succ this
  simp only [cc0_flash_bwd_eq_skeleton]; unfold cc0_flash_bwd_skel
  unfold owns
  iintro ⟨⟨%f2, %h2', H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  have w2 : ∀ inb, _ = _ := fun inb => (atWhole arg2.view f2 zero2 inb).trans h2'
  have w3 : ∀ inb, _ = _ := fun inb => (atWhole arg3.view f3 zero2 inb).trans h3
  have q1 : ∀ inb, _ = rows256 Q _ := fun inb => (at256 arg4.view f4 (off1_eq i) hj inb).trans (by rw [h4])
  have q3 : ∀ inb, _ = rows256 Q ((i 1).val + 0 + 1) := fun inb => (at256 arg4.view f4 (off3_eq i) (Nat.min_le_right _ _) inb).trans (by rw [h4, rows256_min])
  have o1 : ∀ inb, _ = rows128 O _ := fun inb => (at128 arg5.view f5 (off2_eq i) hj inb).trans (by rw [h5])
  have o3 : ∀ inb, _ = rows128 O ((i 1).val + 0 + 1) := fun inb => (at128 arg5.view f5 (off4_eq i) (Nat.min_le_right _ _) inb).trans (by rw [h5, rows128_min])
  have l1 : ∀ inb, _ = stats L _ := fun inb => (atStat arg6.view f6 (off5_eq i) hj inb).trans (by rw [h6])
  have d1 : ∀ inb, _ = stats D _ := fun inb => (atStat arg7.view f7 (off5_eq i) hj inb).trans (by rw [h7])
  sl_exec
  iapply (exec_loop _ _ _ _ _ _ _ _ _ (pairs c i arg2 harg2 arg3 harg3 arg4 harg4 arg5 harg5 arg6 harg6 arg7 harg7 arg8 harg8 arg9 harg9 arg10 harg10 arg11 harg11 arg12 harg12 arg13 harg13 arg14 harg14 (k0_pay41 K) (k0_pay42 V) Q O L D (dqIn i X) _)) $$ [H4 H5 H6 H7 H8 H9 H10 H11 H12 H13 H14]
  · iapply (show held c i arg4 arg5 arg6 arg7 arg8 arg9 arg10 arg11 arg12 arg13 arg14 (k0_pay41 K) (k0_pay42 V) Q O L D (dqIn i X) (2 * 0) ⊢ _ from .rfl)
    unfold held owns
    isplitl [H4]; · iexists _; isplitr; swap; (· iexact H4); ipureintro; exact h4
    isplitl [H5]; · iexists _; isplitr; swap; (· iexact H5); ipureintro; exact h5
    isplitl [H6]; · iexists _; isplitr; swap; (· iexact H6); ipureintro; exact h6
    isplitl [H7]; · iexists _; isplitr; swap; (· iexact H7); ipureintro; exact h7
    isplitl [H8]
    · iexists _; isplitr; swap; (· iexact H8); ipureintro
      sl_unfold_run_names
      rw [View.readCov_cons_toLoadRect, View.readCov_cons_toLoadRect]
      have key : ∀ (g8 : arg8.view.ty.Contents (Elt F)) (inb : ∀ a, k0_off1 i a + S512x256.size a ≤ S8192x256.size a), arg8.view.read (Elt F) g8 = dqIn i X →
          arg8.view.read (Elt F) (arg8.view.writes (Elt F) g8 [⟨Rect.unit (s := S8192x256) (k0_off1 i) S512x256.size inb,
            k0_pay51 (k0_pay41 K) (dsDiag (k0_pay41 K) (k0_pay42 V) Q O L D (i 1).val)
              (View.readAt (Elt F) arg8.view (Rect.unit (s := S8192x256) (k0_off1 i) S512x256.size inb).toLoadRect g8)⟩])
            = dqAt (k0_pay41 K) (k0_pay42 V) Q O L D (i 1).val (dqIn i X) 0 := by
        intro g8 inb e8
        refine (read_store _ _ (off1_eq i) hj _ _ _).trans ?_
        rw [at256 _ _ (off1_eq i) hj]
        show upd (View.read _ _ g8) _ _ = _
        rw [e8]
        rfl
      refine key _ (k0_off1_inb i) ?_
      rw [dqIn]
      split
      · next h => rw [if_pos ((first_iff i).1 h)]; exact readWhole _ _ zero2 _ _ _
      · next h => rw [if_neg (fun h' => h ((first_iff i).2 h'))]; exact h8
    isplitl [H9]
    · iexists _; isplitr; swap; (· iexact H9); ipureintro
      sl_unfold_run_names
      refine (readWhole _ _ zero2 _ _ _).trans ?_
      rw [View.readCov_cons_toLoadRect, View.readCov_cons_toLoadRect, View.readCov_cons_toLoadRect]
      rfl
    isplitl [H10]
    · iexists _; isplitr; swap; (· iexact H10); ipureintro
      sl_unfold_run_names
      refine (readWhole _ _ zero2 _ _ _).trans ?_
      rw [View.readCov_cons_toLoadRect, View.readCov_cons_toLoadRect]
      rfl
    isplitl [H11]
    · iexists _, _; isplitr; swap; (· iexact H11); ipureintro; rfl
    isplitl [H12]
    · iexists _, _; isplitr; swap; (· iexact H12); ipureintro; rfl
    isplitl [H13]
    · iexists _; isplitr; swap; (· iexact H13); ipureintro
      sl_unfold_run_names
      refine (readWhole _ _ zero2 _ _ _).trans ?_
      exact congrFun (congrFun pay45_eq _) _
    · iexists _; isplitr; swap; (· iexact H14); ipureintro
      sl_unfold_run_names
      refine (readWhole _ _ zero2 _ _ _).trans ?_
      exact congrFun (congrFun pay46_eq _) _
  iintro %acc HI
  ihave HI' : held c i arg4 arg5 arg6 arg7 arg8 arg9 arg10 arg11 arg12 arg13 arg14 (k0_pay41 K) (k0_pay42 V) Q O L D (dqIn i X) (2 * (k0_t1_loop i).trips) $$ [HI]
  · iexact HI
  have htr := trips_eq i
  have hc2 := cond2_eq i
  clear q1 q3 o1 o3 l1 d1 h4 h5 h6 h7 h8
  unfold held owns
  icases HI' with ⟨⟨%g4, %h4, H4⟩, ⟨%g5, %h5, H5⟩, ⟨%g6, %h6, H6⟩, ⟨%g7, %h7, H7⟩, ⟨%g8, %h8, H8⟩, ⟨%g9, %h9, H9⟩, ⟨%g10, %h10, H10⟩, ⟨%e11, %g11, %h11, H11⟩, ⟨%e12, %g12, %h12, H12⟩, ⟨%g13, %h13, H13⟩, ⟨%g14, %h14, H14⟩⟩
  by_cases h2 : k0_cond2 i = 1#1
  · have hodd := hc2.1 h2
    obtain ⟨n, hn⟩ : ∃ n, 2 * (k0_t1_loop i).trips = n := ⟨_, rfl⟩
    rw [hn] at h8 h9 h10 h13 h14
    have en : 15 - (i 1).val = n + 1 := by omega
    have e15 : 15 = (i 1).val + n + 1 := by omega
    have z1 : (![7680, 0] : Fin 2 → ℕ) = ![512 * ((i 1).val + n + 1), 0] := by rw [← e15]
    have z2 : (![0, 7680] : Fin 2 → ℕ) = ![0, 512 * ((i 1).val + n + 1)] := by rw [← e15]
    have hu : (i 1).val + n + 1 ≤ 15 := by omega
    have w9 : ∀ inb, _ = _ := fun inb => (atWhole arg9.view g9 zero2 inb).trans h9
    have w10 : ∀ inb, _ = _ := fun inb => (atWhole arg10.view g10 zero2 inb).trans h10
    have w13 : ∀ inb, _ = _ := fun inb => (atWhole arg13.view g13 zero2 inb).trans h13
    have w14 : ∀ inb, _ = _ := fun inb => (atWhole arg14.view g14 zero2 inb).trans h14
    have q7 : ∀ inb, _ = rows256 Q _ := fun inb => (at256 arg4.view g4 z1 hu inb).trans (by rw [h4])
    have o7 : ∀ inb, _ = rows128 O _ := fun inb => (at128 arg5.view g5 z1 hu inb).trans (by rw [h5])
    have l7 : ∀ inb, _ = stats L _ := fun inb => (atStat arg6.view g6 z2 hu inb).trans (by rw [h6])
    have d7 : ∀ inb, _ = stats D _ := fun inb => (atStat arg7.view g7 z2 hu inb).trans (by rw [h7])
    have x7 : ∀ inb, _ = rows256 (dqAt (k0_pay41 K) (k0_pay42 V) Q O L D (i 1).val (dqIn i X) n) _ := fun inb => (at256 arg8.view g8 z1 hu inb).trans (by rw [h8])
    sl_exec
    sl_step
    unfold done owns
    iapply Hk
    isplitl [H2]; · iexists _; isplitr; swap; (· iexact H2); ipureintro; exact h2'
    isplitl [H3]; · iexists _; isplitr; swap; (· iexact H3); ipureintro; exact h3
    isplitl [H4]; · iexists _; isplitr; swap; (· iexact H4); ipureintro; exact h4
    isplitl [H5]; · iexists _; isplitr; swap; (· iexact H5); ipureintro; exact h5
    isplitl [H6]; · iexists _; isplitr; swap; (· iexact H6); ipureintro; exact h6
    isplitl [H7]; · iexists _; isplitr; swap; (· iexact H7); ipureintro; exact h7
    rw [en]
    isplitl [H8]
    · iexists _; isplitr; swap; (· iexact H8); ipureintro
      sl_unfold_run_names
      refine (read_store _ _ z1 hu _ _ _).trans ?_
      show upd (View.read _ _ g8) _ _ = _
      rw [h8]
      rfl
    isplitl [H9]
    · iexists _; isplitr; swap; (· iexact H9); ipureintro
      sl_unfold_run_names
      exact (readWhole _ _ zero2 _ _ _).trans (pay37_eq _ _ _ _ _ _)
    isplitl [H10]
    · iexists _; isplitr; swap; (· iexact H10); ipureintro
      sl_unfold_run_names
      exact (readWhole _ _ zero2 _ _ _).trans (by rw [pay36_eq]; rfl)
    isplitl [H11]; · iexists _, _; isplitr; swap; (· iexact H11); ipureintro; rfl
    isplitl [H12]; · iexists _, _; isplitr; swap; (· iexact H12); ipureintro; rfl
    isplitl [H13]; · iexists _, _; isplitr; swap; (· iexact H13); ipureintro; rfl
    iexists _, _; isplitr; swap; (· iexact H14); ipureintro; rfl
  · have heven : (15 - (i 1).val) % 2 = 0 := by
      have : ¬ (15 - (i 1).val) % 2 = 1 := fun h => h2 (hc2.2 h)
      omega
    have en : 2 * (k0_t1_loop i).trips = 15 - (i 1).val := by omega
    rw [en] at h8 h9 h10
    sl_exec
    sl_step
    unfold done owns
    iapply Hk
    isplitl [H2]; · iexists _; isplitr; swap; (· iexact H2); ipureintro; exact h2'
    isplitl [H3]; · iexists _; isplitr; swap; (· iexact H3); ipureintro; exact h3
    isplitl [H4]; · iexists _; isplitr; swap; (· iexact H4); ipureintro; exact h4
    isplitl [H5]; · iexists _; isplitr; swap; (· iexact H5); ipureintro; exact h5
    isplitl [H6]; · iexists _; isplitr; swap; (· iexact H6); ipureintro; exact h6
    isplitl [H7]; · iexists _; isplitr; swap; (· iexact H7); ipureintro; exact h7
    isplitl [H8]; · iexists _; isplitr; swap; (· iexact H8); ipureintro; exact h8
    isplitl [H9]; · iexists _; isplitr; swap; (· iexact H9); ipureintro; exact h9
    isplitl [H10]; · iexists _; isplitr; swap; (· iexact H10); ipureintro; exact h10
    isplitl [H11]; · iexists _, _; isplitr; swap; (· iexact H11); ipureintro; rfl
    isplitl [H12]; · iexists _, _; isplitr; swap; (· iexact H12); ipureintro; rfl
    isplitl [H13]; · iexists _, _; isplitr; swap; (· iexact H13); ipureintro; rfl
    iexists _, _; isplitr; swap; (· iexact H14); ipureintro; rfl

end Body

end Cert.KernelIdeal.Run

end
-- ==== Proof.Run.Launch.lean ====
/-
  The launch: what each window holds after each grid point, and the run of the whole program.
-/
module

public import proofs.«01_k».proof.Proof.Run.Body
public import proofs.«01_k».proof.Proof.Gen.KernelIdeal.Frame
public import Idealize.ShloMosaic.Lib.Pipeline.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The key block a point works on. -/
theorem coord_eq : ∀ t : Fin cfg0.N, ((grid0.coords t) 1).val = t.val % 16 := by decide +kernel

/-! ## What a point leaves -/

/-- The key and value blocks as the products take them, -/
def kvOf (c : Dev nD) (t : Fin cfg0.N) : FVec F S512x256 .bf16 := k0_pay41 (iblk m c 0 t)
def vvOf (c : Dev nD) (t : Fin cfg0.N) : FVec F S512x128 .bf16 := k0_pay42 (iblk m c 1 t)
/-- the head's `dq` from what it held, -/
def dqStep (c : Dev nD) (t : Fin cfg0.N) (X : S8192x256.Idx → Elt F .f32) : S8192x256.Idx → Elt F .f32 :=
  dqAt (kvOf m c t) (vvOf m c t) (iblk m c 2 t) (iblk m c 3 t) (iblk m c 4 t) (iblk m c 5 t) ((grid0.coords t) 1).val
    (dqIn (grid0.coords t) X) (15 - ((grid0.coords t) 1).val)
/-- and over the points so far, -/
def dqAfter (c : Dev nD) : (n : ℕ) → n < cfg0.N → S8192x256.Idx → Elt F .f32
  | 0, h => dqStep m c ⟨0, h⟩ k0_pay38
  | n + 1, h => dqStep m c ⟨n + 1, h⟩ (dqAfter c n (Nat.lt_of_succ_lt h))
/-- the block's `dk` and `dv`. -/
def dkAfter (c : Dev nD) (t : Fin cfg0.N) : FVec F S512x256 .f32 :=
  dkAt (kvOf m c t) (vvOf m c t) (iblk m c 2 t) (iblk m c 3 t) (iblk m c 4 t) (iblk m c 5 t) ((grid0.coords t) 1).val (15 - ((grid0.coords t) 1).val)
def dvAfter (c : Dev nD) (t : Fin cfg0.N) : FVec F S512x128 .f32 :=
  dvAt (kvOf m c t) (iblk m c 2 t) (iblk m c 3 t) (iblk m c 4 t) ((grid0.coords t) 1).val (15 - ((grid0.coords t) 1).val)

/-! ## The pipeline's proof data -/

/-- The arrays as the region finds them, each input's buffer at its block after the body, the results as above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAfter m c t.val t.isLt
    | ⟨7, _⟩ => dkAfter m c t
    | ⟨8, _⟩ => dvAfter m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAfter m c t.val t.isLt := by dsimp only [dats]
theorem after0_7 (c : Dev nD) (t : Fin cfg0.N) : (dats m 0 c).after 7 t = dkAfter m c t := by dsimp only [dats]
theorem after0_8 (c : Dev nD) (t : Fin cfg0.N) : (dats m 0 c).after 8 t = dvAfter m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- The head's `dq`: anything at the head's first point, which zeroes it; else what the point before left. -/
theorem dq_step (c : Dev nD) (t : Fin cfg0.N) (d) : dqStep m c t ((dats m 0 c).before 6 t d) = dqAfter m c t.val t.isLt := by
  obtain ⟨n, hn⟩ := t
  by_cases h : n % 16 = 0
  · have hj : ((grid0.coords (⟨n, hn⟩ : Fin cfg0.N)) 1).val = 0 := (coord_eq _).trans h
    have e : ∀ X Y : S8192x256.Idx → Elt F .f32, dqStep m c ⟨n, hn⟩ X = dqStep m c ⟨n, hn⟩ Y := fun X Y => by
      unfold dqStep dqIn; rw [if_pos hj, if_pos hj]
    cases n with
    | zero => exact e _ _
    | succ n => exact e _ _
  · cases n with
    | zero => exact absurd rfl h
    | succ n =>
      rw [(dats m 0 c).before_out_kept 6 rfl ⟨n + 1, hn⟩ (Nat.succ_ne_zero n)
        (Bool.eq_false_iff.2 fun hf => by
          have h' := (flush0_6 ⟨n + 1 - 1, Nat.lt_of_le_of_lt (Nat.sub_le _ _) hn⟩).1 hf
          dsimp only at h'; omega)
        (fun _ => rfl) (fun _ _ => rfl) d, after0_6]
      rfl

/-! ## The body obligation -/

theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  unfold Pipeline.ΦA; rw [scopedRest0_eq]; simp only [owns_whole]; try rfl

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, Phi_eq]
  simp only [before0_0, before0_1, before0_2, before0_3, before0_4, before0_5]
  rw [after0_0, after0_1, after0_2, after0_3, after0_4, after0_5, after0_6, after0_7, after0_8]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← dq_step m c t d6]
  iapply (pointRun c (grid0.coords t) _ (hstage0_0 ((cfg0.slots t 0).cast nbuf0_0)) _ (hstage0_1 ((cfg0.slots t 1).cast nbuf0_1)) _ (hstage0_2 ((cfg0.slots t 2).cast nbuf0_2))
    _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
    _ (hstage0_7 ((cfg0.slots t 7).cast nbuf0_7)) _ (hstage0_8 ((cfg0.slots t 8).cast nbuf0_8)) _ (Memref.isWhole_whole cc0_scratch0) _ (Memref.isWhole_whole cc0_scratch1)
    _ (Memref.isWhole_whole cc0_scratch2) _ (Memref.isWhole_whole cc0_scratch3) (iblk m c 2 t) (iblk m c 3 t) (iblk m c 4 t) (iblk m c 5 t) ((dats m 0 c).before 6 t d6)
    (iblk m c 0 t) (iblk m c 1 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [S0]; · iexact S0
  isplitl [S1]; · iexact S1
  isplitl [S2]; · iexact S2
  isplitl [S3]; · iexact S3
  unfold done
  iintro ⟨H0, H1, H2, H3, H4, H5, H6, H7, H8, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- From any memory with zero counters every weakly fair execution of the program terminates, with every array of the
    pipeline at what the proof data say and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The arguments are left as they were. -/
theorem frame_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_with_sems (frame_of m ρ (dats m) fun _ _ => rfl) (run_main m ρ)

end Cert.KernelIdeal.Run

end
-- ==== Proof.Value.Spec.lean ====
/-
  The mathematics of causal attention's backward pass for one head, over the real numbers: rows and columns are
  natural numbers, and everything is a finite sum. Both programs are shown to compute these numbers.
-/
module

public import Idealize.ShloMosaic.Lib.IdealHost

@[expose] public section

noncomputable section

namespace Cert.Spec

open Finset

section Head

variable (q k v o : ℕ → ℕ → ℝ)

/-- Query row `a` against key row `b`, scaled, -/
def z (a b : ℕ) : ℝ := (∑ d ∈ range 192, q a d * k b d) / Real.sqrt 192
/-- its weight, zero where the key is later than the query, -/
def w (a b : ℕ) : ℝ := if b ≤ a then Real.exp (z q k a b) else 0
/-- the row's sum of weights, -/
def den (a : ℕ) : ℝ := ∑ b ∈ range 8192, w q k a b
/-- and the probability. -/
def p (a b : ℕ) : ℝ := w q k a b / den q k a
/-- The gradient of the probability, -/
def dpr (a b : ℕ) : ℝ := ∑ d ∈ range 128, o a d * v b d
/-- its mean over the row, -/
def delta (a : ℕ) : ℝ := ∑ b ∈ range 8192, p q k a b * dpr v o a b
/-- and the gradient of the scaled score. -/
def dsr (a b : ℕ) : ℝ := p q k a b * (dpr v o a b - delta q k v o a)
/-- The gradients of the head's `q`, `k` (times the square root of 192) and `v`. -/
def dq (a d : ℕ) : ℝ := ∑ b ∈ range 8192, dsr q k v o a b * k b d
def dk (b d : ℕ) : ℝ := ∑ a ∈ range 8192, dsr q k v o a b * q a d
def dv (b d : ℕ) : ℝ := ∑ a ∈ range 8192, p q k a b * o a d

theorem w_of_lt {a b : ℕ} (h : a < b) : w q k a b = 0 := if_neg (by omega)
theorem w_of_le {a b : ℕ} (h : b ≤ a) : w q k a b = Real.exp (z q k a b) := if_pos h
theorem w_nonneg (a b : ℕ) : 0 ≤ w q k a b := by
  unfold w; split
  · exact (Real.exp_pos _).le
  · exact le_rfl
theorem p_of_lt {a b : ℕ} (h : a < b) : p q k a b = 0 := by rw [p, w_of_lt q k h, zero_div]
theorem dsr_of_lt {a b : ℕ} (h : a < b) : dsr q k v o a b = 0 := by rw [dsr, p_of_lt q k h, zero_mul]

theorem den_pos (a : ℕ) : 0 < den q k a := by
  refine lt_of_lt_of_le (Real.exp_pos (z q k a 0)) ?_
  rw [← w_of_le q k (Nat.zero_le a)]
  exact Finset.single_le_sum (f := w q k a) (fun b _ => w_nonneg q k a b) (Finset.mem_range.mpr (by decide))

/-- The row's mean as the kernel's host code takes it, from the forward pass's output. -/
theorem delta_eq (a : ℕ) :
    delta q k v o a = ∑ d ∈ range 128, o a d * ∑ b ∈ range 8192, v b d * p q k a b := by
  simp only [delta, dpr, Finset.mul_sum]
  rw [Finset.sum_comm]
  exact Finset.sum_congr rfl fun d _ => Finset.sum_congr rfl fun b _ => by ring

/-- The gradient at one row's part of one block of rows of keys. -/
def dqBlk (a j d : ℕ) : ℝ := ∑ r ∈ range 512, dsr q k v o a (512 * j + r) * k (512 * j + r) d
/-- The gradients at one key row, of one block of query rows. -/
def dkBlk (b u d : ℕ) : ℝ := ∑ r ∈ range 512, dsr q k v o (512 * u + r) b * q (512 * u + r) d
def dvBlk (b u d : ℕ) : ℝ := ∑ r ∈ range 512, p q k (512 * u + r) b * o (512 * u + r) d

end Head

/-- A sum over `512 n` numbers, block by block. -/
theorem sum_blocks (f : ℕ → ℝ) (n : ℕ) : ∑ i ∈ range (512 * n), f i = ∑ u ∈ range n, ∑ r ∈ range 512, f (512 * u + r) := by
  induction n with
  | zero => simp
  | succ n ih => rw [Finset.sum_range_succ, ← ih, Nat.mul_succ, Finset.sum_range_add]

section Head

variable (q k v o : ℕ → ℕ → ℝ)

theorem dqBlk_of_lt {a j : ℕ} (h : a < 512 * j) (d : ℕ) : dqBlk q k v o a j d = 0 :=
  Finset.sum_eq_zero fun r _ => by rw [dsr_of_lt q k v o (by omega), zero_mul]

theorem dq_eq (a d : ℕ) : dq q k v o a d = ∑ j ∈ range 16, dqBlk q k v o a j d :=
  sum_blocks (fun b => dsr q k v o a b * k b d) 16

theorem dk_eq {b j : ℕ} (h : 512 * j ≤ b) (hj : j < 16) (d : ℕ) :
    dk q k v o b d = ∑ n ∈ range (16 - j), dkBlk q k v o b (j + n) d := by
  rw [dk, show 8192 = 512 * 16 from rfl, sum_blocks (fun a => dsr q k v o a b * q a d) 16,
    show (16 : ℕ) = j + (16 - j) by omega, Finset.sum_range_add, Finset.sum_eq_zero, zero_add]
  · rw [Nat.add_sub_cancel_left]; rfl
  · intro u hu
    have := Finset.mem_range.mp hu
    exact Finset.sum_eq_zero fun r hr => by
      have := Finset.mem_range.mp hr
      rw [dsr_of_lt q k v o (by omega), zero_mul]

theorem dv_eq {b j : ℕ} (h : 512 * j ≤ b) (hj : j < 16) (d : ℕ) :
    dv q k o b d = ∑ n ∈ range (16 - j), dvBlk q k o b (j + n) d := by
  rw [dv, show 8192 = 512 * 16 from rfl, sum_blocks (fun a => p q k a b * o a d) 16,
    show (16 : ℕ) = j + (16 - j) by omega, Finset.sum_range_add, Finset.sum_eq_zero, zero_add]
  · rw [Nat.add_sub_cancel_left]; rfl
  · intro u hu
    have := Finset.mem_range.mp hu
    exact Finset.sum_eq_zero fun r hr => by
      have := Finset.mem_range.mp hr
      rw [p_of_lt q k (by omega), zero_mul]

end Head

/-- A sum of real numbers is the same sum in the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A sum over the first `n` numbers whose terms are real. -/
theorem sum_fin {n : ℕ} (g : Fin n → EReal) (f : ℕ → ℝ) (h : ∀ i, g i = (f i.val : EReal)) :
    ∑ i, g i = ((∑ i ∈ range n, f i : ℝ) : EReal) := by
  rw [coe_sum, Finset.sum_range]
  exact Finset.sum_congr rfl fun i _ => h i

end Cert.Spec
-- ==== Proof.Value.Arrays.lean ====
/-
  Arrays of extended reals as tables of real numbers, and the few words and comparisons both programs use.
-/
module

public import proofs.«01_k».proof.Proof.Value.Spec
public import Idealize.ShloMosaic.Lib.KernelVsHost
public import Idealize.ShloMosaic.Lib.Pipeline.Value

@[expose] public section

noncomputable section

namespace Cert.Spec

open Idealize.ShloMosaic

/-- Every entry is a real number. -/
def IsReal {s : Shape} (x : s.Idx → EReal) : Prop := ∀ i, x i ≠ ⊤ ∧ x i ≠ ⊥

/-- Head `h` of an array of rows, heads and columns, as a table of real numbers: zero past the array's edges. -/
def head {n₀ n₁ n₂ : ℕ} (x : (⟨3, ![n₀, n₁, n₂]⟩ : Shape).Idx → EReal) (h a d : ℕ) : ℝ :=
  if H : a < n₀ ∧ h < n₁ ∧ d < n₂ then
    (x (fun e => match e with | ⟨0, _⟩ => ⟨a, H.1⟩ | ⟨1, _⟩ => ⟨h, H.2.1⟩ | ⟨2, _⟩ => ⟨d, H.2.2⟩)).toReal
  else 0

theorem head_eq {n₀ n₁ n₂ : ℕ} {x : (⟨3, ![n₀, n₁, n₂]⟩ : Shape).Idx → EReal} (hx : IsReal x)
    (i : (⟨3, ![n₀, n₁, n₂]⟩ : Shape).Idx) : x i = (head x (i 1).val (i 0).val (i 2).val : EReal) := by
  have H : (i 0).val < n₀ ∧ (i 1).val < n₁ ∧ (i 2).val < n₂ := ⟨(i 0).isLt, (i 1).isLt, (i 2).isLt⟩
  rw [head, dif_pos H, EReal.coe_toReal (hx _).1 (hx _).2]
  exact congrArg x (funext fun e => by fin_cases e <;> rfl)

theorem head_of_ge {n₀ n₁ n₂ : ℕ} (x : (⟨3, ![n₀, n₁, n₂]⟩ : Shape).Idx → EReal) (h a : ℕ) {d : ℕ} (hd : n₂ ≤ d) :
    head x h a d = 0 := dif_neg (by omega)

/-- The word of 192, -/
theorem ofBits_192 : Ideal.ofBits .f32 0x43400000#32 = ((192 : ℝ) : EReal) := by
  simp [Ideal.ofBits, Ideal.ieee, -EReal.coe_mul]; norm_num
/-- of 2, -/
theorem ofBits_2 : Ideal.ofBits .f32 0x40000000#32 = ((2 : ℝ) : EReal) := by
  simp [Ideal.ofBits, Ideal.ieee, -EReal.coe_mul]; norm_num
/-- of 0, -/
theorem ofBits_0 : Ideal.ofBits .f32 0x00000000#32 = ((0 : ℝ) : EReal) := by
  simp [Ideal.ofBits, Ideal.ieee]
/-- and of minus infinity. -/
theorem ofBits_bot : Ideal.ofBits .f32 0xFF800000#32 = ⊥ := by
  simp [Ideal.ofBits, Ideal.ieee]

theorem root_ne : Real.sqrt 192 ≠ 0 := (Real.sqrt_pos.mpr (by norm_num)).ne'

theorem sqrt_192 : Ideal.sqrt ((192 : ℝ) : EReal) = ((Real.sqrt 192 : ℝ) : EReal) := by
  rw [Ideal.sqrt_coe, if_neg (by norm_num)]

/-- Division of real numbers. -/
theorem div_real (x : ℝ) {y : ℝ} (h : y ≠ 0) : Ideal.div (x : EReal) (y : EReal) = ((x / y : ℝ) : EReal) := by
  rw [Ideal.div_coe h, ← EReal.coe_mul, mul_one_div]

/-- The signed comparison of two small numbers' words. -/
theorem sle_small {a b : ℕ} (ha : a < 8192) (hb : b < 8192) :
    IntOp.cmpi .sle (BitVec.ofNat 32 a) (BitVec.ofNat 32 b) = if a ≤ b then 1#1 else 0#1 := by
  have e : (BitVec.ofNat 32 a).sle (BitVec.ofNat 32 b) = decide (a ≤ b) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    exact decide_eq_decide.mpr (by omega)
  by_cases h : a ≤ b
  · simp [IntOp.cmpi, e, h]
  · simp [IntOp.cmpi, e, h]

theorem select_if {α : Type} (P : Prop) [Decidable P] (x y : α) :
    Scalar.select (if P then 1#1 else 0#1) x y = if P then x else y := by
  by_cases h : P <;> simp [Scalar.select, h]

/-- The greatest of a row of numbers, none of them above every real number and one of them real, is real. -/
theorem fold_max_real {ι : Type} (s : Finset ι) (f : ι → EReal) (hf : ∀ i ∈ s, f i ≠ ⊤) {i : ι} (hi : i ∈ s) (hb : f i ≠ ⊥) :
    ∃ M : ℝ, s.fold max ⊥ f = (M : EReal) := by
  have h1 : s.fold max ⊥ f ≠ ⊤ := (lt_top_iff_ne_top.mp ((Finset.fold_max_lt _).mpr
    ⟨bot_lt_top, fun j hj => lt_top_iff_ne_top.mpr (hf j hj)⟩))
  have h2 : s.fold max ⊥ f ≠ ⊥ := fun e => hb (le_bot_iff.mp (e ▸ (Finset.le_fold_max _).mpr (Or.inr ⟨i, hi, le_rfl⟩)))
  exact ⟨_, (EReal.coe_toReal h1 h2).symm⟩

end Cert.Spec
-- ==== Proof.Value.Finite.lean ====
/-
  The precondition says that every element of the four arguments is a real number.
-/
module

public import proofs.«01_k».proof.Proof.Value.Arrays
public import proofs.«01_k».proof.Proof.Gen.Pre_finite
public import Idealize.ShloMosaic.Lib.StableHlo.Predicate

@[expose] public section

noncomputable section

namespace Cert.Pre_finite

open Cert.Spec Cert.Pre_finite.Gen
open Idealize.ShloMosaic

theorem and_ones {a b : BitVec 1} (h : IntOp.andi a b = 1#1) : a = 1#1 ∧ b = 1#1 := by
  revert a b; decide

theorem foldl_ones {ι : Type} (f : ι → BitVec 1) (l : List ι) (z : BitVec 1) (h : l.foldl (fun r n => IntOp.andi r (f n)) z = 1#1) :
    z = 1#1 ∧ ∀ i ∈ l, f i = 1#1 := by
  induction l generalizing z with
  | nil => exact ⟨h, fun i hi => absurd hi List.not_mem_nil⟩
  | cons a l ih =>
    obtain ⟨h1, h2⟩ := ih _ h
    obtain ⟨h3, h4⟩ := and_ones h1
    refine ⟨h3, fun i hi => ?_⟩
    rcases List.mem_cons.mp hi with rfl | hi
    · exact h4
    · exact h2 i hi

/-- A conjunction over a whole array is of all its elements. -/
theorem reduce_ones {s : Shape} {axes : List (Fin s.rank)} (x : IVec s 1) (v : IVec S_ 1) (h : s.ReducesTo axes S_) (hu : 0 < S_.numel) (j : S_.Idx)
    (e : Host.reduce IntOp.andi x v h hu j = 1#1) (i : s.Idx) : x i = 1#1 := by
  have := (foldl_ones (fun n => x (s.rowMajor.symm n)) _ _ e).2 (s.rowMajor i)
    (List.mem_filter.mpr ⟨List.mem_finRange _, decide_eq_true (funext fun a => a.elim0)⟩)
  beta_reduce at this
  rwa [Equiv.symm_apply_apply] at this

theorem ofBits_top : Ideal.ofBits .f32 0x7F800000#32 = ⊤ := by simp [Ideal.ofBits, Ideal.ieee]

/-- An absolute value below infinity is a real number's. -/
theorem real_of_abs (x : EReal) (h : Ideal.cmp .olt (max x (-x)) ⊤ = 1#1) : x ≠ ⊤ ∧ x ≠ ⊥ := by
  constructor <;> rintro rfl <;> simp [Ideal.cmp] at h

/-- One argument's conjunct. -/
theorem real_of_conjunct {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) : IsReal x := fun i => by
  have hi := reduce_ones _ _ h hu j e i
  refine real_of_abs (x i) ?_
  rw [← ofBits_top]
  exact hi

theorem real_of_pre (x0 x1 : FVec Ideal S8192x4x192 .f32) (x2 x3 : FVec Ideal S8192x4x128 .f32)
    (h : fn (F := Ideal) x0 x1 x2 x3 = fun _ => 1#1) : IsReal x0 ∧ IsReal x1 ∧ IsReal x2 ∧ IsReal x3 := by
  let j : S_.Idx := fun a => a.elim0
  have e := congrFun h j
  unfold fn fn_part1 at e
  obtain ⟨e, e3⟩ := and_ones e
  obtain ⟨e, e2⟩ := and_ones e
  obtain ⟨e0, e1⟩ := and_ones e
  exact ⟨real_of_conjunct x0 _ _ _ j e0, real_of_conjunct x1 _ _ _ j e1, real_of_conjunct x2 _ _ _ j e2, real_of_conjunct x3 _ _ _ j e3⟩

end Cert.Pre_finite

end
-- ==== Proof.Value.Reference.lean ====
/-
  The reference's results, element by element: `jax.vjp` of plain attention computes the numbers of `Spec`.
  The row maximum that the softmax subtracts is only ever known to be some real number; it cancels.
-/
module

public import proofs.«01_k».proof.Proof.Value.Arrays
public import proofs.«01_k».proof.Proof.Gen.ReferenceIdeal.Read

@[expose] public section

noncomputable section

namespace Cert.ReferenceIdeal.Elements

open Cert.ReferenceIdeal Cert.ReferenceIdeal.Gen Cert.ReferenceIdeal.Read Cert.Spec Finset
open Idealize.ShloMosaic Idealize.ShloMosaic.TcCoe

section Scores

variable {x0 x1 : (⟨S8192x4x192, .f32⟩ : BufTy).Contents (Elt Ideal)} (h0 : IsReal x0) (h1 : IsReal x1)

theorem root_apply (i : S_.Idx) : val_main_v1 (F := Ideal) i = ((Real.sqrt 192 : ℝ) : EReal) := by
  rw [val_main_v1_apply, val_main_cst_apply, Ideal.ofBits_def, ofBits_192, Ideal.hostUnary_sqrt_def, sqrt_192]

include h0 h1 in
/-- The scaled scores, -/
theorem score (i : S4x8192x8192.Idx) :
    val_main_v3 (F := Ideal) x0 x1 i = (z (head x0 (i 0).val) (head x1 (i 0).val) (i 1).val (i 2).val : EReal) := by
  rw [val_main_v3_apply, val_main_v2_apply, root_apply, val_main_v0_apply,
    sum_fin _ (fun d => head x0 (i 0).val (i 1).val d * head x1 (i 0).val (i 2).val d) fun k => ?_,
    Ideal.hostDivf_def, div_real _ root_ne, z]
  rw [head_eq h0, head_eq h1, ← EReal.coe_mul]

/-- where a key may be seen, -/
theorem seen (i : S4x8192x8192.Idx) : val_main_v12_1 (F := Ideal) i = if (i 2).val ≤ (i 1).val then 1#1 else 0#1 := by
  rw [val_main_v12_1_apply, val_main_v11_apply, val_main_v10_apply, val_main_v8_apply, val_main_v5_apply, val_main_v4_apply,
    val_main_v9_apply, val_main_v7_apply, val_main_v6_apply]
  exact sle_small (i 2).isLt (i 1).isLt

include h0 h1 in
/-- the masked scores, -/
theorem masked (i : S4x8192x8192.Idx) :
    val_main_v12_0 (F := Ideal) x0 x1 i = if (i 2).val ≤ (i 1).val
      then (z (head x0 (i 0).val) (head x1 (i 0).val) (i 1).val (i 2).val : EReal) else ⊥ := by
  rw [val_main_v12_0_apply, seen, select_if, score h0 h1, val_main_call0_v2_apply, val_main_call0_v0_apply, val_main_cst_0_apply,
    Ideal.ofBits_def, ofBits_bot]

include h0 h1 in
/-- and their greatest in each row. -/
theorem rowMax (i : S4x8192.Idx) : ∃ M : ℝ, val_main_v13 (F := Ideal) x0 x1 i = (M : EReal) := by
  have e : val_main_v13 (F := Ideal) x0 x1 i = (Finset.univ : Finset (Fin 8192)).fold max ⊥
      (fun k => val_main_v12_0 (F := Ideal) x0 x1 (idx_main_v34 i k)) := by
    refine (Host.reduce_eq_fold_single (α := EReal) max (val_main_v12_0 (F := Ideal) x0 x1) (val_main_cst_1 (F := Ideal))
      reducesTo_S4x8192x8192_S4x8192_d2 (by decide) h_S_ i).trans ?_
    rw [val_main_cst_1_apply, Ideal.ofBits_def, ofBits_bot]
    refine congrArg (Finset.fold max ⊥ · _) (funext fun k => ?_)
    exact congrArg (val_main_v12_0 (F := Ideal) x0 x1) (funext fun a => Fin.ext (by match a with | ⟨0, _⟩ => rfl | ⟨1, _⟩ => rfl | ⟨2, _⟩ => rfl))
  rw [e]
  refine fold_max_real _ _ (fun k _ => ?_) (Finset.mem_univ (0 : Fin 8192)) ?_
  · rw [masked h0 h1]; split
    · exact EReal.coe_ne_top _
    · exact bot_ne_top
  · rw [masked h0 h1]; exact (if_pos (Nat.zero_le _)).trans_ne (EReal.coe_ne_bot _)

/-- A row's greatest score as a number. -/
def top (x0 x1 : (⟨S8192x4x192, .f32⟩ : BufTy).Contents (Elt Ideal)) (i : S4x8192.Idx) : ℝ := (val_main_v13 (F := Ideal) x0 x1 i : EReal).toReal

include h0 h1 in
theorem top_eq (i : S4x8192.Idx) : val_main_v13 (F := Ideal) x0 x1 i = (top x0 x1 i : EReal) := by
  obtain ⟨M, hM⟩ := rowMax h0 h1 i
  rw [top, hM, EReal.toReal_coe]

/-- The greatest score of the row that an element of the square of scores lies in. -/
abbrev rowIdx (i : S4x8192x8192.Idx) : S4x8192.Idx := idx_main_v30 (idx_main_v31 i)

include h0 h1 in
/-- The exponentials, -/
theorem expo (i : S4x8192x8192.Idx) :
    val_main_v33 (F := Ideal) x0 x1 i
      = (w (head x0 (i 0).val) (head x1 (i 0).val) (i 1).val (i 2).val * Real.exp (-top x0 x1 (rowIdx i)) : ℝ) := by
  rw [val_main_v33_apply, val_main_v32_apply, val_main_v31_apply, val_main_v30_apply, val_main_v20_apply, val_main_v19_apply,
    val_main_cst_3_apply, Ideal.ofBits_def, ofBits_bot, Ideal.maximumf_def, max_eq_right bot_le, top_eq h0 h1, masked h0 h1,
    Ideal.hostUnary_exp_def, Ideal.subf_def, w]
  by_cases h : (i 2).val ≤ (i 1).val
  · rw [if_pos h, if_pos h, ← EReal.coe_sub, Ideal.exp_coe, sub_eq_add_neg, Real.exp_add]
  · rw [if_neg h, if_neg h, zero_mul, EReal.bot_sub, Ideal.exp_bot, EReal.coe_zero]

include h0 h1 in
/-- their sums, -/
theorem expSum (i : S4x8192.Idx) :
    val_main_v34 (F := Ideal) x0 x1 i
      = (den (head x0 (i 0).val) (head x1 (i 0).val) (i 1).val * Real.exp (-top x0 x1 i) : ℝ) := by
  rw [val_main_v34_apply, val_main_cst_9_apply, Ideal.ofBits_def, ofBits_0,
    sum_fin _ (fun b => w (head x0 (i 0).val) (head x1 (i 0).val) (i 1).val b * Real.exp (-top x0 x1 i)) fun k => ?_,
    ← EReal.coe_add, zero_add, ← Finset.sum_mul, den]
  rw [expo h0 h1]
  exact congrArg (fun r => ((_ * Real.exp (-top x0 x1 r) : ℝ) : EReal)) (funext fun a => by fin_cases a <;> rfl)

/-- The factor both carry. -/
abbrev fac (x0 x1 : (⟨S8192x4x192, .f32⟩ : BufTy).Contents (Elt Ideal)) (i : S4x8192x8192.Idx) : ℝ := Real.exp (-top x0 x1 (rowIdx i))

include h0 h1 in
theorem expSum' (i : S4x8192x8192.Idx) :
    val_main_v35 (F := Ideal) x0 x1 (idx_main_v31 i)
      = (den (head x0 (i 0).val) (head x1 (i 0).val) (i 1).val * fac x0 x1 i : ℝ) := by
  rw [val_main_v35_apply, expSum h0 h1]

theorem den_fac_ne (q k : ℕ → ℕ → ℝ) (a : ℕ) (t : ℝ) : den q k a * Real.exp t ≠ 0 :=
  (mul_pos (den_pos q k a) (Real.exp_pos t)).ne'

include h0 h1 in
/-- and the probabilities. -/
theorem prob (i : S4x8192x8192.Idx) :
    val_main_v37 (F := Ideal) x0 x1 i = (p (head x0 (i 0).val) (head x1 (i 0).val) (i 1).val (i 2).val : EReal) := by
  rw [val_main_v37_apply, val_main_v36_apply, expo h0 h1, expSum' h0 h1, Ideal.hostDivf_def, div_real _ (den_fac_ne _ _ _ _), p,
    mul_div_mul_right _ _ (Real.exp_pos _).ne']

end Scores

section Gradients

variable {x0 x1 : (⟨S8192x4x192, .f32⟩ : BufTy).Contents (Elt Ideal)} (h0 : IsReal x0) (h1 : IsReal x1)
  {x2 x3 : (⟨S8192x4x128, .f32⟩ : BufTy).Contents (Elt Ideal)} (h2 : IsReal x2) (h3 : IsReal x3)

include h2 h3 in
/-- The probabilities' gradients, -/
theorem probGrad (i : S4x8192x8192.Idx) :
    val_main_v44 (F := Ideal) x2 x3 i = (dpr (head x2 (i 0).val) (head x3 (i 0).val) (i 1).val (i 2).val : EReal) := by
  rw [val_main_v44_apply, sum_fin _ (fun d => head x3 (i 0).val (i 1).val d * head x2 (i 0).val (i 2).val d) fun k => ?_, dpr]
  rw [val_main_v43_apply, head_eq h3, head_eq h2, ← EReal.coe_mul]

include h0 h1 h2 h3 in
/-- minus their mean, with the factor the softmax left, -/
theorem meanGrad (i : S4x8192x8192.Idx) :
    val_main_v56 (F := Ideal) x0 x1 x2 x3 i
      = (-(delta (head x0 (i 0).val) (head x1 (i 0).val) (head x2 (i 0).val) (head x3 (i 0).val) (i 1).val
          / (den (head x0 (i 0).val) (head x1 (i 0).val) (i 1).val * fac x0 x1 i)) : ℝ) := by
  rw [val_main_v56_apply, val_main_v55_apply, Fin.sum_univ_one, val_main_v52_apply, val_main_v51_apply, val_main_v50_apply,
    val_main_cst_12_apply, val_main_cst_11_apply, Ideal.ofBits_def, ofBits_0]
  have hr : idx_main_v51 (idx_main_v55 (idx_main_v56 i) 0) = rowIdx i := by
    have h1 : (i 1).val < 8192 := (i 1).isLt
    funext a; apply Fin.ext
    match a with
    | ⟨0, _⟩ => show (((i 0).val * 8192 + (i 1).val) * 1 + 0) / 8192 = (i 0).val; omega
    | ⟨1, _⟩ => show (((i 0).val * 8192 + (i 1).val) * 1 + 0) % 8192 = (i 1).val; omega
  rw [hr, sum_fin _ (fun b => p (head x0 (i 0).val) (head x1 (i 0).val) (i 1).val b * dpr (head x2 (i 0).val) (head x3 (i 0).val) (i 1).val b
      / (den (head x0 (i 0).val) (head x1 (i 0).val) (i 1).val * fac x0 x1 i)) fun k => ?_]
  · rw [← EReal.coe_add, zero_add, Ideal.hostNegf_def, Ideal.negf_def, ← EReal.coe_neg, ← EReal.coe_add, zero_add, ← Finset.sum_div, delta]
  · have hk : fac x0 x1 (idx_main_v50 (rowIdx i) k) = fac x0 x1 i :=
      congrArg (fun r => Real.exp (-top x0 x1 r)) (funext fun a => by fin_cases a <;> rfl)
    have ht : rowIdx (idx_main_v50 (rowIdx i) k) = rowIdx i := funext fun a => by fin_cases a <;> rfl
    rw [val_main_v49_apply, val_main_v48_apply, val_main_v47_apply, val_main_v40_apply, val_main_v39_apply, val_main_cst_10_apply,
      val_main_v38_apply, val_main_v35_apply, probGrad h2 h3, expo h0 h1, expSum h0 h1, Ideal.ofBits_def, Ideal.ofBits_one_f32,
      Ideal.hostDivf_def, Ideal.mulf_def, Ideal.mulf_def, Ideal.mulf_def, ← EReal.coe_mul, ← EReal.coe_one,
      div_real _ (mul_ne_zero (den_fac_ne _ _ _ _) (den_fac_ne _ _ _ _)), ← EReal.coe_mul, ← EReal.coe_mul, ht]
    refine congrArg _ ?_
    show dpr (head x2 (i 0).val) (head x3 (i 0).val) (i 1).val k.val
        * (1 / (den (head x0 (i 0).val) (head x1 (i 0).val) (i 1).val * Real.exp (-top x0 x1 (rowIdx i))
          * (den (head x0 (i 0).val) (head x1 (i 0).val) (i 1).val * Real.exp (-top x0 x1 (rowIdx i)))))
        * (w (head x0 (i 0).val) (head x1 (i 0).val) (i 1).val k.val * Real.exp (-top x0 x1 (rowIdx i))) = _
    have hd := (den_pos (head x0 (i 0).val) (head x1 (i 0).val) (i 1).val).ne'
    have he := (Real.exp_pos (-top x0 x1 (rowIdx i))).ne'
    rw [p]
    field_simp

include h0 h1 h2 h3 in
/-- the scores' gradients, divided by the scale's root, -/
theorem scoreGrad (i : S4x8192x8192.Idx) :
    val_main_v61 (F := Ideal) x0 x1 x2 x3 i
      = (dsr (head x0 (i 0).val) (head x1 (i 0).val) (head x2 (i 0).val) (head x3 (i 0).val) (i 1).val (i 2).val / Real.sqrt 192 : ℝ) := by
  rw [val_main_v61_apply, val_main_v60_apply, root_apply, val_main_v59_apply, seen, select_if, val_main_v58_apply, val_main_v57_apply,
    val_main_v54_apply, val_main_v53_apply, probGrad h2 h3, meanGrad h0 h1 h2 h3, expo h0 h1, val_main_call1_v0_apply,
    val_main_call1_cst_apply, Ideal.ofBits_def, ofBits_0, Ideal.hostDivf_def, Ideal.hostDivf_def, Ideal.mulf_def, Ideal.addf_def]
  rw [show val_main_v35 (F := Ideal) x0 x1 (idx_main_v53 i) = _ from expSum' h0 h1 i, div_real _ (den_fac_ne _ _ _ _),
    ← EReal.coe_add, ← EReal.coe_mul, ← apply_ite Real.toEReal, div_real _ root_ne]
  refine congrArg (fun r : ℝ => ((r / Real.sqrt 192 : ℝ) : EReal)) ?_
  by_cases h : (i 2).val ≤ (i 1).val
  · rw [if_pos h, dsr, p]
    have hd := (den_pos (head x0 (i 0).val) (head x1 (i 0).val) (i 1).val).ne'
    have he := (Real.exp_pos (-top x0 x1 (rowIdx i))).ne'
    show (_ / (_ * Real.exp (-top x0 x1 (rowIdx i))) + -(_ / (_ * Real.exp (-top x0 x1 (rowIdx i))))) * (_ * Real.exp (-top x0 x1 (rowIdx i))) = _
    field_simp
    ring
  · rw [if_neg h, dsr_of_lt _ _ _ _ (by omega)]

include h0 h1 h2 h3 in
/-- and the gradients of `q`, -/
theorem dq_elem (i : S8192x4x192.Idx) :
    val_main_v68 (F := Ideal) x0 x1 x2 x3 i
      = (dq (head x0 (i 1).val) (head x1 (i 1).val) (head x2 (i 1).val) (head x3 (i 1).val) (i 0).val (i 2).val : EReal) := by
  rw [val_main_v68_apply, val_main_v67_apply, val_main_v66_apply, val_main_cst_13_apply, Ideal.ofBits_def, ofBits_192,
    Ideal.hostUnary_sqrt_def, sqrt_192, val_main_v65_apply, val_main_v64_apply,
    sum_fin _ (fun b => dsr (head x0 (i 1).val) (head x1 (i 1).val) (head x2 (i 1).val) (head x3 (i 1).val) (i 0).val b / Real.sqrt 192
      * head x1 (i 1).val b (i 2).val) fun k => ?_, Ideal.mulf_def, ← EReal.coe_mul, Finset.sum_mul, dq]
  · refine congrArg _ (Finset.sum_congr rfl fun b _ => ?_)
    have := root_ne
    field_simp
  · rw [scoreGrad h0 h1 h2 h3, head_eq h1, ← EReal.coe_mul]

include h0 h1 h2 h3 in
/-- of `k` -/
theorem dk_elem (i : S8192x4x192.Idx) :
    val_main_v72 (F := Ideal) x0 x1 x2 x3 i
      = (dk (head x0 (i 1).val) (head x1 (i 1).val) (head x2 (i 1).val) (head x3 (i 1).val) (i 0).val (i 2).val : EReal) := by
  rw [val_main_v72_apply, val_main_v71_apply, val_main_v66_apply, val_main_cst_13_apply, Ideal.ofBits_def, ofBits_192,
    Ideal.hostUnary_sqrt_def, sqrt_192, val_main_v63_apply, val_main_v62_apply,
    sum_fin _ (fun a => dsr (head x0 (i 1).val) (head x1 (i 1).val) (head x2 (i 1).val) (head x3 (i 1).val) a (i 0).val / Real.sqrt 192
      * head x0 (i 1).val a (i 2).val) fun k => ?_, Ideal.mulf_def, ← EReal.coe_mul, Finset.sum_mul, dk]
  · refine congrArg _ (Finset.sum_congr rfl fun b _ => ?_)
    have := root_ne
    field_simp
  · rw [scoreGrad h0 h1 h2 h3, head_eq h0, ← EReal.coe_mul]

include h0 h1 h3 in
/-- and of `v`. -/
theorem dv_elem (i : S8192x4x128.Idx) :
    val_main_v46 (F := Ideal) x0 x1 x3 i
      = (dv (head x0 (i 1).val) (head x1 (i 1).val) (head x3 (i 1).val) (i 0).val (i 2).val : EReal) := by
  rw [val_main_v46_apply, val_main_v45_apply,
    sum_fin _ (fun a => p (head x0 (i 1).val) (head x1 (i 1).val) a (i 0).val * head x3 (i 1).val a (i 2).val) fun k => ?_, dv]
  rw [val_main_v43_apply, prob h0 h1, head_eq h3, ← EReal.coe_mul, mul_comm]

/-! ## The results, padded and laid out as the kernel's -/

include h0 h1 h2 h3 in
theorem dq_out (i : S8192x1024.Idx) :
    val_main_v70 (F := Ideal) x0 x1 x2 x3 i
      = (dq (head x0 ((i 1).val / 256)) (head x1 ((i 1).val / 256)) (head x2 ((i 1).val / 256)) (head x3 ((i 1).val / 256))
          (i 0).val ((i 1).val % 256) : EReal) := by
  have hi1 : (i 1).val < 1024 := (i 1).isLt
  have e0 : (idx_main_v70 i 0).val = (i 0).val := by show ((i 0).val * 1024 + (i 1).val) / 1024 = _; omega
  have e1 : (idx_main_v70 i 1).val = (i 1).val / 256 := by show ((i 0).val * 1024 + (i 1).val) / 256 % 4 = _; omega
  have e2 : (idx_main_v70 i 2).val = (i 1).val % 256 := by show ((i 0).val * 1024 + (i 1).val) % 256 = _; omega
  rw [val_main_v70_apply, ← e0, ← e1, ← e2]
  generalize idx_main_v70 i = j
  unfold val_main_v69
  by_cases h : (j 2).val < 192
  · rw [pad_apply_of_inside _ _ _ _ _ _ _ j (show S8192x4x192.Idx from fun a => match a with
      | ⟨0, _⟩ => ⟨(j 0).val, (j 0).isLt⟩ | ⟨1, _⟩ => ⟨(j 1).val, (j 1).isLt⟩ | ⟨2, _⟩ => ⟨(j 2).val, h⟩)
      (fun a => by match a with
        | ⟨0, _⟩ => show (j 0).val = 0 + (j 0).val * 1; omega
        | ⟨1, _⟩ => show (j 1).val = 0 + (j 1).val * 1; omega
        | ⟨2, _⟩ => show (j 2).val = 0 + (j 2).val * 1; omega), dq_elem h0 h1 h2 h3]
  · rw [pad_apply_of_not_inside _ _ _ _ _ _ _ j 2 (fun hc => h (by
      have : ((j 2).val - 0) / 1 < 192 := hc.2.2
      omega)), val_main_call2_v0_apply, val_main_c_apply, dq, Finset.sum_eq_zero fun b _ => ?_]
    · show (((0#32 : BitVec 32).toInt : ℝ) : EReal) = _
      simp
    · rw [head_of_ge _ _ _ (by omega), mul_zero]

include h0 h1 h2 h3 in
theorem dk_out (i : S8192x1024.Idx) :
    val_main_v74 (F := Ideal) x0 x1 x2 x3 i
      = (dk (head x0 ((i 1).val / 256)) (head x1 ((i 1).val / 256)) (head x2 ((i 1).val / 256)) (head x3 ((i 1).val / 256))
          (i 0).val ((i 1).val % 256) : EReal) := by
  have hi1 : (i 1).val < 1024 := (i 1).isLt
  have e0 : (idx_main_v74 i 0).val = (i 0).val := by show ((i 0).val * 1024 + (i 1).val) / 1024 = _; omega
  have e1 : (idx_main_v74 i 1).val = (i 1).val / 256 := by show ((i 0).val * 1024 + (i 1).val) / 256 % 4 = _; omega
  have e2 : (idx_main_v74 i 2).val = (i 1).val % 256 := by show ((i 0).val * 1024 + (i 1).val) % 256 = _; omega
  rw [val_main_v74_apply, ← e0, ← e1, ← e2]
  generalize idx_main_v74 i = j
  unfold val_main_v73
  by_cases h : (j 2).val < 192
  · rw [pad_apply_of_inside _ _ _ _ _ _ _ j (show S8192x4x192.Idx from fun a => match a with
      | ⟨0, _⟩ => ⟨(j 0).val, (j 0).isLt⟩ | ⟨1, _⟩ => ⟨(j 1).val, (j 1).isLt⟩ | ⟨2, _⟩ => ⟨(j 2).val, h⟩)
      (fun a => by match a with
        | ⟨0, _⟩ => show (j 0).val = 0 + (j 0).val * 1; omega
        | ⟨1, _⟩ => show (j 1).val = 0 + (j 1).val * 1; omega
        | ⟨2, _⟩ => show (j 2).val = 0 + (j 2).val * 1; omega), dk_elem h0 h1 h2 h3]
  · rw [pad_apply_of_not_inside _ _ _ _ _ _ _ j 2 (fun hc => h (by
      have : ((j 2).val - 0) / 1 < 192 := hc.2.2
      omega)), val_main_call3_v0_apply, val_main_c_14_apply, dk, Finset.sum_eq_zero fun b _ => ?_]
    · show (((0#32 : BitVec 32).toInt : ℝ) : EReal) = _
      simp
    · rw [head_of_ge _ _ _ (by omega), mul_zero]

include h0 h1 h3 in
theorem dv_out (i : S8192x512.Idx) :
    val_main_v75 (F := Ideal) x0 x1 x3 i
      = (dv (head x0 ((i 1).val / 128)) (head x1 ((i 1).val / 128)) (head x3 ((i 1).val / 128)) (i 0).val ((i 1).val % 128) : EReal) := by
  have hi1 : (i 1).val < 512 := (i 1).isLt
  have e0 : (idx_main_v75 i 0).val = (i 0).val := by show ((i 0).val * 512 + (i 1).val) / 512 = _; omega
  have e1 : (idx_main_v75 i 1).val = (i 1).val / 128 := by show ((i 0).val * 512 + (i 1).val) / 128 % 4 = _; omega
  have e2 : (idx_main_v75 i 2).val = (i 1).val % 128 := by show ((i 0).val * 512 + (i 1).val) % 128 = _; omega
  rw [val_main_v75_apply, dv_elem h0 h1 h3, e0, e1, e2]

end Gradients

end Cert.ReferenceIdeal.Elements
-- ==== Proof.Value.HostTerms.lean ====
/-
  What the kernel's host code hands to the kernel, as functions of the program's arguments: the padded and
  reshaped operands, each row's log-sum, and each row's `delta`.
-/
module

public import proofs.«01_k».proof.Proof.Gen.KernelIdeal.Frame
public import proofs.«01_k».proof.Proof.Value.Reference
public import Idealize.ShloMosaic.Lib.Claim

@[expose] public section

set_option maxRecDepth 65536

noncomputable section

namespace Cert.KernelIdeal.Host

open Cert.KernelIdeal Cert.KernelIdeal.Gen
open Idealize.ShloMosaic Idealize.ShloMosaic.TcCoe Idealize.ShloMosaic.StableHlo Idealize.SL.Sem
open Cert.ReferenceIdeal.Read (val_main_v12_0 val_main_v13)

section Terms

variable (x0 x1 : (⟨S8192x4x192, .f32⟩ : BufTy).Contents (Elt Ideal)) (x2 x3 : (⟨S8192x4x128, .f32⟩ : BufTy).Contents (Elt Ideal))

/-- `q` or `k` padded to 256 columns a head, -/
def padded : FVec Ideal S8192x4x256 .f32 :=
  pad S8192x4x256 ![0, 0, 0] ![0, 0, 64] ![0, 0, 0] x0 (sitofp .f32 (constantI S_ 32 0#32) : FVec Ideal S_ .f32)
    pads_S8192x4x192_S8192x4x256_000_000_0640 h_S_
/-- one row per position, -/
def wide : FVec Ideal S8192x1024 .bf16 :=
  truncf .bf16 (shapeCast S8192x1024 (padded x0) shapeCasts_S8192x4x256_S8192x1024) bitsLt_bf16_f32
/-- `v` or `d_o` likewise. -/
def flat : FVec Ideal S8192x512 .bf16 := truncf .bf16 (shapeCast S8192x512 x2 shapeCasts_S8192x4x128_S8192x512) bitsLt_bf16_f32

/-- Each row's greatest score, -/
def top1 : FVec Ideal S4x8192x1 .f32 := broadcastInDim S4x8192x1 ![0, 1] bcast_S4x8192_S4x8192x1_0_1 (val_main_v13 (F := Ideal) x0 x1)
/-- the exponentials, -/
def ex : FVec Ideal S4x8192x8192 .f32 :=
  Host.exp (subf (val_main_v12_0 (F := Ideal) x0 x1) (broadcastInDim S4x8192x8192 ![0, 1, 2] bcast_S4x8192x1_S4x8192x8192_0_1_2 (top1 x0 x1)))
/-- each row's sum, -/
def sum1 : FVec Ideal S4x8192x1 .f32 :=
  broadcastInDim S4x8192x1 ![0, 1] bcast_S4x8192_S4x8192x1_0_1
    (Host.reduceAdd (ex x0 x1) (constant (F := Ideal) S_ .f32 0x00000000#32) reducesTo_S4x8192x8192_S4x8192_d2 h_S_)
/-- its log-sum to base two, -/
def lse2Of (t s : FVec Ideal S4x8192x1 .f32) : FVec Ideal S4x8192 .f32 :=
  Host.divf (shapeCast S4x8192 (addf t (Host.log s)) shapeCasts_S4x8192x1_S4x8192)
    (broadcastInDim S4x8192 ![] bcast_S_S4x8192 (Host.log (constant (F := Ideal) S_ .f32 0x40000000#32)))
def lse2 : FVec Ideal S4x8192 .f32 := lse2Of (top1 x0 x1) (sum1 x0 x1)
/-- the forward pass's output, -/
def out : FVec Ideal S8192x4x128 .f32 :=
  transpose S8192x4x128 [2, 0, 1] (Host.dotGeneral (φ₁ := .f32) (φ₂ := .f32) dot_S8192x4x128_S4x8192x8192_S4x128x8192_0_2_2_1_1_0 none x2
    (Host.divf (ex x0 x1) (broadcastInDim S4x8192x8192 ![0, 1, 2] bcast_S4x8192x1_S4x8192x8192_0_1_2 (sum1 x0 x1)) : FVec Ideal S4x8192x8192 .f32))
    transposes_S4x128x8192_S8192x4x128_2_0_1
/-- and `delta`. -/
def dltOf (a b : FVec Ideal S8192x4x128 .f32) : FVec Ideal S4x8192 .f32 :=
  transpose S4x8192 [1, 0] (Host.reduceAdd (mulf a b) (constant (F := Ideal) S_ .f32 0x00000000#32)
    reducesTo_S8192x4x128_S8192x4_d2 h_S_) transposes_S8192x4_S4x8192_1_0
def dlt : FVec Ideal S4x8192 .f32 := dltOf x3 (out x0 x1 x2)
/-- A per-row statistic over eight lines a head. -/
def eight (y : FVec Ideal S4x8192 .f32) : FVec Ideal S32x8192 .f32 :=
  shapeCast S32x8192 (broadcastInDim S4x8x8192 ![0, 1, 2] bcast_S4x1x8192_S4x8x8192_0_1_2
    (broadcastInDim S4x1x8192 ![0, 2] bcast_S4x8192_S4x1x8192_0_2 y)) shapeCasts_S4x8x8192_S32x8192

end Terms

variable (m : (ℓ : Loc nD τ sig) → Buf (Elt Ideal) ℓ) (c : Dev nD)

/-- The program's arguments on a device. -/
abbrev q₀ : (⟨S8192x4x192, .f32⟩ : BufTy).Contents (Elt Ideal) := m ((c.tc : Thread nD τ).loc main_arg0)
abbrev k₀ : (⟨S8192x4x192, .f32⟩ : BufTy).Contents (Elt Ideal) := m ((c.tc : Thread nD τ).loc main_arg1)
abbrev v₀ : (⟨S8192x4x128, .f32⟩ : BufTy).Contents (Elt Ideal) := m ((c.tc : Thread nD τ).loc main_arg2)
abbrev o₀ : (⟨S8192x4x128, .f32⟩ : BufTy).Contents (Elt Ideal) := m ((c.tc : Thread nD τ).loc main_arg3)

theorem V_q : V m c main_v2 = wide (q₀ m c) := by
  unfold V
  simp only [hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp <;> rfl
theorem V_k : V m c main_v5 = wide (k₀ m c) := by
  unfold V
  simp only [hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp <;> rfl
theorem V_v : V m c main_v7 = flat (v₀ m c) := by
  unfold V
  simp only [hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp <;> rfl
theorem V_o : V m c main_v42 = flat (o₀ m c) := by
  unfold V
  simp only [hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp <;> rfl
theorem V_lse : V m c main_v45 = eight (lse2 (q₀ m c) (k₀ m c)) := by
  unfold V
  simp only [hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp <;> rfl
theorem V_delta : V m c main_v48 = eight (dlt (q₀ m c) (k₀ m c) (v₀ m c) (o₀ m c)) := by
  unfold V
  simp only [hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp <;> rfl

end Cert.KernelIdeal.Host
-- ==== Proof.Value.Host.lean ====
/-
  The kernel's operands, element by element. The host's softmax lines are the reference's own, so its
  elements are read there.
-/
module

public import proofs.«01_k».proof.Proof.Value.HostTerms

@[expose] public section

noncomputable section

namespace Cert.KernelIdeal.Host

open Cert.KernelIdeal Cert.KernelIdeal.Gen Cert.Spec Finset
open Idealize.ShloMosaic Idealize.ShloMosaic.TcCoe
open Cert.ReferenceIdeal.Read
open Cert.ReferenceIdeal.Elements (top top_eq expSum prob)

section

variable {x0 x1 : (⟨S8192x4x192, .f32⟩ : BufTy).Contents (Elt Ideal)} (h0 : IsReal x0) (h1 : IsReal x1)
  {x2 x3 : (⟨S8192x4x128, .f32⟩ : BufTy).Contents (Elt Ideal)} (h2 : IsReal x2) (h3 : IsReal x3)

include h0 in
/-- The padded operands: past column 192 they are zero, as the table of numbers is. -/
theorem wide_apply (i : S8192x1024.Idx) :
    wide x0 i = (head x0 ((i 1).val / 256) (i 0).val ((i 1).val % 256) : EReal) := by
  have hi1 : (i 1).val < 1024 := (i 1).isLt
  have e0 : (idx_main_v70 i 0).val = (i 0).val := by show ((i 0).val * 1024 + (i 1).val) / 1024 = _; omega
  have e1 : (idx_main_v70 i 1).val = (i 1).val / 256 := by show ((i 0).val * 1024 + (i 1).val) / 256 % 4 = _; omega
  have e2 : (idx_main_v70 i 2).val = (i 1).val % 256 := by show ((i 0).val * 1024 + (i 1).val) % 256 = _; omega
  have e : wide x0 i = padded x0 (idx_main_v70 i) :=
    shapeCast_apply (padded x0) shapeCasts_S8192x4x256_S8192x1024 i (idx_main_v70 i) (by
      rewrite [Shape.rowMajor_val_two, Shape.rowMajor_val_three]
      show ((idx_main_v70 i 0).val * 4 + (idx_main_v70 i 1).val) * 256 + (idx_main_v70 i 2).val = (i 0).val * 1024 + (i 1).val
      rw [e0, e1, e2]; omega)
  rw [e, ← e0, ← e1, ← e2]
  generalize idx_main_v70 i = j
  unfold padded
  by_cases h : (j 2).val < 192
  · rw [pad_apply_of_inside _ _ _ _ _ _ _ j (show S8192x4x192.Idx from fun a => match a with
      | ⟨0, _⟩ => ⟨(j 0).val, (j 0).isLt⟩ | ⟨1, _⟩ => ⟨(j 1).val, (j 1).isLt⟩ | ⟨2, _⟩ => ⟨(j 2).val, h⟩)
      (fun a => by match a with
        | ⟨0, _⟩ => show (j 0).val = 0 + (j 0).val * 1; omega
        | ⟨1, _⟩ => show (j 1).val = 0 + (j 1).val * 1; omega
        | ⟨2, _⟩ => show (j 2).val = 0 + (j 2).val * 1; omega), head_eq h0]
  · rw [pad_apply_of_not_inside _ _ _ _ _ _ _ j 2 (fun hc => h (by
      have : ((j 2).val - 0) / 1 < 192 := hc.2.2
      omega)), head_of_ge _ _ _ (by omega)]
    show (((0#32 : BitVec 32).toInt : ℝ) : EReal) = _
    simp

include h2 in
theorem flat_apply (i : S8192x512.Idx) :
    flat x2 i = (head x2 ((i 1).val / 128) (i 0).val ((i 1).val % 128) : EReal) := by
  have hi1 : (i 1).val < 512 := (i 1).isLt
  have e0 : (idx_main_v75 i 0).val = (i 0).val := by show ((i 0).val * 512 + (i 1).val) / 512 = _; omega
  have e1 : (idx_main_v75 i 1).val = (i 1).val / 128 := by show ((i 0).val * 512 + (i 1).val) / 128 % 4 = _; omega
  have e2 : (idx_main_v75 i 2).val = (i 1).val % 128 := by show ((i 0).val * 512 + (i 1).val) % 128 = _; omega
  have e : flat x2 i = x2 (idx_main_v75 i) :=
    shapeCast_apply _ shapeCasts_S8192x4x128_S8192x512 i (idx_main_v75 i) (by
      rewrite [Shape.rowMajor_val_two, Shape.rowMajor_val_three]
      show ((idx_main_v75 i 0).val * 4 + (idx_main_v75 i 1).val) * 128 + (idx_main_v75 i 2).val = (i 0).val * 512 + (i 1).val
      rw [e0, e1, e2]; omega)
  rw [e, head_eq h2, e0, e1, e2]

/-! ## The softmax lines are the reference's -/

theorem v20_eq : val_main_v20 (F := Ideal) x0 x1 = val_main_v13 (F := Ideal) x0 x1 := funext fun i => by
  rw [val_main_v20_apply, val_main_v19_apply, val_main_cst_3_apply, Ideal.ofBits_def, ofBits_bot, Ideal.maximumf_def, max_eq_right bot_le]
theorem ex_eq : ex x0 x1 = val_main_v33 (F := Ideal) x0 x1 := by
  unfold ex top1; rw [← v20_eq]; rfl
theorem sum1_eq : sum1 x0 x1 = val_main_v35 (F := Ideal) x0 x1 := by
  unfold sum1; rw [ex_eq]; rfl
theorem out_eq : out x0 x1 x2 = val_main_v42 (F := Ideal) x0 x1 x2 := by
  unfold out; rw [ex_eq, sum1_eq]; rfl

theorem log_2_ne : Real.log 2 ≠ 0 := (Real.log_pos (by norm_num)).ne'

/-- A row's place among the rows' statistics. -/
def col (i : S4x8192.Idx) : S4x8192x1.Idx := fun a => match a with
  | ⟨0, _⟩ => ⟨(i 0).val, (i 0).isLt⟩ | ⟨1, _⟩ => ⟨(i 1).val, (i 1).isLt⟩ | ⟨2, _⟩ => ⟨0, Nat.one_pos⟩
theorem idx_col (i : S4x8192.Idx) : idx_main_v30 (col i) = i := funext fun a => by fin_cases a <;> rfl

theorem log_word : broadcastInDim S4x8192 ![] bcast_S_S4x8192 (Host.log (constant (F := Ideal) S_ .f32 0x40000000#32))
    = fun _ => ((Real.log 2 : ℝ) : EReal) := funext fun i => by
  refine (broadcastInDim_apply _ bcast_S_S4x8192 _ i (fun a => a.elim0) (fun a => a.elim0)).trans ?_
  show Ideal.log (Ideal.ofBits .f32 0x40000000#32) = _
  rw [ofBits_2, Ideal.log_coe, if_neg (by norm_num)]

theorem lse2Of_apply (t s : FVec Ideal S4x8192x1 .f32) (i : S4x8192.Idx) :
    lse2Of t s i = Ideal.div (t (col i) + Ideal.log (s (col i))) ((Real.log 2 : ℝ) : EReal) := by
  unfold lse2Of
  rw [log_word]
  refine congrArg (Ideal.div · ((Real.log 2 : ℝ) : EReal)) ?_
  exact shapeCast_apply (addf t (Host.log s)) shapeCasts_S4x8192x1_S4x8192 i (col i) (by
    rewrite [Shape.rowMajor_val_two, Shape.rowMajor_val_three]
    show ((i 0).val * 8192 + (i 1).val) * 1 + 0 = (i 0).val * 8192 + (i 1).val
    omega)

theorem top1_eq : top1 x0 x1 = val_main_v30 (F := Ideal) x0 x1 := by
  unfold top1 val_main_v30; rw [v20_eq]

include h0 h1 in
/-- The rows' log-sums, -/
theorem lse2_apply (i : S4x8192.Idx) :
    lse2 x0 x1 i = (Real.log (den (head x0 (i 0).val) (head x1 (i 0).val) (i 1).val) / Real.log 2 : ℝ) := by
  have hd := den_pos (head x0 (i 0).val) (head x1 (i 0).val) (i 1).val
  rw [lse2, lse2Of_apply, top1_eq, sum1_eq, val_main_v30_apply, val_main_v35_apply, idx_col, show idx_main_v35 (col i) = i from idx_col i,
    v20_eq, top_eq h0 h1, expSum h0 h1, Ideal.log_coe,
    if_neg (not_le.mpr (mul_pos hd (Real.exp_pos _))), ← EReal.coe_add, div_real _ log_2_ne,
    Real.log_mul hd.ne' (Real.exp_pos _).ne', Real.log_exp]
  refine congrArg (fun r : ℝ => ((r / Real.log 2 : ℝ) : EReal)) ?_
  ring

include h0 h1 h2 in
/-- the forward pass's output, -/
theorem out_apply (i : S8192x4x128.Idx) :
    out x0 x1 x2 i = ((∑ b ∈ range 8192, head x2 (i 1).val b (i 2).val * p (head x0 (i 1).val) (head x1 (i 1).val) (i 0).val b : ℝ) : EReal) := by
  rw [out_eq, val_main_v42_apply, val_main_v41_apply,
    sum_fin _ (fun b => head x2 (i 1).val b (i 2).val * p (head x0 (i 1).val) (head x1 (i 1).val) (i 0).val b) fun k => ?_]
  rw [prob h0 h1, head_eq h2, ← EReal.coe_mul]

/-- Row `i`'s element of `v` or `d_o`. -/
def lane (i : S4x8192.Idx) (k : Fin 128) : S8192x4x128.Idx := fun a => match a with
  | ⟨0, _⟩ => ⟨(i 1).val, (i 1).isLt⟩ | ⟨1, _⟩ => ⟨(i 0).val, (i 0).isLt⟩ | ⟨2, _⟩ => ⟨k.val, k.isLt⟩

theorem dltOf_apply (a b : FVec Ideal S8192x4x128 .f32) (i : S4x8192.Idx) :
    dltOf a b i = Ideal.ofBits .f32 0x00000000#32 + ∑ k : Fin 128, mulf a b (lane i k) := by
  let j : S8192x4.Idx := fun a => match a with | ⟨0, _⟩ => ⟨(i 1).val, (i 1).isLt⟩ | ⟨1, _⟩ => ⟨(i 0).val, (i 0).isLt⟩
  unfold dltOf
  rw [transpose_apply [1, 0] _ transposes_S8192x4_S4x8192_1_0 i j (fun b => match b with | ⟨0, _⟩ => rfl | ⟨1, _⟩ => rfl)]
  simp only [Host.reduceAdd, Ideal.hostReduceAdd_def]
  rw [Ideal.hostReduceAdd_single reducesTo_S8192x4x128_S8192x4_d2 (by decide)]
  refine congrArg (_ + ·) (Finset.sum_congr rfl fun k _ => ?_)
  exact congrArg (mulf a b) (funext fun a => Fin.ext (by match a with | ⟨0, _⟩ => rfl | ⟨1, _⟩ => rfl | ⟨2, _⟩ => rfl))

theorem mulf_at (a b : FVec Ideal S8192x4x128 .f32) (i : S8192x4x128.Idx) : mulf a b i = (a i * b i : EReal) := rfl

include h0 h1 h2 h3 in
/-- and the rows' `delta`. -/
theorem dlt_apply (i : S4x8192.Idx) :
    dlt x0 x1 x2 x3 i
      = (delta (head x0 (i 0).val) (head x1 (i 0).val) (head x2 (i 0).val) (head x3 (i 0).val) (i 1).val : EReal) := by
  rw [dlt, dltOf_apply, ofBits_0, sum_fin _ (fun d => head x3 (i 0).val (i 1).val d * ∑ b ∈ range 8192, head x2 (i 0).val b d
    * p (head x0 (i 0).val) (head x1 (i 0).val) (i 1).val b) fun k => ?_, ← EReal.coe_add, zero_add, delta_eq]
  rw [mulf_at, out_apply h0 h1 h2, head_eq h3, ← EReal.coe_mul]
  rfl

/-- A statistic over eight lines a head. -/
theorem eight_apply (y : FVec Ideal S4x8192 .f32) (f : ℕ → ℕ → ℝ) (hy : ∀ i, y i = (f (i 0).val (i 1).val : EReal)) (i : S32x8192.Idx) :
    eight y i = (f ((i 0).val / 8) (i 1).val : EReal) := by
  have hi0 : (i 0).val < 32 := (i 0).isLt
  let j : S4x8x8192.Idx := fun a => match a with
    | ⟨0, _⟩ => ⟨(i 0).val / 8, by show _ < 4; omega⟩ | ⟨1, _⟩ => ⟨(i 0).val % 8, by show _ < 8; omega⟩ | ⟨2, _⟩ => ⟨(i 1).val, (i 1).isLt⟩
  let j' : S4x1x8192.Idx := fun a => match a with
    | ⟨0, _⟩ => ⟨(i 0).val / 8, by show _ < 4; omega⟩ | ⟨1, _⟩ => ⟨0, Nat.one_pos⟩ | ⟨2, _⟩ => ⟨(i 1).val, (i 1).isLt⟩
  let j'' : S4x8192.Idx := fun a => match a with
    | ⟨0, _⟩ => ⟨(i 0).val / 8, by show _ < 4; omega⟩ | ⟨1, _⟩ => ⟨(i 1).val, (i 1).isLt⟩
  unfold eight
  rw [shapeCast_apply _ shapeCasts_S4x8x8192_S32x8192 i j (by
      rewrite [Shape.rowMajor_val_two, Shape.rowMajor_val_three]
      show ((i 0).val / 8 * 8 + (i 0).val % 8) * 8192 + (i 1).val = (i 0).val * 8192 + (i 1).val
      omega),
    broadcastInDim_apply _ bcast_S4x1x8192_S4x8x8192_0_1_2 _ j j' (fun a => match a with
      | ⟨0, _⟩ => (if_neg (by first | exact (by decide : ¬ (4 : ℕ) = 1) | exact (by decide : ¬ (8192 : ℕ) = 1))).symm | ⟨1, _⟩ => (if_pos rfl).symm | ⟨2, _⟩ => (if_neg (by first | exact (by decide : ¬ (4 : ℕ) = 1) | exact (by decide : ¬ (8192 : ℕ) = 1))).symm),
    broadcastInDim_apply _ bcast_S4x8192_S4x1x8192_0_2 _ j' j'' (fun a => match a with
      | ⟨0, _⟩ => (if_neg (by first | exact (by decide : ¬ (4 : ℕ) = 1) | exact (by decide : ¬ (8192 : ℕ) = 1))).symm | ⟨1, _⟩ => (if_neg (by first | exact (by decide : ¬ (4 : ℕ) = 1) | exact (by decide : ¬ (8192 : ℕ) = 1))).symm), hy]

end

end Cert.KernelIdeal.Host
-- ==== Proof.Value.Tiles.lean ====
/-
  What one grid point of the kernel computes, in real numbers: from blocks that hold real matrices, every product
  and every elementwise step gives a real matrix again, and these are blocks of the head's gradients.
-/
module

public import proofs.«01_k».proof.Proof.Value.Spec
public import proofs.«01_k».proof.Proof.Value.Arrays
public import proofs.«01_k».proof.Proof.Run.Model
public import Idealize.ShloMosaic.Lib.MatmulPlain

@[expose] public section

set_option maxRecDepth 16384

noncomputable section

namespace Cert.KernelIdeal.Run

open Cert.KernelIdeal Cert.KernelIdeal.Gen Cert.Spec
open Idealize.ShloMosaic Idealize.ShloMosaic.Tactic
open Finset

/-- The array holds the real matrix `f`. -/
def Reads {m n : ℕ} (X : (⟨2, ![m, n]⟩ : Shape).Idx → EReal) (f : ℕ → ℕ → ℝ) : Prop :=
  ∀ i, X i = (f (i 0).val (i 1).val : EReal)

theorem Reads.congr {m n : ℕ} {X : (⟨2, ![m, n]⟩ : Shape).Idx → EReal} {f g : ℕ → ℕ → ℝ} (h : Reads X f)
    (e : ∀ a d, a < m → d < n → f a d = g a d) : Reads X g := fun i => by
  rw [h i, e _ _ (i 0).isLt (i 1).isLt]

theorem Reads.at {m n : ℕ} {X : (⟨2, ![m, n]⟩ : Shape).Idx → EReal} {f : ℕ → ℕ → ℝ} (h : Reads X f)
    (i : (⟨2, ![m, n]⟩ : Shape).Idx) {a d : ℕ} (ha : (i 0).val = a) (hd : (i 1).val = d) : X i = (f a d : EReal) := by
  rw [h i, ha, hd]

/-! ## Products -/

section Products

variable {M K N : ℕ} {φ₁ φ₂ : FTy} {f g e : ℕ → ℕ → ℝ}

/-- Columns against rows, -/
theorem reads_plain (D : DotDims ⟨2, ![M, K]⟩ ⟨2, ![K, N]⟩ ⟨2, ![M, N]⟩) (hD : D = DotDims.plain M K N)
    {X : FVec Ideal ⟨2, ![M, K]⟩ φ₁} {Y : FVec Ideal ⟨2, ![K, N]⟩ φ₂} {A : FVec Ideal ⟨2, ![M, N]⟩ .f32}
    (hX : Reads X f) (hY : Reads Y g) (hA : Reads A e) :
    Reads (FloatOps.matmul D none X Y A) (fun r c => e r c + ∑ k ∈ range K, f r k * g k c) := fun i => by
  subst hD
  obtain ⟨r, c, rfl⟩ : ∃ r c, i = ValueIdx.ix2 r c := ⟨i 0, i 1, by funext a; fin_cases a <;> rfl⟩
  rw [Ideal.matmul_plain_apply, hA, sum_fin _ (fun k => f r.val k * g k c.val) fun k => ?_, ← EReal.coe_add]
  · rfl
  · rw [hX, hY, ← EReal.coe_mul]; rfl

/-- rows against rows, -/
theorem reads_rows (D : DotDims ⟨2, ![M, K]⟩ ⟨2, ![N, K]⟩ ⟨2, ![M, N]⟩) (hD : D = DotDims.transposedRhs M K N)
    {X : FVec Ideal ⟨2, ![M, K]⟩ φ₁} {Y : FVec Ideal ⟨2, ![N, K]⟩ φ₂} {A : FVec Ideal ⟨2, ![M, N]⟩ .f32}
    (hX : Reads X f) (hY : Reads Y g) (hA : Reads A e) :
    Reads (FloatOps.matmul D none X Y A) (fun r c => e r c + ∑ k ∈ range K, f r k * g c k) := fun i => by
  subst hD
  obtain ⟨r, c, rfl⟩ : ∃ r c, i = ValueIdx.ix2 r c := ⟨i 0, i 1, by funext a; fin_cases a <;> rfl⟩
  rw [Ideal.matmul_transposedRhs_apply, hA, sum_fin _ (fun k => f r.val k * g c.val k) fun k => ?_, ← EReal.coe_add]
  · rfl
  · rw [hX, hY, ← EReal.coe_mul]; rfl

/-- and columns against columns. -/
theorem reads_cols {X : FVec Ideal S512x512 φ₁} {Y : FVec Ideal S512x256 φ₂} {A : FVec Ideal S512x256 .f32}
    (hX : Reads X f) (hY : Reads Y g) (hA : Reads A e) :
    Reads (FloatOps.matmul dot_S512x512_S512x256_S512x256_0_0_1_1_n_n none X Y A) (fun r c => e r c + ∑ k ∈ range 512, f k r * g k c) := fun i => by
  rw [Ideal.matmul_apply, ← Equiv.sum_comp (ValueIdx.contrEquiv1 dot_S512x512_S512x256_S512x256_0_0_1_1_n_n 512 rfl rfl).symm, hA,
    sum_fin _ (fun k => f k (i 0).val * g k (i 1).val) fun k => ?_, ← EReal.coe_add]
  have hk := ValueIdx.contrEquiv1_symm_val dot_S512x512_S512x256_S512x256_0_0_1_1_n_n 512 rfl rfl k
  rw [hX.at _ (((dot_S512x512_S512x256_S512x256_0_0_1_1_n_n).lhsIdx_val_of_single rfl i _).trans hk)
      (d := (i 0).val) (by unfold DotDims.lhsIdx; rfl),
    hY.at _ (((dot_S512x512_S512x256_S512x256_0_0_1_1_n_n).rhsIdx_val_of_single rfl i _).trans hk)
      (d := (i 1).val) (by unfold DotDims.rhsIdx; rfl), ← EReal.coe_mul]

end Products

/-! ## Parts of arrays -/

section Parts

variable {f g : ℕ → ℕ → ℝ} {u : ℕ}

theorem reads_rows256 {X : S8192x256.Idx → EReal} (h : Reads X f) (hu : u ≤ 15) :
    Reads (rows256 (F := Ideal) (e := .f32) X u) (fun r d => f (512 * u + r) d) := fun i => by
  refine h.at _ ?_ ?_
  · show 512 * min u 15 + 1 * (i 0).val = 512 * u + (i 0).val; omega
  · show 0 + 1 * (i 1).val = (i 1).val; omega
theorem reads_rows128 {X : S8192x128.Idx → EReal} (h : Reads X f) (hu : u ≤ 15) :
    Reads (rows128 (F := Ideal) (e := .f32) X u) (fun r d => f (512 * u + r) d) := fun i => by
  refine h.at _ ?_ ?_
  · show 512 * min u 15 + 1 * (i 0).val = 512 * u + (i 0).val; omega
  · show 0 + 1 * (i 1).val = (i 1).val; omega
theorem reads_stats {X : S8x8192.Idx → EReal} (h : Reads X f) (hu : u ≤ 15) :
    Reads (stats (F := Ideal) (e := .f32) X u) (fun r c => f r (512 * u + c)) := fun i => by
  refine h.at _ ?_ ?_
  · show 0 + 1 * (i 0).val = (i 0).val; omega
  · show 512 * min u 15 + 1 * (i 1).val = 512 * u + (i 1).val; omega
theorem reads_upd {X : S8192x256.Idx → EReal} {w : S512x256.Idx → EReal} (h : Reads X f) (hw : Reads w g) (hu : u ≤ 15) :
    Reads (upd (F := Ideal) (e := .f32) X u w) (fun a d => if a / 512 = u then g (a - 512 * u) d else f a d) := fun i => by
  unfold upd
  have h1 := (i 1).isLt
  change (i 1).val < 256 at h1
  beta_reduce
  by_cases hi : (i 0).val / 512 = u
  · rw [if_pos hi]
    refine (dif_pos (Fin.forall_fin_two.mpr ⟨?_, ?_⟩)).trans (hw.at _ ?_ ?_)
    · show 512 * min u 15 ≤ (i 0).val ∧ (i 0).val < 512 * min u 15 + 512; omega
    · show 0 ≤ (i 1).val ∧ (i 1).val < 0 + 256; omega
    · show (i 0).val - 512 * min u 15 = (i 0).val - 512 * u; omega
    · show (i 1).val - 0 = (i 1).val; omega
  · rw [if_neg hi]
    refine (dif_neg fun hh => ?_).trans (h i)
    have h0 : 512 * min u 15 ≤ (i 0).val ∧ (i 0).val < 512 * min u 15 + 512 := hh 0
    omega

end Parts

/-! ## The kernel's steps -/

section Steps

variable {f g e : ℕ → ℕ → ℝ}

theorem named_scale (b : BitVec 32) : Named.named (F := Ideal) κ "scale_log2e" (φ := .f32) b
    = (((Real.sqrt 192 * Real.log 2)⁻¹ : ℝ) : EReal) := rfl
theorem named_mask (b : BitVec 32) : Named.named (F := Ideal) κ "mask" (φ := .f32) b = (⊥ : EReal) := rfl

theorem reads_zero {m n : ℕ} : Reads (constant (F := Ideal) ⟨2, ![m, n]⟩ .f32 0x00000000#32) (fun _ _ => 0) := fun _ => ofBits_0

/-- Scores, not yet scaled, -/
theorem pay6_reads {A : FVec Ideal S512x256 .bf16} {B : FVec Ideal S512x256 .bf16} (hA : Reads A f) (hB : Reads B g) :
    Reads (k0_pay6 (F := Ideal) A B) (fun r c => ∑ d ∈ range 256, f r d * g c d) := by
  unfold k0_pay6
  simp only [shapeCast_self]
  exact (reads_rows _ rfl hA hB reads_zero).congr fun a d _ _ => zero_add _
theorem pay7_reads {A : FVec Ideal S512x128 .bf16} {B : FVec Ideal S512x128 .bf16} (hA : Reads A f) (hB : Reads B g) :
    Reads (k0_pay7 (F := Ideal) A B) (fun r c => ∑ d ∈ range 128, f r d * g c d) := by
  unfold k0_pay7
  simp only [shapeCast_self]
  exact (reads_rows _ rfl hA hB reads_zero).congr fun a d _ _ => zero_add _

/-- a row's statistic against every key, -/
theorem over_keys {l : FVec Ideal S1x512 .f32} (hl : Reads l g) (i : S512x512.Idx) :
    broadcastTo S512x512 l broadcasts_S1x512_S512x512 i = (g 0 (i 1).val : EReal) :=
  (broadcastTo_apply l broadcasts_S1x512_S512x512 i (ValueIdx.ix2 (0 : Fin 1) (i 1)) fun a => by
    match a with
    | ⟨0, _⟩ => rfl
    | ⟨1, _⟩ => rfl).trans (hl.at _ rfl rfl)

/-- weights of earlier keys, -/
theorem pay17_reads {s : FVec Ideal S512x512 .f32} {l : FVec Ideal S1x512 .f32} (hs : Reads s f) (hl : Reads l g) :
    Reads (k0_pay17 (F := Ideal) s l) (fun r c => Real.rpow 2 (f r c * (Real.sqrt 192 * Real.log 2)⁻¹ - g 0 c)) := fun i => by
  unfold k0_pay17
  simp only [shapeCast_self]
  show Ideal.exp2 (s i * Named.named (F := Ideal) κ "scale_log2e" (φ := .f32) _ - broadcastTo S512x512 l broadcasts_S1x512_S512x512 i) = _
  rw [named_scale, over_keys hl, hs i, ← EReal.coe_mul, ← EReal.coe_sub, Ideal.exp2_coe]

/-- weights on the diagonal, -/
theorem pay47_reads {s : FVec Ideal S512x512 .f32} {l : FVec Ideal S1x512 .f32} (hs : Reads s f) (hl : Reads l g) :
    Reads (k0_pay47 (F := Ideal) s l)
      (fun r c => if r ≤ c then Real.rpow 2 (f r c * (Real.sqrt 192 * Real.log 2)⁻¹ - g 0 c) else 0) := fun i => by
  have h0 := (i 0).isLt
  have h1 := (i 1).isLt
  change (i 0).val < 512 at h0
  change (i 1).val < 512 at h1
  have hc : 0 < (Real.sqrt 192 * Real.log 2)⁻¹ := inv_pos.mpr (mul_pos (Real.sqrt_pos.mpr (by norm_num)) (Real.log_pos (by norm_num)))
  have em : cmpi .sle (iota .tc S512x512 32 [0] iota_S512x512_d0_w32) (iota .tc S512x512 32 [1] iota_S512x512_d1_w32) i
      = if (i 0).val ≤ (i 1).val then 1#1 else 0#1 := by
    refine Eq.trans ?_ (sle_small (a := (i 0).val) (b := (i 1).val) (by omega) (by omega))
    show IntOp.cmpi .sle (BitVec.ofNat 32 (0 * 512 + (i 0).val)) (BitVec.ofNat 32 (0 * 512 + (i 1).val)) = _
    rw [Nat.zero_mul, Nat.zero_add, Nat.zero_add]
  unfold k0_pay47
  simp only [shapeCast_self]
  show Ideal.exp2 (Scalar.select (cmpi .sle (iota .tc S512x512 32 [0] iota_S512x512_d0_w32) (iota .tc S512x512 32 [1] iota_S512x512_d1_w32) i)
      (s i) (Named.named (F := Ideal) κ "mask" (φ := .f32) _) * Named.named (F := Ideal) κ "scale_log2e" (φ := .f32) _
      - broadcastTo S512x512 l broadcasts_S1x512_S512x512 i) = _
  rw [em, select_if, named_scale, named_mask, over_keys hl, hs i]
  beta_reduce
  by_cases h : (i 0).val ≤ (i 1).val
  · rw [if_pos h, if_pos h, ← EReal.coe_mul, ← EReal.coe_sub, Ideal.exp2_coe]
  · rw [if_neg h, if_neg h, EReal.bot_mul_coe_of_pos hc, EReal.bot_sub, Ideal.exp2_bot]
    rfl

/-- the gradient of the scores, -/
theorem pay18_reads {s d : FVec Ideal S512x512 .f32} {l n : FVec Ideal S1x512 .f32} (hs : Reads (k0_pay17 (F := Ideal) s l) f) (hd : Reads d e)
    (hn : Reads n g) : Reads (k0_pay18 (F := Ideal) s l d n) (fun r c => f r c * (e r c - g 0 c)) := fun i => by
  unfold k0_pay18
  simp only [shapeCast_self]
  show k0_pay17 (F := Ideal) s l i * (d i - broadcastTo S512x512 n broadcasts_S1x512_S512x512 i) = _
  rw [over_keys hn, hs i, hd i, ← EReal.coe_sub, ← EReal.coe_mul]
theorem pay48_reads {s d : FVec Ideal S512x512 .f32} {l n : FVec Ideal S1x512 .f32} (hs : Reads (k0_pay47 (F := Ideal) s l) f) (hd : Reads d e)
    (hn : Reads n g) : Reads (k0_pay48 (F := Ideal) s l d n) (fun r c => f r c * (e r c - g 0 c)) := fun i => by
  unfold k0_pay48
  simp only [shapeCast_self]
  show k0_pay47 (F := Ideal) s l i * (d i - broadcastTo S512x512 n broadcasts_S1x512_S512x512 i) = _
  rw [over_keys hn, hs i, hd i, ← EReal.coe_sub, ← EReal.coe_mul]

theorem reads_add {m n : ℕ} {A B : FVec Ideal ⟨2, ![m, n]⟩ .f32} (hA : Reads A f) (hB : Reads B g) :
    Reads (addf A B) (fun r c => f r c + g r c) := fun i => by
  show A i + B i = _
  rw [hA i, hB i, ← EReal.coe_add]

/-- and the accumulating products. -/
theorem pay19_reads {s : FVec Ideal S512x512 .f32} {l : FVec Ideal S1x512 .f32} {A : FVec Ideal S512x128 .f32} {B : FVec Ideal S512x128 .bf16}
    (hs : Reads (k0_pay17 (F := Ideal) s l) f) (hA : Reads A e) (hB : Reads B g) :
    Reads (k0_pay19 (F := Ideal) s l A B) (fun r d => e r d + ∑ c ∈ range 512, f r c * g c d) := by
  unfold k0_pay19
  simp only [shapeCast_self]
  exact reads_add hA ((reads_plain _ rfl (φ₁ := .bf16) hs hB reads_zero).congr fun a d _ _ => zero_add _)
theorem pay49_reads {P : FVec Ideal S512x512 .f32} {A : FVec Ideal S512x128 .f32} {B : FVec Ideal S512x128 .bf16}
    (hP : Reads P f) (hA : Reads A e) (hB : Reads B g) :
    Reads (k0_pay49 (F := Ideal) P A B) (fun r d => e r d + ∑ c ∈ range 512, f r c * g c d) := by
  unfold k0_pay49
  simp only [shapeCast_self]
  exact reads_add hA ((reads_plain _ rfl (φ₁ := .bf16) hP hB reads_zero).congr fun a d _ _ => zero_add _)
theorem pay1_reads {P : FVec Ideal S512x512 .bf16} {A : FVec Ideal S512x256 .f32} {B : FVec Ideal S512x256 .bf16}
    (hP : Reads P f) (hA : Reads A e) (hB : Reads B g) :
    Reads (k0_pay1 (F := Ideal) P A B) (fun r d => e r d + ∑ c ∈ range 512, f r c * g c d) := by
  unfold k0_pay1
  simp only [shapeCast_self]
  exact reads_add hA ((reads_plain _ rfl hP hB reads_zero).congr fun a d _ _ => zero_add _)
theorem pay50_reads {P : FVec Ideal S512x512 .bf16} {A : FVec Ideal S512x256 .f32} {B : FVec Ideal S512x256 .bf16}
    (hP : Reads P f) (hA : Reads A e) (hB : Reads B g) :
    Reads (k0_pay50 (F := Ideal) P A B) (fun r d => e r d + ∑ c ∈ range 512, f r c * g c d) := pay1_reads hP hA hB
theorem pay2_reads {P : FVec Ideal S512x512 .bf16} {A : FVec Ideal S512x256 .f32} {B : FVec Ideal S512x256 .bf16}
    (hB : Reads B g) (hP : Reads P f) (hA : Reads A e) :
    Reads (k0_pay2 (F := Ideal) B P A) (fun c d => e c d + ∑ r ∈ range 512, f r c * g r d) := by
  unfold k0_pay2
  simp only [shapeCast_self]
  exact reads_add hA ((reads_cols hP hB reads_zero).congr fun a d _ _ => zero_add _)
theorem pay51_reads {P : FVec Ideal S512x512 .bf16} {A : FVec Ideal S512x256 .f32} {B : FVec Ideal S512x256 .bf16}
    (hB : Reads B g) (hP : Reads P f) (hA : Reads A e) :
    Reads (k0_pay51 (F := Ideal) B P A) (fun c d => e c d + ∑ r ∈ range 512, f r c * g r d) := pay2_reads hB hP hA

end Steps

end Cert.KernelIdeal.Run

end
-- ==== Proof.Value.Point.lean ====
/-
  One grid point of the kernel, in real numbers: what it adds to the head's `dq`, and what it leaves in its blocks
  of `dk` and `dv`.
-/
module

public import proofs.«01_k».proof.Proof.Value.Tiles

@[expose] public section

set_option maxRecDepth 16384

noncomputable section

namespace Cert.KernelIdeal.Run

open Cert.KernelIdeal Cert.KernelIdeal.Gen Cert.Spec
open Idealize.ShloMosaic Idealize.ShloMosaic.Tactic
open Finset

/-- The kernel's weight, a power of two, is the probability. -/
theorem weight_eq (x : ℝ) {d : ℝ} (hd : 0 < d) :
    Real.rpow 2 (Real.sqrt 192 * x * (Real.sqrt 192 * Real.log 2)⁻¹ - Real.log d / Real.log 2) = Real.exp x / d := by
  have h2 : Real.log 2 ≠ 0 := (Real.log_pos (by norm_num)).ne'
  have e : Real.log 2 * (Real.sqrt 192 * x * (Real.sqrt 192 * Real.log 2)⁻¹ - Real.log d / Real.log 2) = x - Real.log d := by
    have := root_ne
    field_simp
  show (2 : ℝ) ^ (_ : ℝ) = _
  rw [Real.rpow_def_of_pos (by norm_num), e, Real.exp_sub, Real.exp_log hd]

section Point

variable {q k v o : ℕ → ℕ → ℝ} (hk0 : ∀ b d, 192 ≤ d → k b d = 0)
variable {kv : FVec Ideal S512x256 .bf16} {vv : FVec Ideal S512x128 .bf16} {Q : S8192x256.Idx → Elt Ideal .bf16}
  {O : S8192x128.Idx → Elt Ideal .bf16} {L D : S8x8192.Idx → Elt Ideal .f32} {j : ℕ}
variable (hkv : Reads kv (fun r d => k (512 * j + r) d)) (hvv : Reads vv (fun r d => v (512 * j + r) d))
  (hQ : Reads Q q) (hO : Reads O o) (hL : Reads L (fun _ a => Real.log (den q k a) / Real.log 2))
  (hD : Reads D (fun _ a => delta q k v o a))

include hk0 hkv hQ in
theorem sc_reads {u : ℕ} (hu : u ≤ 15) :
    Reads (sc (F := Ideal) kv Q u) (fun r c => Real.sqrt 192 * z q k (512 * u + c) (512 * j + r)) :=
  (pay6_reads hkv (reads_rows256 hQ hu)).congr fun r c _ _ => by
    beta_reduce
    rw [show 256 = 192 + 64 from rfl, Finset.sum_range_add, Finset.sum_eq_zero (s := range 64) fun x _ => by
      rw [hk0 _ _ (Nat.le_add_right _ _), zero_mul], add_zero, z, mul_div_cancel₀ _ root_ne]
    exact Finset.sum_congr rfl fun d _ => mul_comm _ _

include hvv hO in
theorem dp_reads {u : ℕ} (hu : u ≤ 15) :
    Reads (dp (F := Ideal) vv O u) (fun r c => dpr v o (512 * u + c) (512 * j + r)) :=
  (pay7_reads hvv (reads_rows128 hO hu)).congr fun r c _ _ => by
    beta_reduce
    exact Finset.sum_congr rfl fun d _ => mul_comm _ _

include hk0 hkv hQ hL in
/-- A block past the diagonal: no key is masked. -/
theorem far_reads {u : ℕ} (hu : u ≤ 15) (hj : j < u) :
    Reads (k0_pay17 (F := Ideal) (sc kv Q u) (stats L u)) (fun r c => p q k (512 * u + c) (512 * j + r)) :=
  (pay17_reads (sc_reads hk0 hkv hQ hu) (reads_stats hL hu)).congr fun r c hr _ => by
    beta_reduce
    rw [weight_eq _ (den_pos q k _), p, w_of_le q k (by omega)]

include hk0 hkv hQ hL in
/-- The diagonal block: later keys are. -/
theorem diag_reads (hj : j ≤ 15) :
    Reads (k0_pay47 (F := Ideal) (sc kv Q j) (stats L j)) (fun r c => p q k (512 * j + c) (512 * j + r)) :=
  (pay47_reads (sc_reads hk0 hkv hQ hj) (reads_stats hL hj)).congr fun r c _ _ => by
    beta_reduce
    by_cases h : r ≤ c
    · rw [if_pos h, weight_eq _ (den_pos q k _), p, w_of_le q k (by omega)]
    · rw [if_neg h, p_of_lt q k (by omega)]

include hk0 hkv hvv hQ hO hL hD in
theorem ds_reads {u : ℕ} (hu : u ≤ 15) (hj : j < u) :
    Reads (ds (F := Ideal) kv vv Q O L D u) (fun r c => dsr q k v o (512 * u + c) (512 * j + r)) :=
  pay18_reads (far_reads hk0 hkv hQ hL hu hj) (dp_reads hvv hO hu) (reads_stats hD hu)

include hk0 hkv hvv hQ hO hL hD in
theorem dsDiag_reads (hj : j ≤ 15) :
    Reads (dsDiag (F := Ideal) kv vv Q O L D j) (fun r c => dsr q k v o (512 * j + c) (512 * j + r)) :=
  pay48_reads (diag_reads hk0 hkv hQ hL hj) (dp_reads hvv hO hj) (reads_stats hD hj)

include hk0 hkv hQ hO hL in
/-- The block of `dv` so far, -/
theorem dvAt_reads (n : ℕ) (hn : j + n ≤ 15) :
    Reads (dvAt (F := Ideal) kv Q O L j n) (fun r d => ∑ i ∈ range (n + 1), dvBlk q k o (512 * j + r) (j + i) d) := by
  induction n with
  | zero =>
    refine (pay49_reads (diag_reads hk0 hkv hQ hL (by omega)) (e := fun _ _ => 0) (fun _ => ofBits_0) (reads_rows128 hO (by omega))).congr
      fun r d _ _ => ?_
    beta_reduce
    rw [zero_add, Finset.sum_range_one]; rfl
  | succ n ih =>
    refine (pay19_reads (far_reads hk0 hkv hQ hL (by omega) (by omega)) (ih (by omega)) (reads_rows128 hO (by omega))).congr
      fun r d _ _ => ?_
    beta_reduce
    rw [Finset.sum_range_succ _ (n + 1)]; rfl

include hk0 hkv hvv hQ hO hL hD in
/-- of `dk`, -/
theorem dkAt_reads (n : ℕ) (hn : j + n ≤ 15) :
    Reads (dkAt (F := Ideal) kv vv Q O L D j n) (fun r d => ∑ i ∈ range (n + 1), dkBlk q k v o (512 * j + r) (j + i) d) := by
  induction n with
  | zero =>
    refine (pay50_reads (dsDiag_reads hk0 hkv hvv hQ hO hL hD (by omega)) (e := fun _ _ => 0) (fun _ => ofBits_0)
      (reads_rows256 hQ (by omega))).congr fun r d _ _ => ?_
    beta_reduce
    rw [zero_add, Finset.sum_range_one]; rfl
  | succ n ih =>
    refine (pay1_reads (ds_reads hk0 hkv hvv hQ hO hL hD (by omega) (by omega)) (ih (by omega)) (reads_rows256 hQ (by omega))).congr
      fun r d _ _ => ?_
    beta_reduce
    rw [Finset.sum_range_succ _ (n + 1)]; rfl

include hk0 hkv hvv hQ hO hL hD in
/-- and the head's `dq`: the key block's part is added to the rows of the blocks so far. -/
theorem dqAt_reads {X : S8192x256.Idx → Elt Ideal .f32} {x : ℕ → ℕ → ℝ} (hX : Reads X x) (n : ℕ) (hn : j + n ≤ 15) :
    Reads (dqAt (F := Ideal) kv vv Q O L D j X n)
      (fun a d => x a d + if j ≤ a / 512 ∧ a / 512 ≤ j + n then dqBlk q k v o a j d else 0) := by
  induction n with
  | zero =>
    refine (reads_upd hX (pay51_reads hkv (dsDiag_reads hk0 hkv hvv hQ hO hL hD (by omega)) (reads_rows256 hX (u := j) (by omega)))
      (by omega)).congr fun a d _ _ => ?_
    beta_reduce
    by_cases h : a / 512 = j
    · rw [if_pos h, if_pos (by omega), show 512 * j + (a - 512 * j) = a by omega]; rfl
    · rw [if_neg h, if_neg (by omega), add_zero]
  | succ n ih =>
    refine (reads_upd (ih (by omega)) (pay2_reads hkv (ds_reads hk0 hkv hvv hQ hO hL hD (u := j + n + 1) (by omega) (by omega))
      (reads_rows256 (ih (by omega)) (u := j + n + 1) (by omega))) (by omega)).congr fun a d _ _ => ?_
    beta_reduce
    by_cases h : a / 512 = j + n + 1
    · rw [if_pos h, show 512 * (j + n + 1) + (a - 512 * (j + n + 1)) = a by omega, if_neg (by omega), add_zero, if_pos (by omega)]; rfl
    · rw [if_neg h]
      by_cases h' : j ≤ a / 512 ∧ a / 512 ≤ j + n
      · rw [if_pos h', if_pos (by omega)]
      · rw [if_neg h', if_neg (by omega)]

include hk0 hkv hvv hQ hO hL hD in
/-- Over all the blocks the point works on: every row gains the key block's part. -/
theorem dqAt_last {X : S8192x256.Idx → Elt Ideal .f32} {x : ℕ → ℕ → ℝ} (hX : Reads X x) (hj : j ≤ 15) :
    Reads (dqAt (F := Ideal) kv vv Q O L D j X (15 - j)) (fun a d => x a d + dqBlk q k v o a j d) :=
  (dqAt_reads hk0 hkv hvv hQ hO hL hD hX (15 - j) (by omega)).congr fun a d ha _ => by
    beta_reduce
    by_cases h : j ≤ a / 512
    · rw [if_pos ⟨h, by omega⟩]
    · rw [if_neg (fun h' => h h'.1), dqBlk_of_lt q k v o (by omega)]

include hk0 hkv hvv hQ hO hL hD in
theorem dkAt_last (hj : j ≤ 15) :
    Reads (dkAt (F := Ideal) kv vv Q O L D j (15 - j)) (fun r d => dk q k v o (512 * j + r) d) :=
  (dkAt_reads hk0 hkv hvv hQ hO hL hD (15 - j) (by omega)).congr fun r d _ _ => by
    rw [dk_eq q k v o (j := j) (by omega) (by omega), show 15 - j + 1 = 16 - j by omega]

include hk0 hkv hQ hO hL in
theorem dvAt_last (hj : j ≤ 15) :
    Reads (dvAt (F := Ideal) kv Q O L j (15 - j)) (fun r d => dv q k o (512 * j + r) d) :=
  (dvAt_reads hk0 hkv hQ hO hL (15 - j) (by omega)).congr fun r d _ _ => by
    rw [dv_eq q k o (j := j) (by omega) (by omega), show 15 - j + 1 = 16 - j by omega]

end Point

end Cert.KernelIdeal.Run

end
-- ==== Proof.Value.Blocks.lean ====
/-
  The blocks the kernel's windows hold at a grid point, as real matrices: grid point `t` works on head `t / 16`,
  key block `t % 16`.
-/
module

public import proofs.«01_k».proof.Proof.Value.Host
public import proofs.«01_k».proof.Proof.Value.Point
public import proofs.«01_k».proof.Proof.Run.Launch
public import Idealize.ShloMosaic.Lib.Pipeline.ValueKit

@[expose] public section

set_option maxRecDepth 16384

noncomputable section

namespace Cert.KernelIdeal.Run

open Cert.KernelIdeal Cert.KernelIdeal.Gen Cert.KernelIdeal.Host Cert.Spec
open Idealize.ShloMosaic Idealize.ShloMosaic.TcCoe Idealize.ShloMosaic.Tactic
open Finset

variable (m : (ℓ : Loc nD τ sig) → Buf (Elt Ideal) ℓ) (c : Dev nD)

/-- The head's matrices. -/
abbrev qh (h : ℕ) : ℕ → ℕ → ℝ := head (q₀ m c) h
abbrev kh (h : ℕ) : ℕ → ℕ → ℝ := head (k₀ m c) h
abbrev vh (h : ℕ) : ℕ → ℕ → ℝ := head (v₀ m c) h
abbrev oh (h : ℕ) : ℕ → ℕ → ℝ := head (o₀ m c) h

/-! ## Where the windows look -/

theorem index_0 : ∀ t : Fin cfg0.N, win0_0.index t = ![t.val % 16, t.val / 16] := (by decide +kernel : ∀ t : Fin grid0.N, _)
theorem index_1 : ∀ t : Fin cfg0.N, win0_1.index t = ![t.val % 16, t.val / 16] := (by decide +kernel : ∀ t : Fin grid0.N, _)
theorem index_2 : ∀ t : Fin cfg0.N, win0_2.index t = ![0, t.val / 16] := (by decide +kernel : ∀ t : Fin grid0.N, _)
theorem index_3 : ∀ t : Fin cfg0.N, win0_3.index t = ![0, t.val / 16] := (by decide +kernel : ∀ t : Fin grid0.N, _)
theorem index_4 : ∀ t : Fin cfg0.N, win0_4.index t = ![t.val / 16, 0] := (by decide +kernel : ∀ t : Fin grid0.N, _)
theorem index_5 : ∀ t : Fin cfg0.N, win0_5.index t = ![t.val / 16, 0] := (by decide +kernel : ∀ t : Fin grid0.N, _)
theorem index_6 : ∀ t : Fin cfg0.N, win0_6.index t = ![0, t.val / 16] := (by decide +kernel : ∀ t : Fin grid0.N, _)
theorem index_7 : ∀ t : Fin cfg0.N, win0_7.index t = ![t.val % 16, t.val / 16] := (by decide +kernel : ∀ t : Fin grid0.N, _)
theorem index_8 : ∀ t : Fin cfg0.N, win0_8.index t = ![t.val % 16, t.val / 16] := (by decide +kernel : ∀ t : Fin grid0.N, _)

section Reads

variable (h0 : IsReal (q₀ m c)) (h1 : IsReal (k₀ m c)) (h2 : IsReal (v₀ m c)) (h3 : IsReal (o₀ m c)) (t : Fin cfg0.N)

include h1 in
theorem k_reads : Reads (kvOf m c t) (fun r d => kh m c (t.val / 16) (512 * (t.val % 16) + r) d) := fun i => by
  have hd := (i 1).isLt
  change (i 1).val < 256 at hd
  have e0 : ((win0_0.blk t).view.emb i 0).val = t.val % 16 * 512 + (i 0).val := by blk_simp [index_0]
  have e1 : ((win0_0.blk t).view.emb i 1).val = t.val / 16 * 256 + (i 1).val := by blk_simp [index_0]
  unfold kvOf k0_pay41
  rw [shapeCast_self]
  blk_simp [iblk]
  rw [V_k, wide_apply h1, e0, e1]
  beta_reduce
  rw [show (t.val / 16 * 256 + (i 1).val) / 256 = t.val / 16 by omega, show (t.val / 16 * 256 + (i 1).val) % 256 = (i 1).val by omega,
    show t.val % 16 * 512 + (i 0).val = 512 * (t.val % 16) + (i 0).val by omega]

include h2 in
theorem v_reads : Reads (vvOf m c t) (fun r d => vh m c (t.val / 16) (512 * (t.val % 16) + r) d) := fun i => by
  have hd := (i 1).isLt
  change (i 1).val < 128 at hd
  have e0 : ((win0_1.blk t).view.emb i 0).val = t.val % 16 * 512 + (i 0).val := by blk_simp [index_1]
  have e1 : ((win0_1.blk t).view.emb i 1).val = t.val / 16 * 128 + (i 1).val := by blk_simp [index_1]
  unfold vvOf k0_pay42
  rw [shapeCast_self]
  blk_simp [iblk]
  rw [V_v, flat_apply h2, e0, e1]
  beta_reduce
  rw [show (t.val / 16 * 128 + (i 1).val) / 128 = t.val / 16 by omega, show (t.val / 16 * 128 + (i 1).val) % 128 = (i 1).val by omega,
    show t.val % 16 * 512 + (i 0).val = 512 * (t.val % 16) + (i 0).val by omega]

include h0 in
theorem q_reads : Reads (m := 8192) (n := 256) (iblk m c 2 t) (qh m c (t.val / 16)) := fun i => by
  have hd := (i 1).isLt
  change (i 1).val < 256 at hd
  have e0 : ((win0_2.blk t).view.emb i 0).val = (i 0).val := by blk_simp [index_2]
  have e1 : ((win0_2.blk t).view.emb i 1).val = t.val / 16 * 256 + (i 1).val := by blk_simp [index_2]
  blk_simp [iblk]
  rw [V_q, wide_apply h0, e0, e1]
  rw [show (t.val / 16 * 256 + (i 1).val) / 256 = t.val / 16 by omega, show (t.val / 16 * 256 + (i 1).val) % 256 = (i 1).val by omega]

include h3 in
theorem o_reads : Reads (m := 8192) (n := 128) (iblk m c 3 t) (oh m c (t.val / 16)) := fun i => by
  have hd := (i 1).isLt
  change (i 1).val < 128 at hd
  have e0 : ((win0_3.blk t).view.emb i 0).val = (i 0).val := by blk_simp [index_3]
  have e1 : ((win0_3.blk t).view.emb i 1).val = t.val / 16 * 128 + (i 1).val := by blk_simp [index_3]
  blk_simp [iblk]
  rw [V_o, flat_apply h3, e0, e1]
  rw [show (t.val / 16 * 128 + (i 1).val) / 128 = t.val / 16 by omega, show (t.val / 16 * 128 + (i 1).val) % 128 = (i 1).val by omega]

include h0 h1 in
theorem lse_reads : Reads (m := 8) (n := 8192) (iblk m c 4 t)
    (fun _ a => Real.log (den (qh m c (t.val / 16)) (kh m c (t.val / 16)) a) / Real.log 2) := fun i => by
  have hd := (i 0).isLt
  change (i 0).val < 8 at hd
  have e0 : ((win0_4.blk t).view.emb i 0).val = t.val / 16 * 8 + (i 0).val := by blk_simp [index_4]
  have e1 : ((win0_4.blk t).view.emb i 1).val = (i 1).val := by blk_simp [index_4]
  blk_simp [iblk]
  rw [V_lse, eight_apply _ (fun h a => Real.log (den (qh m c h) (kh m c h) a) / Real.log 2) (lse2_apply h0 h1), e0, e1]
  beta_reduce
  rw [show (t.val / 16 * 8 + (i 0).val) / 8 = t.val / 16 by omega]

include h0 h1 h2 h3 in
theorem delta_reads : Reads (m := 8) (n := 8192) (iblk m c 5 t)
    (fun _ a => delta (qh m c (t.val / 16)) (kh m c (t.val / 16)) (vh m c (t.val / 16)) (oh m c (t.val / 16)) a) := fun i => by
  have hd := (i 0).isLt
  change (i 0).val < 8 at hd
  have e0 : ((win0_5.blk t).view.emb i 0).val = t.val / 16 * 8 + (i 0).val := by blk_simp [index_5]
  have e1 : ((win0_5.blk t).view.emb i 1).val = (i 1).val := by blk_simp [index_5]
  blk_simp [iblk]
  rw [V_delta, eight_apply _ (fun h a => delta (qh m c h) (kh m c h) (vh m c h) (oh m c h) a) (dlt_apply h0 h1 h2 h3), e0, e1]
  beta_reduce
  rw [show (t.val / 16 * 8 + (i 0).val) / 8 = t.val / 16 by omega]

end Reads

end Cert.KernelIdeal.Run

end
-- ==== Proof.Value.Results.lean ====
/-
  The kernel's three results as whole arrays.
-/
module

public import proofs.«01_k».proof.Proof.Value.Blocks

@[expose] public section

set_option maxRecDepth 16384

noncomputable section

namespace Cert.KernelIdeal.Run

open Cert.KernelIdeal Cert.KernelIdeal.Gen Cert.KernelIdeal.Host Cert.Spec
open Idealize.ShloMosaic Idealize.ShloMosaic.TcCoe Idealize.ShloMosaic.Tactic
open Finset

variable (m : (ℓ : Loc nD τ sig) → Buf (Elt Ideal) ℓ) (c : Dev nD)
variable (h0 : IsReal (q₀ m c)) (h1 : IsReal (k₀ m c)) (h2 : IsReal (v₀ m c)) (h3 : IsReal (o₀ m c))

theorem k_pad (h b d : ℕ) (hd : 192 ≤ d) : kh m c h b d = 0 := head_of_ge _ _ _ hd

/-! ## After each point -/

section Points

variable (t : Fin cfg0.N)

include h0 h1 h2 h3 in
/-- A point adds its key block's part to the head's `dq`. -/
theorem step_reads {X : S8192x256.Idx → Elt Ideal .f32} {x : ℕ → ℕ → ℝ} (hX : Reads (dqIn (grid0.coords t) X) x) :
    Reads (dqStep m c t X) (fun a d => x a d
      + dqBlk (qh m c (t.val / 16)) (kh m c (t.val / 16)) (vh m c (t.val / 16)) (oh m c (t.val / 16)) a (t.val % 16) d) := by
  unfold dqStep
  rw [coord_eq t]
  exact dqAt_last (k_pad m c _) (k_reads m c h1 t) (v_reads m c h2 t) (q_reads m c h0 t) (o_reads m c h3 t)
    (lse_reads m c h0 h1 t) (delta_reads m c h0 h1 h2 h3 t) hX (by omega)

include h0 h1 h2 h3 in
/-- So the head's `dq` is the sum over the key blocks so far. -/
theorem dqAfter_reads : ∀ (n : ℕ) (hn : n < cfg0.N), Reads (dqAfter m c n hn) (fun a d => ∑ j ∈ range (n % 16 + 1),
    dqBlk (qh m c (n / 16)) (kh m c (n / 16)) (vh m c (n / 16)) (oh m c (n / 16)) a j d) := by
  have first : ∀ (n : ℕ) (hn : n < cfg0.N) (X), n % 16 = 0 → Reads (dqStep m c ⟨n, hn⟩ X) (fun a d => ∑ j ∈ range (n % 16 + 1),
      dqBlk (qh m c (n / 16)) (kh m c (n / 16)) (vh m c (n / 16)) (oh m c (n / 16)) a j d) := fun n hn X hz => by
    refine (step_reads m c h0 h1 h2 h3 ⟨n, hn⟩ (X := X) (x := fun _ _ => 0) ?_).congr fun a d _ _ => ?_
    · unfold dqIn
      rw [if_pos ((coord_eq _).trans hz)]
      exact fun _ => ofBits_0
    · beta_reduce
      rw [hz, zero_add, Finset.sum_range_one]
  intro n
  induction n with
  | zero => exact fun hn => first 0 hn _ rfl
  | succ n ih =>
    intro hn
    by_cases hz : (n + 1) % 16 = 0
    · exact first (n + 1) hn _ hz
    · refine (step_reads m c h0 h1 h2 h3 ⟨n + 1, hn⟩ (X := dqAfter m c n (Nat.lt_of_succ_lt hn))
        (x := fun a d => ∑ j ∈ range (n % 16 + 1), dqBlk (qh m c (n / 16)) (kh m c (n / 16)) (vh m c (n / 16)) (oh m c (n / 16)) a j d) ?_).congr fun a d _ _ => ?_
      · unfold dqIn
        rw [if_neg (fun h => hz ((coord_eq _).symm.trans h))]
        exact ih _
      · beta_reduce
        rw [show (n + 1) / 16 = n / 16 by omega, show (n + 1) % 16 = n % 16 + 1 by omega, Finset.sum_range_succ _ (n % 16 + 1)]

include h0 h1 h2 h3 in
theorem dkAfter_reads : Reads (dkAfter m c t) (fun r d =>
    dk (qh m c (t.val / 16)) (kh m c (t.val / 16)) (vh m c (t.val / 16)) (oh m c (t.val / 16)) (512 * (t.val % 16) + r) d) := by
  unfold dkAfter
  rw [coord_eq t]
  exact dkAt_last (k_pad m c _) (k_reads m c h1 t) (v_reads m c h2 t) (q_reads m c h0 t) (o_reads m c h3 t)
    (lse_reads m c h0 h1 t) (delta_reads m c h0 h1 h2 h3 t) (by omega)

include h0 h1 h3 in
theorem dvAfter_reads : Reads (dvAfter m c t) (fun r d =>
    dv (qh m c (t.val / 16)) (kh m c (t.val / 16)) (oh m c (t.val / 16)) (512 * (t.val % 16) + r) d) := by
  unfold dvAfter
  rw [coord_eq t]
  exact dvAt_last (k_pad m c _) (k_reads m c h1 t) (q_reads m c h0 t) (o_reads m c h3 t) (lse_reads m c h0 h1 t) (by omega)

end Points

/-! ## The arrays -/

def dqArr : S8192x1024.Idx → EReal := fun i =>
  (dq (qh m c ((i 1).val / 256)) (kh m c ((i 1).val / 256)) (vh m c ((i 1).val / 256)) (oh m c ((i 1).val / 256)) (i 0).val ((i 1).val % 256) : EReal)
def dkArr : S8192x1024.Idx → EReal := fun i =>
  (dk (qh m c ((i 1).val / 256)) (kh m c ((i 1).val / 256)) (vh m c ((i 1).val / 256)) (oh m c ((i 1).val / 256)) (i 0).val ((i 1).val % 256) : EReal)
def dvArr : S8192x512.Idx → EReal := fun i =>
  (dv (qh m c ((i 1).val / 128)) (kh m c ((i 1).val / 128)) (oh m c ((i 1).val / 128)) (i 0).val ((i 1).val % 128) : EReal)

include h0 h1 h2 h3 in
theorem arr_dq : (dats m 0 c).arrAt 6 cfg0.N = dqArr m c := by
  refine (dats m 0 c).arrAt_eq_of_covers 6 _ (by decide +kernel) fun t hf y => ?_
  blk_simp
  rw [after0_6]
  have hl : t.val % 16 = 15 := (flush0_6 t).1 hf
  have hd := (y 1).isLt
  change (y 1).val < 256 at hd
  refine (dqAfter_reads m c h0 h1 h2 h3 t.val t.isLt y).trans ?_
  unfold dqArr
  blk_simp [index_6]
  rw [show (t.val / 16 * 256 + (y 1).val) / 256 = t.val / 16 by omega, show (t.val / 16 * 256 + (y 1).val) % 256 = (y 1).val by omega,
    dq_eq, hl]

include h0 h1 h2 h3 in
theorem arr_dk : (dats m 0 c).arrAt 7 cfg0.N = dkArr m c := by
  refine (dats m 0 c).arrAt_eq_of_covers 7 _ (by decide +kernel) fun t hf y => ?_
  blk_simp
  rw [after0_7]
  have hd := (y 1).isLt
  change (y 1).val < 256 at hd
  refine (dkAfter_reads m c h0 h1 h2 h3 t y).trans ?_
  unfold dkArr
  blk_simp [index_7]
  rw [show (t.val / 16 * 256 + (y 1).val) / 256 = t.val / 16 by omega, show (t.val / 16 * 256 + (y 1).val) % 256 = (y 1).val by omega,
    show t.val % 16 * 512 + (y 0).val = 512 * (t.val % 16) + (y 0).val by omega]

include h0 h1 h3 in
theorem arr_dv : (dats m 0 c).arrAt 8 cfg0.N = dvArr m c := by
  refine (dats m 0 c).arrAt_eq_of_covers 8 _ (by decide +kernel) fun t hf y => ?_
  blk_simp
  rw [after0_8]
  have hd := (y 1).isLt
  change (y 1).val < 128 at hd
  refine (dvAfter_reads m c h0 h1 h3 t y).trans ?_
  unfold dvArr
  blk_simp [index_8]
  rw [show (t.val / 16 * 128 + (y 1).val) / 128 = t.val / 16 by omega, show (t.val / 16 * 128 + (y 1).val) % 128 = (y 1).val by omega,
    show t.val % 16 * 512 + (y 0).val = 512 * (t.val % 16) + (y 0).val by omega]

end Cert.KernelIdeal.Run

end
-- ==== Proof.Value.Join.lean ====
/-
  The runs of the two programs, each with its results written as the head's gradients.
-/
module

public import proofs.«01_k».proof.Proof.Value.Results
public import proofs.«01_k».proof.Proof.Value.Reference
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem Cert.Spec

namespace Cert.KernelIdeal.Run

open Cert.KernelIdeal Cert.KernelIdeal.Gen Cert.KernelIdeal.Host

theorem values (m : (ℓ : Loc nD τ sig) → Buf (Elt Ideal) ℓ) (ρ : Dev nD → PrngReg)
    (hm : ∀ c, IsReal (q₀ m c) ∧ IsReal (k₀ m c) ∧ IsReal (v₀ m c) ∧ IsReal (o₀ m c)) :
    θ_run defs (onTc (τ := τ) (main (F := Ideal))) ⟨m, fun _ => 0, ρ⟩ (fun r => ∀ c : Dev nD,
      r.2.mem ((c.tc : Thread nD τ).loc main_v49_0) = dqArr m c
      ∧ r.2.mem ((c.tc : Thread nD τ).loc main_v49_1) = dkArr m c
      ∧ r.2.mem ((c.tc : Thread nD τ).loc main_v49_2) = dvArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    have ⟨h0, h1, h2, h3⟩ := hm c
    ⟨(h.1.out_eq c 6).trans (arr_dq m c h0 h1 h2 h3), (h.1.out_eq c 7).trans (arr_dk m c h0 h1 h2 h3),
      (h.1.out_eq c 8).trans (arr_dv m c h0 h1 h3),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Cert.KernelIdeal.Run

namespace Cert.ReferenceIdeal.Elements

open Cert.ReferenceIdeal

variable (m : (ℓ : Loc KernelIdeal.nD KernelIdeal.τ KernelIdeal.sig) → Buf (Elt Ideal) ℓ)
variable (m' : (ℓ : Loc nD τ sig) → Buf (Elt Ideal) ℓ)

/-- The reference's run, at the arrays the kernel's argument buffers hold. -/
theorem values (ρ : Dev nD → PrngReg)
    (hm : ∀ c, IsReal (KernelIdeal.Host.q₀ m c) ∧ IsReal (KernelIdeal.Host.k₀ m c) ∧ IsReal (KernelIdeal.Host.v₀ m c) ∧ IsReal (KernelIdeal.Host.o₀ m c))
    (e : ∀ c : Dev nD, m' ((c.tc : Thread nD τ).loc main_arg0) = KernelIdeal.Host.q₀ m c
      ∧ m' ((c.tc : Thread nD τ).loc main_arg1) = KernelIdeal.Host.k₀ m c
      ∧ m' ((c.tc : Thread nD τ).loc main_arg2) = KernelIdeal.Host.v₀ m c
      ∧ m' ((c.tc : Thread nD τ).loc main_arg3) = KernelIdeal.Host.o₀ m c) :
    θ_run defs (onTc (τ := τ) (main (F := Ideal))) ⟨m', fun _ => 0, ρ⟩ (fun r => ∀ c : Dev nD,
      r.2.mem ((c.tc : Thread nD τ).loc main_v70) = KernelIdeal.Run.dqArr m c
      ∧ r.2.mem ((c.tc : Thread nD τ).loc main_v74) = KernelIdeal.Run.dkArr m c
      ∧ r.2.mem ((c.tc : Thread nD τ).loc main_v75) = KernelIdeal.Run.dvArr m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run defs _ _).mono (fun r h c => by
    obtain ⟨h0, h1, h2, h3⟩ := hm c
    obtain ⟨e0, e1, e2, e3⟩ := e c
    obtain ⟨r0, r1, r2, hr⟩ := h c
    refine ⟨r0.trans ?_, r1.trans ?_, r2.trans ?_, hr⟩
    · rw [Read.val_main_v70_eq, e0, e1, e2, e3]
      exact funext fun i => dq_out h0 h1 h2 h3 i
    · rw [Read.val_main_v74_eq, e0, e1, e2, e3]
      exact funext fun i => dk_out h0 h1 h2 h3 i
    · rw [Read.val_main_v75_eq, e0, e1, e3]
      exact funext fun i => dv_out h0 h1 h3 i) (Cert.ReferenceIdeal.Value.run (F := Ideal) m' ρ)

end Cert.ReferenceIdeal.Elements

end
-- ==== Proof.Forward.Finite.lean ====
/-
  The second precondition says that every element of the three arguments is a real number.
-/
module

public import proofs.«01_k».proof.Proof.Value.Finite
public import proofs.«01_k».proof.Proof.Gen.Pre_finite2

@[expose] public section

noncomputable section

namespace Cert.Pre_finite2

open Cert.Spec Cert.Pre_finite2.Gen
open Cert.Pre_finite (and_ones real_of_conjunct)
open Idealize.ShloMosaic

theorem real_of_pre (x0 x1 : FVec Ideal S8192x4x192 .f32) (x2 : FVec Ideal S8192x4x128 .f32)
    (h : fn (F := Ideal) x0 x1 x2 = fun _ => 1#1) : IsReal x0 ∧ IsReal x1 ∧ IsReal x2 := by
  let j : S_.Idx := fun a => a.elim0
  have e := congrFun h j
  unfold fn at e
  obtain ⟨e, e2⟩ := and_ones e
  obtain ⟨e0, e1⟩ := and_ones e
  exact ⟨real_of_conjunct x0 _ _ _ j e0, real_of_conjunct x1 _ _ _ j e1, real_of_conjunct x2 _ _ _ j e2⟩

end Cert.Pre_finite2

end
-- ==== Proof.Forward.Host.lean ====
/-
  What the forward kernel's host code hands to the kernel: the padded and reshaped operands.
-/
module

public import proofs.«01_k».proof.Proof.Gen.Kernel2Ideal.Frame.Runs
public import proofs.«01_k».proof.Proof.Value.HostTerms

@[expose] public section

set_option maxRecDepth 65536

noncomputable section

namespace Cert.Kernel2Ideal.Host

open Cert.Kernel2Ideal Cert.Kernel2Ideal.Gen
open Idealize.ShloMosaic Idealize.ShloMosaic.TcCoe Idealize.ShloMosaic.StableHlo Idealize.SL.Sem
open Cert.KernelIdeal.Host (wide flat)

variable (m : (ℓ : Loc nD τ sig) → Buf (Elt Ideal) ℓ) (c : Dev nD)

/-- The program's arguments on a device. -/
abbrev q₀ : (⟨S8192x4x192, .f32⟩ : BufTy).Contents (Elt Ideal) := m ((c.tc : Thread nD τ).loc main_arg0)
abbrev k₀ : (⟨S8192x4x192, .f32⟩ : BufTy).Contents (Elt Ideal) := m ((c.tc : Thread nD τ).loc main_arg1)
abbrev v₀ : (⟨S8192x4x128, .f32⟩ : BufTy).Contents (Elt Ideal) := m ((c.tc : Thread nD τ).loc main_arg2)

theorem V_q : V m c main_v2 = wide (q₀ m c) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp <;> rfl
theorem V_k : V m c main_v5 = wide (k₀ m c) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp <;> rfl
theorem V_v : V m c main_v7 = flat (v₀ m c) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp <;> rfl

end Cert.Kernel2Ideal.Host

end
-- ==== Proof.Forward.Offsets.lean ====
/-
  Where the forward kernel's loads lie, as plain numbers. Grid point `i = (head, n)` works on query block `n`;
  trip `k` of the loop takes key blocks `2k` and `2k+1` (512 rows each) and prepares block `2k+2`.
-/
module

public import proofs.«01_k».proof.Proof.Gen.Kernel2Ideal.Skeleton

@[expose] public section

set_option maxRecDepth 16384

noncomputable section

namespace Cert.Kernel2Ideal.Run

open Cert.Kernel2Ideal Cert.Kernel2Ideal.Gen
open Idealize.ShloMosaic Idealize.ShloMosaic.TcCoe

theorem off1a_eq : ∀ (i : grid0.Coords) (k : Fin (k0_t1_loop i).trips), k0_off1 i k 1#32 = ![512 * (2 * k.val + 1), 0] := by decide +kernel
theorem off1b_eq : ∀ (i : grid0.Coords) (k : Fin (k0_t1_loop i).trips), k0_off1 i k 2#32 = ![512 * (2 * k.val + 2), 0] := by decide +kernel
theorem off2_eq : ∀ (i : grid0.Coords) (k : Fin (k0_t1_loop i).trips), k0_off2 i k = ![512 * (2 * k.val), 0] := by decide +kernel
theorem off3_eq : ∀ (i : grid0.Coords) (k : Fin (k0_t1_loop i).trips), k0_off3 i k = ![512 * (2 * k.val + 1), 0] := by decide +kernel
theorem off7_eq : ∀ i : grid0.Coords, k0_off7 i = ![512 * (i 1).val, 0] := by decide +kernel
theorem off8_eq : ∀ i : grid0.Coords, k0_off8 i = ![512 * (i 1).val, 0] := by decide +kernel
theorem off9_eq : ∀ i : grid0.Coords, k0_cond2 i = 1#1 → k0_off9 i = ![512 * ((i 1).val - 1), 0] := by decide +kernel
theorem off10_eq : ∀ i : grid0.Coords, k0_off10 i = ![512 * (i 1).val, 0] := by decide +kernel

/-- The blocks before the diagonal go in pairs; -/
theorem trips_eq : ∀ i : grid0.Coords, (k0_t1_loop i).trips = (i 1).val / 2 := by decide +kernel
/-- the loop over what is left of them is empty; -/
theorem trips2_eq : ∀ i : grid0.Coords, (k0_t2_loop i).trips = 0 := by decide +kernel
/-- an odd one is taken with the diagonal block. -/
theorem cond1_eq : ∀ i : grid0.Coords, k0_cond1 i = 1#1 ↔ (i 1).val % 2 = 0 := by decide +kernel
theorem cond2_eq : ∀ i : grid0.Coords, k0_cond2 i = 1#1 ↔ (i 1).val % 2 = 1 := by decide +kernel

end Cert.Kernel2Ideal.Run

end
-- ==== Proof.Forward.Model.lean ====
/-
  What one grid point of the forward kernel computes, as functions of the arrays its windows hold: the query block
  `qv` and the head's whole `k` and `v`.
-/
module

public import proofs.«01_k».proof.Proof.Forward.Offsets
public import proofs.«01_k».proof.Proof.Run.Model

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Cert.KernelIdeal.Run (rows256 rows128)

variable {F : FTy → Type} [FloatOps F] [Named F]

section Point

variable (qv : FVec F S512x256 .bf16) (K : S8192x256.Idx → Elt F .bf16) (V : S8192x128.Idx → Elt F .bf16)

/-- Scores of key block `u` against the query block. -/
def sc (u : ℕ) : FVec F S512x512 .f32 := k0_pay6 qv (rows256 K u)
/-- Every query's greatest score in the first `n` key blocks, -/
def mAt : ℕ → FVec F S8x512 .f32
  | 0 => k0_pay51
  | n + 1 => k0_pay13 (k0_pay7 (sc qv K n) (mAt n))
/-- its sum of weights, -/
def lAt : ℕ → FVec F S8x512 .f32
  | 0 => k0_pay52
  | n + 1 => k0_pay10 (sc qv K n) (mAt qv K n) (lAt n)
/-- and its weighted sum of values. -/
def accAt : ℕ → FVec F S128x512 .f32
  | 0 => k0_pay53
  | n + 1 => k0_pay12 (k0_pay9 (sc qv K n) (mAt qv K n)) (k0_pay11 (sc qv K n) (mAt qv K n)) (accAt n) (rows128 V n)

variable (n : ℕ)

/-- The same with the diagonal block `n`, where later keys are masked. -/
def mEnd : FVec F S8x512 .f32 := k0_pay67 (k0_pay31 (sc qv K n) (mAt qv K n))
def lEnd : FVec F S8x512 .f32 := k0_pay34 (sc qv K n) (mAt qv K n) (lAt qv K n)
def accEnd : FVec F S128x512 .f32 :=
  k0_pay66 (k0_pay35 (sc qv K n) (mAt qv K n) (accAt qv K V n)) (k0_pay36 (sc qv K n) (mAt qv K n) (rows128 V n))

/-- The first line of a statistic. -/
def line0 (X : S8x512.Idx → Elt F .f32) : S1x512.Idx → Elt F .f32 :=
  View.ld X (Rect.unit (s := S8x512) ![0, 0] S1x512.size inb_S8x512_S1x512_0_0)
/-- The output's block and the log-sums' block. -/
def oOut : FVec F S512x128 .f32 := k0_pay4 (accEnd qv K V n) (line0 (lEnd qv K n))
def lseOut : FVec F S8x512 .f32 := k0_pay5 (mEnd qv K n) (lEnd qv K n)

end Point

omit [FloatOps F] [Named F] in
theorem atLine {sig' : RefSig} {κ' : Kind} {sp : Space} (v : View sig' κ' sp S8x512 .f32) (f : v.ty.Contents (Elt F)) (inb) :
    v.readAt (Elt F) (Rect.unit (s := S8x512) ![0, 0] S1x512.size inb).toLoadRect f = line0 (v.read (Elt F) f) := rfl

omit [FloatOps F] [Named F] in
/-- The first line of what was stored last. -/
theorem storedLine [∀ e, Nonempty (Elt F e)] {sig' : RefSig} {κ' : Kind} {sp : Space} (v : View sig' κ' sp S8x512 .f32) (inb) (inb')
    (w : S8x512.Idx → Elt F .f32) (Ls : List (View.Piece (Elt F) S8x512 .f32)) :
    v.readCov (⟨Rect.unit (s := S8x512) ![0, 0] S8x512.size inb', w⟩ :: Ls) (Rect.unit (s := S8x512) ![0, 0] S1x512.size inb).toLoadRect
      = line0 w :=
  (atLine v _ inb).trans (congrArg line0 (Cert.KernelIdeal.Run.readWhole v v.junk Cert.KernelIdeal.Run.zero2 inb' w Ls))

/-! ## The same computation under the several names it is printed with -/

theorem pay14_eq : k0_pay14 (F := F) = k0_pay6 := rfl
theorem pay37_eq : k0_pay37 (F := F) = k0_pay6 := rfl
theorem pay55_eq (x : Vec F S512x256 .bf16) (k) : k0_pay55 (F := F) x k = k0_pay6 (k0_pay54 x) k := rfl
theorem pay58_eq (s : FVec F S512x512 .f32) (m l) : k0_pay58 (F := F) s (k0_pay15 s m) (k0_pay16 s m) k0_pay17 l = k0_pay10 s m l := rfl
theorem pay59_eq (s : FVec F S512x512 .f32) (m a v) :
    k0_pay59 (F := F) s (k0_pay15 s m) (k0_pay16 s m) k0_pay17 a v = k0_pay12 (k0_pay9 s m) (k0_pay11 s m) a v := rfl
theorem pay60_eq (s : FVec F S512x512 .f32) (m) : k0_pay60 (F := F) (k0_pay15 s m) = k0_pay13 (k0_pay7 s m) := rfl
theorem pay41_eq : k0_pay41 (F := F) = k0_pay10 := rfl
theorem pay43_eq (s : FVec F S512x512 .f32) (m a v) :
    k0_pay43 (F := F) (k0_pay40 s m) a (k0_pay42 s m) v = k0_pay12 (k0_pay9 s m) (k0_pay11 s m) a v := rfl
theorem pay44_eq (s : FVec F S512x512 .f32) (m) : k0_pay44 (F := F) (k0_pay38 s m) = k0_pay13 (k0_pay7 s m) := rfl
theorem pay1_eq (s : FVec F S512x512 .f32) (m l) : k0_pay1 (F := F) (k0_pay49 s m l) (k0_pay50 s m) = k0_pay34 s m l := rfl
theorem pay2_eq (s : FVec F S512x512 .f32) (m a v) :
    k0_pay2 (F := F) (k0_pay47 s m) (k0_pay48 s m) a v = k0_pay66 (k0_pay35 s m a) (k0_pay36 s m v) := rfl
theorem pay3_eq (s : FVec F S512x512 .f32) (m) : k0_pay3 (F := F) (k0_pay46 s m) = k0_pay67 (k0_pay31 s m) := rfl

end Cert.Kernel2Ideal.Run

end
-- ==== Proof.Forward.Tiles.lean ====
/-
  The steps of the forward kernel in real numbers: one block of keys changes the running maximum, the running sum of
  weights and the running weighted sum of values, all three in the scale that the maximum sets.
-/
module

public import proofs.«01_k».proof.Proof.Forward.Model
public import proofs.«01_k».proof.Proof.Value.Tiles
public import Idealize.ShloMosaic.Lib.ValueLayout

@[expose] public section

set_option maxRecDepth 16384

noncomputable section

namespace Cert.Kernel2Ideal.Run

open Cert.Kernel2Ideal Cert.Kernel2Ideal.Gen Cert.Spec
open Cert.KernelIdeal.Run (Reads Reads.congr Reads.at reads_rows reads_rows256 reads_rows128 reads_zero reads_add over_keys)
open Idealize.ShloMosaic Idealize.ShloMosaic.Tactic
open Finset

/-! ## The scale -/

theorem scale_pos : 0 < (Real.sqrt 192 * Real.log 2)⁻¹ :=
  inv_pos.mpr (mul_pos (Real.sqrt_pos.mpr (by norm_num)) (Real.log_pos (by norm_num)))

/-- A scaled power of two is an exponential. -/
theorem rpow_scale (x : ℝ) : Real.rpow 2 (x * (Real.sqrt 192 * Real.log 2)⁻¹) = Real.exp (x / Real.sqrt 192) := by
  have h2 : Real.log 2 ≠ 0 := (Real.log_pos (by norm_num)).ne'
  have e : Real.log 2 * (x * (Real.sqrt 192 * Real.log 2)⁻¹) = x / Real.sqrt 192 := by
    have := root_ne
    field_simp
  show (2 : ℝ) ^ (_ : ℝ) = _
  rw [Real.rpow_def_of_pos (by norm_num), e]

theorem named_scale (b : BitVec 32) : Named.named (F := Ideal) κ "scale_log2e" (φ := .f32) b
    = (((Real.sqrt 192 * Real.log 2)⁻¹ : ℝ) : EReal) := rfl
theorem named_mask (b : BitVec 32) : Named.named (F := Ideal) κ "mask" (φ := .f32) b = (⊥ : EReal) := rfl
theorem named_log2e (b : BitVec 32) : Named.named (F := Ideal) κ "log2e" (φ := .f32) b = (((Real.log 2)⁻¹ : ℝ) : EReal) := rfl

/-! ## Layout -/

/-- One number per query, over the eight rows of a statistic, -/
theorem eight_lines (x : S512.Idx → EReal) (i : S8x512.Idx) :
    broadcastTo S8x512 (shapeCast S1x512 x shapeCasts_S512_S1x512) broadcasts_S1x512_S8x512 i = x (ValueIdx.ix1 (i 1)) :=
  (broadcastTo_apply _ broadcasts_S1x512_S8x512 i (ValueIdx.ix2 (0 : Fin 1) (i 1)) fun a => by
    match a with
    | ⟨0, _⟩ => rfl
    | ⟨1, _⟩ => rfl).trans (ValueIdx.shapeCast_a_1a_apply x _ 0 (i 1))

/-- a statistic's first line, -/
theorem first_line {X : FVec Ideal S8x512 .f32} {f : ℕ → ℝ} (h : Reads X fun _ c => f c) :
    Reads (extractStridedSlice S1x512 ![0, 0] X slices_S8x512_o0_0_S1x512) (fun _ c => f c) := fun i =>
  (extractStridedSlice_apply _ X _ i (ValueIdx.ix2 (0 : Fin 8) (i 1)) fun a => by
    match a with
    | ⟨0, _⟩ => have h0 := (i 0).isLt; change (i 0).val < 1 at h0; show 0 = 0 + (i 0).val; omega
    | ⟨1, _⟩ => exact (Nat.zero_add _).symm).trans (h.at _ rfl rfl)
theorem line0_reads {X : S8x512.Idx → Elt Ideal .f32} {f : ℕ → ℝ} (h : Reads X fun _ c => f c) :
    Reads (line0 (F := Ideal) X) (fun _ c => f c) := fun i =>
  h.at _ rfl (by show 0 + 1 * (i 1).val = (i 1).val; omega)

/-- and against every column of values. -/
theorem over_values {l : FVec Ideal S1x512 .f32} {g : ℕ → ℕ → ℝ} (hl : Reads l g) (i : S128x512.Idx) :
    broadcastTo S128x512 l broadcasts_S1x512_S128x512 i = (g 0 (i 1).val : EReal) :=
  (broadcastTo_apply l broadcasts_S1x512_S128x512 i (ValueIdx.ix2 (0 : Fin 1) (i 1)) fun a => by
    match a with
    | ⟨0, _⟩ => rfl
    | ⟨1, _⟩ => rfl).trans (hl.at _ rfl rfl)

/-- Columns of values against columns of weights. -/
theorem reads_values {φ₁ φ₂ : FTy} {f g e : ℕ → ℕ → ℝ} {X : FVec Ideal S512x128 φ₁} {Y : FVec Ideal S512x512 φ₂} {A : FVec Ideal S128x512 .f32}
    (hX : Reads X f) (hY : Reads Y g) (hA : Reads A e) :
    Reads (FloatOps.matmul dot_S512x128_S512x512_S128x512_0_0_1_1_n_n none X Y A) (fun d c => e d c + ∑ r ∈ range 512, f r d * g r c) := fun i => by
  rw [Ideal.matmul_apply, ← Equiv.sum_comp (ValueIdx.contrEquiv1 dot_S512x128_S512x512_S128x512_0_0_1_1_n_n 512 rfl rfl).symm, hA,
    sum_fin _ (fun k => f k (i 0).val * g k (i 1).val) fun k => ?_, ← EReal.coe_add]
  have hk := ValueIdx.contrEquiv1_symm_val dot_S512x128_S512x512_S128x512_0_0_1_1_n_n 512 rfl rfl k
  rw [hX.at _ (((dot_S512x128_S512x512_S128x512_0_0_1_1_n_n).lhsIdx_val_of_single rfl i _).trans hk)
      (d := (i 0).val) (by unfold DotDims.lhsIdx; rfl),
    hY.at _ (((dot_S512x128_S512x512_S128x512_0_0_1_1_n_n).rhsIdx_val_of_single rfl i _).trans hk)
      (d := (i 1).val) (by unfold DotDims.rhsIdx; rfl), ← EReal.coe_mul]

/-! ## Scores of a block -/

/-- The block holds the scores `x`, minus infinity where `P` fails. -/
def Scores (s : FVec Ideal S512x512 .f32) (x : ℕ → ℕ → ℝ) (P : ℕ → ℕ → Prop) [∀ r c, Decidable (P r c)] : Prop :=
  ∀ i, s i = if P (i 0).val (i 1).val then (x (i 0).val (i 1).val : EReal) else ⊥

/-- The weight of a score. -/
def wt (x : ℕ → ℕ → ℝ) (P : ℕ → ℕ → Prop) [∀ r c, Decidable (P r c)] (r c : ℕ) : ℝ :=
  if P r c then Real.exp (x r c / Real.sqrt 192) else 0

/-- The scale that a maximum sets. -/
def fac (μ : ℕ → ℝ) (c : ℕ) : ℝ := Real.exp (-μ c / Real.sqrt 192)

section Step

variable {s : FVec Ideal S512x512 .f32} {M L : FVec Ideal S8x512 .f32} {A : FVec Ideal S128x512 .f32} {W : FVec Ideal S512x128 .bf16}
variable {x : ℕ → ℕ → ℝ} {P : ℕ → ℕ → Prop} [∀ r c, Decidable (P r c)] (hs : Scores s x P)

/-- The block's greatest score and the sum over the block, for each query. -/
def colTop (s : FVec Ideal S512x512 .f32) : FVec Ideal S512 .f32 :=
  multiReduction .maximumf [0] S512 s 0xFF800000#32 reduces_S512x512_S512 (.inl rfl) rfl
def colSum (s : FVec Ideal S512x512 .f32) : FVec Ideal S512 .f32 :=
  multiReduction .add [0] S512 s 0x00000000#32 reduces_S512x512_S512 (.inl rfl) rfl

theorem colTop_apply (j : S512.Idx) : colTop s j = (Finset.univ : Finset (Fin 512)).fold max ⊥ (s ∘ reduces_S512x512_S512.lift j) :=
  (Ideal.multiReduction_maximumf_single s _ reduces_S512x512_S512 (.inl rfl) rfl j).trans
    (congrArg (fun b => (Finset.univ : Finset (Fin 512)).fold max b (s ∘ reduces_S512x512_S512.lift j)) ofBits_bot)
theorem colSum_apply {f : ℕ → ℕ → ℝ} (h : Reads s f) (c : Fin 512) : colSum s (ValueIdx.ix1 c) = ((∑ r ∈ range 512, f r c.val : ℝ) : EReal) :=
  (Ideal.multiReduction_add_single s _ reduces_S512x512_S512 (.inl rfl) rfl (ValueIdx.ix1 c)).trans
    (sum_fin (n := 512) _ (fun r => f r c.val) fun r => h.at _ rfl rfl)

include hs in
/-- Every query's greatest score in the block is a number. -/
theorem colMax (hP : ∀ c, P 0 c) : ∃ ν : ℕ → ℝ, ∀ c : Fin 512, colTop s (ValueIdx.ix1 c) = (ν c.val : EReal) := by
  have h : ∀ c : Fin 512, ∃ y : ℝ, colTop s (ValueIdx.ix1 c) = (y : EReal) := fun c => by
    rw [colTop_apply]
    refine fold_max_real _ _ (fun k _ => ?_) (Finset.mem_univ (⟨0, by decide⟩ : Fin 512)) ?_
    · show s _ ≠ ⊤
      rw [hs]; split
      · exact EReal.coe_ne_top _
      · exact bot_ne_top
    · show s _ ≠ ⊥
      rw [hs]; exact (if_pos (hP _)).trans_ne (EReal.coe_ne_bot _)
  choose y hy using h
  refine ⟨fun c => if h : c < 512 then y ⟨c, h⟩ else 0, fun c => ?_⟩
  beta_reduce
  rw [hy c, dif_pos c.isLt]

variable {μ : ℕ → ℝ} (hm : Reads (k0_pay7 (F := Ideal) s M) fun _ c => μ c)

include hs hm in
/-- The weights in the new maximum's scale. -/
theorem pay9_reads : Reads (k0_pay9 (F := Ideal) s M) (fun r c => wt x P r c * fac μ c) := fun i => by
  unfold k0_pay9
  show Ideal.exp2 ((s i - broadcastTo (α := EReal) S512x512 (extractStridedSlice S1x512 ![0, 0] (k0_pay7 (F := Ideal) s M) slices_S8x512_o0_0_S1x512) broadcasts_S1x512_S512x512 i)
    * Named.named (F := Ideal) κ "scale_log2e" (φ := .f32) _) = _
  rw [named_scale, over_keys (first_line hm), hs i]
  beta_reduce
  unfold wt
  by_cases h : P (i 0).val (i 1).val
  · rw [if_pos h, if_pos h, ← EReal.coe_sub, ← EReal.coe_mul, Ideal.exp2_coe, rpow_scale, fac, ← Real.exp_add, sub_eq_add_neg, add_div]
  · rw [if_neg h, if_neg h, EReal.bot_sub, EReal.bot_mul_coe_of_pos scale_pos, Ideal.exp2_bot, zero_mul]
    rfl

variable {α l : ℕ → ℝ} {a g : ℕ → ℕ → ℝ} (ha : Reads (k0_pay8 (F := Ideal) s M) fun _ c => α c)

include hs hm ha in
theorem pay10_reads (hL : Reads L fun _ c => l c) :
    Reads (k0_pay10 (F := Ideal) s M L) (fun _ c => α c * l c + ∑ r ∈ range 512, wt x P r c * fac μ c) := fun i => by
  unfold k0_pay10
  simp only [shapeCast_self]
  show k0_pay8 (F := Ideal) s M i * L i + broadcastTo S8x512 (shapeCast S1x512 (colSum (k0_pay9 (F := Ideal) s M)) shapeCasts_S512_S1x512)
    broadcasts_S1x512_S8x512 i = _
  rw [eight_lines, (colSum_apply (pay9_reads hs hm) (i 1) : colSum _ _ = _), ha i, hL i, ← EReal.coe_mul, ← EReal.coe_add]

include hs hm ha in
theorem pay12_reads (hA : Reads A a) (hW : Reads W g) :
    Reads (k0_pay12 (F := Ideal) (k0_pay9 s M) (k0_pay11 s M) A W)
      (fun d c => α c * a d c + ∑ r ∈ range 512, g r d * (wt x P r c * fac μ c)) := by
  unfold k0_pay12 k0_pay11
  simp only [shapeCast_self]
  refine reads_add (fun i => ?_) ((reads_values (φ₂ := .bf16) hW (pay9_reads hs hm) reads_zero).congr fun d c _ _ => zero_add _)
  show broadcastTo (α := EReal) S128x512 (extractStridedSlice S1x512 ![0, 0] (k0_pay8 (F := Ideal) s M) slices_S8x512_o0_0_S1x512) broadcasts_S1x512_S128x512 i * A i = _
  rw [over_values (first_line ha), hA i, ← EReal.coe_mul]

end Step

/-! ## The running state -/

/-- The state before any block, -/
def Start (M L : FVec Ideal S8x512 .f32) (A : FVec Ideal S128x512 .f32) : Prop :=
  (∀ i, M i = (⊥ : EReal)) ∧ Reads L (fun _ _ => 0) ∧ Reads A (fun _ _ => 0)
/-- and after some: the sum of weights `l` and the weighted sum `a`, both in the scale of some maximum. -/
def State (M L : FVec Ideal S8x512 .f32) (A : FVec Ideal S128x512 .f32) (l : ℕ → ℝ) (a : ℕ → ℕ → ℝ) : Prop :=
  ∃ μ : ℕ → ℝ, Reads M (fun _ c => μ c) ∧ Reads L (fun _ c => l c * fac μ c) ∧ Reads A (fun d c => a d c * fac μ c)

section Block

variable {s : FVec Ideal S512x512 .f32} {M L : FVec Ideal S8x512 .f32} {A : FVec Ideal S128x512 .f32} {W : FVec Ideal S512x128 .bf16}
variable {x g : ℕ → ℕ → ℝ} {P : ℕ → ℕ → Prop} [∀ r c, Decidable (P r c)] (hs : Scores s x P) (hP : ∀ c, P 0 c) (hW : Reads W g)

theorem pay13_eq (X : FVec Ideal S8x512 .f32) : k0_pay13 X = X := by unfold k0_pay13; simp only [shapeCast_self]

theorem pay7_at (i : S8x512.Idx) : k0_pay7 (F := Ideal) s M i
    = max (M i) (colTop s (ValueIdx.ix1 (i 1))) := by
  unfold k0_pay7
  show max (M i) (broadcastTo S8x512 (shapeCast S1x512 (colTop s) shapeCasts_S512_S1x512) broadcasts_S1x512_S8x512 i) = _
  rw [eight_lines]

theorem pay8_at (i : S8x512.Idx) : k0_pay8 (F := Ideal) s M i
    = Ideal.exp2 ((M i - k0_pay7 (F := Ideal) s M i) * (((Real.sqrt 192 * Real.log 2)⁻¹ : ℝ) : EReal)) := rfl

include hs hP hW in
/-- The first block. -/
theorem first_block (h : Start M L A) :
    State (k0_pay13 (k0_pay7 s M)) (k0_pay10 s M L) (k0_pay12 (k0_pay9 s M) (k0_pay11 s M) A W)
      (fun c => ∑ r ∈ range 512, wt x P r c) (fun d c => ∑ r ∈ range 512, g r d * wt x P r c) := by
  obtain ⟨hM, hL, hA⟩ := h
  obtain ⟨ν, hν⟩ := colMax hs hP
  have hm : Reads (k0_pay7 (F := Ideal) s M) fun _ c => ν c := fun i => by
    rw [pay7_at, hM, max_eq_right bot_le]; exact hν (i 1)
  have ha : Reads (k0_pay8 (F := Ideal) s M) fun _ _ => 0 := fun i => by
    rw [pay8_at, hM, EReal.bot_sub, EReal.bot_mul_coe_of_pos scale_pos, Ideal.exp2_bot]; rfl
  refine ⟨ν, by rw [pay13_eq]; exact hm, (pay10_reads hs hm ha (l := fun _ => 0) hL).congr fun _ c _ _ => ?_,
    (pay12_reads hs hm ha hA hW).congr fun d c _ _ => ?_⟩
  · rw [mul_zero, zero_add, Finset.sum_mul]
  · rw [mul_zero, zero_add, Finset.sum_mul]
    exact Finset.sum_congr rfl fun r _ => (mul_assoc _ _ _).symm

include hs hP hW in
/-- A further block. -/
theorem next_block {l : ℕ → ℝ} {a : ℕ → ℕ → ℝ} (h : State M L A l a) :
    State (k0_pay13 (k0_pay7 s M)) (k0_pay10 s M L) (k0_pay12 (k0_pay9 s M) (k0_pay11 s M) A W)
      (fun c => l c + ∑ r ∈ range 512, wt x P r c) (fun d c => a d c + ∑ r ∈ range 512, g r d * wt x P r c) := by
  obtain ⟨μ, hM, hL, hA⟩ := h
  obtain ⟨ν, hν⟩ := colMax hs hP
  have hm : Reads (k0_pay7 (F := Ideal) s M) fun _ c => max (μ c) (ν c) := fun i => by
    rw [pay7_at, hM]
    exact (congrArg (max _) (hν (i 1))).trans (EReal.coe_strictMono.monotone.map_max).symm
  have ha : Reads (k0_pay8 (F := Ideal) s M) fun _ c => Real.exp ((μ c - max (μ c) (ν c)) / Real.sqrt 192) := fun i => by
    rw [pay8_at, hm, hM, ← EReal.coe_sub, ← EReal.coe_mul, Ideal.exp2_coe, rpow_scale]
  have hf : ∀ c, Real.exp ((μ c - max (μ c) (ν c)) / Real.sqrt 192) * fac μ c = fac (fun c => max (μ c) (ν c)) c := fun c => by
    rw [fac, fac, ← Real.exp_add, ← add_div]
    congr 2
    ring
  refine ⟨fun c => max (μ c) (ν c), by rw [pay13_eq]; exact hm, (pay10_reads hs hm ha (l := fun c => l c * fac μ c) hL).congr fun _ c _ _ => ?_,
    (pay12_reads hs hm ha hA hW).congr fun d c _ _ => ?_⟩
  · beta_reduce
    rw [mul_left_comm, hf, add_mul, Finset.sum_mul]
  · beta_reduce
    rw [mul_left_comm, hf, add_mul, Finset.sum_mul]
    exact congrArg (_ + ·) (Finset.sum_congr rfl fun r _ => (mul_assoc _ _ _).symm)

end Block

/-! ## The results -/

section Ends

variable {M L : FVec Ideal S8x512 .f32} {A : FVec Ideal S128x512 .f32} {l : ℕ → ℝ} {a : ℕ → ℕ → ℝ}

/-- The output: the weighted sum over the sum of weights, queries by columns. -/
theorem pay4_reads (h : State M L A l a) (hl : ∀ c, 0 < l c) :
    Reads (k0_pay4 (F := Ideal) A (line0 L)) (fun c d => a d c / l c) := by
  obtain ⟨μ, -, hL, hA⟩ := h
  intro i
  unfold k0_pay4
  refine (transpose_apply [1, 0] _ _ i (ValueIdx.ix2 (i 1) (i 0)) fun b => by
    match b with
    | ⟨0, _⟩ => rfl
    | ⟨1, _⟩ => rfl).trans ?_
  show Ideal.div (A (ValueIdx.ix2 (i 1) (i 0))) (broadcastTo (α := EReal) S128x512 (line0 (F := Ideal) L) broadcasts_S1x512_S128x512 (ValueIdx.ix2 (i 1) (i 0))) = _
  have hf : 0 < fac μ (i 0).val := Real.exp_pos _
  rw [over_values (line0_reads (f := fun c => l c * fac μ c) hL), hA]
  exact (div_real _ (mul_pos (hl _) hf).ne').trans (congrArg Real.toEReal (mul_div_mul_right _ _ hf.ne'))

/-- The logarithm of the sum of weights, to base 2. -/
theorem pay5_reads (h : State M L A l a) (hl : ∀ c, 0 < l c) :
    Reads (k0_pay5 (F := Ideal) M L) (fun _ c => Real.log (l c) / Real.log 2) := by
  obtain ⟨μ, hM, hL, -⟩ := h
  intro i
  unfold k0_pay5
  show M i * Named.named (F := Ideal) κ "scale_log2e" (φ := .f32) _
    + Ideal.log (L i) * Named.named (F := Ideal) κ "log2e" (φ := .f32) _ = _
  have hf : 0 < fac μ (i 1).val := Real.exp_pos _
  have h2 : Real.log 2 ≠ 0 := (Real.log_pos (by norm_num)).ne'
  have hr := root_ne
  rw [named_scale, named_log2e, hM i, hL i, Ideal.log_coe, if_neg (not_le.mpr (mul_pos (hl _) hf)), ← EReal.coe_mul, ← EReal.coe_mul,
    ← EReal.coe_add, Real.log_mul (hl _).ne' hf.ne', fac, Real.log_exp]
  refine congrArg Real.toEReal ?_
  field_simp
  ring

end Ends

end Cert.Kernel2Ideal.Run

end
-- ==== Proof.Forward.Point.lean ====
/-
  One grid point of the forward kernel, in real numbers: its query block's part of the attention's output and of the
  log-sums.
-/
module

public import proofs.«01_k».proof.Proof.Forward.Tiles

@[expose] public section

set_option maxRecDepth 16384

noncomputable section

namespace Cert.Kernel2Ideal.Run

open Cert.Kernel2Ideal Cert.Kernel2Ideal.Gen Cert.Spec
open Idealize.ShloMosaic Idealize.ShloMosaic.Tactic
open Cert.KernelIdeal.Run (Reads Reads.congr Reads.at reads_rows reads_zero reads_rows256 reads_rows128 rows256 rows128)
open Finset

/-- A sum over all keys of what is zero past the query's block, block by block. -/
theorem sum_seen (f : ℕ → ℝ) {n c : ℕ} (hn : n < 16) (hc : c < 512) (hf : ∀ b, 512 * n + c < b → f b = 0) :
    ∑ b ∈ range 8192, f b = (∑ u ∈ range n, ∑ r ∈ range 512, f (512 * u + r)) + ∑ r ∈ range 512, f (512 * n + r) := by
  rw [show 8192 = 512 * 16 from rfl, sum_blocks, show (16 : ℕ) = (n + 1) + (15 - n) by omega, Finset.sum_range_add, Finset.sum_range_succ,
    Finset.sum_eq_zero (s := range (15 - n)) fun u _ => Finset.sum_eq_zero fun r _ => hf _ (by omega), add_zero]

section Point

variable {q k v : ℕ → ℕ → ℝ} {n : ℕ} (hn : n < 16) (hk0 : ∀ b d, 192 ≤ d → k b d = 0)
variable {qv : FVec Ideal S512x256 .bf16} {K : S8192x256.Idx → Elt Ideal .bf16} {V : S8192x128.Idx → Elt Ideal .bf16}
variable (hq : Reads qv (fun c d => q (512 * n + c) d)) (hK : Reads K k) (hV : Reads V v)

include hk0 hq hK in
/-- The scores of a key block. -/
theorem sc_reads {u : ℕ} (hu : u < 16) :
    Reads (sc (F := Ideal) qv K u) (fun r c => Real.sqrt 192 * z q k (512 * n + c) (512 * u + r)) := by
  unfold sc k0_pay6
  simp only [shapeCast_self]
  refine (reads_rows _ rfl (φ₁ := .bf16) (φ₂ := .bf16) (reads_rows256 hK (Nat.le_of_lt_succ hu)) hq reads_zero).congr fun r c _ _ => ?_
  beta_reduce
  rw [zero_add, show 256 = 192 + 64 from rfl, Finset.sum_range_add, Finset.sum_eq_zero (s := range 64) fun x _ => by
    rw [hk0 _ _ (Nat.le_add_right _ _), zero_mul], add_zero, z, mul_div_cancel₀ _ root_ne]
  exact Finset.sum_congr rfl fun d _ => mul_comm _ _

include hk0 hq hK in
theorem sc_scores {u : ℕ} (hu : u < 16) :
    Scores (sc (F := Ideal) qv K u) (fun r c => Real.sqrt 192 * z q k (512 * n + c) (512 * u + r)) (fun _ _ => True) := fun i =>
  (sc_reads hk0 hq hK hu i).trans (if_pos trivial).symm

include hk0 hq hK hn in
/-- On the diagonal later keys are masked. -/
theorem diag_scores :
    Scores (k0_pay30 (F := Ideal) (sc qv K n) : FVec Ideal S512x512 .f32) (fun r c => Real.sqrt 192 * z q k (512 * n + c) (512 * n + r)) (fun r c => r ≤ c) := fun i => by
  have h0 := (i 0).isLt
  have h1 := (i 1).isLt
  change (i 0).val < 512 at h0
  change (i 1).val < 512 at h1
  have em : cmpi .sle (iota .tc S512x512 32 [0] iota_S512x512_d0_w32) (iota .tc S512x512 32 [1] iota_S512x512_d1_w32) i
      = if (i 0).val ≤ (i 1).val then 1#1 else 0#1 := by
    refine Eq.trans ?_ (sle_small (a := (i 0).val) (b := (i 1).val) (by omega) (by omega))
    show IntOp.cmpi .sle (BitVec.ofNat 32 (0 * 512 + (i 0).val)) (BitVec.ofNat 32 (0 * 512 + (i 1).val)) = _
    rw [Nat.zero_mul, Nat.zero_add, Nat.zero_add]
  unfold k0_pay30
  show Scalar.select (cmpi .sle (iota .tc S512x512 32 [0] iota_S512x512_d0_w32) (iota .tc S512x512 32 [1] iota_S512x512_d1_w32) i)
      (sc (F := Ideal) qv K n i) (Named.named (F := Ideal) κ "mask" (φ := .f32) _) = _
  rw [em, select_if, named_mask, sc_reads hk0 hq hK hn i]

/-- A seen key's weight. -/
theorem wt_eq {u r c : ℕ} {P : ℕ → ℕ → Prop} [∀ r c, Decidable (P r c)] (h : P r c ↔ 512 * u + r ≤ 512 * n + c) :
    wt (fun r c => Real.sqrt 192 * z q k (512 * n + c) (512 * u + r)) P r c = w q k (512 * n + c) (512 * u + r) := by
  unfold wt w
  rw [mul_div_cancel_left₀ _ root_ne]
  by_cases hp : P r c
  · rw [if_pos hp, if_pos (h.mp hp)]
  · rw [if_neg hp, if_neg fun x => hp (h.mpr x)]

/-- The sums over the first `j` key blocks. -/
def lSum (q k : ℕ → ℕ → ℝ) (n j c : ℕ) : ℝ := ∑ u ∈ range j, ∑ r ∈ range 512, w q k (512 * n + c) (512 * u + r)
def aSum (q k v : ℕ → ℕ → ℝ) (n j d c : ℕ) : ℝ := ∑ u ∈ range j, ∑ r ∈ range 512, v (512 * u + r) d * w q k (512 * n + c) (512 * u + r)

theorem State.congr {M L : FVec Ideal S8x512 .f32} {A : FVec Ideal S128x512 .f32} {l l' : ℕ → ℝ} {a a' : ℕ → ℕ → ℝ} (h : State M L A l a)
    (hl : ∀ c, c < 512 → l c = l' c) (ha : ∀ d c, c < 512 → a d c = a' d c) : State M L A l' a' := by
  obtain ⟨μ, h0, h1, h2⟩ := h
  exact ⟨μ, h0, h1.congr fun _ c _ h => by rw [hl c h], h2.congr fun d c _ h => by rw [ha d c h]⟩

theorem start_state : Start (mAt (F := Ideal) qv K 0) (lAt qv K 0) (accAt qv K V 0) := by
  refine ⟨fun i => ?_, fun i => ?_, fun i => ?_⟩
  · unfold mAt k0_pay51
    rw [shapeCast_self]
    exact named_mask _
  · unfold lAt k0_pay52
    rw [shapeCast_self]
    exact ofBits_0
  · unfold accAt k0_pay53
    rw [shapeCast_self]
    exact ofBits_0

include hn hk0 hq hK hV in
/-- After some earlier blocks. -/
theorem mid_state : ∀ j, j < n → State (mAt (F := Ideal) qv K (j + 1)) (lAt qv K (j + 1)) (accAt qv K V (j + 1))
    (lSum q k n (j + 1)) (aSum q k v n (j + 1)) := by
  intro j
  induction j with
  | zero =>
    intro hj
    refine (first_block (sc_scores hk0 hq hK (u := 0) (by omega)) (fun _ => trivial) (reads_rows128 hV (u := 0) (by omega)) start_state).congr
      (fun c hc => ?_) fun d c hc => ?_
    · unfold lSum
      rw [Nat.zero_add, Finset.sum_range_one]
      exact Finset.sum_congr rfl fun r hr => wt_eq (iff_of_true trivial (by have := mem_range.mp hr; omega))
    · unfold aSum
      rw [Nat.zero_add, Finset.sum_range_one]
      exact Finset.sum_congr rfl fun r hr => congrArg (_ * ·) (wt_eq (iff_of_true trivial (by have := mem_range.mp hr; omega)))
  | succ j ih =>
    intro hj
    refine (next_block (sc_scores hk0 hq hK (u := j + 1) (by omega)) (fun _ => trivial) (reads_rows128 hV (u := j + 1) (by omega)) (ih (by omega))).congr
      (fun c hc => ?_) fun d c hc => ?_
    · unfold lSum
      rw [Finset.sum_range_succ _ (j + 1)]
      exact congrArg (_ + ·) (Finset.sum_congr rfl fun r hr => wt_eq (iff_of_true trivial (by have := mem_range.mp hr; omega)))
    · unfold aSum
      rw [Finset.sum_range_succ _ (j + 1)]
      exact congrArg (_ + ·) (Finset.sum_congr rfl fun r hr =>
        congrArg (_ * ·) (wt_eq (iff_of_true trivial (by have := mem_range.mp hr; omega))))

include hn hk0 hq hK hV in
/-- After the diagonal block: the sums over all keys. -/
theorem end_state : State (mEnd (F := Ideal) qv K n) (lEnd qv K n) (accEnd qv K V n)
    (fun c => den q k (512 * n + c)) (fun d c => ∑ b ∈ range 8192, v b d * w q k (512 * n + c) b) := by
  have hP : ∀ c : ℕ, 0 ≤ c := Nat.zero_le
  have hW := reads_rows128 hV (u := n) (by omega)
  have el : ∀ c, c < 512 → lSum q k n n c + ∑ r ∈ range 512, wt (fun r c => Real.sqrt 192 * z q k (512 * n + c) (512 * n + r)) (fun r c => r ≤ c) r c
      = den q k (512 * n + c) := fun c hc => by
    rw [den, sum_seen _ hn hc fun b hb => w_of_lt q k hb]
    exact congrArg (_ + ·) (Finset.sum_congr rfl fun r _ => wt_eq (by omega))
  have ea : ∀ d c, c < 512 → aSum q k v n n d c
      + ∑ r ∈ range 512, v (512 * n + r) d * wt (fun r c => Real.sqrt 192 * z q k (512 * n + c) (512 * n + r)) (fun r c => r ≤ c) r c
      = ∑ b ∈ range 8192, v b d * w q k (512 * n + c) b := fun d c hc => by
    rw [sum_seen (fun b => v b d * w q k (512 * n + c) b) hn hc fun b hb => by rw [w_of_lt q k hb, mul_zero]]
    exact congrArg (_ + ·) (Finset.sum_congr rfl fun r _ => congrArg (_ * ·) (wt_eq (by omega)))
  rcases Nat.eq_zero_or_pos n with h | h
  · subst h
    refine (first_block (diag_scores hn hk0 hq hK) hP hW start_state).congr (fun c hc => ?_) fun d c hc => ?_
    · rw [← el c hc, lSum, Finset.sum_range_zero, zero_add]
    · rw [← ea d c hc, aSum, Finset.sum_range_zero, zero_add]
  · have hs := mid_state hn hk0 hq hK hV (n - 1) (by omega)
    rw [Nat.sub_add_cancel h] at hs
    exact (next_block (diag_scores hn hk0 hq hK) hP hW hs).congr el ea

include hn hk0 hq hK hV in
/-- The output's block, -/
theorem o_reads : Reads (oOut (F := Ideal) qv K V n) (fun c d => ∑ b ∈ range 8192, v b d * p q k (512 * n + c) b) :=
  (pay4_reads (end_state hn hk0 hq hK hV) fun c => den_pos q k _).congr fun c d _ _ => by
    beta_reduce
    rw [Finset.sum_div]
    exact Finset.sum_congr rfl fun b _ => mul_div_assoc _ _ _

include hn hk0 hq hK hV in
/-- and the log-sums' block. -/
theorem lse_reads : Reads (lseOut (F := Ideal) qv K n) (fun _ c => Real.log (den q k (512 * n + c)) / Real.log 2) :=
  pay5_reads (end_state hn hk0 hq hK hV) fun c => den_pos q k _

end Point

end Cert.Kernel2Ideal.Run

end
-- ==== Proof.Forward.Body.lean ====
/-
  One grid point of the forward kernel, run: what it leaves in its result windows.
-/
module

public import proofs.«01_k».proof.Proof.Forward.Model
public import Idealize.ShloMosaic.Lib.Exec
public import Idealize.ShloMosaic.Lib.Tactic
public import Idealize.ShloMosaic.Lib.Pipeline.Kit

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Run (rows256 rows128 at256 at128 atWhole readWhole zero2)

variable {F : FTy → Type} [FloatOps F] [Named F]

local notation "𝕄" => MT nD τ sig Unit (Elt F) ℕ (UR sig nD τ) ℕ

section Body

variable (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .f32) (harg5 : arg5.IsWhole)
  (arg6 : Memref sig .tc .vmem S8x512 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S8x512 .f32) (harg9 : arg9.IsWhole)
  (arg10 : Memref sig .tc .vmem S8x512 .f32) (harg10 : arg10.IsWhole)
  (arg11 : Memref sig .tc .vmem S128x512 .f32) (harg11 : arg11.IsWhole)
  (qv : FVec F S512x256 .bf16) (K : S8192x256.Idx → Elt F .bf16) (V : S8192x128.Idx → Elt F .bf16)

/-- The buffers once the first `n` key blocks are done: the statistics and the sum hold what the model says, the
    first score buffer holds the next block's scores, the second one anything. -/
def held (n : ℕ) : sProp 𝕄 :=
  iprop(owns (c : Thread nD τ) arg3 fullShare K ∗ owns (c : Thread nD τ) arg4 fullShare V
    ∗ owns (c : Thread nD τ) arg7 fullShare (sc qv K n) ∗ (∃ d, owns (c : Thread nD τ) arg8 fullShare d)
    ∗ owns (c : Thread nD τ) arg9 fullShare (mAt qv K n) ∗ owns (c : Thread nD τ) arg10 fullShare (lAt qv K n)
    ∗ owns (c : Thread nD τ) arg11 fullShare (accAt qv K V n))

set_option maxHeartbeats 4000000 in
/-- One trip of the loop does two blocks. -/
theorem trip (arg1 c2 v22 v27 v32 : BitVec 32) (k : Fin (k0_t1_loop i).trips) (u : Unit) :
    held c arg3 arg4 arg7 arg8 arg9 arg10 arg11 qv K V (2 * k.val) ⊢
      wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg1 qv c2 v22 v27 v32 k u)
        (fun _ => held c arg3 arg4 arg7 arg8 arg9 arg10 arg11 qv K V (2 * (k.val + 1))) := by
  have hk : k.val < (i 1).val / 2 := trips_eq i ▸ k.isLt
  unfold held owns
  iintro ⟨⟨%f3, %h3, H3⟩, ⟨%f4, %h4, H4⟩, ⟨%f7, %h7, H7⟩, ⟨%d8, %f8, %h8, H8⟩, ⟨%f9, %h9, H9⟩, ⟨%f10, %h10, H10⟩, ⟨%f11, %h11, H11⟩⟩
  have hj : (i 1).val ≤ 15 := by have := (i 1).isLt; exact Nat.le_of_lt_succ this
  have e2 : 2 * (k.val + 1) = 2 * k.val + 1 + 1 := by omega
  have k1 : ∀ inb, _ = rows256 K _ := fun inb => (at256 arg3.view f3 (off1a_eq i k) (by omega) inb).trans (by rw [h3])
  have k2 : ∀ inb, _ = rows256 K _ := fun inb => (at256 arg3.view f3 (off1b_eq i k) (by omega) inb).trans (by rw [h3])
  have v0 : ∀ inb, _ = rows128 V _ := fun inb => (at128 arg4.view f4 (off2_eq i k) (by omega) inb).trans (by rw [h4])
  have v1 : ∀ inb, _ = rows128 V _ := fun inb => (at128 arg4.view f4 (off3_eq i k) (by omega) inb).trans (by rw [h4])
  have w7 : ∀ inb, _ = _ := fun inb => (atWhole arg7.view f7 zero2 inb).trans h7
  have w9 : ∀ inb, _ = _ := fun inb => (atWhole arg9.view f9 zero2 inb).trans h9
  have w10 : ∀ inb, _ = _ := fun inb => (atWhole arg10.view f10 zero2 inb).trans h10
  have w11 : ∀ inb, _ = _ := fun inb => (atWhole arg11.view f11 zero2 inb).trans h11
  sl_unfold [k0_t1_body]
  sl_exec
  sl_step
  isplitl [H3]; · iexists _; isplitr; swap; (· iexact H3); ipureintro; exact h3
  isplitl [H4]; · iexists _; isplitr; swap; (· iexact H4); ipureintro; exact h4
  isplitl [H7]
  · iexists _; isplitr; swap; (· iexact H7); ipureintro
    rw [e2]
    refine (readWhole _ _ zero2 _ _ _).trans ?_
    sl_unfold_run_names
    rfl
  isplitl [H8]
  · iexists _, _; isplitr; swap; (· iexact H8); ipureintro; rfl
  isplitl [H9]
  · iexists _; isplitr; swap; (· iexact H9); ipureintro
    rw [e2]
    refine (readWhole _ _ zero2 _ _ _).trans ?_
    sl_unfold_run_names
    simp only [View.readCov_cons_toLoadRect]
    rfl
  isplitl [H10]
  · iexists _; isplitr; swap; (· iexact H10); ipureintro
    rw [e2]
    refine (readWhole _ _ zero2 _ _ _).trans ?_
    sl_unfold_run_names
    simp only [View.readCov_cons_toLoadRect]
    rfl
  · iexists _; isplitr; swap; (· iexact H11); ipureintro
    rw [e2]
    refine (readWhole _ _ zero2 _ _ _).trans ?_
    sl_unfold_run_names
    simp only [View.readCov_cons_toLoadRect]
    rfl

/-- The loop does the blocks in pairs; -/
abbrev pairs (arg1 c2 v22 v27 v32 : BitVec 32) :
    LoopInv (M := 𝕄) Idealize.ShloMosaic.frame (wpE defs₀ Variants.none (c : Thread nD τ) none) Set.univ
      (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 arg1 qv c2 v22 v27 v32) :=
  ⟨fun k _ => held c arg3 arg4 arg7 arg8 arg9 arg10 arg11 qv K V (2 * k),
    fun k u => trip c i arg2 harg2 arg3 harg3 arg4 harg4 arg5 harg5 arg6 harg6 arg7 harg7 arg8 harg8 arg9 harg9 arg10 harg10 arg11 harg11 qv K V arg1 c2 v22 v27 v32 k u⟩

/-- the second loop does nothing. -/
abbrev none2 (n : ℕ) (arg1 c2 v22 v27 v32 v43 : BitVec 32) :
    LoopInv (M := 𝕄) Idealize.ShloMosaic.frame (wpE defs₀ Variants.none (c : Thread nD τ) none) Set.univ
      (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 arg10 harg10 arg11 harg11 arg1 qv c2 v22 v27 v32 v43) :=
  ⟨fun _ _ => held c arg3 arg4 arg7 arg8 arg9 arg10 arg11 qv K V n,
    fun k _ => absurd (lt_of_lt_of_eq k.isLt (trips2_eq i)) (Nat.not_lt_zero _)⟩

/-- The buffers at the end of the point. -/
def done : sProp 𝕄 :=
  iprop(owns (c : Thread nD τ) arg3 fullShare K ∗ owns (c : Thread nD τ) arg4 fullShare V
    ∗ owns (c : Thread nD τ) arg5 fullShare (oOut qv K V (i 1).val) ∗ owns (c : Thread nD τ) arg6 fullShare (lseOut qv K (i 1).val)
    ∗ (∃ d, owns (c : Thread nD τ) arg7 fullShare d) ∗ (∃ d, owns (c : Thread nD τ) arg8 fullShare d)
    ∗ (∃ d, owns (c : Thread nD τ) arg9 fullShare d) ∗ (∃ d, owns (c : Thread nD τ) arg10 fullShare d)
    ∗ (∃ d, owns (c : Thread nD τ) arg11 fullShare d))

set_option maxHeartbeats 8000000 in
/-- The whole point. -/
theorem pointRun (Q : S512x256.Idx → Elt F .bf16) (K' : PUnit → sProp 𝕄) :
    iprop(owns (c : Thread nD τ) arg2 fullShare Q
        ∗ owns (c : Thread nD τ) arg3 fullShare K ∗ owns (c : Thread nD τ) arg4 fullShare V
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg2 fullShare Q
            ∗ done c i arg3 arg4 arg5 arg6 arg7 arg8 arg9 arg10 arg11 (k0_pay54 Q) K V) -∗ K' ⟨⟩))
      ⊢ wp frame (wpE (defs₀ (F := F)) Variants.none (c : Thread nD τ) none) Set.univ
        (cc0_flash_fwd (F := F) i arg2 harg2 arg3 harg3 arg4 harg4 arg5 harg5 arg6 harg6 arg7 harg7 arg8 harg8 arg9 harg9 arg10 harg10 arg11 harg11) K' := by
  have hj : (i 1).val ≤ 15 := by have := (i 1).isLt; exact Nat.le_of_lt_succ this
  simp only [cc0_flash_fwd_eq_skeleton]; unfold cc0_flash_fwd_skel
  unfold owns
  iintro ⟨⟨%f2, %h2', H2⟩, ⟨%f3, %h3, H3⟩, ⟨%f4, %h4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  have w2 : ∀ inb, _ = _ := fun inb => (atWhole arg2.view f2 zero2 inb).trans h2'
  have k0 : ∀ inb, _ = rows256 K 0 := fun inb => (at256 arg3.view f3 (off := ![0, 0]) (u := 0) rfl (by omega) inb).trans (by rw [h3])
  sl_exec
  iapply (exec_loop _ _ _ _ _ _ _ _ _ (pairs c i arg2 harg2 arg3 harg3 arg4 harg4 arg5 harg5 arg6 harg6 arg7 harg7 arg8 harg8 arg9 harg9 arg10 harg10 arg11 harg11 (k0_pay54 Q) K V _ _ _ _ _)) $$ [H3 H4 H7 H8 H9 H10 H11]
  · iapply (show held c arg3 arg4 arg7 arg8 arg9 arg10 arg11 (k0_pay54 Q) K V (2 * 0) ⊢ _ from .rfl)
    unfold held owns
    isplitl [H3]; · iexists _; isplitr; swap; (· iexact H3); ipureintro; exact h3
    isplitl [H4]; · iexists _; isplitr; swap; (· iexact H4); ipureintro; exact h4
    isplitl [H7]
    · iexists _; isplitr; swap; (· iexact H7); ipureintro
      sl_unfold_run_names
      exact (readWhole _ _ zero2 _ _ _).trans (pay55_eq _ _)
    isplitl [H8]
    · iexists _, _; isplitr; swap; (· iexact H8); ipureintro; rfl
    isplitl [H9]
    · iexists _; isplitr; swap; (· iexact H9); ipureintro
      sl_unfold_run_names
      exact readWhole _ _ zero2 _ _ _
    isplitl [H10]
    · iexists _; isplitr; swap; (· iexact H10); ipureintro
      sl_unfold_run_names
      exact readWhole _ _ zero2 _ _ _
    · iexists _; isplitr; swap; (· iexact H11); ipureintro
      sl_unfold_run_names
      exact readWhole _ _ zero2 _ _ _
  iintro %acc HI
  ihave HI' : held c arg3 arg4 arg7 arg8 arg9 arg10 arg11 (k0_pay54 Q) K V (2 * (k0_t1_loop i).trips) $$ [HI]
  · iexact HI
  have htr := trips_eq i
  sl_exec
  iapply (exec_loop _ _ _ _ _ _ _ _ _ (none2 c i arg2 harg2 arg3 harg3 arg4 harg4 arg5 harg5 arg6 harg6 arg7 harg7 arg8 harg8 arg9 harg9 arg10 harg10 arg11 harg11 (k0_pay54 Q) K V (2 * (k0_t1_loop i).trips) _ _ _ _ _ _)) $$ [HI']
  · iapply (show held c arg3 arg4 arg7 arg8 arg9 arg10 arg11 (k0_pay54 Q) K V (2 * (k0_t1_loop i).trips) ⊢ _ from .rfl)
    iexact HI'
  iintro %acc2 HI
  ihave HI' : held c arg3 arg4 arg7 arg8 arg9 arg10 arg11 (k0_pay54 Q) K V (2 * (k0_t1_loop i).trips) $$ [HI]
  · iexact HI
  clear k0 h3 h4
  unfold held owns
  icases HI' with ⟨⟨%g3, %h3, H3⟩, ⟨%g4, %h4, H4⟩, ⟨%g7, %h7, H7⟩, ⟨%e8, %g8, %h8, H8⟩, ⟨%g9, %h9, H9⟩, ⟨%g10, %h10, H10⟩, ⟨%g11, %h11, H11⟩⟩
  have v7 : ∀ inb, _ = rows128 V _ := fun inb => (at128 arg4.view g4 (off7_eq i) hj inb).trans (by rw [h4])
  by_cases c2 : k0_cond2 i = 1#1
  · have hodd := (cond2_eq i).1 c2
    have c1 : ¬ k0_cond1 i = 1#1 := fun h => by have := (cond1_eq i).1 h; omega
    obtain ⟨n, hn⟩ : ∃ n, 2 * (k0_t1_loop i).trips = n := ⟨_, rfl⟩
    have en : (i 1).val = n + 1 := by omega
    have k8 : ∀ inb, _ = rows256 K (n + 1) := fun inb => (at256 arg3.view g3 (off8_eq i) hj inb).trans (by rw [h3, en])
    have v9 : ∀ inb, _ = rows128 V n := fun inb => (at128 arg4.view g4 (off9_eq i c2) (by omega) inb).trans (by rw [h4, en, Nat.add_sub_cancel])
    have v10 : ∀ inb, _ = rows128 V (n + 1) := fun inb => (at128 arg4.view g4 (off10_eq i) hj inb).trans (by rw [h4, en])
    rw [hn] at h7 h9 h10 h11
    have w7 : ∀ inb, _ = _ := fun inb => (atWhole arg7.view g7 zero2 inb).trans h7
    have w9 : ∀ inb, _ = _ := fun inb => (atWhole arg9.view g9 zero2 inb).trans h9
    have w10 : ∀ inb, _ = _ := fun inb => (atWhole arg10.view g10 zero2 inb).trans h10
    have w11 : ∀ inb, _ = _ := fun inb => (atWhole arg11.view g11 zero2 inb).trans h11
    sl_exec
    sl_step
    unfold done owns
    iapply Hk
    isplitl [H2]; · iexists _; isplitr; swap; (· iexact H2); ipureintro; exact h2'
    isplitl [H3]; · iexists _; isplitr; swap; (· iexact H3); ipureintro; exact h3
    isplitl [H4]; · iexists _; isplitr; swap; (· iexact H4); ipureintro; exact h4
    isplitl [H5]
    · iexists _; isplitr; swap; (· iexact H5); ipureintro
      refine (readWhole _ _ zero2 _ _ _).trans ?_
      rw [en]
      sl_unfold_run_names
      rw [storedLine]
      simp only [View.readCov_cons_toLoadRect]
      rfl
    isplitl [H6]
    · iexists _; isplitr; swap; (· iexact H6); ipureintro
      refine (readWhole _ _ zero2 _ _ _).trans ?_
      rw [en]
      sl_unfold_run_names
      simp only [View.readCov_cons_toLoadRect]
      rfl
    isplitl [H7]; · iexists _, _; isplitr; swap; (· iexact H7); ipureintro; rfl
    isplitl [H8]; · iexists _, _; isplitr; swap; (· iexact H8); ipureintro; rfl
    isplitl [H9]; · iexists _, _; isplitr; swap; (· iexact H9); ipureintro; rfl
    isplitl [H10]; · iexists _, _; isplitr; swap; (· iexact H10); ipureintro; rfl
    iexists _, _; isplitr; swap; (· iexact H11); ipureintro; rfl
  · have heven : (i 1).val % 2 = 0 := by
      have : ¬ (i 1).val % 2 = 1 := fun h => c2 ((cond2_eq i).2 h)
      omega
    have c1 : k0_cond1 i = 1#1 := (cond1_eq i).2 heven
    have en : 2 * (k0_t1_loop i).trips = (i 1).val := by omega
    rw [en] at h7 h9 h10 h11
    have w7 : ∀ inb, _ = _ := fun inb => (atWhole arg7.view g7 zero2 inb).trans h7
    have w9 : ∀ inb, _ = _ := fun inb => (atWhole arg9.view g9 zero2 inb).trans h9
    have w10 : ∀ inb, _ = _ := fun inb => (atWhole arg10.view g10 zero2 inb).trans h10
    have w11 : ∀ inb, _ = _ := fun inb => (atWhole arg11.view g11 zero2 inb).trans h11
    sl_exec
    sl_step
    unfold done owns
    iapply Hk
    isplitl [H2]; · iexists _; isplitr; swap; (· iexact H2); ipureintro; exact h2'
    isplitl [H3]; · iexists _; isplitr; swap; (· iexact H3); ipureintro; exact h3
    isplitl [H4]; · iexists _; isplitr; swap; (· iexact H4); ipureintro; exact h4
    isplitl [H5]
    · iexists _; isplitr; swap; (· iexact H5); ipureintro
      refine (readWhole _ _ zero2 _ _ _).trans ?_
      sl_unfold_run_names
      rw [storedLine]
      simp only [View.readCov_cons_toLoadRect]
      rfl
    isplitl [H6]
    · iexists _; isplitr; swap; (· iexact H6); ipureintro
      refine (readWhole _ _ zero2 _ _ _).trans ?_
      sl_unfold_run_names
      simp only [View.readCov_cons_toLoadRect]
      rfl
    isplitl [H7]; · iexists _, _; isplitr; swap; (· iexact H7); ipureintro; rfl
    isplitl [H8]; · iexists _, _; isplitr; swap; (· iexact H8); ipureintro; rfl
    isplitl [H9]; · iexists _, _; isplitr; swap; (· iexact H9); ipureintro; rfl
    isplitl [H10]; · iexists _, _; isplitr; swap; (· iexact H10); ipureintro; rfl
    iexists _, _; isplitr; swap; (· iexact H11); ipureintro; rfl

end Body

end Cert.Kernel2Ideal.Run

end
-- ==== Proof.Forward.Launch.lean ====
/-
  The launch of the forward kernel: what its result windows hold after each grid point, and the run of the program.
-/
module

public import proofs.«01_k».proof.Proof.Forward.Body
public import proofs.«01_k».proof.Proof.Gen.Kernel2Ideal.Frame.Runs
public import Idealize.ShloMosaic.Lib.Pipeline.Frame

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The query block a point works on. -/
theorem coord_eq : ∀ t : Fin cfg0.N, ((grid0.coords t) 1).val = t.val % 16 := by decide +kernel

/-- The query block as the products take it, -/
def qvOf (c : Dev nD) (t : Fin cfg0.N) : FVec F S512x256 .bf16 := k0_pay54 (iblk m c 0 t)
/-- the output's block and the log-sums' block. -/
def oAfter (c : Dev nD) (t : Fin cfg0.N) : FVec F S512x128 .f32 :=
  oOut (qvOf m c t) (iblk m c 1 t) (iblk m c 2 t) ((grid0.coords t) 1).val
def lseAfter (c : Dev nD) (t : Fin cfg0.N) : FVec F S8x512 .f32 :=
  lseOut (qvOf m c t) (iblk m c 1 t) ((grid0.coords t) 1).val

/-- The arrays as the region finds them, each input's buffer at its block after the body, the results as above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oAfter m c t
    | ⟨4, _⟩ => lseAfter m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = oAfter m c t := by dsimp only [dats]
theorem after0_4 (c : Dev nD) (t : Fin cfg0.N) : (dats m 0 c).after 4 t = lseAfter m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-! ## The body obligation -/

theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d))
          ∗ (∃ r, prngReg c r)) := by
  unfold Pipeline.ΦA; rw [scopedRest0_eq]; simp only [owns_whole]; try rfl

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, Phi_eq]
  simp only [before0_0, before0_1, before0_2]
  rw [after0_0, after0_1, after0_2, after0_3, after0_4]
  iintro ⟨⟨⟨S0, S1, S2, S3, S4⟩, Hg⟩, Ho, ⟨%d0, H0⟩, ⟨%d1, H1⟩, ⟨%d2, H2⟩, ⟨%d3, H3⟩, ⟨%d4, H4⟩⟩
  iapply (pointRun c (grid0.coords t) _ (hstage0_0 ((cfg0.slots t 0).cast nbuf0_0)) _ (hstage0_1 ((cfg0.slots t 1).cast nbuf0_1)) _ (hstage0_2 ((cfg0.slots t 2).cast nbuf0_2))
    _ (hstage0_3 ((cfg0.slots t 3).cast nbuf0_3)) _ (hstage0_4 ((cfg0.slots t 4).cast nbuf0_4)) _ (Memref.isWhole_whole cc0_scratch0) _ (Memref.isWhole_whole cc0_scratch1)
    _ (Memref.isWhole_whole cc0_scratch2) _ (Memref.isWhole_whole cc0_scratch3) _ (Memref.isWhole_whole cc0_scratch4) (iblk m c 1 t) (iblk m c 2 t) (iblk m c 0 t) _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexact S1
  isplitl [S2]; · iexact S2
  isplitl [S3]; · iexact S3
  isplitl [S4]; · iexact S4
  unfold done
  iintro ⟨H0, H1, H2, H3, H4, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- From any memory with zero counters every weakly fair execution of the program terminates, with every array of the
    pipeline at what the proof data say and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The arguments are left as they were. -/
theorem frame_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (frame_of m ρ (dats m) fun _ _ => rfl) (run_main m ρ)

end Cert.Kernel2Ideal.Run

end
-- ==== Proof.Forward.Results.lean ====
/-
  What the forward kernel's windows hold at a grid point, and what its two result arrays hold after the whole grid:
  grid point `t` works on head `t / 16`, query block `t % 16`.
-/
module

public import proofs.«01_k».proof.Proof.Value.Host
public import proofs.«01_k».proof.Proof.Forward.Host
public import proofs.«01_k».proof.Proof.Forward.Point
public import proofs.«01_k».proof.Proof.Forward.Launch
public import Idealize.ShloMosaic.Lib.Pipeline.ValueKit

@[expose] public section

set_option maxRecDepth 16384

noncomputable section

namespace Cert.Kernel2Ideal.Run

open Cert.Kernel2Ideal Cert.Kernel2Ideal.Gen Cert.Kernel2Ideal.Host Cert.Spec
open Idealize.ShloMosaic Idealize.ShloMosaic.TcCoe Idealize.ShloMosaic.Tactic
open Cert.KernelIdeal.Run (Reads)
open Cert.KernelIdeal.Host (wide_apply flat_apply)
open Finset

variable (m : (ℓ : Loc nD τ sig) → Buf (Elt Ideal) ℓ) (c : Dev nD)

/-- The head's matrices. -/
abbrev qh (h : ℕ) : ℕ → ℕ → ℝ := head (q₀ m c) h
abbrev kh (h : ℕ) : ℕ → ℕ → ℝ := head (k₀ m c) h
abbrev vh (h : ℕ) : ℕ → ℕ → ℝ := head (v₀ m c) h

/-! ## Where the windows look -/

theorem index_0 : ∀ t : Fin cfg0.N, win0_0.index t = ![t.val % 16, t.val / 16] := (by decide +kernel : ∀ t : Fin grid0.N, _)
theorem index_1 : ∀ t : Fin cfg0.N, win0_1.index t = ![0, t.val / 16] := (by decide +kernel : ∀ t : Fin grid0.N, _)
theorem index_2 : ∀ t : Fin cfg0.N, win0_2.index t = ![0, t.val / 16] := (by decide +kernel : ∀ t : Fin grid0.N, _)
theorem index_3 : ∀ t : Fin cfg0.N, win0_3.index t = ![t.val % 16, t.val / 16] := (by decide +kernel : ∀ t : Fin grid0.N, _)
theorem index_4 : ∀ t : Fin cfg0.N, win0_4.index t = ![t.val / 16, t.val % 16] := (by decide +kernel : ∀ t : Fin grid0.N, _)

section Blocks

variable (h0 : IsReal (q₀ m c)) (h1 : IsReal (k₀ m c)) (h2 : IsReal (v₀ m c)) (t : Fin cfg0.N)

include h0 in
theorem q_block : Reads (qvOf m c t) (fun r d => qh m c (t.val / 16) (512 * (t.val % 16) + r) d) := fun i => by
  have hd := (i 1).isLt
  change (i 1).val < 256 at hd
  have e0 : ((win0_0.blk t).view.emb i 0).val = t.val % 16 * 512 + (i 0).val := by blk_simp [index_0]
  have e1 : ((win0_0.blk t).view.emb i 1).val = t.val / 16 * 256 + (i 1).val := by blk_simp [index_0]
  unfold qvOf k0_pay54
  rw [shapeCast_self]
  blk_simp [iblk]
  rw [V_q, wide_apply h0, e0, e1]
  beta_reduce
  rw [show (t.val / 16 * 256 + (i 1).val) / 256 = t.val / 16 by omega, show (t.val / 16 * 256 + (i 1).val) % 256 = (i 1).val by omega,
    show t.val % 16 * 512 + (i 0).val = 512 * (t.val % 16) + (i 0).val by omega]

include h1 in
theorem k_whole : Reads (m := 8192) (n := 256) (iblk m c 1 t) (kh m c (t.val / 16)) := fun i => by
  have hd := (i 1).isLt
  change (i 1).val < 256 at hd
  have e0 : ((win0_1.blk t).view.emb i 0).val = (i 0).val := by blk_simp [index_1]
  have e1 : ((win0_1.blk t).view.emb i 1).val = t.val / 16 * 256 + (i 1).val := by blk_simp [index_1]
  blk_simp [iblk]
  rw [V_k, wide_apply h1, e0, e1]
  rw [show (t.val / 16 * 256 + (i 1).val) / 256 = t.val / 16 by omega, show (t.val / 16 * 256 + (i 1).val) % 256 = (i 1).val by omega]

include h2 in
theorem v_whole : Reads (m := 8192) (n := 128) (iblk m c 2 t) (vh m c (t.val / 16)) := fun i => by
  have hd := (i 1).isLt
  change (i 1).val < 128 at hd
  have e0 : ((win0_2.blk t).view.emb i 0).val = (i 0).val := by blk_simp [index_2]
  have e1 : ((win0_2.blk t).view.emb i 1).val = t.val / 16 * 128 + (i 1).val := by blk_simp [index_2]
  blk_simp [iblk]
  rw [V_v, flat_apply h2, e0, e1]
  rw [show (t.val / 16 * 128 + (i 1).val) / 128 = t.val / 16 by omega, show (t.val / 16 * 128 + (i 1).val) % 128 = (i 1).val by omega]

theorem k_pad (h b d : ℕ) (hd : 192 ≤ d) : kh m c h b d = 0 := head_of_ge _ _ _ hd

include h0 h1 h2 in
theorem oAfter_reads : Reads (oAfter m c t) (fun r d => ∑ b ∈ range 8192,
    vh m c (t.val / 16) b d * p (qh m c (t.val / 16)) (kh m c (t.val / 16)) (512 * (t.val % 16) + r) b) := by
  unfold oAfter
  rw [coord_eq t]
  exact o_reads (Nat.mod_lt _ (by decide)) (k_pad m c _) (q_block m c h0 t) (k_whole m c h1 t) (v_whole m c h2 t)

include h0 h1 h2 in
theorem lseAfter_reads : Reads (lseAfter m c t) (fun _ r =>
    Real.log (den (qh m c (t.val / 16)) (kh m c (t.val / 16)) (512 * (t.val % 16) + r)) / Real.log 2) := by
  unfold lseAfter
  rw [coord_eq t]
  exact lse_reads (Nat.mod_lt _ (by decide)) (k_pad m c _) (q_block m c h0 t) (k_whole m c h1 t) (v_whole m c h2 t)

end Blocks

/-! ## The arrays -/

variable (h0 : IsReal (q₀ m c)) (h1 : IsReal (k₀ m c)) (h2 : IsReal (v₀ m c))

def oArr : S8192x512.Idx → EReal := fun i => ((∑ b ∈ range 8192,
  vh m c ((i 1).val / 128) b ((i 1).val % 128) * p (qh m c ((i 1).val / 128)) (kh m c ((i 1).val / 128)) (i 0).val b : ℝ) : EReal)
def lseArr : S32x8192.Idx → EReal := fun i =>
  ((Real.log (den (qh m c ((i 0).val / 8)) (kh m c ((i 0).val / 8)) (i 1).val) / Real.log 2 : ℝ) : EReal)

include h0 h1 h2 in
theorem arr_o : (dats m 0 c).arrAt 3 cfg0.N = oArr m c := by
  refine (dats m 0 c).arrAt_eq_of_covers 3 _ (by decide +kernel) fun t hf y => ?_
  blk_simp
  rw [after0_3]
  have hd := (y 1).isLt
  change (y 1).val < 128 at hd
  refine (oAfter_reads m c h0 h1 h2 t y).trans ?_
  unfold oArr
  blk_simp [index_3]
  rw [show (t.val / 16 * 128 + (y 1).val) / 128 = t.val / 16 by omega, show (t.val / 16 * 128 + (y 1).val) % 128 = (y 1).val by omega,
    show t.val % 16 * 512 + (y 0).val = 512 * (t.val % 16) + (y 0).val by omega]

include h0 h1 h2 in
theorem arr_lse : (dats m 0 c).arrAt 4 cfg0.N = lseArr m c := by
  refine (dats m 0 c).arrAt_eq_of_covers 4 _ (by decide +kernel) fun t hf y => ?_
  blk_simp
  rw [after0_4]
  have hd := (y 0).isLt
  change (y 0).val < 8 at hd
  refine (lseAfter_reads m c h0 h1 h2 t y).trans ?_
  unfold lseArr
  blk_simp [index_4]
  rw [show (t.val / 16 * 8 + (y 0).val) / 8 = t.val / 16 by omega,
    show t.val % 16 * 512 + (y 1).val = 512 * (t.val % 16) + (y 1).val by omega]

end Cert.Kernel2Ideal.Run

end
-- ==== Proof.Forward.Reference.lean ====
/-
  The forward reference's results, element by element. Its softmax lines are those of the backward reference, whose
  elements are read in `Value/Reference`.
-/
module

public import proofs.«01_k».proof.Proof.Value.Reference
public import proofs.«01_k».proof.Proof.Gen.Reference2Ideal.Read

@[expose] public section

noncomputable section

namespace Cert.Reference2Ideal.Elements

open Cert.Reference2Ideal Cert.Reference2Ideal.Gen Cert.Reference2Ideal.Read Cert.Spec Finset
open Idealize.ShloMosaic Idealize.ShloMosaic.TcCoe
open Cert.ReferenceIdeal.Elements (masked prob)

variable {x0 x1 : (⟨S8192x4x192, .f32⟩ : BufTy).Contents (Elt Ideal)} (h0 : IsReal x0) (h1 : IsReal x1)
  {x2 : (⟨S8192x4x128, .f32⟩ : BufTy).Contents (Elt Ideal)} (h2 : IsReal x2)

theorem scores_eq : val_main_v12 (F := Ideal) x0 x1 = Cert.ReferenceIdeal.Read.val_main_v12_0 (F := Ideal) x0 x1 := rfl
theorem masked_eq : val_main_v31 (F := Ideal) x0 x1 = Cert.ReferenceIdeal.Read.val_main_v12_0 (F := Ideal) x0 x1 := rfl
theorem prob_eq : val_main_v42 (F := Ideal) x0 x1 = Cert.ReferenceIdeal.Read.val_main_v37 (F := Ideal) x0 x1 := by
  unfold val_main_v42 val_main_v41 val_main_v40 val_main_v39 val_main_v38 val_main_v37 val_main_v36 val_main_v35 val_main_v34 val_main_v32
  rw [masked_eq]
  rfl

include h0 h1 in
/-- The row sums of the scores' exponentials, -/
theorem expSum (i : S4x8192.Idx) :
    val_main_v14 (F := Ideal) x0 x1 i = (den (head x0 (i 0).val) (head x1 (i 0).val) (i 1).val : EReal) := by
  rw [val_main_v14_apply, val_main_cst_1_apply, Ideal.ofBits_def, ofBits_0,
    sum_fin _ (fun b => w (head x0 (i 0).val) (head x1 (i 0).val) (i 1).val b) fun k => ?_, ← EReal.coe_add, zero_add, den]
  rw [val_main_v13_apply, scores_eq, masked h0 h1, Ideal.hostUnary_exp_def, w]
  split
  · exact Ideal.exp_coe _
  · rw [Ideal.exp_bot, EReal.coe_zero]

include h0 h1 in
/-- their logarithms to base 2, -/
theorem logSum (i : S4x8192.Idx) : val_main_v18 (F := Ideal) x0 x1 i
    = (Real.log (den (head x0 (i 0).val) (head x1 (i 0).val) (i 1).val) / Real.log 2 : ℝ) := by
  have hd := den_pos (head x0 (i 0).val) (head x1 (i 0).val) (i 1).val
  rw [val_main_v18_apply, val_main_v15_apply, expSum h0 h1, val_main_v17_apply, val_main_v16_apply, val_main_cst_2_apply, Ideal.ofBits_def,
    ofBits_2, Ideal.hostUnary_log_def, Ideal.hostUnary_log_def, Ideal.log_coe, Ideal.log_coe, if_neg (not_le.mpr hd), if_neg (by norm_num),
    Ideal.hostDivf_def, div_real _ (Real.log_pos (by norm_num)).ne']

include h0 h1 in
/-- over eight lines a head, -/
theorem lse_out (i : S32x8192.Idx) : val_main_v47 (F := Ideal) x0 x1 i
    = (Real.log (den (head x0 ((i 0).val / 8)) (head x1 ((i 0).val / 8)) (i 1).val) / Real.log 2 : ℝ) := by
  have h := (i 1).isLt
  change (i 1).val < 8192 at h
  have e0 : (idx_main_v46 (idx_main_v47 i) 0).val = (i 0).val / 8 := by show ((i 0).val * 8192 + (i 1).val) / 65536 = _; omega
  have e1 : (idx_main_v46 (idx_main_v47 i) 1).val = (i 1).val := by show ((i 0).val * 8192 + (i 1).val) % 8192 = _; omega
  rw [val_main_v47_apply, val_main_v46_apply, logSum h0 h1, e0, e1]

include h0 h1 h2 in
/-- and the attention's output. -/
theorem o_out (i : S8192x512.Idx) : val_main_v45 (F := Ideal) x0 x1 x2 i
    = ((∑ b ∈ range 8192, head x2 ((i 1).val / 128) b ((i 1).val % 128)
        * p (head x0 ((i 1).val / 128)) (head x1 ((i 1).val / 128)) (i 0).val b : ℝ) : EReal) := by
  have h := (i 1).isLt
  change (i 1).val < 512 at h
  have e0 : (idx_main_v45 i 0).val = (i 0).val := by show ((i 0).val * 512 + (i 1).val) / 512 = _; omega
  have e1 : (idx_main_v45 i 1).val = (i 1).val / 128 := by show ((i 0).val * 512 + (i 1).val) / 128 % 4 = _; omega
  have e2 : (idx_main_v45 i 2).val = (i 1).val % 128 := by show ((i 0).val * 512 + (i 1).val) % 128 = _; omega
  rw [val_main_v45_apply, ← e0, ← e1, ← e2]
  generalize idx_main_v45 i = j
  rw [val_main_v44_apply, val_main_v43_apply,
    sum_fin _ (fun b => head x2 (j 1).val b (j 2).val * p (head x0 (j 1).val) (head x1 (j 1).val) (j 0).val b) fun k => ?_]
  rw [prob_eq, prob h0 h1, head_eq h2, ← EReal.coe_mul]

end Cert.Reference2Ideal.Elements

end
-- ==== Proof.Forward.Join.lean ====
/-
  The runs of the two forward programs, each with its results written as the attention's output and log-sums.
-/
module

public import proofs.«01_k».proof.Proof.Forward.Results
public import proofs.«01_k».proof.Proof.Forward.Reference
public import proofs.«01_k».proof.Proof.Gen.Reference2Ideal.Run

@[expose] public section

set_option maxRecDepth 16384

noncomputable section

open Idealize.ShloMosaic Idealize.ShloMosaic.TcCoe Idealize.SL.Sem Cert.Spec

namespace Cert.Kernel2Ideal.Run

open Cert.Kernel2Ideal Cert.Kernel2Ideal.Gen Cert.Kernel2Ideal.Host

theorem values (m : (ℓ : Loc nD τ sig) → Buf (Elt Ideal) ℓ) (ρ : Dev nD → PrngReg)
    (hm : ∀ c, IsReal (q₀ m c) ∧ IsReal (k₀ m c) ∧ IsReal (v₀ m c)) :
    θ_run defs (onTc (τ := τ) (main (F := Ideal))) ⟨m, fun _ => 0, ρ⟩ (fun r => ∀ c : Dev nD,
      r.2.mem ((c.tc : Thread nD τ).loc main_v8_0) = oArr m c
      ∧ r.2.mem ((c.tc : Thread nD τ).loc main_v8_1) = lseArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    have ⟨h0, h1, h2⟩ := hm c
    ⟨(h.1.out_eq c 3).trans (arr_o m c h0 h1 h2), (h.1.out_eq c 4).trans (arr_lse m c h0 h1 h2),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end Cert.Kernel2Ideal.Run

namespace Cert.Reference2Ideal.Elements

open Cert.Reference2Ideal

variable (m : (ℓ : Loc Kernel2Ideal.nD Kernel2Ideal.τ Kernel2Ideal.sig) → Buf (Elt Ideal) ℓ)
variable (m' : (ℓ : Loc nD τ sig) → Buf (Elt Ideal) ℓ)

/-- The reference's run, at the arrays the kernel's argument buffers hold. -/
theorem values (ρ : Dev nD → PrngReg)
    (hm : ∀ c, IsReal (Kernel2Ideal.Host.q₀ m c) ∧ IsReal (Kernel2Ideal.Host.k₀ m c) ∧ IsReal (Kernel2Ideal.Host.v₀ m c))
    (e : ∀ c : Dev nD, m' ((c.tc : Thread nD τ).loc main_arg0) = Kernel2Ideal.Host.q₀ m c
      ∧ m' ((c.tc : Thread nD τ).loc main_arg1) = Kernel2Ideal.Host.k₀ m c
      ∧ m' ((c.tc : Thread nD τ).loc main_arg2) = Kernel2Ideal.Host.v₀ m c) :
    θ_run defs (onTc (τ := τ) (main (F := Ideal))) ⟨m', fun _ => 0, ρ⟩ (fun r => ∀ c : Dev nD,
      r.2.mem ((c.tc : Thread nD τ).loc main_v45) = Kernel2Ideal.Run.oArr m c
      ∧ r.2.mem ((c.tc : Thread nD τ).loc main_v47) = Kernel2Ideal.Run.lseArr m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono (fun r h c => by
    obtain ⟨h0, h1, h2⟩ := hm c
    obtain ⟨e0, e1, e2⟩ := e c
    obtain ⟨r0, r1, hr⟩ := h c
    refine ⟨r0.trans ?_, r1.trans ?_, hr⟩
    · rw [Read.val_main_v45_eq, e0, e1, e2]
      exact funext fun i => o_out h0 h1 h2 i
    · rw [Read.val_main_v47_eq, e0, e1]
      exact funext fun i => lse_out h0 h1 i) (Cert.Reference2Ideal.Value.run (F := Ideal) m' ρ)

end Cert.Reference2Ideal.Elements

end
-- ==== Proof.Project.Spec.lean ====
/-
  The projections over the extended reals: normalised rows, products with weights, and the rotary embedding, as functions
  of row and column numbers.
-/
module

public import Idealize.ShloMosaic.PureOps.Ideal.Laws

@[expose] public section

noncomputable section

namespace Cert.Project

open Idealize.ShloMosaic
open Finset

/-- The small number under the root. -/
def eps : EReal := Ideal.ofBits .f32 0x358637BD#32

/-- The sum of squares of a row's first `n` entries. -/
def squares (n : ℕ) (u : ℕ → EReal) : EReal := ∑ j ∈ range n, u j * u j
/-- One over the root of a mean of `n` squares. -/
def scale (n : ℕ) (s : EReal) : EReal := Ideal.rsqrt (s * (((n : ℝ)⁻¹ : ℝ) : EReal) + eps)
/-- A row of `n` entries, normalised and weighted. -/
def normed (n : ℕ) (u g : ℕ → EReal) (j : ℕ) : EReal := u j * scale n (squares n u) * g j
/-- A row of `n` entries against a column of weights. -/
def against (n : ℕ) (u : ℕ → EReal) (W : ℕ → ℕ → EReal) (c : ℕ) : EReal := ∑ k ∈ range n, u k * W k c

theorem squares_congr {n : ℕ} {u w : ℕ → EReal} (h : ∀ j, j < n → u j = w j) : squares n u = squares n w :=
  sum_congr rfl fun j hj => by rw [h j (mem_range.mp hj)]
theorem normed_congr {n : ℕ} {u w g : ℕ → EReal} (h : ∀ j, j < n → u j = w j) {j : ℕ} (hj : j < n) :
    normed n u g j = normed n w g j := by
  rw [normed, normed, squares_congr h, h j hj]
theorem against_congr {n : ℕ} {u w : ℕ → EReal} {W X : ℕ → ℕ → EReal} {c d : ℕ} (h : ∀ k, k < n → u k = w k)
    (e : ∀ k, k < n → W k c = X k d) : against n u W c = against n w X d :=
  sum_congr rfl fun k hk => by rw [h k (mem_range.mp hk), e k (mem_range.mp hk)]
theorem against_zero {n : ℕ} {u : ℕ → EReal} {W : ℕ → ℕ → EReal} {c : ℕ} (e : ∀ k, k < n → W k c = 0) : against n u W c = 0 :=
  sum_eq_zero fun k hk => by rw [e k (mem_range.mp hk), mul_zero]

/-- Squares of a row that is zero from `n` on. -/
theorem squares_zero (n p : ℕ) {u : ℕ → EReal} (h : ∀ j, n ≤ j → j < n + p → u j = 0) : squares (n + p) u = squares n u := by
  induction p with
  | zero => rfl
  | succ p ih =>
    rw [show n + (p + 1) = n + p + 1 by omega, squares, sum_range_succ, h _ (by omega) (by omega), mul_zero, add_zero]
    exact ih fun j a b => h j a (by omega)
/-- Squares of a row in two parts. -/
theorem squares_add (n p : ℕ) (u : ℕ → EReal) : squares (n + p) u = squares n u + squares p (fun j => u (n + j)) :=
  sum_range_add _ n p

theorem squares_nonneg (n : ℕ) (u : ℕ → EReal) : 0 ≤ squares n u :=
  sum_nonneg fun j _ => by
    rcases le_total 0 (u j) with h | h
    · exact EReal.mul_nonneg h h
    · rw [← neg_mul_neg]
      have := EReal.neg_nonneg.mpr h
      exact EReal.mul_nonneg this this

theorem eps_pos : ∃ e : ℝ, 0 < e ∧ eps = (e : EReal) := by
  refine ⟨8796093 * 2 ^ (-43 : ℤ), by positivity, ?_⟩
  simp [eps, Ideal.ofBits, Ideal.ieee, -EReal.coe_mul]

/-- The scale of a mean of squares is a real number, none below zero. -/
theorem scale_real (n : ℕ) {s : EReal} (hs : 0 ≤ s) : 0 ≤ scale n s ∧ scale n s ≠ ⊤ := by
  obtain ⟨e, he, h⟩ := eps_pos
  have hn : (0 : EReal) ≤ (((n : ℝ)⁻¹ : ℝ) : EReal) := EReal.coe_nonneg.mpr (by positivity)
  have h1 := EReal.mul_nonneg hs hn
  rw [scale, h]
  generalize s * (((n : ℝ)⁻¹ : ℝ) : EReal) = x at h1
  induction x with
  | bot => exact absurd h1 (by simp)
  | top => simp
  | coe r =>
    have hr : (0 : ℝ) ≤ r := EReal.coe_nonneg.mp h1
    rw [← EReal.coe_add, Ideal.rsqrt_coe, if_neg (by linarith), if_neg (by linarith)]
    exact ⟨EReal.coe_nonneg.mpr (by positivity), EReal.coe_ne_top _⟩

/-- The rotary embedding of a row's columns from 128 to 192, the two halves of 32 turned against each other. -/
def rotated (N C S : ℕ → EReal) (d : ℕ) : EReal :=
  if d < 128 then N d
  else if d < 160 then N d * C (d - 128) - N (d + 32) * S (d - 128)
  else N d * C (d - 160) + N (d - 32) * S (d - 160)

/-- The three factors by which the kernel turns 128 columns, of which 64 are used: for the column itself, -/
def turn (C : ℕ → EReal) (l : ℕ) : EReal := if l < 32 then C l else if l < 64 then C (l - 32) else 0
/-- for the one 32 before it -/
def turn1 (S : ℕ → EReal) (l : ℕ) : EReal := if l < 32 then 0 else if l < 64 then S (l - 32) else 0
/-- and for the one 32 after it. -/
def turn2 (S : ℕ → EReal) (l : ℕ) : EReal := if l < 32 then -S l else 0
/-- 128 columns turned, with the columns before the first being the last ones. -/
def turned (T c s t : ℕ → EReal) (l : ℕ) : EReal := T l * c l + T ((l + 96) % 128) * s l + T ((l + 32) % 128) * t l

/-- Both ways of turning agree on the columns used, -/
theorem turned_eq (N T C S : ℕ → EReal) (h : ∀ l, l < 64 → T l = N (128 + l)) {l : ℕ} (hl : l < 64) :
    turned T (turn C) (turn1 S) (turn2 S) l = rotated N C S (128 + l) := by
  unfold turned rotated turn turn1 turn2
  rw [if_neg (show ¬ 128 + l < 128 by omega)]
  by_cases h1 : l < 32
  · rw [if_pos h1, if_pos h1, if_pos h1, if_pos (show 128 + l < 160 by omega), mul_zero, add_zero, h l hl,
      show (l + 32) % 128 = l + 32 by omega, h _ (by omega), mul_neg, show 128 + (l + 32) = 128 + l + 32 by omega,
      show 128 + l - 128 = l by omega]
    rfl
  · rw [if_neg h1, if_neg h1, if_neg h1, if_neg (show ¬ 128 + l < 160 by omega), if_pos hl, if_pos hl, mul_zero, add_zero, h l hl,
      show (l + 96) % 128 = l - 32 by omega, h _ (by omega), show 128 + l - 32 = 128 + (l - 32) by omega,
      show 128 + l - 160 = l - 32 by omega]
/-- and the others are zero. -/
theorem turned_zero (T C S : ℕ → EReal) {l : ℕ} (hl : 64 ≤ l) : turned T (turn C) (turn1 S) (turn2 S) l = 0 := by
  unfold turned turn turn1 turn2
  rw [if_neg (show ¬ l < 32 by omega), if_neg (show ¬ l < 32 by omega), if_neg (show ¬ l < 32 by omega), if_neg (show ¬ l < 64 by omega),
    if_neg (show ¬ l < 64 by omega), mul_zero, mul_zero, mul_zero, add_zero, add_zero]

/-- A scale that is a real number may come before or after turning. -/
theorem turned_mul (T C S : ℕ → EReal) {a : EReal} (h0 : 0 ≤ a) (h1 : a ≠ ⊤) (l : ℕ) :
    turned T (turn C) (turn1 S) (turn2 S) l * a = turned (fun j => T j * a) (turn C) (turn1 S) (turn2 S) l := by
  unfold turned
  rw [EReal.right_distrib_of_nonneg_of_ne_top h0 h1, EReal.right_distrib_of_nonneg_of_ne_top h0 h1, mul_right_comm (T l),
    mul_right_comm (T ((l + 96) % 128)), mul_right_comm (T ((l + 32) % 128))]

end Cert.Project

end
-- ==== Proof.Project.Reading.lean ====
/-
  The kernel's operations on blocks, read at row and column numbers.
-/
module

public import proofs.«01_k».proof.Proof.Project.Spec
public import Idealize.ShloMosaic.Lib.KernelVsHost
public import Idealize.ShloMosaic.Lib.ValueLayoutCasts
public import Idealize.ShloMosaic.Lib.MatmulPlain
public import Idealize.ShloMosaic.Lib.Pipeline.Value

@[expose] public section

noncomputable section

namespace Cert.Project

open Idealize.ShloMosaic
open Finset

variable {m n p : ℕ} {f g : ℕ → ℕ → EReal}

/-- An array's entries are a table's. -/
def Reads (X : (⟨2, ![m, n]⟩ : Shape).Idx → EReal) (f : ℕ → ℕ → EReal) : Prop := ∀ i, X i = f (i 0).val (i 1).val

theorem Reads.congr {X : (⟨2, ![m, n]⟩ : Shape).Idx → EReal} (h : Reads X f) (e : ∀ a d, a < m → d < n → f a d = g a d) : Reads X g :=
  fun i => (h i).trans (e _ _ (i 0).isLt (i 1).isLt)
theorem Reads.at {X : (⟨2, ![m, n]⟩ : Shape).Idx → EReal} (h : Reads X f) (i : (⟨2, ![m, n]⟩ : Shape).Idx) {a d : ℕ}
    (ha : (i 0).val = a) (hd : (i 1).val = d) : X i = f a d := by rw [h i, ha, hd]

/-- A table of an array's entries, zero past its edges. -/
def table (X : (⟨2, ![m, n]⟩ : Shape).Idx → EReal) (a d : ℕ) : EReal :=
  if h : a < m ∧ d < n then X (ValueIdx.ix2 ⟨a, h.1⟩ ⟨d, h.2⟩) else 0
theorem reads_table (X : (⟨2, ![m, n]⟩ : Shape).Idx → EReal) : Reads X (table X) := fun i => by
  rw [table, dif_pos ⟨(i 0).isLt, (i 1).isLt⟩]
  exact congrArg X (by funext a; fin_cases a <;> rfl)
theorem Reads.table_eq {X : (⟨2, ![m, n]⟩ : Shape).Idx → EReal} (h : Reads X f) {a d : ℕ} (ha : a < m) (hd : d < n) :
    table X a d = f a d := by
  rw [table, dif_pos ⟨ha, hd⟩]
  exact h.at _ rfl rfl

theorem reads_mul {φ : FTy} {X Y : FVec Ideal ⟨2, ![m, n]⟩ φ} (hX : Reads X f) (hY : Reads Y g) :
    Reads (mulf X Y) (fun r j => f r j * g r j) := fun i => congrArg₂ (· * ·) (hX i) (hY i)
theorem reads_add {φ : FTy} {X Y : FVec Ideal ⟨2, ![m, n]⟩ φ} (hX : Reads X f) (hY : Reads Y g) :
    Reads (addf X Y) (fun r j => f r j + g r j) := fun i => congrArg₂ (· + ·) (hX i) (hY i)
theorem reads_trunc {X : FVec Ideal ⟨2, ![m, n]⟩ .f32} (h : FTy.bf16.bits < FTy.f32.bits) (hX : Reads X f) :
    Reads (truncf .bf16 X h) f := hX
theorem reads_cast {X : (⟨2, ![m, n]⟩ : Shape).Idx → EReal} (h : (⟨2, ![m, n]⟩ : Shape).ShapeCasts ⟨2, ![m, n]⟩) (hX : Reads X f) :
    Reads (shapeCast ⟨2, ![m, n]⟩ X h) f := by rw [shapeCast_self]; exact hX

/-- A column against every column, -/
theorem reads_col {X : (⟨2, ![m, 1]⟩ : Shape).Idx → EReal} {S : ℕ → EReal} (h : (⟨2, ![m, 1]⟩ : Shape).Broadcasts ⟨2, ![m, n]⟩)
    (hX : Reads X fun r _ => S r) : Reads (broadcastTo ⟨2, ![m, n]⟩ X h) (fun r _ => S r) := fun i =>
  (broadcastTo_apply X h i (ValueIdx.ix2 (i 0) (0 : Fin 1)) fun a => by
    match a with
    | ⟨0, _⟩ =>
      have := (i 0).isLt
      change (i 0).val < m at this
      show (i 0).val = if m = 1 then 0 else (i 0).val
      split <;> omega
    | ⟨1, _⟩ => rfl).trans (hX.at _ rfl rfl)
/-- a row against every row, -/
theorem reads_row {X : (⟨2, ![1, n]⟩ : Shape).Idx → EReal} {G : ℕ → EReal} (h : (⟨2, ![1, n]⟩ : Shape).Broadcasts ⟨2, ![m, n]⟩)
    (hX : Reads X fun _ j => G j) : Reads (broadcastTo ⟨2, ![m, n]⟩ X h) (fun _ j => G j) := fun i =>
  (broadcastTo_apply X h i (ValueIdx.ix2 (0 : Fin 1) (i 1)) fun a => by
    match a with
    | ⟨0, _⟩ => rfl
    | ⟨1, _⟩ =>
      have := (i 1).isLt
      change (i 1).val < n at this
      show (i 1).val = if n = 1 then 0 else (i 1).val
      split <;> omega).trans (hX.at _ rfl rfl)

/-- some of the columns, -/
theorem reads_slice {X : (⟨2, ![m, n]⟩ : Shape).Idx → EReal} (o : ℕ) (h : (⟨2, ![m, n]⟩ : Shape).Slices ![0, o] ⟨2, ![m, p]⟩) (hX : Reads X f) :
    Reads (extractStridedSlice ⟨2, ![m, p]⟩ ![0, o] X h) (fun r j => f r (o + j)) := fun i =>
  have hp : o + (i 1).val < n := by
    have := h.2 1
    have h1 := (i 1).isLt
    change (i 1).val < p at h1
    change o + p ≤ n at this
    omega
  (extractStridedSlice_apply ![0, o] X h i (ValueIdx.ix2 (i 0) ⟨o + (i 1).val, hp⟩) fun a => by
    match a with
    | ⟨0, _⟩ => exact (Nat.zero_add _).symm
    | ⟨1, _⟩ => rfl).trans (hX.at _ rfl rfl)

/-- columns turned around the end, -/
theorem reads_turn {X : (⟨2, ![m, n]⟩ : Shape).Idx → EReal} (b : BitVec 32) (k : ℕ) (hb : b.toNat + k = n) (hk : 0 < k)
    (h : (⟨2, ![m, n]⟩ : Shape).Rotates 1 none) (hX : Reads X f) :
    Reads (dynamicRotate 1 b none X h) (fun r j => f r ((j + k) % n)) := fun i =>
  have hn : ((i 1).val + k) % n < n := Nat.mod_lt _ (by have := (i 1).isLt; change (i 1).val < n at this; omega)
  (dynamicRotate_apply (1 : Fin 2) b X h i (ValueIdx.ix2 (i 0) ⟨((i 1).val + k) % n, hn⟩) fun a => by
    match a with
    | ⟨0, _⟩ => rfl
    | ⟨1, _⟩ =>
      show ((i 1).val + k) % n = ((i 1).val + n - b.toNat % n) % n
      rw [Nat.mod_eq_of_lt (show b.toNat < n by omega), show (i 1).val + n - b.toNat = (i 1).val + k by omega]).trans
  (hX.at _ rfl rfl)

/-- the sums of a row's squares, -/
theorem reads_squares {X : FVec Ideal ⟨2, ![m, n]⟩ .f32} (h : (⟨2, ![m, n]⟩ : Shape).Reduces [1] ⟨1, ![m]⟩)
    (hφ : FKind.Formats .f32) (hacc : 0x00000000#32 = FKind.add.neutral .f32 hφ) (hc : (⟨1, ![m]⟩ : Shape).ShapeCasts ⟨2, ![m, 1]⟩) (hX : Reads X f) :
    Reads (shapeCast ⟨2, ![m, 1]⟩ (multiReduction .add [1] ⟨1, ![m]⟩ (mulf X X) 0x00000000#32 h hφ hacc) hc)
      (fun r _ => squares n (f r)) := fun i => by
  obtain ⟨r, c, rfl⟩ : ∃ r c, i = ValueIdx.ix2 r c := ⟨i 0, i 1, by funext a; fin_cases a <;> rfl⟩
  refine (ValueIdx.shapeCast_a_a1_apply _ hc r c).trans ?_
  refine (Ideal.multiReduction_add_single (mulf X X) _ h hφ hacc (ValueIdx.ix1 r)).trans ?_
  refine Eq.trans ?_ (Fin.sum_univ_eq_sum_range (fun j => f r.val j * f r.val j) n)
  refine sum_congr rfl fun k _ => ?_
  have e : h.lift (ValueIdx.ix1 r) k = ValueIdx.ix2 r (⟨k.val, k.isLt⟩ : Fin n) := by
    funext a; apply Fin.ext; fin_cases a <;> rfl
  rw [e]
  exact congrArg₂ (· * ·) (hX.at _ rfl rfl) (hX.at _ rfl rfl)

/-- one over the root of their means, -/
theorem reads_scale {s : FVec Ideal ⟨2, ![m, 1]⟩ .f32} {S : ℕ → EReal} {c : Ideal .f32} (k : ℕ) (hc : c = (((k : ℝ)⁻¹ : ℝ) : EReal))
    (hs : Reads s fun r _ => S r) :
    Reads (rsqrt (addf (mulf s (broadcast ⟨2, ![m, 1]⟩ c)) (broadcast ⟨2, ![m, 1]⟩ (Scalar.ofBits (F := Ideal) .f32 0x358637BD#32))))
      (fun r _ => scale k (S r)) := fun i => by
  show Ideal.rsqrt (s i * c + eps) = _
  rw [hs i, hc]
  rfl

/-- and columns against rows. -/
theorem reads_dot {K : ℕ} {φ₁ φ₂ : FTy} (D : DotDims ⟨2, ![m, K]⟩ ⟨2, ![K, n]⟩ ⟨2, ![m, n]⟩) (hD : D = DotDims.plain m K n)
    {X : FVec Ideal ⟨2, ![m, K]⟩ φ₁} {Y : FVec Ideal ⟨2, ![K, n]⟩ φ₂} (hX : Reads X f) (hY : Reads Y g) :
    Reads (FloatOps.matmul D none X Y (constant (F := Ideal) ⟨2, ![m, n]⟩ .f32 0x00000000#32)) (fun r c => against K (f r) g c) := fun i => by
  subst hD
  obtain ⟨r, c, rfl⟩ : ∃ r c, i = ValueIdx.ix2 r c := ⟨i 0, i 1, by funext a; fin_cases a <;> rfl⟩
  have e0 : constant (F := Ideal) ⟨2, ![m, n]⟩ .f32 0x00000000#32 (ValueIdx.ix2 r c) = (0 : EReal) := by
    show Ideal.ofBits .f32 0x00000000#32 = 0
    simp [Ideal.ofBits, Ideal.ieee]
  rw [Ideal.matmul_plain_apply, e0, zero_add]
  refine Eq.trans ?_ (Fin.sum_univ_eq_sum_range (fun k => f r.val k * g k c.val) K)
  exact sum_congr rfl fun k _ => congrArg₂ (· * ·) (hX.at _ rfl rfl) (hY.at _ rfl rfl)

/-- The words of 1/1024, -/
theorem word_1024 : (Scalar.ofBits .f32 0x3A800000#32 : Ideal .f32) = ((((1024 : ℕ) : ℝ)⁻¹ : ℝ) : EReal) := by
  show Ideal.ofBits .f32 0x3A800000#32 = _
  simp [Ideal.ofBits, Ideal.ieee, -EReal.coe_mul]; norm_num
/-- of 1/256 -/
theorem word_256 : (Scalar.ofBits .f32 0x3B800000#32 : Ideal .f32) = ((((256 : ℕ) : ℝ)⁻¹ : ℝ) : EReal) := by
  show Ideal.ofBits .f32 0x3B800000#32 = _
  simp [Ideal.ofBits, Ideal.ieee, -EReal.coe_mul]; norm_num
/-- and of 1/128. -/
theorem word_128 : (Scalar.ofBits .f32 0x3C000000#32 : Ideal .f32) = ((((128 : ℕ) : ℝ)⁻¹ : ℝ) : EReal) := by
  show Ideal.ofBits .f32 0x3C000000#32 = _
  simp [Ideal.ofBits, Ideal.ieee, -EReal.coe_mul]; norm_num

end Cert.Project

end
-- ==== Proof.Project.Cubes.lean ====
/-
  Arrays of three and four axes read as tables, and the layout operations between them and the arrays of two.
-/
module

public import proofs.«01_k».proof.Proof.Project.Reading
public import Idealize.ShloMosaic.Lib.Pointwise.SelectCore

@[expose] public section

noncomputable section

namespace Cert.Project

open Idealize.ShloMosaic

variable {m n p q k a b : ℕ} {f g u : ℕ → ℕ → EReal} {F G : ℕ → ℕ → ℕ → EReal}

/-- An array whose entries are a table's. -/
def Reads3 (X : (⟨3, ![m, n, p]⟩ : Shape).Idx → EReal) (F : ℕ → ℕ → ℕ → EReal) : Prop := ∀ i, X i = F (i 0).val (i 1).val (i 2).val
theorem Reads3.congr {X : (⟨3, ![m, n, p]⟩ : Shape).Idx → EReal} (h : Reads3 X F) (e : ∀ r h d, r < m → h < n → d < p → F r h d = G r h d) :
    Reads3 X G := fun i => (h i).trans (e _ _ _ (i 0).isLt (i 1).isLt (i 2).isLt)
theorem Reads3.at {X : (⟨3, ![m, n, p]⟩ : Shape).Idx → EReal} (h : Reads3 X F) (i : (⟨3, ![m, n, p]⟩ : Shape).Idx) {r x d : ℕ}
    (h0 : (i 0).val = r) (h1 : (i 1).val = x) (h2 : (i 2).val = d) : X i = F r x d := by rw [h i, h0, h1, h2]

/-- An index from its coordinates. -/
def place2 (i : Fin m) (j : Fin n) : (⟨2, ![m, n]⟩ : Shape).Idx := fun x => match x with | ⟨0, _⟩ => i | ⟨1, _⟩ => j
def place3 (i : Fin m) (j : Fin n) (l : Fin p) : (⟨3, ![m, n, p]⟩ : Shape).Idx := fun x =>
  match x with | ⟨0, _⟩ => i | ⟨1, _⟩ => j | ⟨2, _⟩ => l
def place4 (i : Fin m) (j : Fin n) (l : Fin p) (o : Fin q) : (⟨4, ![m, n, p, q]⟩ : Shape).Idx := fun x =>
  match x with | ⟨0, _⟩ => i | ⟨1, _⟩ => j | ⟨2, _⟩ => l | ⟨3, _⟩ => o

/-! ## Columns taken apart and put together -/

theorem reads_split {X : (⟨2, ![m, n]⟩ : Shape).Idx → EReal} (e : n = a * b) (h : (⟨2, ![m, n]⟩ : Shape).ShapeCasts ⟨3, ![m, a, b]⟩) (hX : Reads X f) :
    Reads3 (shapeCast ⟨3, ![m, a, b]⟩ X h) (fun r x d => f r (x * b + d)) := fun i => by
  have h1 : (i 1).val < a := (i 1).isLt
  have h2 : (i 2).val < b := (i 2).isLt
  have hb : (i 1).val * b + (i 2).val < a * b := by
    calc _ < (i 1).val * b + b := by omega
      _ = ((i 1).val + 1) * b := by ring
      _ ≤ a * b := Nat.mul_le_mul_right b h1
  refine (shapeCast_apply X h i (place2 (i 0) ⟨(i 1).val * b + (i 2).val, hb.trans_eq e.symm⟩) ?_).trans (hX.at _ rfl rfl)
  rw [Shape.rowMajor_val_two, Shape.rowMajor_val_three]
  show (i 0).val * n + ((i 1).val * b + (i 2).val) = ((i 0).val * a + (i 1).val) * b + (i 2).val
  have e' : (i 0).val * n = (i 0).val * (a * b) := congrArg _ e
  rw [e']; ring
theorem reads_merge {X : (⟨3, ![m, a, b]⟩ : Shape).Idx → EReal} (e : n = a * b) (h : (⟨3, ![m, a, b]⟩ : Shape).ShapeCasts ⟨2, ![m, n]⟩) (hX : Reads3 X F) :
    Reads (shapeCast ⟨2, ![m, n]⟩ X h) (fun r c => F r (c / b) (c % b)) := fun i => by
  have h1 : (i 1).val < a * b := lt_of_lt_of_eq (i 1).isLt e
  have hb : 0 < b := by
    rcases Nat.eq_zero_or_pos b with h0 | h0
    · rw [h0, Nat.mul_zero] at h1; omega
    · exact h0
  refine (shapeCast_apply X h i (place3 (i 0) ⟨(i 1).val / b, Nat.div_lt_of_lt_mul (by rwa [Nat.mul_comm])⟩ ⟨(i 1).val % b, Nat.mod_lt _ hb⟩) ?_).trans
    (hX.at _ rfl rfl rfl)
  rw [Shape.rowMajor_val_two, Shape.rowMajor_val_three]
  show ((i 0).val * a + (i 1).val / b) * b + (i 1).val % b = (i 0).val * n + (i 1).val
  have := Nat.div_add_mod' (i 1).val b
  calc _ = (i 0).val * (a * b) + ((i 1).val / b * b + (i 1).val % b) := by ring
    _ = (i 0).val * n + ((i 1).val / b * b + (i 1).val % b) := by congr 2; exact e.symm
    _ = _ := by rw [this]

/-- Columns taken apart twice, the two outer parts exchanged, and put together again. -/
theorem reads_exchange {X : (⟨2, ![m, n]⟩ : Shape).Idx → EReal} (e : n = a * (b * k))
    (h : (⟨2, ![m, n]⟩ : Shape).ShapeCasts ⟨4, ![m, a, b, k]⟩) (ht : (⟨4, ![m, a, b, k]⟩ : Shape).Transposes [0, 2, 1, 3] ⟨4, ![m, b, a, k]⟩)
    (h' : (⟨4, ![m, b, a, k]⟩ : Shape).ShapeCasts ⟨2, ![m, n]⟩) (hX : Reads X f) :
    Reads (shapeCast ⟨2, ![m, n]⟩ (transpose ⟨4, ![m, b, a, k]⟩ [0, 2, 1, 3] (shapeCast ⟨4, ![m, a, b, k]⟩ X h) ht) h')
      (fun r c => f r ((c / k % a * b + c / k / a) * k + c % k)) := fun i => by
  have h1 : (i 1).val < a * (b * k) := lt_of_lt_of_eq (i 1).isLt e
  have hk : 0 < k := by
    rcases Nat.eq_zero_or_pos k with h0 | h0
    · rw [h0, Nat.mul_zero, Nat.mul_zero] at h1; omega
    · exact h0
  have ha : 0 < a := by
    rcases Nat.eq_zero_or_pos a with h0 | h0
    · rw [h0, Nat.zero_mul] at h1; omega
    · exact h0
  have hc : (i 1).val / k < a * b := Nat.div_lt_of_lt_mul (by rw [Nat.mul_comm k, Nat.mul_assoc]; exact h1)
  have hb : (i 1).val / k / a < b := Nat.div_lt_of_lt_mul hc
  have hx : (i 1).val / k % a < a := Nat.mod_lt _ ha
  have hn : ((i 1).val / k % a * b + (i 1).val / k / a) * k + (i 1).val % k < a * (b * k) := by
    have hy : (i 1).val / k % a * b + (i 1).val / k / a < a * b := by
      calc _ < (i 1).val / k % a * b + b := by omega
        _ = ((i 1).val / k % a + 1) * b := by ring
        _ ≤ a * b := Nat.mul_le_mul_right b hx
    calc _ < ((i 1).val / k % a * b + (i 1).val / k / a) * k + k := by have := Nat.mod_lt (i 1).val hk; omega
      _ = ((i 1).val / k % a * b + (i 1).val / k / a + 1) * k := by ring
      _ ≤ a * b * k := Nat.mul_le_mul_right k hy
      _ = a * (b * k) := by ring
  refine (shapeCast_apply _ h' i (place4 (i 0) ⟨(i 1).val / k / a, hb⟩ ⟨(i 1).val / k % a, hx⟩ ⟨(i 1).val % k, Nat.mod_lt _ hk⟩) ?_).trans ?_
  · rw [Shape.rowMajor_val_two, Shape.rowMajor_val_four]
    show (((i 0).val * b + (i 1).val / k / a) * a + (i 1).val / k % a) * k + (i 1).val % k = (i 0).val * n + (i 1).val
    have e1 := Nat.div_add_mod' (i 1).val k
    have e2 := Nat.div_add_mod' ((i 1).val / k) a
    calc _ = (i 0).val * (a * (b * k)) + (((i 1).val / k / a * a + (i 1).val / k % a) * k + (i 1).val % k) := by ring
      _ = (i 0).val * n + (((i 1).val / k / a * a + (i 1).val / k % a) * k + (i 1).val % k) := by congr 2; exact e.symm
      _ = _ := by rw [e2, e1]
  refine (transpose_apply _ _ ht _ (place4 (i 0) ⟨(i 1).val / k % a, hx⟩ ⟨(i 1).val / k / a, hb⟩ ⟨(i 1).val % k, Nat.mod_lt _ hk⟩)
    fun y => by match y with | ⟨0, _⟩ => rfl | ⟨1, _⟩ => rfl | ⟨2, _⟩ => rfl | ⟨3, _⟩ => rfl).trans ?_
  refine (shapeCast_apply X h _ (place2 (i 0) ⟨((i 1).val / k % a * b + (i 1).val / k / a) * k + (i 1).val % k, hn.trans_eq e.symm⟩) ?_).trans (hX.at _ rfl rfl)
  rw [Shape.rowMajor_val_two, Shape.rowMajor_val_four]
  show (i 0).val * n + (((i 1).val / k % a * b + (i 1).val / k / a) * k + (i 1).val % k)
    = (((i 0).val * a + (i 1).val / k % a) * b + (i 1).val / k / a) * k + (i 1).val % k
  have e' : (i 0).val * n = (i 0).val * (a * (b * k)) := congrArg _ e
  rw [e']; ring

/-! ## Filling up -/

/-- The value 0 that arrays are filled up with. -/
theorem fill_zero (i : (⟨0, ![]⟩ : Shape).Idx) : sitofp (F := Ideal) .f32 (constantI ⟨0, ![]⟩ 32 0#32) i = 0 := by
  show (((0#32 : BitVec 32).toInt : ℝ) : EReal) = _
  simp

theorem reads_pad {X : (⟨2, ![m, n]⟩ : Shape).Idx → EReal} {v : (⟨0, ![]⟩ : Shape).Idx → EReal} (hv : ∀ i, v i = 0)
    (h : (⟨2, ![m, n]⟩ : Shape).Pads ![0, 0] ![0, q] ![0, 0] ⟨2, ![m, p]⟩) (hu) (hX : Reads X f) :
    Reads (pad ⟨2, ![m, p]⟩ ![0, 0] ![0, q] ![0, 0] X v h hu) (fun r d => if d < n then f r d else 0) := fun i => by
  show _ = if (i 1).val < n then f (i 0).val (i 1).val else 0
  split_ifs with hd
  · refine (pad_apply_of_inside _ _ _ X v h hu i (place2 (i 0) ⟨(i 1).val, hd⟩) fun y => ?_).trans (hX.at _ rfl rfl)
    match y with
    | ⟨0, _⟩ => show (i 0).val = 0 + (i 0).val * 1; omega
    | ⟨1, _⟩ => show (i 1).val = 0 + (i 1).val * 1; omega
  · refine (pad_apply_of_not_inside _ _ _ X v h hu i 1 fun hc => hd ?_).trans (hv _)
    have : ((i 1).val - 0) / 1 < n := hc.2.2
    rwa [Nat.sub_zero, Nat.div_one] at this
theorem reads_pad3 {X : (⟨3, ![m, a, n]⟩ : Shape).Idx → EReal} {v : (⟨0, ![]⟩ : Shape).Idx → EReal} (hv : ∀ i, v i = 0)
    (h : (⟨3, ![m, a, n]⟩ : Shape).Pads ![0, 0, 0] ![0, 0, q] ![0, 0, 0] ⟨3, ![m, a, p]⟩) (hu) (hX : Reads3 X F) :
    Reads3 (pad ⟨3, ![m, a, p]⟩ ![0, 0, 0] ![0, 0, q] ![0, 0, 0] X v h hu) (fun r x d => if d < n then F r x d else 0) := fun i => by
  show _ = if (i 2).val < n then F (i 0).val (i 1).val (i 2).val else 0
  split_ifs with hd
  · refine (pad_apply_of_inside _ _ _ X v h hu i (place3 (i 0) (i 1) ⟨(i 2).val, hd⟩) fun y => ?_).trans (hX.at _ rfl rfl rfl)
    match y with
    | ⟨0, _⟩ => show (i 0).val = 0 + (i 0).val * 1; omega
    | ⟨1, _⟩ => show (i 1).val = 0 + (i 1).val * 1; omega
    | ⟨2, _⟩ => show (i 2).val = 0 + (i 2).val * 1; omega
  · refine (pad_apply_of_not_inside _ _ _ X v h hu i 2 fun hc => hd ?_).trans (hv _)
    have : ((i 2).val - 0) / 1 < n := hc.2.2
    rwa [Nat.sub_zero, Nat.div_one] at this

/-! ## Pieces side by side -/

/-- The first piece's columns, then the others', -/
theorem beside {c : ℕ} {v : EReal} {X : (⟨2, ![m, p]⟩ : Shape).Idx → EReal} (hX : Reads X f) (i : (⟨2, ![m, n]⟩ : Shape).Idx)
    {y : (s : Shape) × (s.Idx → EReal)} {ys : List ((s : Shape) × (s.Idx → EReal))}
    (rest : ∀ hs hc, concatenateAt ⟨2, ![m, n]⟩ 1 i (y :: ys) hs (c - p) hc = v) (hs) (hc) :
    concatenateAt ⟨2, ![m, n]⟩ 1 i (⟨⟨2, ![m, p]⟩, X⟩ :: y :: ys) hs c hc = if c < p then f (i 0).val c else v := by
  rw [concatenateAt_cons]
  by_cases h : c < p
  · rw [if_pos h]; exact (dif_pos h).trans (hX.at _ rfl rfl)
  · rw [if_neg h]; exact (dif_neg h).trans (rest _ _)
/-- and the last piece's. -/
theorem beside_last {c : ℕ} {X : (⟨2, ![m, p]⟩ : Shape).Idx → EReal} (hX : Reads X f) (i : (⟨2, ![m, n]⟩ : Shape).Idx)
    (hs) (hc) : concatenateAt ⟨2, ![m, n]⟩ 1 i [⟨⟨2, ![m, p]⟩, X⟩] hs c hc = f (i 0).val c := by
  rw [concatenateAt_singleton]
  exact hX.at _ rfl rfl

/-- Two pieces, -/
theorem beside_two {X : (⟨2, ![m, p]⟩ : Shape).Idx → EReal} {Y : (⟨2, ![m, q]⟩ : Shape).Idx → EReal}
    (hX : Reads X f) (hY : Reads Y g) (h : Shape.Concatenates [⟨2, ![m, p]⟩, ⟨2, ![m, q]⟩] ⟨2, ![m, n]⟩ 1) :
    Reads (concatenate ⟨2, ![m, n]⟩ 1 [⟨⟨2, ![m, p]⟩, X⟩, ⟨⟨2, ![m, q]⟩, Y⟩] h) (fun r j => if j < p then f r j else g r (j - p)) := fun i => by
  refine (concatenate_cons_apply ..).trans ?_
  exact beside hX i (beside_last hY i) _ _
/-- three, -/
theorem beside_three {X : (⟨2, ![m, p]⟩ : Shape).Idx → EReal} {Y : (⟨2, ![m, q]⟩ : Shape).Idx → EReal}
    {Z : (⟨2, ![m, k]⟩ : Shape).Idx → EReal} (hX : Reads X f) (hY : Reads Y g) (hZ : Reads Z u)
    (h : Shape.Concatenates [⟨2, ![m, p]⟩, ⟨2, ![m, q]⟩, ⟨2, ![m, k]⟩] ⟨2, ![m, n]⟩ 1) :
    Reads (concatenate ⟨2, ![m, n]⟩ 1 [⟨⟨2, ![m, p]⟩, X⟩, ⟨⟨2, ![m, q]⟩, Y⟩, ⟨⟨2, ![m, k]⟩, Z⟩] h)
      (fun r j => if j < p then f r j else if j - p < q then g r (j - p) else u r (j - p - q)) := fun i => by
  refine (concatenate_cons_apply ..).trans ?_
  exact beside hX i (beside hY i (beside_last hZ i)) _ _
/-- and six. -/
theorem beside_six {p0 p1 p2 p3 p4 p5 : ℕ} {f0 f1 f2 f3 f4 f5 : ℕ → ℕ → EReal} {X0 : (⟨2, ![m, p0]⟩ : Shape).Idx → EReal}
    {X1 : (⟨2, ![m, p1]⟩ : Shape).Idx → EReal} {X2 : (⟨2, ![m, p2]⟩ : Shape).Idx → EReal} {X3 : (⟨2, ![m, p3]⟩ : Shape).Idx → EReal}
    {X4 : (⟨2, ![m, p4]⟩ : Shape).Idx → EReal} {X5 : (⟨2, ![m, p5]⟩ : Shape).Idx → EReal}
    (h0 : Reads X0 f0) (h1 : Reads X1 f1) (h2 : Reads X2 f2) (h3 : Reads X3 f3) (h4 : Reads X4 f4) (h5 : Reads X5 f5)
    (h : Shape.Concatenates [⟨2, ![m, p0]⟩, ⟨2, ![m, p1]⟩, ⟨2, ![m, p2]⟩, ⟨2, ![m, p3]⟩, ⟨2, ![m, p4]⟩, ⟨2, ![m, p5]⟩] ⟨2, ![m, n]⟩ 1) :
    Reads (concatenate ⟨2, ![m, n]⟩ 1 [⟨⟨2, ![m, p0]⟩, X0⟩, ⟨⟨2, ![m, p1]⟩, X1⟩, ⟨⟨2, ![m, p2]⟩, X2⟩, ⟨⟨2, ![m, p3]⟩, X3⟩, ⟨⟨2, ![m, p4]⟩, X4⟩,
      ⟨⟨2, ![m, p5]⟩, X5⟩] h)
      (fun r j => if j < p0 then f0 r j else if j - p0 < p1 then f1 r (j - p0) else if j - p0 - p1 < p2 then f2 r (j - p0 - p1)
        else if j - p0 - p1 - p2 < p3 then f3 r (j - p0 - p1 - p2) else if j - p0 - p1 - p2 - p3 < p4 then f4 r (j - p0 - p1 - p2 - p3)
        else f5 r (j - p0 - p1 - p2 - p3 - p4)) := fun i => by
  refine (concatenate_cons_apply ..).trans ?_
  exact beside h0 i (beside h1 i (beside h2 i (beside h3 i (beside h4 i (beside_last h5 i))))) _ _

/-- Two pieces of three axes, along the last. -/
theorem beside_two3 {X : (⟨3, ![m, a, p]⟩ : Shape).Idx → EReal} {Y : (⟨3, ![m, a, q]⟩ : Shape).Idx → EReal}
    (hX : Reads3 X F) (hY : Reads3 Y G) (h : Shape.Concatenates [⟨3, ![m, a, p]⟩, ⟨3, ![m, a, q]⟩] ⟨3, ![m, a, n]⟩ 2) :
    Reads3 (concatenate ⟨3, ![m, a, n]⟩ 2 [⟨⟨3, ![m, a, p]⟩, X⟩, ⟨⟨3, ![m, a, q]⟩, Y⟩] h)
      (fun r x d => if d < p then F r x d else G r x (d - p)) := fun i => by
  refine ((concatenate_cons_apply ..).trans (concatenateAt_cons ..)).trans ?_
  show _ = if (i 2).val < p then F (i 0).val (i 1).val (i 2).val else G (i 0).val (i 1).val ((i 2).val - p)
  by_cases h : (i 2).val < p
  · rw [if_pos h]; exact (dif_pos h).trans (hX.at _ rfl rfl rfl)
  · rw [if_neg h]; exact ((dif_neg h).trans (concatenateAt_singleton ..)).trans (hY.at _ rfl rfl rfl)

end Cert.Project

end
-- ==== Proof.Project.Model.lean ====
/-
  The projections' results as tables, and that the kernel's way of computing each of them gives it: heads of 192 columns
  filled up to 256, the keys' and values' columns in another order, and the shared columns scaled after they are turned.
-/
module

public import proofs.«01_k».proof.Proof.Project.Spec

@[expose] public section

noncomputable section

namespace Cert.Project

/-- The arguments as tables, and the cosines and sines of each row. -/
structure Args where
  X : ℕ → ℕ → EReal
  gIn : ℕ → EReal
  wIn : ℕ → ℕ → EReal
  gq : ℕ → EReal
  wq : ℕ → ℕ → EReal
  gkv : ℕ → EReal
  wkv : ℕ → ℕ → EReal
  hq : ℕ → EReal
  hk : ℕ → EReal
  C : ℕ → ℕ → EReal
  S : ℕ → ℕ → EReal

namespace Args

variable (z : Args)

/-! ## The results -/

/-- The input projection, -/
def proj (r c : ℕ) : EReal := against 1024 (normed 1024 (z.X r) z.gIn) z.wIn c
/-- where the result's columns come from, -/
def inColumn (j : ℕ) : ℕ :=
  if j < 448 then j else if j < 1024 then j - 64 else if j < 2048 then j + 448 else if j < 2560 then j - 1088 else j - 64
/-- and the result itself, with 64 columns of zeros. -/
def wide (r c : ℕ) : EReal := if 448 ≤ c ∧ c < 512 then 0 else z.proj r (inColumn c)
/-- The queries before their norm, -/
def up (r c : ℕ) : EReal := against 256 (normed 256 (z.proj r) z.gq) z.wq c
/-- the keys' and values' columns, -/
def kv (r c : ℕ) : EReal := against 128 (normed 128 (fun j => z.proj r (256 + j)) z.gkv) z.wkv c
/-- a head's query, -/
def qRow (r h d : ℕ) : EReal := z.up r (h * 192 + d)
/-- its key, of which the last 64 columns are the same for all heads, -/
def kRow (r h d : ℕ) : EReal := if d < 128 then z.kv r (h * 256 + d) else z.proj r (384 + (d - 128))
/-- and both normalised, turned, and filled up with zeros; -/
def q (r h d : ℕ) : EReal := if d < 192 then rotated (normed 192 (z.qRow r h) z.hq) (z.C r) (z.S r) d else 0
def k (r h d : ℕ) : EReal := if d < 192 then rotated (normed 192 (z.kRow r h) z.hk) (z.C r) (z.S r) d else 0
/-- and its value. -/
def v (r h d : ℕ) : EReal := z.kv r (h * 256 + (128 + d))

/-! ## The kernel's weights and its way to the results -/

def inW (k j : ℕ) : EReal := if 448 ≤ j ∧ j < 512 then 0 else z.wIn k (inColumn j)
def upW (k c : ℕ) : EReal := if c % 256 < 192 then z.wq k (c / 256 * 192 + c % 256) else 0
def kvW (k c : ℕ) : EReal := z.wkv k ((c / 128 % 4 * 2 + c / 128 / 4) * 128 + c % 128)
def headW (g : ℕ → EReal) (j : ℕ) : EReal := if j < 192 then g j else 0

def P (r c : ℕ) : EReal := against 1024 (normed 1024 (z.X r) z.gIn) z.inW c
def A (r c : ℕ) : EReal := against 256 (normed 256 (z.P r) z.gq) z.upW c
def B (r c : ℕ) : EReal := against 128 (normed 128 (fun j => z.P r (256 + j)) z.gkv) z.kvW c
def E (r l : ℕ) : EReal := z.P r (384 + l)

theorem P_eq (r c : ℕ) : z.P r c = z.wide r c := by
  unfold P wide
  split_ifs with h
  · exact against_zero fun k _ => if_pos h
  · exact against_congr (fun _ _ => rfl) fun k _ => if_neg h
theorem P_low {c : ℕ} (r : ℕ) (h : c < 448) : z.P r c = z.proj r c := by
  rw [P_eq, wide, if_neg (by omega), inColumn, if_pos h]
theorem P_mid {c : ℕ} (r : ℕ) (h : 448 ≤ c) (h' : c < 512) : z.P r c = 0 := by rw [P_eq, wide, if_pos ⟨h, h'⟩]

theorem A_eq {d : ℕ} (r h : ℕ) (hd : d < 192) : z.A r (256 * h + d) = z.qRow r h d :=
  against_congr (fun k hk => normed_congr (fun j hj => z.P_low r (by omega)) hk) fun k _ => by
    show upW z k (256 * h + d) = _
    rw [upW, show (256 * h + d) % 256 = d by omega, show (256 * h + d) / 256 = h by omega, if_pos hd]
theorem A_zero {d : ℕ} (r h : ℕ) (hd : 192 ≤ d) (hd' : d < 256) : z.A r (256 * h + d) = 0 :=
  against_zero fun k _ => by rw [upW, show (256 * h + d) % 256 = d by omega, if_neg (by omega)]
theorem A_squares (r h : ℕ) : squares 256 (fun j => z.A r (256 * h + j)) = squares 192 (z.qRow r h) :=
  (squares_zero 192 64 fun j a b => z.A_zero r h a (by omega)).trans (squares_congr fun j hj => z.A_eq r h hj)

theorem B_eq {d : ℕ} (r h : ℕ) (hh : h < 4) (hd : d < 128) : z.B r (128 * h + d) = z.kv r (h * 256 + d) :=
  against_congr (fun k hk => normed_congr (fun j hj => z.P_low r (by omega)) hk) fun k _ => by
    show kvW z k (128 * h + d) = _
    rw [kvW]
    congr 1
    omega
theorem B_value {d : ℕ} (r h : ℕ) (hh : h < 4) (hd : d < 128) : z.B r (512 + (128 * h + d)) = z.v r h d :=
  against_congr (fun k hk => normed_congr (fun j hj => z.P_low r (by omega)) hk) fun k _ => by
    show kvW z k (512 + (128 * h + d)) = _
    rw [kvW]
    congr 1
    omega
theorem E_squares (r : ℕ) : squares 128 (z.E r) = squares 64 (fun j => z.proj r (384 + j)) :=
  have e0 : ∀ j, 64 ≤ j → j < 64 + 64 → z.E r j = 0 := fun j a b => z.P_mid r (by omega) (by omega)
  have e1 : ∀ j, j < 64 → z.E r j = z.proj r (384 + j) := fun j a => z.P_low r (by omega)
  (squares_zero 64 64 e0).trans (squares_congr e1)
theorem k_squares (r h : ℕ) (hh : h < 4) :
    squares 128 (fun j => z.B r (128 * h + j)) + squares 128 (z.E r) = squares 192 (z.kRow r h) := by
  have e0 : squares 128 (fun j => z.B r (128 * h + j)) = squares 128 (z.kRow r h) :=
    squares_congr fun j hj => by rw [z.B_eq r h hh hj, kRow, if_pos hj]
  have e1 : squares 64 (fun j => z.proj r (384 + j)) = squares 64 (fun j => z.kRow r h (128 + j)) :=
    squares_congr fun j hj => by rw [kRow, if_neg (by omega), show 128 + j - 128 = j by omega]
  rw [E_squares, e0, e1]
  exact (squares_add 128 64 (z.kRow r h)).symm

/-! ## The queries -/

def qTile (h r d : ℕ) : EReal := z.A r (256 * h + d) * scale 192 (squares 256 fun j => z.A r (256 * h + j)) * headW z.hq d

theorem qTile_eq {d : ℕ} (r h : ℕ) (hd : d < 192) : z.qTile h r d = normed 192 (z.qRow r h) z.hq d := by
  rw [qTile, A_squares, A_eq _ _ _ hd, headW, if_pos hd, normed]
theorem q_own {d : ℕ} (r h : ℕ) (hd : d < 128) : z.qTile h r d = z.q r h d := by
  rw [qTile_eq _ _ _ (by omega), q, if_pos (by omega), rotated, if_pos hd]
theorem q_turned {l : ℕ} (r h : ℕ) :
    turned (fun j => z.qTile h r (128 + j)) (turn (z.C r)) (turn1 (z.S r)) (turn2 (z.S r)) l = z.q r h (128 + l) := by
  by_cases hl : l < 64
  · rw [q, if_pos (by omega)]
    exact turned_eq _ _ _ _ (fun j hj => z.qTile_eq r h (by omega)) hl
  · rw [q, if_neg (by omega)]
    exact turned_zero _ _ _ (by omega)

/-! ## The keys -/

def kTile (h r : ℕ) : EReal := scale 192 (squares 128 (fun j => z.B r (128 * h + j)) + squares 128 (z.E r))

theorem kTile_eq (r h : ℕ) (hh : h < 4) : z.kTile h r = scale 192 (squares 192 (z.kRow r h)) := by rw [kTile, k_squares z r h hh]
theorem k_own {d : ℕ} (r h : ℕ) (hh : h < 4) (hd : d < 128) :
    z.B r (128 * h + d) * z.kTile h r * headW z.hk d = z.k r h d := by
  rw [kTile_eq z r h hh, B_eq z r h hh hd, headW, if_pos (by omega), k, if_pos (by omega), rotated, if_pos hd, normed, kRow, if_pos hd]
theorem k_turned {l : ℕ} (r h : ℕ) (hh : h < 4) :
    turned (fun j => z.E r j * headW z.hk (128 + j)) (turn (z.C r)) (turn1 (z.S r)) (turn2 (z.S r)) l * z.kTile h r = z.k r h (128 + l) := by
  obtain ⟨h0, h1⟩ := scale_real 192 (squares_nonneg 192 (z.kRow r h))
  rw [kTile_eq z r h hh, turned_mul _ _ _ h0 h1]
  by_cases hl : l < 64
  · rw [k, if_pos (by omega)]
    refine turned_eq _ _ _ _ (fun j hj => ?_) hl
    rw [headW, if_pos (by omega), normed, kRow, if_neg (by omega), show 128 + j - 128 = j by omega, E, z.P_low r (by omega), mul_right_comm]
  · rw [k, if_neg (by omega)]
    exact turned_zero _ _ _ (by omega)

end Args

end Cert.Project

end
-- ==== Proof.Project.HostTerms.lean ====
/-
  What the host code hands to the kernel, as functions of the program's arguments: the weights in the kernel's order, and
  the rotary embedding's factors.
-/
module

public import proofs.«01_k».proof.Proof.Project.Cubes
public import proofs.«01_k».proof.Proof.Project.Model
public import proofs.«01_k».proof.Proof.Gen.Kernel3Ideal.Frame.Runs

@[expose] public section

set_option maxRecDepth 65536

noncomputable section

namespace Cert.Kernel3Ideal.Host

open Cert.Kernel3Ideal Cert.Kernel3Ideal.Gen Cert.Project
open Idealize.ShloMosaic

variable {x3 : S1024x3008.Idx → EReal} {x5 : S256x768.Idx → EReal} {x7 : S128x1024.Idx → EReal}
variable {x8 : S1x192.Idx → EReal} {W C S : ℕ → ℕ → EReal} {g : ℕ → EReal}

/-- Zeros, of any shape. -/
def zeros (s : Shape) (h : S_.BroadcastsInDim s (![] : Fin 0 → Fin s.rank)) : FVec Ideal s .f32 :=
  broadcastInDim s ![] h (constant (F := Ideal) S_ .f32 0x00000000#32)
theorem zeros_reads {m n : ℕ} (h : S_.BroadcastsInDim ⟨2, ![m, n]⟩ (![] : Fin 0 → Fin 2)) : Reads (zeros ⟨2, ![m, n]⟩ h) fun _ _ => 0 := fun i => by
  show Ideal.ofBits .f32 0x00000000#32 = 0
  simp [Ideal.ofBits, Ideal.ieee]

/-- The input projection's columns: q and kv's, zeros, and the four others. -/
def inColumns (x3 : FVec Ideal S1024x3008 .f32) : FVec Ideal S1024x3072 .f32 :=
  concatenate S1024x3072 1 [⟨S1024x448, extractStridedSlice S1024x448 ![0, 0] x3 slices_S1024x3008_S1024x448_0_0⟩,
    ⟨S1024x64, zeros _ bcast_S_S1024x64⟩,
    ⟨S1024x512, extractStridedSlice S1024x512 ![0, 448] x3 slices_S1024x3008_S1024x512_0_448⟩,
    ⟨S1024x1024, extractStridedSlice S1024x1024 ![0, 1472] x3 slices_S1024x3008_S1024x1024_0_1472⟩,
    ⟨S1024x512, extractStridedSlice S1024x512 ![0, 960] x3 slices_S1024x3008_S1024x512_0_960⟩,
    ⟨S1024x512, extractStridedSlice S1024x512 ![0, 2496] x3 slices_S1024x3008_S1024x512_0_2496⟩]
    concatenates_S1024x448_S1024x64_S1024x512_S1024x1024_S1024x512_S1024x512_S1024x3072_d1

theorem inColumns_reads (h : Reads x3 W) : Reads (inColumns x3) (fun k j => if 448 ≤ j ∧ j < 512 then 0 else W k (Args.inColumn j)) := fun i => by
  have hi := (i 1).isLt
  change (i 1).val < 3072 at hi
  have e0 : Reads (zeros S1024x64 bcast_S_S1024x64) fun _ _ => 0 := zeros_reads _
  have e1 := reads_slice 0 slices_S1024x3008_S1024x448_0_0 h
  have e2 := reads_slice 448 slices_S1024x3008_S1024x512_0_448 h
  have e3 := reads_slice 1472 slices_S1024x3008_S1024x1024_0_1472 h
  have e4 := reads_slice 960 slices_S1024x3008_S1024x512_0_960 h
  have e5 := reads_slice 2496 slices_S1024x3008_S1024x512_0_2496 h
  refine (beside_six e1 e0 e2 e3 e4 e5 _ i).trans ?_
  simp only [Args.inColumn]
  generalize (i 1).val = j at hi
  split_ifs <;> first | rfl | omega | (congr 1; omega)

/-- The input projection's weights. -/
def inWeights (x3 : FVec Ideal S1024x3008 .f32) : FVec Ideal S1024x3072 .bf16 := truncf .bf16 (inColumns x3) bitsLt_bf16_f32

theorem inWeights_reads (h : Reads x3 W) : Reads (inWeights x3) (fun k j => if 448 ≤ j ∧ j < 512 then 0 else W k (Args.inColumn j)) :=
  reads_trunc _ (inColumns_reads h)

/-- The queries' weights: each head's columns, filled up to 256 with zeros. -/
def upWeights (x5 : FVec Ideal S256x768 .f32) : FVec Ideal S256x1024 .bf16 :=
  truncf .bf16 (shapeCast S256x1024 (pad S256x4x256 ![0, 0, 0] ![0, 0, 64] ![0, 0, 0] (shapeCast S256x4x192 x5 shapeCasts_S256x768_S256x4x192)
    (sitofp (F := Ideal) .f32 (constantI S_ 32 0#32)) pads_S256x4x192_S256x4x256_000_000_0640) shapeCasts_S256x4x256_S256x1024) bitsLt_bf16_f32

theorem upWeights_reads (h : Reads x5 W) :
    Reads (upWeights x5) (fun k c => if c % 256 < 192 then W k (c / 256 * 192 + c % 256) else 0) :=
  reads_trunc _ (reads_merge rfl shapeCasts_S256x4x256_S256x1024
    (reads_pad3 fill_zero pads_S256x4x192_S256x4x256_000_000_0640 (by decide) (reads_split rfl shapeCasts_S256x768_S256x4x192 h)))

/-- The keys' and values' weights: the keys of the four heads, then the values. -/
def kvWeights (x7 : FVec Ideal S128x1024 .f32) : FVec Ideal S128x1024 .bf16 :=
  truncf .bf16 (shapeCast S128x1024 (transpose S128x2x4x128 [0, 2, 1, 3] (shapeCast S128x4x2x128 x7 shapeCasts_S128x1024_S128x4x2x128)
    transposes_S128x4x2x128_S128x2x4x128_0_2_1_3) shapeCasts_S128x2x4x128_S128x1024) bitsLt_bf16_f32

theorem kvWeights_reads (h : Reads x7 W) :
    Reads (kvWeights x7) (fun k c => W k ((c / 128 % 4 * 2 + c / 128 / 4) * 128 + c % 128)) :=
  reads_trunc _ (reads_exchange rfl shapeCasts_S128x1024_S128x4x2x128 transposes_S128x4x2x128_S128x2x4x128_0_2_1_3 shapeCasts_S128x2x4x128_S128x1024 h)

/-- A head's own weights, filled up with zeros. -/
def headWeights (x8 : FVec Ideal S1x192 .f32) : FVec Ideal S1x256 .f32 :=
  pad S1x256 ![0, 0] ![0, 64] ![0, 0] x8 (sitofp (F := Ideal) .f32 (constantI S_ 32 0#32)) pads_S1x192_S1x256_000_0640

theorem headWeights_reads (h : Reads x8 fun _ j => g j) : Reads (headWeights x8) (fun _ j => if j < 192 then g j else 0) :=
  reads_pad fill_zero pads_S1x192_S1x256_000_0640 (by decide) h

/-- The cosines, for a head's last 128 columns, -/
def cosines (X : FVec Ideal S8192x32 .f32) : FVec Ideal S8192x128 .f32 :=
  concatenate S8192x128 1 [⟨S8192x32, X⟩, ⟨S8192x32, X⟩, ⟨S8192x64, zeros _ bcast_S_S8192x64⟩]
    concatenates_S8192x32_S8192x32_S8192x64_S8192x128_d1
theorem cosines_reads {X : S8192x32.Idx → EReal} (h : Reads X C) : Reads (cosines X) (fun r => turn (C r)) := fun i => by
  have hi := (i 1).isLt
  change (i 1).val < 128 at hi
  have e0 : Reads (zeros S8192x64 bcast_S_S8192x64) fun _ _ => 0 := zeros_reads _
  refine (beside_three h h e0 _ i).trans ?_
  simp only [turn]
  generalize (i 1).val = j at hi
  split_ifs <;> first | rfl | omega | (congr 1; omega)

/-- the sines of the second half, -/
def sines1 (X : FVec Ideal S8192x32 .f32) : FVec Ideal S8192x128 .f32 :=
  concatenate S8192x128 1 [⟨S8192x32, zeros _ bcast_S_S8192x32⟩, ⟨S8192x32, X⟩, ⟨S8192x64, zeros _ bcast_S_S8192x64⟩]
    concatenates_S8192x32_S8192x32_S8192x64_S8192x128_d1
theorem sines1_reads {X : S8192x32.Idx → EReal} (h : Reads X S) : Reads (sines1 X) (fun r => turn1 (S r)) := fun i => by
  have hi := (i 1).isLt
  change (i 1).val < 128 at hi
  have e0 : Reads (zeros S8192x64 bcast_S_S8192x64) fun _ _ => 0 := zeros_reads _
  have e1 : Reads (zeros S8192x32 bcast_S_S8192x32) fun _ _ => 0 := zeros_reads _
  refine (beside_three e1 h e0 _ i).trans ?_
  simp only [turn1]
  generalize (i 1).val = j at hi
  split_ifs <;> first | rfl | omega | (congr 1; omega)

/-- and those of the first, negated. -/
def sines2 (X : FVec Ideal S8192x32 .f32) : FVec Ideal S8192x128 .f32 :=
  concatenate S8192x128 1 [⟨S8192x32, Host.negf X⟩, ⟨S8192x96, zeros _ bcast_S_S8192x96⟩]
    concatenates_S8192x32_S8192x96_S8192x128_d1
theorem sines2_reads {X : FVec Ideal S8192x32 .f32} (h : Reads X S) : Reads (sines2 X) (fun r => turn2 (S r)) := fun i => by
  have e0 : Reads (zeros S8192x96 bcast_S_S8192x96) fun _ _ => 0 := zeros_reads _
  have e1 : Reads (m := 8192) (n := 32) (fun i => -X i) (fun r j => -S r j) := fun i => congrArg _ (h i)
  exact beside_two e1 e0 _ i

end Cert.Kernel3Ideal.Host

end
-- ==== Proof.Project.Host.lean ====
/-
  The arrays the kernel's windows look at, after the host code, as terms of the program's arguments.
-/
module

public import proofs.«01_k».proof.Proof.Project.HostTerms
public import proofs.«01_k».proof.Proof.Gen.Reference3Ideal.Read

@[expose] public section

set_option maxRecDepth 65536

noncomputable section

namespace Cert.Kernel3Ideal.Host

open Cert.Reference3Ideal.Read (val_main_v17 val_main_v18)
open Cert.Kernel3Ideal Cert.Kernel3Ideal.Gen Cert.Project
open Idealize.ShloMosaic Idealize.ShloMosaic.TcCoe Idealize.ShloMosaic.StableHlo Idealize.SL.Sem

variable (m : (ℓ : Loc nD τ sig) → Buf (Elt Ideal) ℓ) (c : Dev nD)

/-- Arrays as tables. -/
def argsOf (x0 : (⟨2, ![8192, 1024]⟩ : Shape).Idx → EReal) (x1 : (⟨S8192, .i32⟩ : BufTy).Contents (Elt Ideal))
    (x2 : (⟨2, ![1, 1024]⟩ : Shape).Idx → EReal) (x3 : (⟨2, ![1024, 3008]⟩ : Shape).Idx → EReal) (x4 : (⟨2, ![1, 256]⟩ : Shape).Idx → EReal)
    (x5 : (⟨2, ![256, 768]⟩ : Shape).Idx → EReal) (x6 : (⟨2, ![1, 128]⟩ : Shape).Idx → EReal) (x7 : (⟨2, ![128, 1024]⟩ : Shape).Idx → EReal)
    (x8 x9 : (⟨2, ![1, 192]⟩ : Shape).Idx → EReal) : Args where
  X := table x0
  gIn := table x2 0
  wIn := table x3
  gq := table x4 0
  wq := table x5
  gkv := table x6 0
  wkv := table x7
  hq := table x8 0
  hk := table x9 0
  C := table (m := 8192) (n := 32) (val_main_v17 (F := Ideal) x1)
  S := table (m := 8192) (n := 32) (val_main_v18 (F := Ideal) x1)

theorem row_table {n : ℕ} (x : (⟨2, ![1, n]⟩ : Shape).Idx → EReal) : Reads x fun _ j => table x 0 j :=
  (reads_table x).congr fun a d ha _ => by rw [show a = 0 by omega]

/-- The program's arguments. -/
abbrev x₀ : FVec Ideal S8192x1024 .f32 := m ⟨c, main_arg0⟩
abbrev x₁ : (⟨S8192, .i32⟩ : BufTy).Contents (Elt Ideal) := m ⟨c, main_arg1⟩
abbrev x₂ : FVec Ideal S1x1024 .f32 := m ⟨c, main_arg2⟩
abbrev x₃ : FVec Ideal S1024x3008 .f32 := m ⟨c, main_arg3⟩
abbrev x₄ : FVec Ideal S1x256 .f32 := m ⟨c, main_arg4⟩
abbrev x₅ : FVec Ideal S256x768 .f32 := m ⟨c, main_arg5⟩
abbrev x₆ : FVec Ideal S1x128 .f32 := m ⟨c, main_arg6⟩
abbrev x₇ : FVec Ideal S128x1024 .f32 := m ⟨c, main_arg7⟩
abbrev x₈ : FVec Ideal S1x192 .f32 := m ⟨c, main_arg8⟩
abbrev x₉ : FVec Ideal S1x192 .f32 := m ⟨c, main_arg9⟩

/-- They as tables. -/
abbrev args : Args := argsOf (x₀ m c) (x₁ m c) (x₂ m c) (x₃ m c) (x₄ m c) (x₅ m c) (x₆ m c) (x₇ m c) (x₈ m c) (x₉ m c)

theorem V_main_v35 : (V m c main_v35 : FVec Ideal S8192x128 .f32) = cosines (val_main_v17 (F := Ideal) (x₁ m c)) := by
  unfold V
  simp only [hostOps0, hostOps0_1, hostOps0_2, hostOps0_3, hostOps0_4, hostOps0_5, hostOps0_6, List.flatten_cons, List.flatten_nil,
    List.append_nil, List.cons_append, List.nil_append, TRef.binary, TRef.nullary, TRef.ternary, TRef.unary, TRef.toBuf, TRef.ofBuf, cast_eq]
  after_results_simp <;> rfl

theorem V_main_v38 : (V m c main_v38 : FVec Ideal S8192x128 .f32) = sines1 (val_main_v18 (F := Ideal) (x₁ m c)) := by
  unfold V
  simp only [hostOps0, hostOps0_1, hostOps0_2, hostOps0_3, hostOps0_4, hostOps0_5, hostOps0_6, List.flatten_cons, List.flatten_nil,
    List.append_nil, List.cons_append, List.nil_append, TRef.binary, TRef.nullary, TRef.ternary, TRef.unary, TRef.toBuf, TRef.ofBuf, cast_eq]
  after_results_simp <;> rfl

theorem V_main_v41 : (V m c main_v41 : FVec Ideal S8192x128 .f32) = sines2 (val_main_v18 (F := Ideal) (x₁ m c)) := by
  unfold V
  simp only [hostOps0, hostOps0_1, hostOps0_2, hostOps0_3, hostOps0_4, hostOps0_5, hostOps0_6, List.flatten_cons, List.flatten_nil,
    List.append_nil, List.cons_append, List.nil_append, TRef.binary, TRef.nullary, TRef.ternary, TRef.unary, TRef.toBuf, TRef.ofBuf, cast_eq]
  after_results_simp <;> rfl

theorem V_main_v42 : (V m c main_v42 : FVec Ideal S1024x3072 .bf16) = inWeights (x₃ m c) := by
  unfold V
  simp only [hostOps0, hostOps0_1, hostOps0_2, hostOps0_3, hostOps0_4, hostOps0_5, hostOps0_6, List.flatten_cons, List.flatten_nil,
    List.append_nil, List.cons_append, List.nil_append, TRef.binary, TRef.nullary, TRef.ternary, TRef.unary, TRef.toBuf, TRef.ofBuf, cast_eq]
  after_results_simp <;> rfl

theorem V_main_v43 : (V m c main_v43 : FVec Ideal S256x1024 .bf16) = upWeights (x₅ m c) := by
  unfold V
  simp only [hostOps0, hostOps0_1, hostOps0_2, hostOps0_3, hostOps0_4, hostOps0_5, hostOps0_6, List.flatten_cons, List.flatten_nil,
    List.append_nil, List.cons_append, List.nil_append, TRef.binary, TRef.nullary, TRef.ternary, TRef.unary, TRef.toBuf, TRef.ofBuf, cast_eq]
  after_results_simp <;> rfl

theorem V_main_v44 : (V m c main_v44 : FVec Ideal S128x1024 .bf16) = kvWeights (x₇ m c) := by
  unfold V
  simp only [hostOps0, hostOps0_1, hostOps0_2, hostOps0_3, hostOps0_4, hostOps0_5, hostOps0_6, List.flatten_cons, List.flatten_nil,
    List.append_nil, List.cons_append, List.nil_append, TRef.binary, TRef.nullary, TRef.ternary, TRef.unary, TRef.toBuf, TRef.ofBuf, cast_eq]
  after_results_simp <;> rfl

theorem V_main_v13 : (V m c main_v13 : FVec Ideal S1x256 .f32) = headWeights (x₈ m c) := by
  unfold V
  simp only [hostOps0, hostOps0_1, hostOps0_2, hostOps0_3, hostOps0_4, hostOps0_5, hostOps0_6, List.flatten_cons, List.flatten_nil,
    List.append_nil, List.cons_append, List.nil_append, TRef.binary, TRef.nullary, TRef.ternary, TRef.unary, TRef.toBuf, TRef.ofBuf, cast_eq]
  after_results_simp <;> rfl

theorem V_main_v14 : (V m c main_v14 : FVec Ideal S1x256 .f32) = headWeights (x₉ m c) := by
  unfold V
  simp only [hostOps0, hostOps0_1, hostOps0_2, hostOps0_3, hostOps0_4, hostOps0_5, hostOps0_6, List.flatten_cons, List.flatten_nil,
    List.append_nil, List.cons_append, List.nil_append, TRef.binary, TRef.nullary, TRef.ternary, TRef.unary, TRef.toBuf, TRef.ofBuf, cast_eq]
  after_results_simp <;> rfl

end Cert.Kernel3Ideal.Host

end
-- ==== Proof.Project.Blocks.lean ====
/-
  What the kernel's windows hold at a grid point: rows `512 * t` on of the row arrays, and the weights.
-/
module

public import proofs.«01_k».proof.Proof.Project.Host
public import Idealize.ShloMosaic.Lib.Pipeline.ValueKit

@[expose] public section

set_option maxRecDepth 16384

noncomputable section

namespace Cert.Kernel3Ideal.Run

open Cert.Kernel3Ideal Cert.Kernel3Ideal.Gen Cert.Kernel3Ideal.Host Cert.Project
open Idealize.ShloMosaic Idealize.ShloMosaic.TcCoe Idealize.ShloMosaic.Tactic

variable (m : (ℓ : Loc nD τ sig) → Buf (Elt Ideal) ℓ) (c : Dev nD) (t : Fin cfg0.N)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![t.val, 0] := (by decide +kernel : ∀ t : Fin grid0.N, _)
theorem index_13 : ∀ t : Fin cfg0.N, win0_13.index t = ![t.val, 0] := (by decide +kernel : ∀ t : Fin grid0.N, _)
theorem index_14 : ∀ t : Fin cfg0.N, win0_14.index t = ![t.val, 0] := (by decide +kernel : ∀ t : Fin grid0.N, _)
theorem index_15 : ∀ t : Fin cfg0.N, win0_15.index t = ![t.val, 0] := (by decide +kernel : ∀ t : Fin grid0.N, _)

theorem block_0 : Reads (m := 512) (n := 1024) (iblk m c 0 t) (fun r j => (args m c).X (512 * t.val + r) j) := fun i => by
  have e0 : ((win0_0.blk t).view.emb i 0).val = 512 * t.val + (i 0).val := by
    refine (show _ = t.val * 512 + (i 0).val by blk_simp [index_0]).trans ?_; omega
  have e1 : ((win0_0.blk t).view.emb i 1).val = (i 1).val := by blk_simp [index_0]
  blk_simp [iblk]
  rw [V_main_arg0]
  exact (reads_table (x₀ m c)).at _ e0 e1

theorem block_1 : Reads (m := 512) (n := 128) (iblk m c 1 t) (fun r => turn ((args m c).C (512 * t.val + r))) := fun i => by
  have e0 : ((win0_1.blk t).view.emb i 0).val = 512 * t.val + (i 0).val := by
    refine (show _ = t.val * 512 + (i 0).val by blk_simp [index_1]).trans ?_; omega
  have e1 : ((win0_1.blk t).view.emb i 1).val = (i 1).val := by blk_simp [index_1]
  blk_simp [iblk]
  rw [V_main_v35]
  exact (cosines_reads (reads_table _)).at _ e0 e1

theorem block_2 : Reads (m := 512) (n := 128) (iblk m c 2 t) (fun r => turn1 ((args m c).S (512 * t.val + r))) := fun i => by
  have e0 : ((win0_2.blk t).view.emb i 0).val = 512 * t.val + (i 0).val := by
    refine (show _ = t.val * 512 + (i 0).val by blk_simp [index_2]).trans ?_; omega
  have e1 : ((win0_2.blk t).view.emb i 1).val = (i 1).val := by blk_simp [index_2]
  blk_simp [iblk]
  rw [V_main_v38]
  exact (sines1_reads (reads_table _)).at _ e0 e1

theorem block_3 : Reads (m := 512) (n := 128) (iblk m c 3 t) (fun r => turn2 ((args m c).S (512 * t.val + r))) := fun i => by
  have e0 : ((win0_3.blk t).view.emb i 0).val = 512 * t.val + (i 0).val := by
    refine (show _ = t.val * 512 + (i 0).val by blk_simp [index_3]).trans ?_; omega
  have e1 : ((win0_3.blk t).view.emb i 1).val = (i 1).val := by blk_simp [index_3]
  blk_simp [iblk]
  rw [V_main_v41]
  exact (sines2_reads (reads_table _)).at _ e0 e1

theorem block_4 : Reads (m := 1) (n := 1024) (iblk m c 4 t) (fun _ j => (args m c).gIn j) := fun i => by
  have e0 : ((win0_4.blk t).view.emb i 0).val = (i 0).val := by
    blk_simp [index_4]
  have e1 : ((win0_4.blk t).view.emb i 1).val = (i 1).val := by blk_simp [index_4]
  blk_simp [iblk]
  rw [V_main_arg2]
  exact (row_table (x₂ m c)).at _ e0 e1

theorem block_5 : Reads (m := 1024) (n := 3072) (iblk m c 5 t) (args m c).inW := fun i => by
  have e0 : ((win0_5.blk t).view.emb i 0).val = (i 0).val := by
    blk_simp [index_5]
  have e1 : ((win0_5.blk t).view.emb i 1).val = (i 1).val := by blk_simp [index_5]
  blk_simp [iblk]
  rw [V_main_v42]
  exact (inWeights_reads (reads_table (x₃ m c))).at _ e0 e1

theorem block_6 : Reads (m := 1) (n := 256) (iblk m c 6 t) (fun _ j => (args m c).gq j) := fun i => by
  have e0 : ((win0_6.blk t).view.emb i 0).val = (i 0).val := by
    blk_simp [index_6]
  have e1 : ((win0_6.blk t).view.emb i 1).val = (i 1).val := by blk_simp [index_6]
  blk_simp [iblk]
  rw [V_main_arg4]
  exact (row_table (x₄ m c)).at _ e0 e1

theorem block_7 : Reads (m := 256) (n := 1024) (iblk m c 7 t) (args m c).upW := fun i => by
  have e0 : ((win0_7.blk t).view.emb i 0).val = (i 0).val := by
    blk_simp [index_7]
  have e1 : ((win0_7.blk t).view.emb i 1).val = (i 1).val := by blk_simp [index_7]
  blk_simp [iblk]
  rw [V_main_v43]
  exact (upWeights_reads (reads_table (x₅ m c))).at _ e0 e1

theorem block_8 : Reads (m := 1) (n := 128) (iblk m c 8 t) (fun _ j => (args m c).gkv j) := fun i => by
  have e0 : ((win0_8.blk t).view.emb i 0).val = (i 0).val := by
    blk_simp [index_8]
  have e1 : ((win0_8.blk t).view.emb i 1).val = (i 1).val := by blk_simp [index_8]
  blk_simp [iblk]
  rw [V_main_arg6]
  exact (row_table (x₆ m c)).at _ e0 e1

theorem block_9 : Reads (m := 128) (n := 1024) (iblk m c 9 t) (args m c).kvW := fun i => by
  have e0 : ((win0_9.blk t).view.emb i 0).val = (i 0).val := by
    blk_simp [index_9]
  have e1 : ((win0_9.blk t).view.emb i 1).val = (i 1).val := by blk_simp [index_9]
  blk_simp [iblk]
  rw [V_main_v44]
  exact (kvWeights_reads (reads_table (x₇ m c))).at _ e0 e1

theorem block_10 : Reads (m := 1) (n := 256) (iblk m c 10 t) (fun _ j => Args.headW (args m c).hq j) := fun i => by
  have e0 : ((win0_10.blk t).view.emb i 0).val = (i 0).val := by
    blk_simp [index_10]
  have e1 : ((win0_10.blk t).view.emb i 1).val = (i 1).val := by blk_simp [index_10]
  blk_simp [iblk]
  rw [V_main_v13]
  exact (headWeights_reads (row_table (x₈ m c))).at _ e0 e1

theorem block_11 : Reads (m := 1) (n := 256) (iblk m c 11 t) (fun _ j => Args.headW (args m c).hk j) := fun i => by
  have e0 : ((win0_11.blk t).view.emb i 0).val = (i 0).val := by
    blk_simp [index_11]
  have e1 : ((win0_11.blk t).view.emb i 1).val = (i 1).val := by blk_simp [index_11]
  blk_simp [iblk]
  rw [V_main_v14]
  exact (headWeights_reads (row_table (x₉ m c))).at _ e0 e1

end Cert.Kernel3Ideal.Run

end
-- ==== Proof.Project.Tiles.lean ====
/-
  What one block of rows of the kernel leaves, from tables of what it reads: the projection, and the heads of q, k and v.
-/
module

public import proofs.«01_k».proof.Proof.Project.Reading
public import proofs.«01_k».proof.Proof.Gen.Kernel3Ideal.Skeleton

@[expose] public section

set_option maxRecDepth 16384

noncomputable section

namespace Cert.Kernel3Ideal.Run

open Cert.Kernel3Ideal Cert.Kernel3Ideal.Gen Cert.Project
open Idealize.ShloMosaic
open Finset

theorem width (b : BitVec 32) : Named.named (F := Ideal) κ "inv_width" (φ := .f32) b = ((((192 : ℕ) : ℝ)⁻¹ : ℝ) : EReal) := by
  show (((192 : ℝ)⁻¹ : ℝ) : EReal) = _
  norm_num

/-- A head's row of q, from column `o` of the rows `A`: normalised over 256 columns with a mean over 192, and weighted. -/
def qHead (A : ℕ → ℕ → EReal) (g : ℕ → EReal) (o r d : ℕ) : EReal :=
  A r (o + d) * scale 192 (squares 256 fun j => A r (o + j)) * g d
/-- The scale of a head's row of k, its own columns from column `o` of the rows `B` and the shared ones `E`, -/
def kScale (B E : ℕ → ℕ → EReal) (o r : ℕ) : EReal := scale 192 (squares 128 (fun j => B r (o + j)) + squares 128 (E r))
/-- and its own columns. -/
def kHead (B E : ℕ → ℕ → EReal) (g : ℕ → EReal) (o r d : ℕ) : EReal := B r (o + d) * kScale B E o r * g d
/-- The shared columns, weighted and turned. -/
def kTurned (E : ℕ → ℕ → EReal) (g : ℕ → EReal) (c s t : ℕ → ℕ → EReal) (r l : ℕ) : EReal :=
  turned (fun j => E r j * g (128 + j)) (c r) (s r) (t r) l

variable {x u e f A B E W c s t : ℕ → ℕ → EReal} {g : ℕ → EReal} {S : ℕ → EReal}

/-! ## The projection -/

theorem pay7_reads {v0 : Vec Ideal S512x1024 .f32} {v11 : Vec Ideal S1x1024 .f32} {v15 : Vec Ideal S1024x3072 .bf16}
    (h0 : Reads v0 x) (h1 : Reads v11 fun _ j => g j) (h2 : Reads v15 W) :
    Reads (k0_pay7 (F := Ideal) v0 v11 v15) (fun r j => against 1024 (normed 1024 (x r) g) W j) := by
  unfold k0_pay7
  exact reads_dot _ rfl (reads_trunc _ (reads_mul (reads_mul h0 (reads_col _ (reads_scale 1024 word_1024 (reads_squares _ _ _ _ h0))))
    (reads_row _ h1))) (reads_cast _ h2)

/-! ## q -/

theorem pay15_reads {v29 : Vec Ideal S512x256 .f32} {v41 : Vec Ideal S1x256 .f32} {v45 : Vec Ideal S256x1024 .bf16}
    (h0 : Reads v29 u) (h1 : Reads v41 fun _ j => g j) (h2 : Reads v45 W) :
    Reads (k0_pay15 (F := Ideal) (k0_pay13 v29) (k0_pay14 v29) v41 v45) (fun r j => against 256 (normed 256 (u r) g) W j) := by
  have h := reads_cast shapeCasts_S512x256_S512x256 h0
  unfold k0_pay15 k0_pay14 k0_pay13
  exact reads_dot _ rfl (reads_trunc _ (reads_mul (reads_mul h (reads_col _ (reads_scale 256 word_256 (reads_squares _ _ _ _ h))))
    (reads_row _ h1))) (reads_cast _ h2)

/-- 128 columns turned. -/
theorem turned_reads {X v20 v22 v24 : FVec Ideal S512x128 .f32} (hX : Reads X f) (hc : Reads v20 c) (hs : Reads v22 s) (ht : Reads v24 t) :
    Reads (addf (addf (mulf X v20) (mulf (dynamicRotate 1 32#32 none X rotates_S512x128_d1) v22))
      (mulf (dynamicRotate 1 96#32 none X rotates_S512x128_d1) v24)) (fun r l => turned (f r) (c r) (s r) (t r) l) :=
  reads_add (reads_add (reads_mul hX hc) (reads_mul (reads_turn _ 96 rfl (by decide) _ hX) hs))
    (reads_mul (reads_turn _ 32 rfl (by decide) _ hX) ht)

section q
variable {v20 v22 v24 : FVec Ideal S512x128 .f32} {v26 : FVec Ideal S1x256 .f32} {v30 : FVec Ideal S512x256 .f32} {v32 : FVec Ideal S512 .f32}
variable {v41 : Vec Ideal S1x256 .f32} {v45 : Vec Ideal S256x1024 .bf16} {v47 : FVec Ideal S512x1024 .f32}

/-- Head 0, -/
theorem pay16_reads (h : Reads (k0_pay15 (F := Ideal) v30 v32 v41 v45) A) (hg : Reads v26 fun _ j => g j) :
    Reads (k0_pay16 (F := Ideal) v26 v30 v32 v41 v45) (qHead A g 0) := by
  have hs := reads_slice 0 slices_S512x1024_o0_0_S512x256 h
  unfold k0_pay16
  exact reads_mul (reads_mul hs (reads_col _ (reads_scale 192 (width _) (reads_squares _ _ _ _ hs)))) (reads_row _ hg)
theorem pay17_reads (h : Reads (k0_pay15 (F := Ideal) v30 v32 v41 v45) A) (hg : Reads v26 fun _ j => g j) :
    Reads (k0_pay17 (F := Ideal) v26 v30 v32 v41 v45) (fun r d => qHead A g 0 r (0 + d)) := by
  unfold k0_pay17
  exact reads_trunc _ (reads_slice 0 _ (pay16_reads h hg))
theorem pay18_reads (h : Reads (k0_pay15 (F := Ideal) v30 v32 v41 v45) A) (hg : Reads v26 fun _ j => g j)
    (hc : Reads v20 c) (hs : Reads v22 s) (ht : Reads v24 t) :
    Reads (k0_pay18 (F := Ideal) v20 v22 v24 v26 v30 v32 v41 v45) (fun r l => turned (fun j => qHead A g 0 r (128 + j)) (c r) (s r) (t r) l) := by
  unfold k0_pay18
  exact reads_trunc _ (turned_reads (reads_slice 128 _ (pay16_reads h hg)) hc hs ht)

/-- head 1, -/
theorem pay20_reads (h : Reads (k0_pay15 (F := Ideal) v30 v32 v41 v45) A) (hg : Reads v26 fun _ j => g j) :
    Reads (k0_pay20 (F := Ideal) v26 (k0_pay19 v30 v32 v41 v45)) (qHead A g 256) := by
  have hs := reads_slice 256 slices_S512x1024_o0_256_S512x256 h
  unfold k0_pay20 k0_pay19
  exact reads_mul (reads_mul hs (reads_col _ (reads_scale 192 (width _) (reads_squares _ _ _ _ hs)))) (reads_row _ hg)
theorem pay21_reads (h : Reads (k0_pay15 (F := Ideal) v30 v32 v41 v45) A) (hg : Reads v26 fun _ j => g j) :
    Reads (k0_pay21 (F := Ideal) v26 (k0_pay19 v30 v32 v41 v45)) (fun r d => qHead A g 256 r (0 + d)) := by
  unfold k0_pay21
  exact reads_trunc _ (reads_slice 0 _ (pay20_reads h hg))
theorem pay22_reads (h : Reads (k0_pay15 (F := Ideal) v30 v32 v41 v45) A) (hg : Reads v26 fun _ j => g j)
    (hc : Reads v20 c) (hs : Reads v22 s) (ht : Reads v24 t) :
    Reads (k0_pay22 (F := Ideal) v20 v22 v24 v26 (k0_pay19 v30 v32 v41 v45))
      (fun r l => turned (fun j => qHead A g 256 r (128 + j)) (c r) (s r) (t r) l) := by
  unfold k0_pay22
  exact reads_trunc _ (turned_reads (reads_slice 128 _ (pay20_reads h hg)) hc hs ht)

/-- head 2 -/
theorem pay23_reads (h : Reads v47 A) (hg : Reads v26 fun _ j => g j) : Reads (k0_pay23 (F := Ideal) v26 v47) (qHead A g 512) := by
  have hs := reads_slice 512 slices_S512x1024_o0_512_S512x256 h
  unfold k0_pay23
  exact reads_mul (reads_mul hs (reads_col _ (reads_scale 192 (width _) (reads_squares _ _ _ _ hs)))) (reads_row _ hg)
theorem pay24_reads (h : Reads v47 A) (hg : Reads v26 fun _ j => g j) :
    Reads (k0_pay24 (F := Ideal) v26 v47) (fun r d => qHead A g 512 r (0 + d)) := by
  unfold k0_pay24
  exact reads_trunc _ (reads_slice 0 _ (pay23_reads h hg))
theorem pay27_reads (h : Reads v47 A) (hg : Reads v26 fun _ j => g j) (hc : Reads v20 c) (hs : Reads v22 s) (ht : Reads v24 t) :
    Reads (k0_pay27 (F := Ideal) v22 v24 (k0_pay25 v26 v47) (k0_pay26 v20 v26 v47))
      (fun r l => turned (fun j => qHead A g 512 r (128 + j)) (c r) (s r) (t r) l) := by
  unfold k0_pay27 k0_pay26 k0_pay25
  exact reads_trunc _ (turned_reads (reads_slice 128 _ (pay23_reads h hg)) hc hs ht)

/-- and head 3. -/
theorem pay28_reads (h : Reads v47 A) (hg : Reads v26 fun _ j => g j) : Reads (k0_pay28 (F := Ideal) v26 v47) (qHead A g 768) := by
  have hs := reads_slice 768 slices_S512x1024_o0_768_S512x256 h
  unfold k0_pay28
  exact reads_mul (reads_mul hs (reads_col _ (reads_scale 192 (width _) (reads_squares _ _ _ _ hs)))) (reads_row _ hg)
theorem pay29_reads (h : Reads v47 A) (hg : Reads v26 fun _ j => g j) :
    Reads (k0_pay29 (F := Ideal) v26 v47) (fun r d => qHead A g 768 r (0 + d)) := by
  unfold k0_pay29
  exact reads_trunc _ (reads_slice 0 _ (pay28_reads h hg))
theorem pay30_reads (h : Reads v47 A) (hg : Reads v26 fun _ j => g j) (hc : Reads v20 c) (hs : Reads v22 s) (ht : Reads v24 t) :
    Reads (k0_pay30 (F := Ideal) v20 v22 v24 v26 v47) (fun r l => turned (fun j => qHead A g 768 r (128 + j)) (c r) (s r) (t r) l) := by
  unfold k0_pay30
  exact reads_trunc _ (turned_reads (reads_slice 128 _ (pay28_reads h hg)) hc hs ht)
end q

/-! ## k and v -/

theorem pay34_reads {v152 : Vec Ideal S512x128 .f32} {v164 : Vec Ideal S1x128 .f32} {v168 : Vec Ideal S128x1024 .bf16}
    (h0 : Reads v152 u) (h1 : Reads v164 fun _ j => g j) (h2 : Reads v168 W) :
    Reads (k0_pay34 (F := Ideal) (k0_pay31 v152) (k0_pay32 v152) k0_pay33 v164 v168) (fun r j => against 128 (normed 128 (u r) g) W j) := by
  have h := reads_cast shapeCasts_S512x128_S512x128 h0
  unfold k0_pay34 k0_pay33 k0_pay32 k0_pay31
  exact reads_dot _ rfl (reads_trunc _ (reads_mul (reads_mul h (reads_col _ (reads_scale 128 word_128 (reads_squares _ _ _ _ h))))
    (reads_row _ h1))) (reads_cast _ h2)

section k
variable {v20 v22 v24 v185 : FVec Ideal S512x128 .f32} {v28 : FVec Ideal S1x256 .f32} {v153 : FVec Ideal S512x128 .f32} {v156 v157 v175 v195 : FVec Ideal S512x1 .f32}
variable {v164 : Vec Ideal S1x128 .f32} {v168 : Vec Ideal S128x1024 .bf16} {v170 : FVec Ideal S512x1024 .f32} {v171 : Vec Ideal S512x128 .f32}

theorem pay36_reads (h : Reads v171 E) : Reads (k0_pay36 (F := Ideal) v171) (fun r _ => squares 128 (E r)) := by
  unfold k0_pay36 k0_pay35
  exact reads_squares _ _ _ _ (reads_cast _ h)
theorem pay37_reads (h : Reads v171 E) (hg : Reads v28 fun _ j => g j) (hc : Reads v20 c) (hs : Reads v22 s) (ht : Reads v24 t) :
    Reads (k0_pay37 (F := Ideal) v20 v22 v24 v28 v171) (kTurned E g c s t) := by
  unfold k0_pay37 k0_pay35
  exact turned_reads (reads_mul (reads_cast _ h) (reads_row _ (reads_slice 128 _ hg))) hc hs ht

/-- Any head's turned columns. -/
theorem scaled_reads {X : FVec Ideal S512x128 .f32} {v : FVec Ideal S512x1 .f32} (h : Reads X f) (hv : Reads v fun r _ => S r) :
    Reads (truncf .bf16 (mulf X (broadcastTo S512x128 v broadcasts_S512x1_S512x128)) bitsLt_bf16_f32) (fun r l => f r l * S r) :=
  reads_trunc _ (reads_mul h (reads_col _ hv))

/-- Head 0, -/
theorem pay39_reads (h : Reads (k0_pay34 (F := Ideal) v153 v156 v157 v164 v168) B) (hE : Reads v171 E) :
    Reads (k0_pay39 (F := Ideal) v153 v156 v157 v164 v168 v171) (fun r _ => kScale B E 0 r) := by
  have hs := reads_slice 0 slices_S512x1024_o0_0_S512x128 h
  unfold k0_pay39 k0_pay38
  exact reads_scale 192 (width _) (reads_add (reads_squares _ _ _ _ hs) (pay36_reads hE))
theorem pay40_reads (h : Reads (k0_pay34 (F := Ideal) v153 v156 v157 v164 v168) B) (hE : Reads v171 E) (hg : Reads v28 fun _ j => g j) :
    Reads (k0_pay40 (F := Ideal) v28 v153 v156 v157 v164 v168 v171) (fun r d => B r (0 + d) * kScale B E 0 r * g (0 + d)) := by
  unfold k0_pay40 k0_pay38
  exact reads_trunc _ (reads_mul (reads_mul (reads_slice 0 _ h) (reads_col _ (pay39_reads h hE))) (reads_row _ (reads_slice 0 _ hg)))
theorem pay41_reads (h : Reads v185 f) (hv : Reads v195 fun r _ => S r) : Reads (k0_pay41 (F := Ideal) v185 v195) (fun r l => f r l * S r) := by
  unfold k0_pay41
  exact scaled_reads h hv

/-- head 1, -/
theorem pay43_reads (h : Reads v170 B) (hE : Reads v175 fun r _ => squares 128 (E r)) :
    Reads (k0_pay43 (F := Ideal) v170 v175) (fun r _ => kScale B E 128 r) := by
  have hs := reads_slice 128 slices_S512x1024_o0_128_S512x128 h
  unfold k0_pay43 k0_pay42
  exact reads_scale 192 (width _) (reads_add (reads_squares _ _ _ _ hs) hE)
theorem pay44_reads (h : Reads v170 B) (hE : Reads v175 fun r _ => squares 128 (E r)) (hg : Reads v28 fun _ j => g j) :
    Reads (k0_pay44 (F := Ideal) v28 v170 v175) (fun r d => B r (128 + d) * kScale B E 128 r * g (0 + d)) := by
  unfold k0_pay44 k0_pay42
  exact reads_trunc _ (reads_mul (reads_mul (reads_slice 128 _ h) (reads_col _ (pay43_reads h hE))) (reads_row _ (reads_slice 0 _ hg)))
theorem pay45_reads (h : Reads v170 B) (hE : Reads v175 fun r _ => squares 128 (E r)) (hf : Reads v185 f) :
    Reads (k0_pay45 (F := Ideal) v170 v175 v185) (fun r l => f r l * kScale B E 128 r) := by
  unfold k0_pay45
  exact scaled_reads hf (pay43_reads h hE)

/-- head 2 -/
theorem pay47_reads (h : Reads v170 B) (hE : Reads v175 fun r _ => squares 128 (E r)) :
    Reads (k0_pay47 (F := Ideal) v170 v175) (fun r _ => kScale B E 256 r) := by
  have hs := reads_slice 256 slices_S512x1024_o0_256_S512x128 h
  unfold k0_pay47 k0_pay46
  exact reads_scale 192 (width _) (reads_add (reads_squares _ _ _ _ hs) hE)
theorem pay48_reads (h : Reads v170 B) (hE : Reads v175 fun r _ => squares 128 (E r)) (hg : Reads v28 fun _ j => g j) :
    Reads (k0_pay48 (F := Ideal) v28 v170 v175) (fun r d => B r (256 + d) * kScale B E 256 r * g (0 + d)) := by
  unfold k0_pay48 k0_pay46
  exact reads_trunc _ (reads_mul (reads_mul (reads_slice 256 _ h) (reads_col _ (pay47_reads h hE))) (reads_row _ (reads_slice 0 _ hg)))
theorem pay1_reads (h : Reads v185 f) (hv : Reads v195 fun r _ => S r) : Reads (k0_pay1 (F := Ideal) v185 v195) (fun r l => f r l * S r) := by
  unfold k0_pay1
  exact scaled_reads h hv

/-- and head 3. -/
theorem pay3_reads (h : Reads v170 B) (hE : Reads v175 fun r _ => squares 128 (E r)) :
    Reads (k0_pay3 (F := Ideal) v170 v175) (fun r _ => kScale B E 384 r) := by
  have hs := reads_slice 384 slices_S512x1024_o0_384_S512x128 h
  unfold k0_pay3 k0_pay2
  exact reads_scale 192 (width _) (reads_add (reads_squares _ _ _ _ hs) hE)
theorem pay4_reads (h : Reads v170 B) (hE : Reads v175 fun r _ => squares 128 (E r)) (hg : Reads v28 fun _ j => g j) :
    Reads (k0_pay4 (F := Ideal) v28 v170 v175) (fun r d => B r (384 + d) * kScale B E 384 r * g (0 + d)) := by
  unfold k0_pay4 k0_pay2
  exact reads_trunc _ (reads_mul (reads_mul (reads_slice 384 _ h) (reads_col _ (pay3_reads h hE))) (reads_row _ (reads_slice 0 _ hg)))
theorem pay5_reads (h : Reads v170 B) (hE : Reads v175 fun r _ => squares 128 (E r)) (hf : Reads v185 f) :
    Reads (k0_pay5 (F := Ideal) v170 v175 v185) (fun r l => f r l * kScale B E 384 r) := by
  unfold k0_pay5
  exact scaled_reads hf (pay3_reads h hE)

/-- All heads of v. -/
theorem pay6_reads (h : Reads v170 B) : Reads (k0_pay6 (F := Ideal) v170) (fun r j => B r (512 + j)) := by
  unfold k0_pay6
  exact reads_trunc _ (reads_slice 512 _ h)
end k

end Cert.Kernel3Ideal.Run

end
-- ==== Proof.Project.Point.lean ====
/-
  What the kernel's four results hold at a grid point.
-/
module

public import proofs.«01_k».proof.Proof.Project.Blocks
public import proofs.«01_k».proof.Proof.Project.Tiles
public import proofs.«01_k».proof.Proof.Gen.Kernel3Ideal.Value
public import Idealize.ShloMosaic.Lib.Pipeline.ReadBack

@[expose] public section

set_option maxRecDepth 16384

noncomputable section

namespace Cert.Kernel3Ideal.Run

open Cert.Kernel3Ideal Cert.Kernel3Ideal.Gen Cert.Kernel3Ideal.Host Cert.Project
open Idealize.ShloMosaic Idealize.ShloMosaic.TcCoe Idealize.ShloMosaic.Tactic

section Loads

variable {X : Vec Ideal S512x3072 .f32} {f : ℕ → ℕ → EReal} {sp : Space} (v : View sig .tc sp S512x3072 .f32) (hX : Reads X f)
include hX

/-! ## The projection's columns, read back -/

theorem load_q : Reads (m := 512) (n := 256) (v.readCov [⟨Rect.unit ![0, 0] ![512, 3072] inb_S512x3072_S512x3072_0_0, X⟩]
    (Rect.unit (s := S512x3072) ![0, 0] S512x256.size inb_S512x3072_S512x256_0_0).toLoadRect) (fun r j => f r (0 + j)) := fun i => by
  rw [View.readCov_eq_canon']
  refine (congrFun (View.canon_unit_zero (by decide) inb_S512x3072_S512x3072_0_0 X) _).trans (hX.at _ ?_ ?_)
  · refine (Rect.idx_unit_val (s := S512x3072) ![0, 0] S512x256.size inb_S512x3072_S512x256_0_0 i 0).trans ?_
    exact Nat.zero_add _
  · exact Rect.idx_unit_val (s := S512x3072) ![0, 0] S512x256.size inb_S512x3072_S512x256_0_0 i 1

theorem load_kv : Reads (m := 512) (n := 128) (v.readCov [⟨Rect.unit ![0, 0] ![512, 3072] inb_S512x3072_S512x3072_0_0, X⟩]
    (Rect.unit (s := S512x3072) ![0, 256] S512x128.size inb_S512x3072_S512x128_0_256).toLoadRect) (fun r j => f r (256 + j)) := fun i => by
  rw [View.readCov_eq_canon']
  refine (congrFun (View.canon_unit_zero (by decide) inb_S512x3072_S512x3072_0_0 X) _).trans (hX.at _ ?_ ?_)
  · refine (Rect.idx_unit_val (s := S512x3072) ![0, 256] S512x128.size inb_S512x3072_S512x128_0_256 i 0).trans ?_
    exact Nat.zero_add _
  · exact Rect.idx_unit_val (s := S512x3072) ![0, 256] S512x128.size inb_S512x3072_S512x128_0_256 i 1

theorem load_shared : Reads (m := 512) (n := 128) (v.readCov [⟨Rect.unit ![0, 0] ![512, 3072] inb_S512x3072_S512x3072_0_0, X⟩]
    (Rect.unit (s := S512x3072) ![0, 384] S512x128.size inb_S512x3072_S512x128_0_384).toLoadRect) (fun r j => f r (384 + j)) := fun i => by
  rw [View.readCov_eq_canon']
  refine (congrFun (View.canon_unit_zero (by decide) inb_S512x3072_S512x3072_0_0 X) _).trans (hX.at _ ?_ ?_)
  · refine (Rect.idx_unit_val (s := S512x3072) ![0, 384] S512x128.size inb_S512x3072_S512x128_0_384 i 0).trans ?_
    exact Nat.zero_add _
  · exact Rect.idx_unit_val (s := S512x3072) ![0, 384] S512x128.size inb_S512x3072_S512x128_0_384 i 1

end Loads

variable (m : (ℓ : Loc nD τ sig) → Buf (Elt Ideal) ℓ) (c : Dev nD) (t : Fin cfg0.N)

/-- The projection's block. -/
theorem tile_P : Reads (k0_pay7 (F := Ideal) (iblk m c 0 t) (iblk m c 4 t) (iblk m c 5 t)) (fun r j => (args m c).P (512 * t.val + r) j) :=
  pay7_reads (block_0 m c t) (block_4 m c t) (block_5 m c t)

theorem proj_reads : Reads (outsAt0 m c t).1 (fun r j => (args m c).wide (512 * t.val + r) j) := fun y => by
  unfold outsAt0
  dsimp only
  frame_out
  exact ((tile_P m c t).congr fun r j _ _ => (args m c).P_eq _ j) y

/-- The factors and the heads' weights. -/
theorem tile_c : Reads (k0_pay8 (F := Ideal) (iblk m c 1 t)) (fun r => turn ((args m c).C (512 * t.val + r))) := by
  unfold k0_pay8
  exact reads_cast _ (block_1 m c t)
theorem tile_s : Reads (k0_pay9 (F := Ideal) (iblk m c 2 t)) (fun r => turn1 ((args m c).S (512 * t.val + r))) := by
  unfold k0_pay9
  exact reads_cast _ (block_2 m c t)
theorem tile_t : Reads (k0_pay10 (F := Ideal) (iblk m c 3 t)) (fun r => turn2 ((args m c).S (512 * t.val + r))) := by
  unfold k0_pay10
  exact reads_cast _ (block_3 m c t)
theorem tile_hq : Reads (k0_pay11 (F := Ideal) (iblk m c 10 t)) (fun _ j => Args.headW (args m c).hq j) := by
  unfold k0_pay11
  exact reads_cast _ (block_10 m c t)
theorem tile_hk : Reads (k0_pay12 (F := Ideal) (iblk m c 11 t)) (fun _ j => Args.headW (args m c).hk j) := by
  unfold k0_pay12
  exact reads_cast _ (block_11 m c t)

/-- The keys' and values' columns. -/
theorem tile_B {v152 : Vec Ideal S512x128 .f32} (h : Reads v152 fun r j => (args m c).P (512 * t.val + r) (256 + j)) :
    Reads (k0_pay34 (F := Ideal) (k0_pay31 v152) (k0_pay32 v152) k0_pay33 (iblk m c 8 t) (iblk m c 9 t))
      (fun r j => (args m c).B (512 * t.val + r) j) :=
  pay34_reads h (block_8 m c t) (block_9 m c t)

theorem v_reads : Reads (outsAt0 m c t).2.2.2 (fun r j => (args m c).v (512 * t.val + r) (j / 128) (j % 128)) := fun y => by
  unfold outsAt0
  dsimp only
  frame_out
  have hy := (y 1).isLt
  change (y 1).val < 512 at hy
  refine (pay6_reads (tile_B m c t (load_kv _ (tile_P m c t))) y).trans ?_
  refine Eq.trans ?_ ((args m c).B_value _ ((y 1).val / 128) (by omega) (by omega))
  show (args m c).B _ (512 + (y 1).val) = _
  rw [show 128 * ((y 1).val / 128) + (y 1).val % 128 = (y 1).val by omega]

/-- The queries' columns. -/
theorem tile_A {v29 : Vec Ideal S512x256 .f32} (h : Reads v29 fun r j => (args m c).P (512 * t.val + r) (0 + j)) :
    Reads (k0_pay15 (F := Ideal) (k0_pay13 v29) (k0_pay14 v29) (iblk m c 6 t) (iblk m c 7 t)) (fun r j => (args m c).A (512 * t.val + r) j) :=
  pay15_reads (h.congr fun r j _ _ => by rw [Nat.zero_add]) (block_6 m c t) (block_7 m c t)

theorem q_reads : Reads (outsAt0 m c t).2.1 (fun r j => (args m c).q (512 * t.val + r) (j / 256) (j % 256)) := fun y => by
  unfold outsAt0
  dsimp only
  frame_out
  have hA := tile_A m c t (load_q (ms0_12 t).view (tile_P m c t))
  have hg := tile_hq m c t
  have hc := tile_c m c t
  have hs := tile_s m c t
  have ht := tile_t m c t
  canon_tiles x h
  · rw [h0, h1, show (896 + (x 1).val) / 256 = 3 by omega, show (896 + (x 1).val) % 256 = 128 + (x 1).val by omega]
    exact (pay30_reads hA hg hc hs ht x).trans ((args m c).q_turned _ 3)
  · rw [h0, h1, show (768 + (x 1).val) / 256 = 3 by omega, show (768 + (x 1).val) % 256 = (x 1).val by omega]
    refine (pay29_reads hA hg x).trans ?_
    beta_reduce
    rw [Nat.zero_add]
    exact (args m c).q_own _ 3 x1_lt
  · rw [h0, h1, show (640 + (x 1).val) / 256 = 2 by omega, show (640 + (x 1).val) % 256 = 128 + (x 1).val by omega]
    exact (pay27_reads hA hg hc hs ht x).trans ((args m c).q_turned _ 2)
  · rw [h0, h1, show (512 + (x 1).val) / 256 = 2 by omega, show (512 + (x 1).val) % 256 = (x 1).val by omega]
    refine (pay24_reads hA hg x).trans ?_
    beta_reduce
    rw [Nat.zero_add]
    exact (args m c).q_own _ 2 x1_lt
  · rw [h0, h1, show (384 + (x 1).val) / 256 = 1 by omega, show (384 + (x 1).val) % 256 = 128 + (x 1).val by omega]
    exact (pay22_reads hA hg hc hs ht x).trans ((args m c).q_turned _ 1)
  · rw [h0, h1, show (256 + (x 1).val) / 256 = 1 by omega, show (256 + (x 1).val) % 256 = (x 1).val by omega]
    refine (pay21_reads hA hg x).trans ?_
    beta_reduce
    rw [Nat.zero_add]
    exact (args m c).q_own _ 1 x1_lt
  · rw [h0, h1, show (128 + (x 1).val) / 256 = 0 by omega, show (128 + (x 1).val) % 256 = 128 + (x 1).val by omega]
    exact (pay18_reads hA hg hc hs ht x).trans ((args m c).q_turned _ 0)
  · rw [h0, h1, show (x 1).val / 256 = 0 by omega, show (x 1).val % 256 = (x 1).val by omega]
    refine (pay17_reads hA hg x).trans ?_
    beta_reduce
    rw [Nat.zero_add]
    exact (args m c).q_own _ 0 x1_lt

theorem k_reads : Reads (outsAt0 m c t).2.2.1 (fun r j => (args m c).k (512 * t.val + r) (j / 256) (j % 256)) := fun y => by
  unfold outsAt0
  dsimp only
  frame_out
  have hB := tile_B m c t (load_kv (ms0_12 t).view (tile_P m c t))
  have hE : Reads _ (fun r => (args m c).E (512 * t.val + r)) := load_shared (ms0_12 t).view (tile_P m c t)
  have hS := pay36_reads hE
  have hg := tile_hk m c t
  have hT := pay37_reads hE hg (tile_c m c t) (tile_s m c t) (tile_t m c t)
  canon_tiles x h
  · rw [h0, h1, show (896 + (x 1).val) / 256 = 3 by omega, show (896 + (x 1).val) % 256 = 128 + (x 1).val by omega]
    exact (pay5_reads hB hS hT x).trans ((args m c).k_turned _ 3 (by omega))
  · rw [h0, h1, show (768 + (x 1).val) / 256 = 3 by omega, show (768 + (x 1).val) % 256 = (x 1).val by omega]
    refine (pay4_reads hB hS hg x).trans ?_
    exact Eq.trans (congrArg (_ * ·) (congrArg _ (Nat.zero_add _))) ((args m c).k_own _ 3 (by omega) x1_lt)
  · rw [h0, h1, show (640 + (x 1).val) / 256 = 2 by omega, show (640 + (x 1).val) % 256 = 128 + (x 1).val by omega]
    exact (pay1_reads hT (pay47_reads hB hS) x).trans ((args m c).k_turned _ 2 (by omega))
  · rw [h0, h1, show (512 + (x 1).val) / 256 = 2 by omega, show (512 + (x 1).val) % 256 = (x 1).val by omega]
    refine (pay48_reads hB hS hg x).trans ?_
    exact Eq.trans (congrArg (_ * ·) (congrArg _ (Nat.zero_add _))) ((args m c).k_own _ 2 (by omega) x1_lt)
  · rw [h0, h1, show (384 + (x 1).val) / 256 = 1 by omega, show (384 + (x 1).val) % 256 = 128 + (x 1).val by omega]
    exact (pay45_reads hB hS hT x).trans ((args m c).k_turned _ 1 (by omega))
  · rw [h0, h1, show (256 + (x 1).val) / 256 = 1 by omega, show (256 + (x 1).val) % 256 = (x 1).val by omega]
    refine (pay44_reads hB hS hg x).trans ?_
    exact Eq.trans (congrArg (_ * ·) (congrArg _ (Nat.zero_add _))) ((args m c).k_own _ 1 (by omega) x1_lt)
  · rw [h0, h1, show (128 + (x 1).val) / 256 = 0 by omega, show (128 + (x 1).val) % 256 = 128 + (x 1).val by omega]
    exact (pay41_reads hT (pay39_reads hB hE) x).trans ((args m c).k_turned _ 0 (by omega))
  · rw [h0, h1, show (x 1).val / 256 = 0 by omega, show (x 1).val % 256 = (x 1).val by omega]
    refine (pay40_reads hB hE hg x).trans ?_
    exact Eq.trans (congrArg (_ * ·) (congrArg _ (Nat.zero_add _))) ((args m c).k_own _ 0 (by omega) x1_lt)

end Cert.Kernel3Ideal.Run

end
-- ==== Proof.Project.Results.lean ====
/-
  What the kernel's four result arrays hold after the whole grid.
-/
module

public import proofs.«01_k».proof.Proof.Project.Point
public import Idealize.ShloMosaic.Lib.Pipeline.ValueKit

@[expose] public section

set_option maxRecDepth 16384

noncomputable section

namespace Cert.Project.Args

variable (z : Args)

/-- The four results as arrays. -/
def projArr : (⟨2, ![8192, 3072]⟩ : Idealize.ShloMosaic.Shape).Idx → EReal := fun i => z.wide (i 0).val (i 1).val
def qArr : (⟨2, ![8192, 1024]⟩ : Idealize.ShloMosaic.Shape).Idx → EReal := fun i => z.q (i 0).val ((i 1).val / 256) ((i 1).val % 256)
def kArr : (⟨2, ![8192, 1024]⟩ : Idealize.ShloMosaic.Shape).Idx → EReal := fun i => z.k (i 0).val ((i 1).val / 256) ((i 1).val % 256)
def vArr : (⟨2, ![8192, 512]⟩ : Idealize.ShloMosaic.Shape).Idx → EReal := fun i => z.v (i 0).val ((i 1).val / 128) ((i 1).val % 128)

end Cert.Project.Args

namespace Cert.Kernel3Ideal.Run

open Cert.Kernel3Ideal Cert.Kernel3Ideal.Gen Cert.Kernel3Ideal.Host Cert.Project
open Idealize.ShloMosaic Idealize.ShloMosaic.TcCoe Idealize.ShloMosaic.Tactic

variable (m : (ℓ : Loc nD τ sig) → Buf (Elt Ideal) ℓ) (c : Dev nD)

theorem arr_proj : (dats m 0 c).arrAt 12 cfg0.N = (args m c).projArr := by
  refine (dats m 0 c).arrAt_eq_of_covers 12 _ (by decide +kernel) fun t hf y => ?_
  blk_simp
  rw [after0_12]
  refine (proj_reads m c t y).trans ?_
  unfold Args.projArr
  blk_simp [index_12]
  rw [show t.val * 512 + (y 0).val = 512 * t.val + (y 0).val by omega]

theorem arr_q : (dats m 0 c).arrAt 13 cfg0.N = (args m c).qArr := by
  refine (dats m 0 c).arrAt_eq_of_covers 13 _ (by decide +kernel) fun t hf y => ?_
  blk_simp
  rw [after0_13]
  refine (q_reads m c t y).trans ?_
  unfold Args.qArr
  blk_simp [index_13]
  rw [show t.val * 512 + (y 0).val = 512 * t.val + (y 0).val by omega]

theorem arr_k : (dats m 0 c).arrAt 14 cfg0.N = (args m c).kArr := by
  refine (dats m 0 c).arrAt_eq_of_covers 14 _ (by decide +kernel) fun t hf y => ?_
  blk_simp
  rw [after0_14]
  refine (k_reads m c t y).trans ?_
  unfold Args.kArr
  blk_simp [index_14]
  rw [show t.val * 512 + (y 0).val = 512 * t.val + (y 0).val by omega]

theorem arr_v : (dats m 0 c).arrAt 15 cfg0.N = (args m c).vArr := by
  refine (dats m 0 c).arrAt_eq_of_covers 15 _ (by decide +kernel) fun t hf y => ?_
  blk_simp
  rw [after0_15]
  refine (v_reads m c t y).trans ?_
  unfold Args.vArr
  blk_simp [index_15]
  rw [show t.val * 512 + (y 0).val = 512 * t.val + (y 0).val by omega]

end Cert.Kernel3Ideal.Run

end
-- ==== Proof.Project.Rows.lean ====
/-
  The reference's way of normalising a row, of multiplying with weights, and of turning columns, entry by entry.
-/
module

public import proofs.«01_k».proof.Proof.Project.Cubes

@[expose] public section

noncomputable section

namespace Cert.Project

open Idealize.ShloMosaic
open Finset

variable {m a n : ℕ} {u g : ℕ → EReal}

theorem word_zero : Ideal.ofBits .f32 0x00000000#32 = 0 := by
  simp [Ideal.ofBits, Ideal.ieee]
/-- The words of the rows' lengths. -/
theorem length_1024 : Ideal.ofBits .f32 0x44800000#32 = ((1024 : ℕ) : ℝ) := by
  simp [Ideal.ofBits, Ideal.ieee, -EReal.coe_mul]; norm_num
theorem length_256 : Ideal.ofBits .f32 0x43800000#32 = ((256 : ℕ) : ℝ) := by
  simp [Ideal.ofBits, Ideal.ieee, -EReal.coe_mul]; norm_num
theorem length_128 : Ideal.ofBits .f32 0x43000000#32 = ((128 : ℕ) : ℝ) := by
  simp [Ideal.ofBits, Ideal.ieee, -EReal.coe_mul]; norm_num
theorem length_192 : Ideal.ofBits .f32 0x43400000#32 = ((192 : ℕ) : ℝ) := by
  simp [Ideal.ofBits, Ideal.ieee, -EReal.coe_mul]; norm_num

theorem sum_squares {y : Fin n → EReal} (h : ∀ k, y k = u k.val * u k.val) : ∑ k, y k = squares n u :=
  (sum_congr rfl fun k _ => h k).trans (Fin.sum_univ_eq_sum_range (fun j => u j * u j) n)
theorem sum_against {W : ℕ → ℕ → EReal} {c : ℕ} {y : Fin n → EReal} (h : ∀ k, y k = u k.val * W k.val c) : ∑ k, y k = against n u W c :=
  (sum_congr rfl fun k _ => h k).trans (Fin.sum_univ_eq_sum_range (fun j => u j * W j c) n)

/-- An entry, over the root of its row's mean square, times its weight. -/
theorem norm_entry {N x w s : EReal} {j : ℕ} (hn : n ≠ 0) (hN : N = ((n : ℕ) : ℝ)) (hx : x = u j) (hg : w = g j) (hs : s = squares n u) :
    x * Ideal.rsqrt (Ideal.div (Ideal.ofBits .f32 0x00000000#32 + s) N + Ideal.ofBits .f32 0x358637BD#32) * w = normed n u g j := by
  rw [hx, hg, hs, hN, word_zero, zero_add, Ideal.div_coe (by exact_mod_cast hn), one_div]
  rfl

/-- Two halves of 32 columns turned against each other, after 128 columns left as they are. -/
theorem halves {N C S : ℕ → EReal} {d : ℕ} (hd : d < 192) :
    (if d < 128 then N d else if d - 128 < 32 then N (128 + (d - 128)) * C (d - 128) - N (128 + (32 + (d - 128))) * S (d - 128)
      else N (128 + (32 + (d - 128 - 32))) * C (d - 128 - 32) + N (128 + (d - 128 - 32)) * S (d - 128 - 32)) = rotated N C S d := by
  unfold rotated
  by_cases h : d < 128
  · rw [if_pos h, if_pos h]
  · rw [if_neg h, if_neg h]
    by_cases h' : d < 160
    · rw [if_pos h', if_pos (by omega), show 128 + (d - 128) = d by omega, show 128 + (32 + (d - 128)) = d + 32 by omega]
    · rw [if_neg h', if_neg (by omega), show 128 + (32 + (d - 128 - 32)) = d by omega, show 128 + (d - 128 - 32) = d - 32 by omega,
        show d - 128 - 32 = d - 160 by omega]

end Cert.Project

end
-- ==== Proof.Project.Reference.lean ====
/-
  The reference's results, entry by entry.
-/
module

public import proofs.«01_k».proof.Proof.Project.Rows
public import proofs.«01_k».proof.Proof.Project.Host
public import proofs.«01_k».proof.Proof.Project.Results
public import proofs.«01_k».proof.Proof.Gen.Reference3Ideal.Read

@[expose] public section

noncomputable section

namespace Cert.Reference3Ideal.Elements

open Cert.Reference3Ideal Cert.Reference3Ideal.Gen Cert.Reference3Ideal.Read Cert.Project Finset
open Cert.Kernel3Ideal.Host (argsOf row_table)
open Idealize.ShloMosaic Idealize.ShloMosaic.TcCoe

variable (x0 : (⟨S8192x1024, .f32⟩ : BufTy).Contents (Elt Ideal)) (x1 : (⟨S8192, .i32⟩ : BufTy).Contents (Elt Ideal))
variable (x2 : (⟨S1x1024, .f32⟩ : BufTy).Contents (Elt Ideal)) (x3 : (⟨S1024x3008, .f32⟩ : BufTy).Contents (Elt Ideal))
variable (x4 : (⟨S1x256, .f32⟩ : BufTy).Contents (Elt Ideal)) (x5 : (⟨S256x768, .f32⟩ : BufTy).Contents (Elt Ideal))
variable (x6 : (⟨S1x128, .f32⟩ : BufTy).Contents (Elt Ideal)) (x7 : (⟨S128x1024, .f32⟩ : BufTy).Contents (Elt Ideal))
variable (x8 x9 : (⟨S1x192, .f32⟩ : BufTy).Contents (Elt Ideal))

/-! ## The input projection -/

/-- The rows normalised, -/
theorem norm_in : Reads (m := 8192) (n := 1024) (val_main_v30 (F := Ideal) x0 x2) (fun r => normed 1024 ((argsOf x0 x1 x2 x3 x4 x5 x6 x7 x8 x9).X r) (argsOf x0 x1 x2 x3 x4 x5 x6 x7 x8 x9).gIn) := fun i => by
  rw [val_main_v30_apply, val_main_v28_apply, val_main_v27_apply, val_main_v26_apply, val_main_v25_apply, val_main_v23_apply, val_main_v24_apply, val_main_cst_6_apply, val_main_v22_apply, val_main_cst_5_apply, val_main_v21_apply, val_main_v20_apply, val_main_cst_4_apply, val_main_v29_apply]
  exact norm_entry (u := ((argsOf x0 x1 x2 x3 x4 x5 x6 x7 x8 x9).X (i 0).val)) (by decide) length_1024 ((reads_table (m := 8192) (n := 1024) x0).at _ rfl rfl) ((row_table (n := 1024) x2).at _ rfl rfl)
    (sum_squares fun k => congrArg₂ (· * ·) ((reads_table (m := 8192) (n := 1024) x0).at _ rfl rfl) ((reads_table (m := 8192) (n := 1024) x0).at _ rfl rfl))
/-- and against the weights. -/
theorem proj_reads : Reads (m := 8192) (n := 3008) (val_main_v31 (F := Ideal) x0 x2 x3) (argsOf x0 x1 x2 x3 x4 x5 x6 x7 x8 x9).proj := fun i => by
  rw [val_main_v31_apply]
  exact sum_against fun k => congrArg₂ (· * ·) ((norm_in x0 x1 x2 x3 x4 x5 x6 x7 x8 x9).at _ rfl rfl) ((reads_table (m := 1024) (n := 3008) x3).at _ rfl rfl)

theorem part_q : Reads (m := 8192) (n := 256) (val_main_v32 (F := Ideal) x0 x2 x3) (argsOf x0 x1 x2 x3 x4 x5 x6 x7 x8 x9).proj := fun i => by
  rw [val_main_v32_apply]
  exact (proj_reads x0 x1 x2 x3 x4 x5 x6 x7 x8 x9).at _ rfl rfl
theorem part_kv : Reads (m := 8192) (n := 128) (val_main_v33 (F := Ideal) x0 x2 x3) (fun r j => (argsOf x0 x1 x2 x3 x4 x5 x6 x7 x8 x9).proj r (256 + j)) := fun i => by
  rw [val_main_v33_apply]
  exact (proj_reads x0 x1 x2 x3 x4 x5 x6 x7 x8 x9).at _ rfl rfl

/-! ## Queries, keys and values -/

/-- The queries before their norm, -/
theorem norm_q : Reads (m := 8192) (n := 256) (val_main_v46 (F := Ideal) x0 x2 x3 x4) (fun r => normed 256 ((argsOf x0 x1 x2 x3 x4 x5 x6 x7 x8 x9).proj r) (argsOf x0 x1 x2 x3 x4 x5 x6 x7 x8 x9).gq) := fun i => by
  rw [val_main_v46_apply, val_main_v44_apply, val_main_v43_apply, val_main_v42_apply, val_main_v41_apply, val_main_v39_apply, val_main_v40_apply, val_main_cst_9_apply, val_main_v38_apply, val_main_cst_8_apply, val_main_v37_apply, val_main_v36_apply, val_main_cst_7_apply, val_main_v45_apply]
  exact norm_entry (u := ((argsOf x0 x1 x2 x3 x4 x5 x6 x7 x8 x9).proj (i 0).val)) (by decide) length_256 ((part_q x0 x1 x2 x3 x4 x5 x6 x7 x8 x9).at _ rfl rfl) ((row_table (n := 256) x4).at _ rfl rfl)
    (sum_squares fun k => congrArg₂ (· * ·) ((part_q x0 x1 x2 x3 x4 x5 x6 x7 x8 x9).at _ rfl rfl) ((part_q x0 x1 x2 x3 x4 x5 x6 x7 x8 x9).at _ rfl rfl))
theorem up_reads : Reads (m := 8192) (n := 768) (val_main_v47 (F := Ideal) x0 x2 x3 x4 x5) (argsOf x0 x1 x2 x3 x4 x5 x6 x7 x8 x9).up := fun i => by
  rw [val_main_v47_apply]
  exact sum_against fun k => congrArg₂ (· * ·) ((norm_q x0 x1 x2 x3 x4 x5 x6 x7 x8 x9).at _ rfl rfl) ((reads_table (m := 256) (n := 768) x5).at _ rfl rfl)
theorem qRow_reads : Reads3 (m := 8192) (n := 4) (p := 192) (val_main_v48 (F := Ideal) x0 x2 x3 x4 x5) (argsOf x0 x1 x2 x3 x4 x5 x6 x7 x8 x9).qRow := by
  unfold val_main_v48
  exact reads_split (by decide) _ (up_reads x0 x1 x2 x3 x4 x5 x6 x7 x8 x9)
/-- the keys' and values' columns, -/
theorem norm_kv : Reads (m := 8192) (n := 128) (val_main_v60 (F := Ideal) x0 x2 x3 x6) (fun r => normed 128 (fun j => (argsOf x0 x1 x2 x3 x4 x5 x6 x7 x8 x9).proj r (256 + j)) (argsOf x0 x1 x2 x3 x4 x5 x6 x7 x8 x9).gkv) := fun i => by
  rw [val_main_v60_apply, val_main_v58_apply, val_main_v57_apply, val_main_v56_apply, val_main_v55_apply, val_main_v53_apply, val_main_v54_apply, val_main_cst_12_apply, val_main_v52_apply, val_main_cst_11_apply, val_main_v51_apply, val_main_v50_apply, val_main_cst_10_apply, val_main_v59_apply]
  exact norm_entry (u := (fun j => (argsOf x0 x1 x2 x3 x4 x5 x6 x7 x8 x9).proj (i 0).val (256 + j))) (by decide) length_128 ((part_kv x0 x1 x2 x3 x4 x5 x6 x7 x8 x9).at _ rfl rfl) ((row_table (n := 128) x6).at _ rfl rfl)
    (sum_squares fun k => congrArg₂ (· * ·) ((part_kv x0 x1 x2 x3 x4 x5 x6 x7 x8 x9).at _ rfl rfl) ((part_kv x0 x1 x2 x3 x4 x5 x6 x7 x8 x9).at _ rfl rfl))
theorem kv_reads : Reads (m := 8192) (n := 1024) (val_main_v61 (F := Ideal) x0 x2 x3 x6 x7) (argsOf x0 x1 x2 x3 x4 x5 x6 x7 x8 x9).kv := fun i => by
  rw [val_main_v61_apply]
  exact sum_against fun k => congrArg₂ (· * ·) ((norm_kv x0 x1 x2 x3 x4 x5 x6 x7 x8 x9).at _ rfl rfl) ((reads_table (m := 128) (n := 1024) x7).at _ rfl rfl)
theorem heads_reads : Reads3 (m := 8192) (n := 4) (p := 256) (val_main_v62 (F := Ideal) x0 x2 x3 x6 x7) (fun r h d => (argsOf x0 x1 x2 x3 x4 x5 x6 x7 x8 x9).kv r (h * 256 + d)) := by
  unfold val_main_v62
  exact reads_split (by decide) _ (kv_reads x0 x1 x2 x3 x4 x5 x6 x7 x8 x9)
theorem value_reads : Reads3 (m := 8192) (n := 4) (p := 128) (val_main_v64 (F := Ideal) x0 x2 x3 x6 x7) (argsOf x0 x1 x2 x3 x4 x5 x6 x7 x8 x9).v := fun i => by
  rw [val_main_v64_apply]
  exact (heads_reads x0 x1 x2 x3 x4 x5 x6 x7 x8 x9).at _ rfl rfl rfl
theorem own_reads : Reads3 (m := 8192) (n := 4) (p := 128) (val_main_v63 (F := Ideal) x0 x2 x3 x6 x7) (fun r h d => (argsOf x0 x1 x2 x3 x4 x5 x6 x7 x8 x9).kv r (h * 256 + d)) := fun i => by
  rw [val_main_v63_apply]
  exact (heads_reads x0 x1 x2 x3 x4 x5 x6 x7 x8 x9).at _ rfl rfl rfl
theorem shared_reads : Reads3 (m := 8192) (n := 4) (p := 64) (val_main_v66 (F := Ideal) x0 x2 x3) (fun r _ d => (argsOf x0 x1 x2 x3 x4 x5 x6 x7 x8 x9).proj r (384 + d)) := fun i => by
  rw [val_main_v66_apply, val_main_v65_apply, val_main_v34_apply]
  exact (proj_reads x0 x1 x2 x3 x4 x5 x6 x7 x8 x9).at _ rfl rfl
/-- and the keys before their norm. -/
theorem kRow_reads : Reads3 (m := 8192) (n := 4) (p := 192) (val_main_v67 (F := Ideal) x0 x2 x3 x6 x7) (argsOf x0 x1 x2 x3 x4 x5 x6 x7 x8 x9).kRow := by
  unfold val_main_v67
  exact beside_two3 (own_reads x0 x1 x2 x3 x4 x5 x6 x7 x8 x9) (shared_reads x0 x1 x2 x3 x4 x5 x6 x7 x8 x9) _

/-! ## Norm and rotary embedding -/

theorem q_norm : Reads3 (m := 8192) (n := 4) (p := 192) (val_main_v80 (F := Ideal) x0 x2 x3 x4 x5 x8) (fun r h => normed 192 ((argsOf x0 x1 x2 x3 x4 x5 x6 x7 x8 x9).qRow r h) (argsOf x0 x1 x2 x3 x4 x5 x6 x7 x8 x9).hq) := fun i => by
  rw [val_main_v80_apply, val_main_v77_apply, val_main_v76_apply, val_main_v75_apply, val_main_v74_apply, val_main_v72_apply, val_main_v73_apply, val_main_cst_15_apply, val_main_v71_apply, val_main_cst_14_apply, val_main_v70_apply, val_main_v69_apply, val_main_cst_13_apply, val_main_v79_apply, val_main_v78_apply]
  exact norm_entry (u := (argsOf x0 x1 x2 x3 x4 x5 x6 x7 x8 x9).qRow (i 0).val (i 1).val) (by decide) length_192 ((qRow_reads x0 x1 x2 x3 x4 x5 x6 x7 x8 x9).at _ rfl rfl rfl) ((row_table (n := 192) x8).at _ rfl rfl)
    (sum_squares fun k => congrArg₂ (· * ·) ((qRow_reads x0 x1 x2 x3 x4 x5 x6 x7 x8 x9).at _ rfl rfl rfl) ((qRow_reads x0 x1 x2 x3 x4 x5 x6 x7 x8 x9).at _ rfl rfl rfl))
theorem q_first : Reads3 (m := 8192) (n := 4) (p := 32) (val_main_v104 (F := Ideal) x0 x1 x2 x3 x4 x5 x8)
    (fun r h d => normed 192 ((argsOf x0 x1 x2 x3 x4 x5 x6 x7 x8 x9).qRow r h) (argsOf x0 x1 x2 x3 x4 x5 x6 x7 x8 x9).hq (128 + d) * (argsOf x0 x1 x2 x3 x4 x5 x6 x7 x8 x9).C r d
      - normed 192 ((argsOf x0 x1 x2 x3 x4 x5 x6 x7 x8 x9).qRow r h) (argsOf x0 x1 x2 x3 x4 x5 x6 x7 x8 x9).hq (128 + (32 + d)) * (argsOf x0 x1 x2 x3 x4 x5 x6 x7 x8 x9).S r d) := fun i => by
  rw [val_main_v104_apply, val_main_v101_apply, val_main_v98_apply, val_main_v95_apply, val_main_v100_apply, val_main_v96_apply, val_main_v103_apply, val_main_v99_apply, val_main_v95_apply, val_main_v102_apply, val_main_v97_apply]
  exact congrArg₂ (· - ·)
    (congrArg₂ (· * ·) ((q_norm x0 x1 x2 x3 x4 x5 x6 x7 x8 x9).at _ rfl rfl rfl) ((reads_table (m := 8192) (n := 32) (val_main_v17 (F := Ideal) x1)).at _ rfl rfl))
    (congrArg₂ (· * ·) ((q_norm x0 x1 x2 x3 x4 x5 x6 x7 x8 x9).at _ rfl rfl rfl) ((reads_table (m := 8192) (n := 32) (val_main_v18 (F := Ideal) x1)).at _ rfl rfl))
theorem q_second : Reads3 (m := 8192) (n := 4) (p := 32) (val_main_v109 (F := Ideal) x0 x1 x2 x3 x4 x5 x8)
    (fun r h d => normed 192 ((argsOf x0 x1 x2 x3 x4 x5 x6 x7 x8 x9).qRow r h) (argsOf x0 x1 x2 x3 x4 x5 x6 x7 x8 x9).hq (128 + (32 + d)) * (argsOf x0 x1 x2 x3 x4 x5 x6 x7 x8 x9).C r d
      + normed 192 ((argsOf x0 x1 x2 x3 x4 x5 x6 x7 x8 x9).qRow r h) (argsOf x0 x1 x2 x3 x4 x5 x6 x7 x8 x9).hq (128 + d) * (argsOf x0 x1 x2 x3 x4 x5 x6 x7 x8 x9).S r d) := fun i => by
  rw [val_main_v109_apply, val_main_v106_apply, val_main_v99_apply, val_main_v95_apply, val_main_v105_apply, val_main_v96_apply, val_main_v108_apply, val_main_v98_apply, val_main_v95_apply, val_main_v107_apply, val_main_v97_apply]
  exact congrArg₂ (· + ·)
    (congrArg₂ (· * ·) ((q_norm x0 x1 x2 x3 x4 x5 x6 x7 x8 x9).at _ rfl rfl rfl) ((reads_table (m := 8192) (n := 32) (val_main_v17 (F := Ideal) x1)).at _ rfl rfl))
    (congrArg₂ (· * ·) ((q_norm x0 x1 x2 x3 x4 x5 x6 x7 x8 x9).at _ rfl rfl rfl) ((reads_table (m := 8192) (n := 32) (val_main_v18 (F := Ideal) x1)).at _ rfl rfl))
theorem q_low : Reads3 (m := 8192) (n := 4) (p := 128) (val_main_v94 (F := Ideal) x0 x2 x3 x4 x5 x8) (fun r h => normed 192 ((argsOf x0 x1 x2 x3 x4 x5 x6 x7 x8 x9).qRow r h) (argsOf x0 x1 x2 x3 x4 x5 x6 x7 x8 x9).hq) := fun i => by
  rw [val_main_v94_apply]
  exact (q_norm x0 x1 x2 x3 x4 x5 x6 x7 x8 x9).at _ rfl rfl rfl
theorem q_rotated : Reads3 (m := 8192) (n := 4) (p := 192) (val_main_v111 (F := Ideal) x0 x1 x2 x3 x4 x5 x8)
    (fun r h => rotated (normed 192 ((argsOf x0 x1 x2 x3 x4 x5 x6 x7 x8 x9).qRow r h) (argsOf x0 x1 x2 x3 x4 x5 x6 x7 x8 x9).hq) ((argsOf x0 x1 x2 x3 x4 x5 x6 x7 x8 x9).C r) ((argsOf x0 x1 x2 x3 x4 x5 x6 x7 x8 x9).S r)) := by
  unfold val_main_v111 val_main_v110
  exact (beside_two3 (q_low x0 x1 x2 x3 x4 x5 x6 x7 x8 x9) (beside_two3 (q_first x0 x1 x2 x3 x4 x5 x6 x7 x8 x9) (q_second x0 x1 x2 x3 x4 x5 x6 x7 x8 x9) _) _).congr fun r h d _ _ hd => halves hd

theorem k_norm : Reads3 (m := 8192) (n := 4) (p := 192) (val_main_v93 (F := Ideal) x0 x2 x3 x6 x7 x9) (fun r h => normed 192 ((argsOf x0 x1 x2 x3 x4 x5 x6 x7 x8 x9).kRow r h) (argsOf x0 x1 x2 x3 x4 x5 x6 x7 x8 x9).hk) := fun i => by
  rw [val_main_v93_apply, val_main_v90_apply, val_main_v89_apply, val_main_v88_apply, val_main_v87_apply, val_main_v85_apply, val_main_v86_apply, val_main_cst_18_apply, val_main_v84_apply, val_main_cst_17_apply, val_main_v83_apply, val_main_v82_apply, val_main_cst_16_apply, val_main_v92_apply, val_main_v91_apply]
  exact norm_entry (u := (argsOf x0 x1 x2 x3 x4 x5 x6 x7 x8 x9).kRow (i 0).val (i 1).val) (by decide) length_192 ((kRow_reads x0 x1 x2 x3 x4 x5 x6 x7 x8 x9).at _ rfl rfl rfl) ((row_table (n := 192) x9).at _ rfl rfl)
    (sum_squares fun k => congrArg₂ (· * ·) ((kRow_reads x0 x1 x2 x3 x4 x5 x6 x7 x8 x9).at _ rfl rfl rfl) ((kRow_reads x0 x1 x2 x3 x4 x5 x6 x7 x8 x9).at _ rfl rfl rfl))
theorem k_first : Reads3 (m := 8192) (n := 4) (p := 32) (val_main_v122 (F := Ideal) x0 x1 x2 x3 x6 x7 x9)
    (fun r h d => normed 192 ((argsOf x0 x1 x2 x3 x4 x5 x6 x7 x8 x9).kRow r h) (argsOf x0 x1 x2 x3 x4 x5 x6 x7 x8 x9).hk (128 + d) * (argsOf x0 x1 x2 x3 x4 x5 x6 x7 x8 x9).C r d
      - normed 192 ((argsOf x0 x1 x2 x3 x4 x5 x6 x7 x8 x9).kRow r h) (argsOf x0 x1 x2 x3 x4 x5 x6 x7 x8 x9).hk (128 + (32 + d)) * (argsOf x0 x1 x2 x3 x4 x5 x6 x7 x8 x9).S r d) := fun i => by
  rw [val_main_v122_apply, val_main_v119_apply, val_main_v116_apply, val_main_v113_apply, val_main_v118_apply, val_main_v114_apply, val_main_v121_apply, val_main_v117_apply, val_main_v113_apply, val_main_v120_apply, val_main_v115_apply]
  exact congrArg₂ (· - ·)
    (congrArg₂ (· * ·) ((k_norm x0 x1 x2 x3 x4 x5 x6 x7 x8 x9).at _ rfl rfl rfl) ((reads_table (m := 8192) (n := 32) (val_main_v17 (F := Ideal) x1)).at _ rfl rfl))
    (congrArg₂ (· * ·) ((k_norm x0 x1 x2 x3 x4 x5 x6 x7 x8 x9).at _ rfl rfl rfl) ((reads_table (m := 8192) (n := 32) (val_main_v18 (F := Ideal) x1)).at _ rfl rfl))
theorem k_second : Reads3 (m := 8192) (n := 4) (p := 32) (val_main_v127 (F := Ideal) x0 x1 x2 x3 x6 x7 x9)
    (fun r h d => normed 192 ((argsOf x0 x1 x2 x3 x4 x5 x6 x7 x8 x9).kRow r h) (argsOf x0 x1 x2 x3 x4 x5 x6 x7 x8 x9).hk (128 + (32 + d)) * (argsOf x0 x1 x2 x3 x4 x5 x6 x7 x8 x9).C r d
      + normed 192 ((argsOf x0 x1 x2 x3 x4 x5 x6 x7 x8 x9).kRow r h) (argsOf x0 x1 x2 x3 x4 x5 x6 x7 x8 x9).hk (128 + d) * (argsOf x0 x1 x2 x3 x4 x5 x6 x7 x8 x9).S r d) := fun i => by
  rw [val_main_v127_apply, val_main_v124_apply, val_main_v117_apply, val_main_v113_apply, val_main_v123_apply, val_main_v114_apply, val_main_v126_apply, val_main_v116_apply, val_main_v113_apply, val_main_v125_apply, val_main_v115_apply]
  exact congrArg₂ (· + ·)
    (congrArg₂ (· * ·) ((k_norm x0 x1 x2 x3 x4 x5 x6 x7 x8 x9).at _ rfl rfl rfl) ((reads_table (m := 8192) (n := 32) (val_main_v17 (F := Ideal) x1)).at _ rfl rfl))
    (congrArg₂ (· * ·) ((k_norm x0 x1 x2 x3 x4 x5 x6 x7 x8 x9).at _ rfl rfl rfl) ((reads_table (m := 8192) (n := 32) (val_main_v18 (F := Ideal) x1)).at _ rfl rfl))
theorem k_low : Reads3 (m := 8192) (n := 4) (p := 128) (val_main_v112 (F := Ideal) x0 x2 x3 x6 x7 x9) (fun r h => normed 192 ((argsOf x0 x1 x2 x3 x4 x5 x6 x7 x8 x9).kRow r h) (argsOf x0 x1 x2 x3 x4 x5 x6 x7 x8 x9).hk) := fun i => by
  rw [val_main_v112_apply]
  exact (k_norm x0 x1 x2 x3 x4 x5 x6 x7 x8 x9).at _ rfl rfl rfl
theorem k_rotated : Reads3 (m := 8192) (n := 4) (p := 192) (val_main_v129 (F := Ideal) x0 x1 x2 x3 x6 x7 x9)
    (fun r h => rotated (normed 192 ((argsOf x0 x1 x2 x3 x4 x5 x6 x7 x8 x9).kRow r h) (argsOf x0 x1 x2 x3 x4 x5 x6 x7 x8 x9).hk) ((argsOf x0 x1 x2 x3 x4 x5 x6 x7 x8 x9).C r) ((argsOf x0 x1 x2 x3 x4 x5 x6 x7 x8 x9).S r)) := by
  unfold val_main_v129 val_main_v128
  exact (beside_two3 (k_low x0 x1 x2 x3 x4 x5 x6 x7 x8 x9) (beside_two3 (k_first x0 x1 x2 x3 x4 x5 x6 x7 x8 x9) (k_second x0 x1 x2 x3 x4 x5 x6 x7 x8 x9) _) _).congr fun r h d _ _ hd => halves hd

/-! ## The results -/

theorem q_out : Reads (m := 8192) (n := 1024) (val_main_v140 (F := Ideal) x0 x1 x2 x3 x4 x5 x8) (fun r j => (argsOf x0 x1 x2 x3 x4 x5 x6 x7 x8 x9).q r (j / 256) (j % 256)) := by
  unfold val_main_v140 val_main_v139 val_main_v138
  exact reads_trunc _ (reads_merge (by decide) _ (reads_pad3 fill_zero _ _ (q_rotated x0 x1 x2 x3 x4 x5 x6 x7 x8 x9)))
theorem k_out : Reads (m := 8192) (n := 1024) (val_main_v143 (F := Ideal) x0 x1 x2 x3 x6 x7 x9) (fun r j => (argsOf x0 x1 x2 x3 x4 x5 x6 x7 x8 x9).k r (j / 256) (j % 256)) := by
  unfold val_main_v143 val_main_v142 val_main_v141
  exact reads_trunc _ (reads_merge (by decide) _ (reads_pad3 fill_zero _ _ (k_rotated x0 x1 x2 x3 x4 x5 x6 x7 x8 x9)))
theorem v_out : Reads (m := 8192) (n := 512) (val_main_v145 (F := Ideal) x0 x2 x3 x6 x7) (fun r j => (argsOf x0 x1 x2 x3 x4 x5 x6 x7 x8 x9).v r (j / 128) (j % 128)) := by
  unfold val_main_v145 val_main_v144
  exact reads_trunc _ (reads_merge (by decide) _ (value_reads x0 x1 x2 x3 x4 x5 x6 x7 x8 x9))

theorem part_0 : Reads (m := 8192) (n := 448) (val_main_v130 (F := Ideal) x0 x2 x3) (argsOf x0 x1 x2 x3 x4 x5 x6 x7 x8 x9).proj := fun i => by
  rw [val_main_v130_apply]
  exact (proj_reads x0 x1 x2 x3 x4 x5 x6 x7 x8 x9).at _ rfl rfl
theorem part_1 : Reads (m := 8192) (n := 512) (val_main_v131 (F := Ideal) x0 x2 x3) (fun r j => (argsOf x0 x1 x2 x3 x4 x5 x6 x7 x8 x9).proj r (448 + j)) := fun i => by
  rw [val_main_v131_apply]
  exact (proj_reads x0 x1 x2 x3 x4 x5 x6 x7 x8 x9).at _ rfl rfl
theorem part_2 : Reads (m := 8192) (n := 512) (val_main_v132 (F := Ideal) x0 x2 x3) (fun r j => (argsOf x0 x1 x2 x3 x4 x5 x6 x7 x8 x9).proj r (960 + j)) := fun i => by
  rw [val_main_v132_apply]
  exact (proj_reads x0 x1 x2 x3 x4 x5 x6 x7 x8 x9).at _ rfl rfl
theorem part_3 : Reads (m := 8192) (n := 512) (val_main_v133 (F := Ideal) x0 x2 x3) (fun r j => (argsOf x0 x1 x2 x3 x4 x5 x6 x7 x8 x9).proj r (1472 + j)) := fun i => by
  rw [val_main_v133_apply]
  exact (proj_reads x0 x1 x2 x3 x4 x5 x6 x7 x8 x9).at _ rfl rfl
theorem part_4 : Reads (m := 8192) (n := 512) (val_main_v134 (F := Ideal) x0 x2 x3) (fun r j => (argsOf x0 x1 x2 x3 x4 x5 x6 x7 x8 x9).proj r (1984 + j)) := fun i => by
  rw [val_main_v134_apply]
  exact (proj_reads x0 x1 x2 x3 x4 x5 x6 x7 x8 x9).at _ rfl rfl
theorem part_5 : Reads (m := 8192) (n := 512) (val_main_v135 (F := Ideal) x0 x2 x3) (fun r j => (argsOf x0 x1 x2 x3 x4 x5 x6 x7 x8 x9).proj r (2496 + j)) := fun i => by
  rw [val_main_v135_apply]
  exact (proj_reads x0 x1 x2 x3 x4 x5 x6 x7 x8 x9).at _ rfl rfl
theorem part_pad : Reads (m := 8192) (n := 512) (val_main_v136 (F := Ideal) x0 x2 x3) (fun r j => if j < 448 then (argsOf x0 x1 x2 x3 x4 x5 x6 x7 x8 x9).proj r j else 0) := by
  unfold val_main_v136
  exact reads_pad fill_zero _ _ (part_0 x0 x1 x2 x3 x4 x5 x6 x7 x8 x9)
/-- The six parts in the result's order. -/
theorem columns (p : ℕ → EReal) {j : ℕ} (hj : j < 3072) :
    (if j < 512 then if j < 448 then p j else 0 else if j - 512 < 512 then p (448 + (j - 512))
      else if j - 512 - 512 < 512 then p (1472 + (j - 512 - 512)) else if j - 512 - 512 - 512 < 512 then p (1984 + (j - 512 - 512 - 512))
      else if j - 512 - 512 - 512 - 512 < 512 then p (960 + (j - 512 - 512 - 512 - 512)) else p (2496 + (j - 512 - 512 - 512 - 512 - 512)))
      = if 448 ≤ j ∧ j < 512 then 0 else p (Args.inColumn j) := by
  unfold Args.inColumn
  split_ifs <;> first | omega | exact congrArg p (by omega) | rfl
theorem proj_out : Reads (m := 8192) (n := 3072) (val_main_v137 (F := Ideal) x0 x2 x3) (argsOf x0 x1 x2 x3 x4 x5 x6 x7 x8 x9).wide := by
  unfold val_main_v137
  exact (beside_six (part_pad x0 x1 x2 x3 x4 x5 x6 x7 x8 x9) (part_1 x0 x1 x2 x3 x4 x5 x6 x7 x8 x9) (part_3 x0 x1 x2 x3 x4 x5 x6 x7 x8 x9) (part_4 x0 x1 x2 x3 x4 x5 x6 x7 x8 x9) (part_2 x0 x1 x2 x3 x4 x5 x6 x7 x8 x9) (part_5 x0 x1 x2 x3 x4 x5 x6 x7 x8 x9) _).congr
    fun r j _ hj => columns ((argsOf x0 x1 x2 x3 x4 x5 x6 x7 x8 x9).proj r) hj

end Cert.Reference3Ideal.Elements

end
-- ==== Proof.Project.Join.lean ====
/-
  The runs of the two projection programs, each with its four results written as the same arrays.
-/
module

public import proofs.«01_k».proof.Proof.Project.Results
public import proofs.«01_k».proof.Proof.Project.Reference
public import proofs.«01_k».proof.Proof.Gen.Reference3Ideal.Run

@[expose] public section

set_option maxRecDepth 16384

noncomputable section

open Idealize.ShloMosaic Idealize.ShloMosaic.TcCoe Idealize.SL.Sem Cert.Project

namespace Cert.Kernel3Ideal.Run

open Cert.Kernel3Ideal Cert.Kernel3Ideal.Gen Cert.Kernel3Ideal.Host

theorem values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v45_0) = (args m c).projArr
      ∧ r.2.mem ((c.tc : Thread nD τ).loc main_v45_1) = (args m c).qArr
      ∧ r.2.mem ((c.tc : Thread nD τ).loc main_v45_2) = (args m c).kArr
      ∧ r.2.mem ((c.tc : Thread nD τ).loc main_v45_3) = (args m c).vArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨r0, r1, r2, r3, hr⟩ := h c
    exact ⟨r0.trans (arr_proj m c), r1.trans (arr_q m c), r2.trans (arr_k m c), r3.trans (arr_v m c), hr⟩)
    (Cert.Kernel3Ideal.Value.run_blocks (F := Ideal) m ρ)

end Cert.Kernel3Ideal.Run

namespace Cert.Reference3Ideal.Elements

open Cert.Reference3Ideal
open Cert.Kernel3Ideal.Host (args x₀ x₁ x₂ x₃ x₄ x₅ x₆ x₇ x₈ x₉)

variable (m : (ℓ : Loc Kernel3Ideal.nD Kernel3Ideal.τ Kernel3Ideal.sig) → Buf (Elt Ideal) ℓ)
variable (m' : (ℓ : Loc nD τ sig) → Buf (Elt Ideal) ℓ)

/-- The reference's run, at the arrays the kernel's argument buffers hold. -/
theorem values (ρ : Dev nD → PrngReg)
    (e : ∀ c : Dev nD, m' ((c.tc : Thread nD τ).loc main_arg0) = x₀ m c
      ∧ m' ((c.tc : Thread nD τ).loc main_arg1) = x₁ m c
      ∧ m' ((c.tc : Thread nD τ).loc main_arg2) = x₂ m c
      ∧ m' ((c.tc : Thread nD τ).loc main_arg3) = x₃ m c
      ∧ m' ((c.tc : Thread nD τ).loc main_arg4) = x₄ m c
      ∧ m' ((c.tc : Thread nD τ).loc main_arg5) = x₅ m c
      ∧ m' ((c.tc : Thread nD τ).loc main_arg6) = x₆ m c
      ∧ m' ((c.tc : Thread nD τ).loc main_arg7) = x₇ m c
      ∧ m' ((c.tc : Thread nD τ).loc main_arg8) = x₈ m c
      ∧ m' ((c.tc : Thread nD τ).loc main_arg9) = x₉ m c) :
    θ_run defs (onTc (τ := τ) (main (F := Ideal))) ⟨m', fun _ => 0, ρ⟩ (fun r => ∀ c : Dev nD,
      r.2.mem ((c.tc : Thread nD τ).loc main_v137) = (args m c).projArr
      ∧ r.2.mem ((c.tc : Thread nD τ).loc main_v140) = (args m c).qArr
      ∧ r.2.mem ((c.tc : Thread nD τ).loc main_v143) = (args m c).kArr
      ∧ r.2.mem ((c.tc : Thread nD τ).loc main_v145) = (args m c).vArr
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)) :=
  (θ_run defs _ _).mono (fun r h c => by
    obtain ⟨e0, e1, e2, e3, e4, e5, e6, e7, e8, e9⟩ := e c
    obtain ⟨r0, r1, r2, r3, hr⟩ := h c
    refine ⟨r0.trans ?_, r1.trans ?_, r2.trans ?_, r3.trans ?_, hr⟩
    · rw [Read.val_main_v137_eq, e0, e2, e3]
      exact funext fun i => proj_out (x₀ m c) (x₁ m c) (x₂ m c) (x₃ m c) (x₄ m c) (x₅ m c) (x₆ m c) (x₇ m c) (x₈ m c) (x₉ m c) i
    · rw [Read.val_main_v140_eq, e0, e1, e2, e3, e4, e5, e8]
      exact funext fun i => q_out (x₀ m c) (x₁ m c) (x₂ m c) (x₃ m c) (x₄ m c) (x₅ m c) (x₆ m c) (x₇ m c) (x₈ m c) (x₉ m c) i
    · rw [Read.val_main_v143_eq, e0, e1, e2, e3, e6, e7, e9]
      exact funext fun i => k_out (x₀ m c) (x₁ m c) (x₂ m c) (x₃ m c) (x₄ m c) (x₅ m c) (x₆ m c) (x₇ m c) (x₈ m c) (x₉ m c) i
    · rw [Read.val_main_v145_eq, e0, e2, e3, e6, e7]
      exact funext fun i => v_out (x₀ m c) (x₁ m c) (x₂ m c) (x₃ m c) (x₄ m c) (x₅ m c) (x₆ m c) (x₇ m c) (x₈ m c) (x₉ m c) i) (Cert.Reference3Ideal.Value.run (F := Ideal) m' ρ)

end Cert.Reference3Ideal.Elements

end
-- ==== Proof.Mid.RunA.lean ====
/-
  One run of the kernel's body at the first point: the stores into each result's buffer.
-/
module

public import proofs.«01_k».proof.Proof.Gen.Kernel4Ideal.Frame.Runs

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- At the first point the accumulated results are set to zero first: what the body's stores leave in every result's buffer,
    and that it runs. -/
noncomputable def bodyA (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x256 .f32) (harg7 : arg7.IsWhole) (arg8 : Memref sig .tc .vmem S256x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S8x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S256x512 .bf16) (harg17 : arg17.IsWhole) (arg18 : Memref sig .tc .vmem S32x256 .f32) (harg18 : arg18.IsWhole) (arg19 : Memref sig .tc .vmem S256x512 .bf16) (harg19 : arg19.IsWhole) (arg20 : Memref sig .tc .vmem S256x1024 .bf16) (harg20 : arg20.IsWhole) (arg21 : Memref sig .tc .vmem S256x512 .f32) (harg21 : arg21.IsWhole) (arg22 : Memref sig .tc .vmem S1024x1024 .f32) (harg22 : arg22.IsWhole) (arg23 : Memref sig .tc .vmem S1024x1024 .f32) (harg23 : arg23.IsWhole) (arg24 : Memref sig .tc .vmem S256x1024 .f32) (harg24 : arg24.IsWhole) (arg25 : Memref sig .tc .vmem S8x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x1024 .f32) (harg28 : arg28.IsWhole) (arg29 : Memref sig .tc .vmem S1x128 .f32) (harg29 : arg29.IsWhole) (hc0 : cond0_0 i)
    (x0 : Vec F S256x512 .f32) (x1 : Vec F S256x512 .f32) (x2 : Vec F S256x1024 .f32) (x3 : Vec F S256x1024 .f32) (x4 : Vec F S8x1024 .f32) (x5 : Vec F S256x1024 .f32) (x6 : Vec F S256x256 .f32) (x7 : Vec F S256x1024 .f32) (x8 : Vec F S1024x1024 .bf16) (x9 : Vec F S1024x1024 .bf16) (x10 : Vec F S256x1024 .bf16) (x11 : Vec F S8x512 .f32) (x12 : Vec F S1x512 .f32) (x13 : Vec F S1x512 .f32) (x14 : Vec F S1x1024 .f32) :
    Σ' (L15 : List (View.Piece (Elt F) S256x1024 .f32)), Σ' (L16 : List (View.Piece (Elt F) S256x512 .bf16)), Σ' (L17 : List (View.Piece (Elt F) S32x256 .f32)), Σ' (L18 : List (View.Piece (Elt F) S256x512 .bf16)), Σ' (L19 : List (View.Piece (Elt F) S256x1024 .bf16)), Σ' (L20 : List (View.Piece (Elt F) S256x512 .f32)), Σ' (L21 : List (View.Piece (Elt F) S1024x1024 .f32)), Σ' (L22 : List (View.Piece (Elt F) S1024x1024 .f32)), Σ' (L23 : List (View.Piece (Elt F) S256x1024 .f32)), Σ' (L24 : List (View.Piece (Elt F) S8x512 .f32)), Σ' (L25 : List (View.Piece (Elt F) S1x512 .f32)), Σ' (L26 : List (View.Piece (Elt F) S1x512 .f32)), Σ' (L27 : List (View.Piece (Elt F) S1x1024 .f32)), { L28 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0_mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, ?_, fun E K => ?run⟩
  case run =>
    simp only [cc0_mid_eq_skeleton]; unfold cc0_mid_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

end Cert.Kernel4Ideal.Run

end
-- ==== Proof.Mid.RunB.lean ====
/-
  One run of the kernel's body at a later point: the stores into each result's buffer.
-/
module

public import proofs.«01_k».proof.Proof.Mid.RunA

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- At a later point the accumulated results are found as the point before left them: what the body's stores leave in every
    result's buffer, and that it runs. -/
noncomputable def bodyB (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x256 .f32) (harg7 : arg7.IsWhole) (arg8 : Memref sig .tc .vmem S256x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S8x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S256x512 .bf16) (harg17 : arg17.IsWhole) (arg18 : Memref sig .tc .vmem S32x256 .f32) (harg18 : arg18.IsWhole) (arg19 : Memref sig .tc .vmem S256x512 .bf16) (harg19 : arg19.IsWhole) (arg20 : Memref sig .tc .vmem S256x1024 .bf16) (harg20 : arg20.IsWhole) (arg21 : Memref sig .tc .vmem S256x512 .f32) (harg21 : arg21.IsWhole) (arg22 : Memref sig .tc .vmem S1024x1024 .f32) (harg22 : arg22.IsWhole) (arg23 : Memref sig .tc .vmem S1024x1024 .f32) (harg23 : arg23.IsWhole) (arg24 : Memref sig .tc .vmem S256x1024 .f32) (harg24 : arg24.IsWhole) (arg25 : Memref sig .tc .vmem S8x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x1024 .f32) (harg28 : arg28.IsWhole) (arg29 : Memref sig .tc .vmem S1x128 .f32) (harg29 : arg29.IsWhole) (hc0 : ¬cond0_0 i)
    (x0 : Vec F S256x512 .f32) (x1 : Vec F S256x512 .f32) (x2 : Vec F S256x1024 .f32) (x3 : Vec F S256x1024 .f32) (x4 : Vec F S8x1024 .f32) (x5 : Vec F S256x1024 .f32) (x6 : Vec F S256x256 .f32) (x7 : Vec F S256x1024 .f32) (x8 : Vec F S1024x1024 .bf16) (x9 : Vec F S1024x1024 .bf16) (x10 : Vec F S256x1024 .bf16) (x11 : Vec F S8x512 .f32) (x12 : Vec F S1x512 .f32) (x13 : Vec F S1x512 .f32) (x14 : Vec F S1x1024 .f32) (xo21 : Vec F S1024x1024 .f32) (xo22 : Vec F S1024x1024 .f32) (xo23 : Vec F S256x1024 .f32) (xo24 : Vec F S8x512 .f32) (xo25 : Vec F S1x512 .f32) (xo26 : Vec F S1x512 .f32) (xo27 : Vec F S1x1024 .f32) (xo28 : Vec F S1x128 .f32) :
    Σ' (L15 : List (View.Piece (Elt F) S256x1024 .f32)), Σ' (L16 : List (View.Piece (Elt F) S256x512 .bf16)), Σ' (L17 : List (View.Piece (Elt F) S32x256 .f32)), Σ' (L18 : List (View.Piece (Elt F) S256x512 .bf16)), Σ' (L19 : List (View.Piece (Elt F) S256x1024 .bf16)), Σ' (L20 : List (View.Piece (Elt F) S256x512 .f32)), Σ' (L21 : List (View.Piece (Elt F) S1024x1024 .f32)), Σ' (L22 : List (View.Piece (Elt F) S1024x1024 .f32)), Σ' (L23 : List (View.Piece (Elt F) S256x1024 .f32)), Σ' (L24 : List (View.Piece (Elt F) S8x512 .f32)), Σ' (L25 : List (View.Piece (Elt F) S1x512 .f32)), Σ' (L26 : List (View.Piece (Elt F) S1x512 .f32)), Σ' (L27 : List (View.Piece (Elt F) S1x1024 .f32)), { L28 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xo21 ∗ owns (c : Thread nD τ) arg23 fullShare xo22 ∗ owns (c : Thread nD τ) arg24 fullShare xo23 ∗ owns (c : Thread nD τ) arg25 fullShare xo24 ∗ owns (c : Thread nD τ) arg26 fullShare xo25 ∗ owns (c : Thread nD τ) arg27 fullShare xo26 ∗ owns (c : Thread nD τ) arg28 fullShare xo27 ∗ owns (c : Thread nD τ) arg29 fullShare xo28
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (arg25.view.loc (c : Thread nD τ) ↦[arg25.view.set]{fullShare} arg25.view.writes (Elt F) (harg25.unread xo24) L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0_mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, ?_, fun E K => ?run⟩
  case run =>
    simp only [cc0_mid_eq_skeleton]; unfold cc0_mid_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexact H24
    isplitl [H25]; · iexists _; iexact H25
    isplitl [H26]; · iexists _; iexact H26
    isplitl [H27]; · iexists _; iexact H27
    iexists _; iexact H28

end Cert.Kernel4Ideal.Run

end
-- ==== Proof.Mid.Launch.lean ====
/-
  The launch of the kernel: what its result windows hold after each grid point, and the run of the program.
-/
module

public import proofs.«01_k».proof.Proof.Mid.RunB
public import Idealize.ShloMosaic.Lib.Pipeline.Frame
public import Idealize.ShloMosaic.Lib.Claim

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the results' buffers, in the order of the windows. -/
abbrev Outs (F : FTy → Type) : Type :=
  Vec F S256x1024 .f32 × Vec F S256x512 .bf16 × Vec F S32x256 .f32 × Vec F S256x512 .bf16 × Vec F S256x1024 .bf16 × Vec F S256x512 .f32 × Vec F S1024x1024 .f32 × Vec F S1024x1024 .f32 × Vec F S256x1024 .f32 × Vec F S8x512 .f32 × Vec F S1x512 .f32 × Vec F S1x512 .f32 × Vec F S1x1024 .f32 × Vec F S1x128 .f32

/-- The body's run at the first point, on the point's buffers and blocks, -/
def atA (c : Dev nD) (t : Fin cfg0.N) (h0 : t.val % 32 = 0) :=
  bodyA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
/-- and at a later one, the point before having left `p`. -/
def atB (c : Dev nD) (t : Fin cfg0.N) (h0 : ¬t.val % 32 = 0) (p : Outs F) :=
  bodyB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2

/-! ## The stores cover the results' buffers -/

theorem coverA15 (c : Dev nD) (t : Fin cfg0.N) (h0 : t.val % 32 = 0) (y : S256x1024.Idx) : ∃ pc ∈ (atA m c t h0).1, y ∈ pc.1.set :=
  View.cover_of_tiledL (atA m c t h0).1 S256x1024.size (by sl_kernel_rfl) y
theorem coverA16 (c : Dev nD) (t : Fin cfg0.N) (h0 : t.val % 32 = 0) (y : S256x512.Idx) : ∃ pc ∈ (atA m c t h0).2.1, y ∈ pc.1.set :=
  View.cover_of_tiledL (atA m c t h0).2.1 S256x512.size (by sl_kernel_rfl) y
theorem coverA17 (c : Dev nD) (t : Fin cfg0.N) (h0 : t.val % 32 = 0) (y : S32x256.Idx) : ∃ pc ∈ (atA m c t h0).2.2.1, y ∈ pc.1.set :=
  View.cover_of_tiledL (atA m c t h0).2.2.1 S8x256.size (by sl_kernel_rfl) y
theorem coverA18 (c : Dev nD) (t : Fin cfg0.N) (h0 : t.val % 32 = 0) (y : S256x512.Idx) : ∃ pc ∈ (atA m c t h0).2.2.2.1, y ∈ pc.1.set :=
  View.cover_of_tiledL (atA m c t h0).2.2.2.1 S256x512.size (by sl_kernel_rfl) y
theorem coverA19 (c : Dev nD) (t : Fin cfg0.N) (h0 : t.val % 32 = 0) (y : S256x1024.Idx) : ∃ pc ∈ (atA m c t h0).2.2.2.2.1, y ∈ pc.1.set :=
  View.cover_of_tiledL (atA m c t h0).2.2.2.2.1 S256x512.size (by sl_kernel_rfl) y
theorem coverA20 (c : Dev nD) (t : Fin cfg0.N) (h0 : t.val % 32 = 0) (y : S256x512.Idx) : ∃ pc ∈ (atA m c t h0).2.2.2.2.2.1, y ∈ pc.1.set :=
  View.cover_of_tiledL (atA m c t h0).2.2.2.2.2.1 S256x512.size (by sl_kernel_rfl) y
theorem coverA21 (c : Dev nD) (t : Fin cfg0.N) (h0 : t.val % 32 = 0) (y : S1024x1024.Idx) : ∃ pc ∈ (atA m c t h0).2.2.2.2.2.2.1, y ∈ pc.1.set :=
  View.cover_of_tiledL (atA m c t h0).2.2.2.2.2.2.1 S1024x1024.size (by sl_kernel_rfl) y
theorem coverA22 (c : Dev nD) (t : Fin cfg0.N) (h0 : t.val % 32 = 0) (y : S1024x1024.Idx) : ∃ pc ∈ (atA m c t h0).2.2.2.2.2.2.2.1, y ∈ pc.1.set :=
  View.cover_of_tiledL (atA m c t h0).2.2.2.2.2.2.2.1 S1024x1024.size (by sl_kernel_rfl) y
theorem coverA23 (c : Dev nD) (t : Fin cfg0.N) (h0 : t.val % 32 = 0) (y : S256x1024.Idx) : ∃ pc ∈ (atA m c t h0).2.2.2.2.2.2.2.2.1, y ∈ pc.1.set :=
  View.cover_of_tiledL (atA m c t h0).2.2.2.2.2.2.2.2.1 S256x1024.size (by sl_kernel_rfl) y
theorem coverA24 (c : Dev nD) (t : Fin cfg0.N) (h0 : t.val % 32 = 0) (y : S8x512.Idx) : ∃ pc ∈ (atA m c t h0).2.2.2.2.2.2.2.2.2.1, y ∈ pc.1.set :=
  View.cover_of_tiledL (atA m c t h0).2.2.2.2.2.2.2.2.2.1 S8x512.size (by sl_kernel_rfl) y
theorem coverA25 (c : Dev nD) (t : Fin cfg0.N) (h0 : t.val % 32 = 0) (y : S1x512.Idx) : ∃ pc ∈ (atA m c t h0).2.2.2.2.2.2.2.2.2.2.1, y ∈ pc.1.set :=
  View.cover_of_tiledL (atA m c t h0).2.2.2.2.2.2.2.2.2.2.1 S1x512.size (by sl_kernel_rfl) y
theorem coverA26 (c : Dev nD) (t : Fin cfg0.N) (h0 : t.val % 32 = 0) (y : S1x512.Idx) : ∃ pc ∈ (atA m c t h0).2.2.2.2.2.2.2.2.2.2.2.1, y ∈ pc.1.set :=
  View.cover_of_tiledL (atA m c t h0).2.2.2.2.2.2.2.2.2.2.2.1 S1x512.size (by sl_kernel_rfl) y
theorem coverA27 (c : Dev nD) (t : Fin cfg0.N) (h0 : t.val % 32 = 0) (y : S1x1024.Idx) : ∃ pc ∈ (atA m c t h0).2.2.2.2.2.2.2.2.2.2.2.2.1, y ∈ pc.1.set :=
  View.cover_of_tiledL (atA m c t h0).2.2.2.2.2.2.2.2.2.2.2.2.1 S1x1024.size (by sl_kernel_rfl) y
theorem coverA28 (c : Dev nD) (t : Fin cfg0.N) (h0 : t.val % 32 = 0) (y : S1x128.Idx) : ∃ pc ∈ (atA m c t h0).2.2.2.2.2.2.2.2.2.2.2.2.2.1, y ∈ pc.1.set :=
  View.cover_of_tiledL (atA m c t h0).2.2.2.2.2.2.2.2.2.2.2.2.2.1 S1x128.size (by sl_kernel_rfl) y
theorem coverB15 (c : Dev nD) (t : Fin cfg0.N) (h0 : ¬t.val % 32 = 0) (p : Outs F) (y : S256x1024.Idx) : ∃ pc ∈ (atB m c t h0 p).1, y ∈ pc.1.set :=
  View.cover_of_tiledL (atB m c t h0 p).1 S256x1024.size (by sl_kernel_rfl) y
theorem coverB16 (c : Dev nD) (t : Fin cfg0.N) (h0 : ¬t.val % 32 = 0) (p : Outs F) (y : S256x512.Idx) : ∃ pc ∈ (atB m c t h0 p).2.1, y ∈ pc.1.set :=
  View.cover_of_tiledL (atB m c t h0 p).2.1 S256x512.size (by sl_kernel_rfl) y
theorem coverB17 (c : Dev nD) (t : Fin cfg0.N) (h0 : ¬t.val % 32 = 0) (p : Outs F) (y : S32x256.Idx) : ∃ pc ∈ (atB m c t h0 p).2.2.1, y ∈ pc.1.set :=
  View.cover_of_tiledL (atB m c t h0 p).2.2.1 S8x256.size (by sl_kernel_rfl) y
theorem coverB18 (c : Dev nD) (t : Fin cfg0.N) (h0 : ¬t.val % 32 = 0) (p : Outs F) (y : S256x512.Idx) : ∃ pc ∈ (atB m c t h0 p).2.2.2.1, y ∈ pc.1.set :=
  View.cover_of_tiledL (atB m c t h0 p).2.2.2.1 S256x512.size (by sl_kernel_rfl) y
theorem coverB19 (c : Dev nD) (t : Fin cfg0.N) (h0 : ¬t.val % 32 = 0) (p : Outs F) (y : S256x1024.Idx) : ∃ pc ∈ (atB m c t h0 p).2.2.2.2.1, y ∈ pc.1.set :=
  View.cover_of_tiledL (atB m c t h0 p).2.2.2.2.1 S256x512.size (by sl_kernel_rfl) y
theorem coverB20 (c : Dev nD) (t : Fin cfg0.N) (h0 : ¬t.val % 32 = 0) (p : Outs F) (y : S256x512.Idx) : ∃ pc ∈ (atB m c t h0 p).2.2.2.2.2.1, y ∈ pc.1.set :=
  View.cover_of_tiledL (atB m c t h0 p).2.2.2.2.2.1 S256x512.size (by sl_kernel_rfl) y
theorem coverB21 (c : Dev nD) (t : Fin cfg0.N) (h0 : ¬t.val % 32 = 0) (p : Outs F) (y : S1024x1024.Idx) : ∃ pc ∈ (atB m c t h0 p).2.2.2.2.2.2.1, y ∈ pc.1.set :=
  View.cover_of_tiledL (atB m c t h0 p).2.2.2.2.2.2.1 S1024x1024.size (by sl_kernel_rfl) y
theorem coverB22 (c : Dev nD) (t : Fin cfg0.N) (h0 : ¬t.val % 32 = 0) (p : Outs F) (y : S1024x1024.Idx) : ∃ pc ∈ (atB m c t h0 p).2.2.2.2.2.2.2.1, y ∈ pc.1.set :=
  View.cover_of_tiledL (atB m c t h0 p).2.2.2.2.2.2.2.1 S1024x1024.size (by sl_kernel_rfl) y
theorem coverB23 (c : Dev nD) (t : Fin cfg0.N) (h0 : ¬t.val % 32 = 0) (p : Outs F) (y : S256x1024.Idx) : ∃ pc ∈ (atB m c t h0 p).2.2.2.2.2.2.2.2.1, y ∈ pc.1.set :=
  View.cover_of_tiledL (atB m c t h0 p).2.2.2.2.2.2.2.2.1 S256x1024.size (by sl_kernel_rfl) y
theorem coverB25 (c : Dev nD) (t : Fin cfg0.N) (h0 : ¬t.val % 32 = 0) (p : Outs F) (y : S1x512.Idx) : ∃ pc ∈ (atB m c t h0 p).2.2.2.2.2.2.2.2.2.2.1, y ∈ pc.1.set :=
  View.cover_of_tiledL (atB m c t h0 p).2.2.2.2.2.2.2.2.2.2.1 S1x512.size (by sl_kernel_rfl) y
theorem coverB26 (c : Dev nD) (t : Fin cfg0.N) (h0 : ¬t.val % 32 = 0) (p : Outs F) (y : S1x512.Idx) : ∃ pc ∈ (atB m c t h0 p).2.2.2.2.2.2.2.2.2.2.2.1, y ∈ pc.1.set :=
  View.cover_of_tiledL (atB m c t h0 p).2.2.2.2.2.2.2.2.2.2.2.1 S1x512.size (by sl_kernel_rfl) y
theorem coverB27 (c : Dev nD) (t : Fin cfg0.N) (h0 : ¬t.val % 32 = 0) (p : Outs F) (y : S1x1024.Idx) : ∃ pc ∈ (atB m c t h0 p).2.2.2.2.2.2.2.2.2.2.2.2.1, y ∈ pc.1.set :=
  View.cover_of_tiledL (atB m c t h0 p).2.2.2.2.2.2.2.2.2.2.2.2.1 S1x1024.size (by sl_kernel_rfl) y
theorem coverB28 (c : Dev nD) (t : Fin cfg0.N) (h0 : ¬t.val % 32 = 0) (p : Outs F) (y : S1x128.Idx) : ∃ pc ∈ (atB m c t h0 p).2.2.2.2.2.2.2.2.2.2.2.2.2.1, y ∈ pc.1.set :=
  View.cover_of_tiledL (atB m c t h0 p).2.2.2.2.2.2.2.2.2.2.2.2.2.1 S1x128.size (by sl_kernel_rfl) y

/-! ## What the results hold after each point -/

/-- What the first point leaves, -/
def outsA (c : Dev nD) (t : Fin cfg0.N) (h0 : t.val % 32 = 0) : Outs F :=
  (VO0_15.read (Elt F) (VO0_15.writes (Elt F) VO0_15.junk (atA m c t h0).1),
    VO0_16.read (Elt F) (VO0_16.writes (Elt F) VO0_16.junk (atA m c t h0).2.1),
    VO0_17.read (Elt F) (VO0_17.writes (Elt F) VO0_17.junk (atA m c t h0).2.2.1),
    VO0_18.read (Elt F) (VO0_18.writes (Elt F) VO0_18.junk (atA m c t h0).2.2.2.1),
    VO0_19.read (Elt F) (VO0_19.writes (Elt F) VO0_19.junk (atA m c t h0).2.2.2.2.1),
    VO0_20.read (Elt F) (VO0_20.writes (Elt F) VO0_20.junk (atA m c t h0).2.2.2.2.2.1),
    VO0_21.read (Elt F) (VO0_21.writes (Elt F) VO0_21.junk (atA m c t h0).2.2.2.2.2.2.1),
    VO0_22.read (Elt F) (VO0_22.writes (Elt F) VO0_22.junk (atA m c t h0).2.2.2.2.2.2.2.1),
    VO0_23.read (Elt F) (VO0_23.writes (Elt F) VO0_23.junk (atA m c t h0).2.2.2.2.2.2.2.2.1),
    VO0_24.read (Elt F) (VO0_24.writes (Elt F) VO0_24.junk (atA m c t h0).2.2.2.2.2.2.2.2.2.1),
    VO0_25.read (Elt F) (VO0_25.writes (Elt F) VO0_25.junk (atA m c t h0).2.2.2.2.2.2.2.2.2.2.1),
    VO0_26.read (Elt F) (VO0_26.writes (Elt F) VO0_26.junk (atA m c t h0).2.2.2.2.2.2.2.2.2.2.2.1),
    VO0_27.read (Elt F) (VO0_27.writes (Elt F) VO0_27.junk (atA m c t h0).2.2.2.2.2.2.2.2.2.2.2.2.1),
    VO0_28.read (Elt F) (VO0_28.writes (Elt F) VO0_28.junk (atA m c t h0).2.2.2.2.2.2.2.2.2.2.2.2.2.1))
/-- and a later one. -/
def outsB (c : Dev nD) (t : Fin cfg0.N) (h0 : ¬t.val % 32 = 0) (p : Outs F) : Outs F :=
  (VO0_15.read (Elt F) (VO0_15.writes (Elt F) VO0_15.junk (atB m c t h0 p).1),
    VO0_16.read (Elt F) (VO0_16.writes (Elt F) VO0_16.junk (atB m c t h0 p).2.1),
    VO0_17.read (Elt F) (VO0_17.writes (Elt F) VO0_17.junk (atB m c t h0 p).2.2.1),
    VO0_18.read (Elt F) (VO0_18.writes (Elt F) VO0_18.junk (atB m c t h0 p).2.2.2.1),
    VO0_19.read (Elt F) (VO0_19.writes (Elt F) VO0_19.junk (atB m c t h0 p).2.2.2.2.1),
    VO0_20.read (Elt F) (VO0_20.writes (Elt F) VO0_20.junk (atB m c t h0 p).2.2.2.2.2.1),
    VO0_21.read (Elt F) (VO0_21.writes (Elt F) VO0_21.junk (atB m c t h0 p).2.2.2.2.2.2.1),
    VO0_22.read (Elt F) (VO0_22.writes (Elt F) VO0_22.junk (atB m c t h0 p).2.2.2.2.2.2.2.1),
    VO0_23.read (Elt F) (VO0_23.writes (Elt F) VO0_23.junk (atB m c t h0 p).2.2.2.2.2.2.2.2.1),
    (ms0_24 t).view.read (Elt F) ((ms0_24 t).view.writes (Elt F) ((hs0_24 t).unread p.2.2.2.2.2.2.2.2.2.1) (atB m c t h0 p).2.2.2.2.2.2.2.2.2.1),
    VO0_25.read (Elt F) (VO0_25.writes (Elt F) VO0_25.junk (atB m c t h0 p).2.2.2.2.2.2.2.2.2.2.1),
    VO0_26.read (Elt F) (VO0_26.writes (Elt F) VO0_26.junk (atB m c t h0 p).2.2.2.2.2.2.2.2.2.2.2.1),
    VO0_27.read (Elt F) (VO0_27.writes (Elt F) VO0_27.junk (atB m c t h0 p).2.2.2.2.2.2.2.2.2.2.2.2.1),
    VO0_28.read (Elt F) (VO0_28.writes (Elt F) VO0_28.junk (atB m c t h0 p).2.2.2.2.2.2.2.2.2.2.2.2.2.1))
/-- The contents after each point. -/
def outsAt (c : Dev nD) : (n : ℕ) → n < cfg0.N → Outs F
  | 0, hn => outsA m c ⟨0, hn⟩ (Nat.zero_mod _)
  | n + 1, hn =>
    if h0 : (n + 1) % 32 = 0 then outsA m c ⟨n + 1, hn⟩ h0
    else outsB m c ⟨n + 1, hn⟩ h0 (outsAt c n (Nat.lt_of_succ_lt hn))

/-- What the point before left. -/
abbrev before (c : Dev nD) (t : Fin cfg0.N) : Outs F := outsAt m c (t.val - 1) (Nat.lt_of_le_of_lt (Nat.sub_le _ _) t.isLt)

theorem outsAt_A (c : Dev nD) (t : Fin cfg0.N) (h0 : t.val % 32 = 0) : outsAt m c t.val t.isLt = outsA m c t h0 := by
  obtain ⟨n, hn⟩ := t
  cases n with
  | zero => exact rfl
  | succ n => exact dif_pos h0
theorem outsAt_B (c : Dev nD) (t : Fin cfg0.N) (h0 : ¬t.val % 32 = 0) : outsAt m c t.val t.isLt = outsB m c t h0 (before m c t) := by
  obtain ⟨n, hn⟩ := t
  cases n with
  | zero => exact absurd (Nat.zero_mod _) h0
  | succ n => exact dif_neg h0

/-- The arrays as the region finds them; after a point each input's buffer at its block, the results as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt m c t.val t.isLt).1
    | ⟨16, _⟩ => (outsAt m c t.val t.isLt).2.1
    | ⟨17, _⟩ => (outsAt m c t.val t.isLt).2.2.1
    | ⟨18, _⟩ => (outsAt m c t.val t.isLt).2.2.2.1
    | ⟨19, _⟩ => (outsAt m c t.val t.isLt).2.2.2.2.1
    | ⟨20, _⟩ => (outsAt m c t.val t.isLt).2.2.2.2.2.1
    | ⟨21, _⟩ => (outsAt m c t.val t.isLt).2.2.2.2.2.2.1
    | ⟨22, _⟩ => (outsAt m c t.val t.isLt).2.2.2.2.2.2.2.1
    | ⟨23, _⟩ => (outsAt m c t.val t.isLt).2.2.2.2.2.2.2.2.1
    | ⟨24, _⟩ => (outsAt m c t.val t.isLt).2.2.2.2.2.2.2.2.2.1
    | ⟨25, _⟩ => (outsAt m c t.val t.isLt).2.2.2.2.2.2.2.2.2.2.1
    | ⟨26, _⟩ => (outsAt m c t.val t.isLt).2.2.2.2.2.2.2.2.2.2.2.1
    | ⟨27, _⟩ => (outsAt m c t.val t.isLt).2.2.2.2.2.2.2.2.2.2.2.2.1
    | ⟨28, _⟩ => (outsAt m c t.val t.isLt).2.2.2.2.2.2.2.2.2.2.2.2.2
    | ⟨_ + 29, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = (outsAt m c t.val t.isLt).1 := by dsimp only [dats]
theorem after16 (c : Dev nD) (t : Fin cfg0.N) : (dats m 0 c).after 16 t = (outsAt m c t.val t.isLt).2.1 := by dsimp only [dats]
theorem after17 (c : Dev nD) (t : Fin cfg0.N) : (dats m 0 c).after 17 t = (outsAt m c t.val t.isLt).2.2.1 := by dsimp only [dats]
theorem after18 (c : Dev nD) (t : Fin cfg0.N) : (dats m 0 c).after 18 t = (outsAt m c t.val t.isLt).2.2.2.1 := by dsimp only [dats]
theorem after19 (c : Dev nD) (t : Fin cfg0.N) : (dats m 0 c).after 19 t = (outsAt m c t.val t.isLt).2.2.2.2.1 := by dsimp only [dats]
theorem after20 (c : Dev nD) (t : Fin cfg0.N) : (dats m 0 c).after 20 t = (outsAt m c t.val t.isLt).2.2.2.2.2.1 := by dsimp only [dats]
theorem after21 (c : Dev nD) (t : Fin cfg0.N) : (dats m 0 c).after 21 t = (outsAt m c t.val t.isLt).2.2.2.2.2.2.1 := by dsimp only [dats]
theorem after22 (c : Dev nD) (t : Fin cfg0.N) : (dats m 0 c).after 22 t = (outsAt m c t.val t.isLt).2.2.2.2.2.2.2.1 := by dsimp only [dats]
theorem after23 (c : Dev nD) (t : Fin cfg0.N) : (dats m 0 c).after 23 t = (outsAt m c t.val t.isLt).2.2.2.2.2.2.2.2.1 := by dsimp only [dats]
theorem after24 (c : Dev nD) (t : Fin cfg0.N) : (dats m 0 c).after 24 t = (outsAt m c t.val t.isLt).2.2.2.2.2.2.2.2.2.1 := by dsimp only [dats]
theorem after25 (c : Dev nD) (t : Fin cfg0.N) : (dats m 0 c).after 25 t = (outsAt m c t.val t.isLt).2.2.2.2.2.2.2.2.2.2.1 := by dsimp only [dats]
theorem after26 (c : Dev nD) (t : Fin cfg0.N) : (dats m 0 c).after 26 t = (outsAt m c t.val t.isLt).2.2.2.2.2.2.2.2.2.2.2.1 := by dsimp only [dats]
theorem after27 (c : Dev nD) (t : Fin cfg0.N) : (dats m 0 c).after 27 t = (outsAt m c t.val t.isLt).2.2.2.2.2.2.2.2.2.2.2.2.1 := by dsimp only [dats]
theorem after28 (c : Dev nD) (t : Fin cfg0.N) : (dats m 0 c).after 28 t = (outsAt m c t.val t.isLt).2.2.2.2.2.2.2.2.2.2.2.2.2 := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d
theorem before13 (c : Dev nD) (t : Fin cfg0.N) (d) : (dats m 0 c).before 13 t d = iblk m c 13 t := before0_13_of m (dats m 0 c) (A_eq m c 13) (after13 m c) t d
theorem before14 (c : Dev nD) (t : Fin cfg0.N) (d) : (dats m 0 c).before 14 t d = iblk m c 14 t := before0_14_of m (dats m 0 c) (A_eq m c 14) (after14 m c) t d

/-! ## An accumulated result's buffer at a later point holds what the point before left -/

theorem before21 (c : Dev nD) (t : Fin cfg0.N) (h0 : ¬t.val % 32 = 0) (d) : (dats m 0 c).before 21 t d = (before m c t).2.2.2.2.2.2.1 := by
  have hN : t.val < 32 := lt_of_lt_of_eq t.isLt (show cfg0.N = 32 from N_0)
  rw [Dat.before_out_kept _ 21 rfl t (by omega) (Bool.eq_false_iff.mpr fun h => by have := (flush0_21 _).mp h; dsimp only at this; omega)
    (fun _ => rfl) (fun _ _ => rfl)]
  dsimp only [dats]
theorem before22 (c : Dev nD) (t : Fin cfg0.N) (h0 : ¬t.val % 32 = 0) (d) : (dats m 0 c).before 22 t d = (before m c t).2.2.2.2.2.2.2.1 := by
  have hN : t.val < 32 := lt_of_lt_of_eq t.isLt (show cfg0.N = 32 from N_0)
  rw [Dat.before_out_kept _ 22 rfl t (by omega) (Bool.eq_false_iff.mpr fun h => by have := (flush0_22 _).mp h; dsimp only at this; omega)
    (fun _ => rfl) (fun _ _ => rfl)]
  dsimp only [dats]
theorem before23 (c : Dev nD) (t : Fin cfg0.N) (h0 : ¬t.val % 32 = 0) (d) : (dats m 0 c).before 23 t d = (before m c t).2.2.2.2.2.2.2.2.1 := by
  have hN : t.val < 32 := lt_of_lt_of_eq t.isLt (show cfg0.N = 32 from N_0)
  rw [Dat.before_out_kept _ 23 rfl t (by omega) (Bool.eq_false_iff.mpr fun h => by have := (flush0_23 _).mp h; dsimp only at this; omega)
    (fun _ => rfl) (fun _ _ => rfl)]
  dsimp only [dats]
theorem before24 (c : Dev nD) (t : Fin cfg0.N) (h0 : ¬t.val % 32 = 0) (d) : (dats m 0 c).before 24 t d = (before m c t).2.2.2.2.2.2.2.2.2.1 := by
  have hN : t.val < 32 := lt_of_lt_of_eq t.isLt (show cfg0.N = 32 from N_0)
  rw [Dat.before_out_kept _ 24 rfl t (by omega) (Bool.eq_false_iff.mpr fun h => by have := (flush0_24 _).mp h; dsimp only at this; omega)
    (fun _ => rfl) (fun _ _ => rfl)]
  dsimp only [dats]
theorem before25 (c : Dev nD) (t : Fin cfg0.N) (h0 : ¬t.val % 32 = 0) (d) : (dats m 0 c).before 25 t d = (before m c t).2.2.2.2.2.2.2.2.2.2.1 := by
  have hN : t.val < 32 := lt_of_lt_of_eq t.isLt (show cfg0.N = 32 from N_0)
  rw [Dat.before_out_kept _ 25 rfl t (by omega) (Bool.eq_false_iff.mpr fun h => by have := (flush0_25 _).mp h; dsimp only at this; omega)
    (fun _ => rfl) (fun _ _ => rfl)]
  dsimp only [dats]
theorem before26 (c : Dev nD) (t : Fin cfg0.N) (h0 : ¬t.val % 32 = 0) (d) : (dats m 0 c).before 26 t d = (before m c t).2.2.2.2.2.2.2.2.2.2.2.1 := by
  have hN : t.val < 32 := lt_of_lt_of_eq t.isLt (show cfg0.N = 32 from N_0)
  rw [Dat.before_out_kept _ 26 rfl t (by omega) (Bool.eq_false_iff.mpr fun h => by have := (flush0_26 _).mp h; dsimp only at this; omega)
    (fun _ => rfl) (fun _ _ => rfl)]
  dsimp only [dats]
theorem before27 (c : Dev nD) (t : Fin cfg0.N) (h0 : ¬t.val % 32 = 0) (d) : (dats m 0 c).before 27 t d = (before m c t).2.2.2.2.2.2.2.2.2.2.2.2.1 := by
  have hN : t.val < 32 := lt_of_lt_of_eq t.isLt (show cfg0.N = 32 from N_0)
  rw [Dat.before_out_kept _ 27 rfl t (by omega) (Bool.eq_false_iff.mpr fun h => by have := (flush0_27 _).mp h; dsimp only at this; omega)
    (fun _ => rfl) (fun _ _ => rfl)]
  dsimp only [dats]
theorem before28 (c : Dev nD) (t : Fin cfg0.N) (h0 : ¬t.val % 32 = 0) (d) : (dats m 0 c).before 28 t d = (before m c t).2.2.2.2.2.2.2.2.2.2.2.2.2 := by
  have hN : t.val < 32 := lt_of_lt_of_eq t.isLt (show cfg0.N = 32 from N_0)
  rw [Dat.before_out_kept _ 28 rfl t (by omega) (Bool.eq_false_iff.mpr fun h => by have := (flush0_28 _).mp h; dsimp only at this; omega)
    (fun _ => rfl) (fun _ _ => rfl)]
  dsimp only [dats]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28]
  have hN : t.val < 32 := lt_of_lt_of_eq t.isLt (show cfg0.N = 32 from N_0)
  by_cases h0 : t.val % 32 = 0
  · rw [outsAt_A m c t h0]
    unfold outsA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((atA m c t h0).2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr; swap; (· iexact H15); ipureintro; exact View.read_writes_of_cover _ _ _ _ _ (coverA15 m c t h0)
    isplitl [H16]
    · unfold owns; iexists _; isplitr; swap; (· iexact H16); ipureintro; exact View.read_writes_of_cover _ _ _ _ _ (coverA16 m c t h0)
    isplitl [H17]
    · unfold owns; iexists _; isplitr; swap; (· iexact H17); ipureintro; exact View.read_writes_of_cover _ _ _ _ _ (coverA17 m c t h0)
    isplitl [H18]
    · unfold owns; iexists _; isplitr; swap; (· iexact H18); ipureintro; exact View.read_writes_of_cover _ _ _ _ _ (coverA18 m c t h0)
    isplitl [H19]
    · unfold owns; iexists _; isplitr; swap; (· iexact H19); ipureintro; exact View.read_writes_of_cover _ _ _ _ _ (coverA19 m c t h0)
    isplitl [H20]
    · unfold owns; iexists _; isplitr; swap; (· iexact H20); ipureintro; exact View.read_writes_of_cover _ _ _ _ _ (coverA20 m c t h0)
    isplitl [H21]
    · unfold owns; iexists _; isplitr; swap; (· iexact H21); ipureintro; exact View.read_writes_of_cover _ _ _ _ _ (coverA21 m c t h0)
    isplitl [H22]
    · unfold owns; iexists _; isplitr; swap; (· iexact H22); ipureintro; exact View.read_writes_of_cover _ _ _ _ _ (coverA22 m c t h0)
    isplitl [H23]
    · unfold owns; iexists _; isplitr; swap; (· iexact H23); ipureintro; exact View.read_writes_of_cover _ _ _ _ _ (coverA23 m c t h0)
    isplitl [H24]
    · unfold owns; iexists _; isplitr; swap; (· iexact H24); ipureintro; exact View.read_writes_of_cover _ _ _ _ _ (coverA24 m c t h0)
    isplitl [H25]
    · unfold owns; iexists _; isplitr; swap; (· iexact H25); ipureintro; exact View.read_writes_of_cover _ _ _ _ _ (coverA25 m c t h0)
    isplitl [H26]
    · unfold owns; iexists _; isplitr; swap; (· iexact H26); ipureintro; exact View.read_writes_of_cover _ _ _ _ _ (coverA26 m c t h0)
    isplitl [H27]
    · unfold owns; iexists _; isplitr; swap; (· iexact H27); ipureintro; exact View.read_writes_of_cover _ _ _ _ _ (coverA27 m c t h0)
    unfold owns; iexists _; isplitr; swap; (· iexact H28); ipureintro; exact View.read_writes_of_cover _ _ _ _ _ (coverA28 m c t h0)
  · rw [outsAt_B m c t h0]
    simp only [before21 m c t h0, before22 m c t h0, before23 m c t h0, before24 m c t h0, before25 m c t h0, before26 m c t h0, before27 m c t h0, before28 m c t h0]
    unfold outsB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((atB m c t h0 (before m c t)).2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, H24, ⟨%e25, H25⟩, ⟨%e26, H26⟩, ⟨%e27, H27⟩, ⟨%e28, H28⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr; swap; (· iexact H15); ipureintro; exact View.read_writes_of_cover _ _ _ _ _ (coverB15 m c t h0 _)
    isplitl [H16]
    · unfold owns; iexists _; isplitr; swap; (· iexact H16); ipureintro; exact View.read_writes_of_cover _ _ _ _ _ (coverB16 m c t h0 _)
    isplitl [H17]
    · unfold owns; iexists _; isplitr; swap; (· iexact H17); ipureintro; exact View.read_writes_of_cover _ _ _ _ _ (coverB17 m c t h0 _)
    isplitl [H18]
    · unfold owns; iexists _; isplitr; swap; (· iexact H18); ipureintro; exact View.read_writes_of_cover _ _ _ _ _ (coverB18 m c t h0 _)
    isplitl [H19]
    · unfold owns; iexists _; isplitr; swap; (· iexact H19); ipureintro; exact View.read_writes_of_cover _ _ _ _ _ (coverB19 m c t h0 _)
    isplitl [H20]
    · unfold owns; iexists _; isplitr; swap; (· iexact H20); ipureintro; exact View.read_writes_of_cover _ _ _ _ _ (coverB20 m c t h0 _)
    isplitl [H21]
    · unfold owns; iexists _; isplitr; swap; (· iexact H21); ipureintro; exact View.read_writes_of_cover _ _ _ _ _ (coverB21 m c t h0 _)
    isplitl [H22]
    · unfold owns; iexists _; isplitr; swap; (· iexact H22); ipureintro; exact View.read_writes_of_cover _ _ _ _ _ (coverB22 m c t h0 _)
    isplitl [H23]
    · unfold owns; iexists _; isplitr; swap; (· iexact H23); ipureintro; exact View.read_writes_of_cover _ _ _ _ _ (coverB23 m c t h0 _)
    isplitl [H24]
    · unfold owns; iexists _; isplitr; swap; (· iexact H24); ipureintro; rfl
    isplitl [H25]
    · unfold owns; iexists _; isplitr; swap; (· iexact H25); ipureintro; exact View.read_writes_of_cover _ _ _ _ _ (coverB25 m c t h0 _)
    isplitl [H26]
    · unfold owns; iexists _; isplitr; swap; (· iexact H26); ipureintro; exact View.read_writes_of_cover _ _ _ _ _ (coverB26 m c t h0 _)
    isplitl [H27]
    · unfold owns; iexists _; isplitr; swap; (· iexact H27); ipureintro; exact View.read_writes_of_cover _ _ _ _ _ (coverB27 m c t h0 _)
    unfold owns; iexists _; isplitr; swap; (· iexact H28); ipureintro; exact View.read_writes_of_cover _ _ _ _ _ (coverB28 m c t h0 _)

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- From any memory with zero counters every weakly fair execution of the program terminates, with every array of the
    pipeline at what the proof data say and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments are left as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_with_sems (frame_of m ρ (dats m) (A_eq m)) (run_main m ρ)

end Cert.Kernel4Ideal.Run

end
-- ==== Proof.Mid.Spec.lean ====
/-
  The middle of the training step over the extended reals, as functions of row and column numbers: both branches gated,
  normalised and joined, the gated update, its error, and what each row gives the loss and the three weight gradients.
-/
module

public import proofs.«01_k».proof.Proof.Project.Spec

@[expose] public section

noncomputable section

namespace Cert.Middle

open Idealize.ShloMosaic
open Finset
open Cert.Project

/-- What some rows are computed from: their tables, with the convolved product `m` also one (`m1`) and two (`m2`) rows before. -/
structure Rows where
  o : ℕ → ℕ → EReal
  za : ℕ → ℕ → EReal
  m : ℕ → ℕ → EReal
  m1 : ℕ → ℕ → EReal
  m2 : ℕ → ℕ → EReal
  cb : ℕ → ℕ → EReal
  zc : ℕ → ℕ → EReal
  x : ℕ → ℕ → EReal
  p : ℕ → ℕ → EReal
  tg : ℕ → ℕ → EReal
  wo : ℕ → ℕ → EReal
  wg : ℕ → ℕ → EReal
  wp : ℕ → ℕ → EReal
  cw : ℕ → ℕ → EReal
  ga : ℕ → EReal
  gc : ℕ → EReal
  gp : ℕ → EReal

namespace Rows

variable (D : Rows) (r c : ℕ)

/-- The rows from `s` on. -/
def past (s : ℕ) : Rows :=
  { D with
    o := fun r => D.o (s + r), za := fun r => D.za (s + r), m := fun r => D.m (s + r), m1 := fun r => D.m1 (s + r)
    m2 := fun r => D.m2 (s + r), cb := fun r => D.cb (s + r), zc := fun r => D.zc (s + r), x := fun r => D.x (s + r)
    p := fun r => D.p (s + r), tg := fun r => D.tg (s + r) }

/-- The attention branch, gated, -/
def attn : EReal := D.o r c * (D.za r c * Ideal.logistic (D.za r c))
/-- the short convolution -/
def mixed : EReal := D.cw 0 c * D.m2 r c + D.cw 1 c * D.m1 r c + D.cw 2 c * D.m r c
/-- and its branch, gated. -/
def conv : EReal := D.cb r c * D.mixed r c * (D.zc r c * Ideal.logistic (D.zc r c))
/-- Both, normalised, beside each other, -/
def both : EReal := if c < 512 then normed 512 (D.attn r) D.ga c else normed 512 (D.conv r) D.gc (c - 512)
/-- and projected onto the stream, -/
def x2 : EReal := D.x r c + against 1024 (D.both r) D.wo c
/-- which is normalised -/
def n2 : EReal := normed 1024 (D.x2 r) D.gp c
/-- into a gate. -/
def gate : EReal := Ideal.logistic (against 1024 (D.n2 r) D.wg c)
/-- What the gate lets through, -/
def pw : EReal := against 256 (D.p r) D.wp c
/-- the error of the output -/
def err : EReal := D.x2 r c + D.gate r c * D.pw r c - D.tg r c
/-- and its cotangent. -/
def dOut : EReal := D.err r c * (((1024 : ℕ) : ℝ)⁻¹ : ℝ)
/-- What a row gives the gradient of the gated weights, -/
def dPl (a b : ℕ) : EReal := D.p r a * (D.dOut r b * D.gate r b)
/-- the gradient of the gate's weights -/
def dPlg (a b : ℕ) : EReal := D.n2 r a * (D.dOut r b * D.pw r b * D.gate r b * (1 - D.gate r b))
/-- and, by way of the gate's cotangent -/
def dGlog : EReal := D.dOut r c * D.pw r c * D.gate r c * (1 - D.gate r c)
/-- and the normalised stream's, -/
def dN2 : EReal := ∑ k ∈ range 1024, D.dGlog r k * D.wg c k
/-- the gradient of the normalisation's weights -/
def dGp : EReal := D.dN2 r c * (D.x2 r c * scale 1024 (squares 1024 (D.x2 r)))
/-- and, of `n` rows, the loss. -/
def loss (n : ℕ) : EReal := (∑ r ∈ range n, squares 1024 (D.err r)) * (((2048 : ℕ) : ℝ)⁻¹ : ℝ)

/-- Sums of some rows and of those after them. -/
theorem dPl_add (s n a b : ℕ) : ∑ r ∈ range s, D.dPl r a b + ∑ r ∈ range n, (D.past s).dPl r a b = ∑ r ∈ range (s + n), D.dPl r a b :=
  (sum_range_add _ s n).symm
theorem dPlg_add (s n a b : ℕ) : ∑ r ∈ range s, D.dPlg r a b + ∑ r ∈ range n, (D.past s).dPlg r a b = ∑ r ∈ range (s + n), D.dPlg r a b :=
  (sum_range_add _ s n).symm
theorem dGp_add (s n c : ℕ) : ∑ r ∈ range s, D.dGp r c + ∑ r ∈ range n, (D.past s).dGp r c = ∑ r ∈ range (s + n), D.dGp r c :=
  (sum_range_add _ s n).symm
theorem loss_add (s n : ℕ) : D.loss s + (D.past s).loss n = D.loss (s + n) := by
  unfold loss
  rw [← EReal.right_distrib_of_nonneg (sum_nonneg fun _ _ => squares_nonneg _ _) (sum_nonneg fun _ _ => squares_nonneg _ _), sum_range_add]
  rfl

end Rows

end Cert.Middle

end
-- ==== Proof.Mid.Reading.lean ====
/-
  More of the kernel's operations on blocks, read at row and column numbers: differences, gates, rows turned past the first,
  parts beside each other, and products over the rows.
-/
module

public import proofs.«01_k».proof.Proof.Project.Cubes
public import Idealize.ShloMosaic.Lib.Pipeline.Value

@[expose] public section

set_option maxRecDepth 16384

noncomputable section

namespace Cert.Middle

open Idealize.ShloMosaic
open Finset
open Cert.Project

variable {m n p : ℕ} {f g : ℕ → ℕ → EReal}

theorem reads_sub {φ : FTy} {X Y : FVec Ideal ⟨2, ![m, n]⟩ φ} (hX : Reads X f) (hY : Reads Y g) :
    Reads (subf X Y) (fun r j => f r j - g r j) := fun i => congrArg₂ (· - ·) (hX i) (hY i)
theorem reads_logistic {φ : FTy} {X : FVec Ideal ⟨2, ![m, n]⟩ φ} (hX : Reads X f) :
    Reads (logistic X) (fun r j => Ideal.logistic (f r j)) := fun i => congrArg Ideal.logistic (hX i)
theorem reads_const {c k : EReal} (h : c = k) : Reads (m := m) (n := n) (broadcast ⟨2, ![m, n]⟩ c) (fun _ _ => k) := fun _ => h

/-- Columns against columns. -/
theorem reads_cols {K : ℕ} {φ₁ φ₂ : FTy} (D : DotDims ⟨2, ![K, m]⟩ ⟨2, ![K, n]⟩ ⟨2, ![m, n]⟩) (hr : D.contr.rank = 1) (hs : D.contr.size (⟨0, by omega⟩) = K)
    (hl : ∀ i k, ((D.lhsIdx i k) 0).val = (k ⟨0, by omega⟩).val ∧ ((D.lhsIdx i k) 1).val = (i 0).val)
    (hR : ∀ i k, ((D.rhsIdx i k) 0).val = (k ⟨0, by omega⟩).val ∧ ((D.rhsIdx i k) 1).val = (i 1).val)
    {X : FVec Ideal ⟨2, ![K, m]⟩ φ₁} {Y : FVec Ideal ⟨2, ![K, n]⟩ φ₂} (hX : Reads X f) (hY : Reads Y g) :
    Reads (FloatOps.matmul D none X Y (constant (F := Ideal) ⟨2, ![m, n]⟩ .f32 0x00000000#32)) (fun a b => ∑ r ∈ range K, f r a * g r b) := fun i => by
  have e0 : constant (F := Ideal) ⟨2, ![m, n]⟩ .f32 0x00000000#32 i = (0 : EReal) := by
    show Ideal.ofBits .f32 0x00000000#32 = 0
    simp [Ideal.ofBits, Ideal.ieee]
  rw [Ideal.matmul_apply, e0, zero_add, ← Equiv.sum_comp (ValueIdx.contrEquiv1 D K hr hs).symm]
  refine Eq.trans ?_ (Fin.sum_univ_eq_sum_range (fun k => f k (i 0).val * g k (i 1).val) K)
  refine sum_congr rfl fun k _ => ?_
  have hk := ValueIdx.contrEquiv1_symm_val D K hr hs k
  exact congrArg₂ (· * ·) (hX.at _ ((hl i _).1.trans hk) (hl i _).2) (hY.at _ ((hR i _).1.trans hk) (hR i _).2)

/-- Rows against rows. -/
theorem reads_rows {K : ℕ} {φ₁ φ₂ : FTy} (D : DotDims ⟨2, ![m, K]⟩ ⟨2, ![n, K]⟩ ⟨2, ![m, n]⟩) (hr : D.contr.rank = 1) (hs : D.contr.size (⟨0, by omega⟩) = K)
    (hl : ∀ i k, ((D.lhsIdx i k) 0).val = (i 0).val ∧ ((D.lhsIdx i k) 1).val = (k ⟨0, by omega⟩).val)
    (hR : ∀ i k, ((D.rhsIdx i k) 0).val = (i 1).val ∧ ((D.rhsIdx i k) 1).val = (k ⟨0, by omega⟩).val)
    {X : FVec Ideal ⟨2, ![m, K]⟩ φ₁} {Y : FVec Ideal ⟨2, ![n, K]⟩ φ₂} (hX : Reads X f) (hY : Reads Y g) :
    Reads (FloatOps.matmul D none X Y (constant (F := Ideal) ⟨2, ![m, n]⟩ .f32 0x00000000#32)) (fun a b => ∑ k ∈ range K, f a k * g b k) := fun i => by
  have e0 : constant (F := Ideal) ⟨2, ![m, n]⟩ .f32 0x00000000#32 i = (0 : EReal) := by
    show Ideal.ofBits .f32 0x00000000#32 = 0
    simp [Ideal.ofBits, Ideal.ieee]
  rw [Ideal.matmul_apply, e0, zero_add, ← Equiv.sum_comp (ValueIdx.contrEquiv1 D K hr hs).symm]
  refine Eq.trans ?_ (Fin.sum_univ_eq_sum_range (fun k => f (i 0).val k * g (i 1).val k) K)
  refine sum_congr rfl fun k _ => ?_
  have hk := ValueIdx.contrEquiv1_symm_val D K hr hs k
  exact congrArg₂ (· * ·) (hX.at _ (hl i _).1 ((hl i _).2.trans hk)) (hY.at _ (hR i _).1 ((hR i _).2.trans hk))

/-- The sums of columns, as one row. -/
theorem reads_down {X : FVec Ideal ⟨2, ![m, n]⟩ .f32} (h : (⟨2, ![m, n]⟩ : Shape).Reduces [0] ⟨1, ![n]⟩) (hφ : FKind.Formats .f32)
    (hacc : 0x00000000#32 = FKind.add.neutral .f32 hφ) (hc : (⟨1, ![n]⟩ : Shape).ShapeCasts ⟨2, ![1, n]⟩) (hX : Reads X f) :
    Reads (shapeCast ⟨2, ![1, n]⟩ (multiReduction (F := Ideal) (φ := .f32) .add [0] ⟨1, ![n]⟩ X 0x00000000#32 h hφ hacc) hc)
      (fun _ c => ∑ r ∈ range m, f r c) := fun i => by
  obtain ⟨a, d, rfl⟩ : ∃ a d, i = ValueIdx.ix2 a d := ⟨i 0, i 1, by funext a; fin_cases a <;> rfl⟩
  refine (shapeCast_apply _ hc _ (ValueIdx.ix1 d) (by
    rw [Shape.rowMajor_val_one, Shape.rowMajor_val_two]
    have ha : a.val < 1 := a.isLt
    show d.val = a.val * n + d.val
    rw [show a.val = 0 by omega, Nat.zero_mul, Nat.zero_add])).trans ?_
  refine (Ideal.multiReduction_add_single X _ h hφ hacc (ValueIdx.ix1 d)).trans ?_
  refine Eq.trans ?_ (Fin.sum_univ_eq_sum_range (fun r => f r d.val) m)
  exact sum_congr rfl fun r _ => hX.at _ rfl rfl

/-- Rows turned past the first: the first `k` are the last of the rows `P`. -/
theorem reads_back (b : BitVec 32) (k : ℕ) (hb : b.toNat = k) (hk : k < 8)
    (hm : ∀ r : Fin 256, b.sle (BitVec.ofNat 32 r.val) = decide (k ≤ r.val))
    {X : FVec Ideal ⟨2, ![256, 512]⟩ .f32} {P : FVec Ideal ⟨2, ![8, 512]⟩ .f32}
    (hI : (⟨2, ![256, 512]⟩ : Shape).Iotas .tc 32 [0])
    (hX : (⟨2, ![256, 512]⟩ : Shape).Rotates 0 none) (hP : (⟨2, ![8, 512]⟩ : Shape).Rotates 0 none)
    (hc : Shape.Concatenates ((List.replicate 32 (⟨⟨2, ![8, 512]⟩, dynamicRotate 0 b none P hP⟩ :
      (s : Shape) × (s.Idx → EReal))).map (·.1)) ⟨2, ![256, 512]⟩ 0)
    (rX : Reads X f) (rP : Reads P g) :
    Reads (select (cmpi .sge (iota .tc ⟨2, ![256, 512]⟩ 32 [0] hI) (broadcast ⟨2, ![256, 512]⟩ b)) (dynamicRotate 0 b none X hX)
      (concatenate ⟨2, ![256, 512]⟩ 0 (List.replicate 32 (⟨⟨2, ![8, 512]⟩, dynamicRotate 0 b none P hP⟩ :
        (s : Shape) × (s.Idx → EReal))) hc))
      (fun r j => if k ≤ r then f (r - k) j else g (8 + r - k) j) := fun i => by
  obtain ⟨r, j, rfl⟩ : ∃ (r : Fin 256) (j : Fin 512), i = ValueIdx.ix2 r j := ⟨i 0, i 1, by funext a; fin_cases a <;> rfl⟩
  have hr := r.isLt
  have hj := j.isLt
  have e : cmpi .sge (iota .tc ⟨2, ![256, 512]⟩ 32 [0] hI) (broadcast ⟨2, ![256, 512]⟩ b) (ValueIdx.ix2 r j) =
      BitVec.ofBool (decide (k ≤ r.val)) := by
    rw [← hm r]
    show BitVec.ofBool (b.sle (BitVec.ofNat 32 (0 * 256 + r.val))) = _
    rw [Nat.zero_mul, Nat.zero_add]
  rw [ValueIdx.select_apply, e]
  show _ = if k ≤ r.val then f (r.val - k) j.val else g (8 + r.val - k) j.val
  by_cases h : k ≤ r.val
  · rw [decide_eq_true h, if_pos h]
    refine ((dynamicRotate_apply (0 : Fin 2) b X hX (ValueIdx.ix2 r j) (ValueIdx.ix2 (⟨r.val - k, by omega⟩ : Fin 256) j) fun a => by
      match a with
      | ⟨0, _⟩ =>
        show r.val - k = (r.val + 256 - b.toNat % 256) % 256
        rw [hb, Nat.mod_eq_of_lt (show k < 256 by omega)]
        omega
      | ⟨1, _⟩ => rfl)).trans (rX.at _ rfl rfl)
  · rw [decide_eq_false h, if_neg h]
    refine (concatenate_replicate_apply (t := ⟨2, ![256, 512]⟩) (s₁ := ⟨2, ![8, 512]⟩) 0 32 (dynamicRotate 0 b none P hP) hc rfl
      (ValueIdx.ix2 r j) (ValueIdx.ix2 (⟨r.val % 8, by omega⟩ : Fin 8) j) rfl (fun a ha => by
        match a with
        | ⟨0, _⟩ => exact absurd rfl ha
        | ⟨1, _⟩ => rfl)).trans ?_
    refine ((dynamicRotate_apply (0 : Fin 2) b P hP _ (ValueIdx.ix2 (⟨8 + r.val - k, by omega⟩ : Fin 8) j) fun a => by
      match a with
      | ⟨0, _⟩ =>
        show 8 + r.val - k = (r.val % 8 + 8 - b.toNat % 8) % 8
        rw [hb, Nat.mod_eq_of_lt hk]
        omega
      | ⟨1, _⟩ => rfl)).trans (rP.at _ rfl rfl)

/-- The sum of the squares of all entries, as one number in every column. -/
theorem reads_total {q : ℕ} {X : FVec Ideal ⟨2, ![m, n]⟩ .f32} (h : (⟨2, ![m, n]⟩ : Shape).Reduces [1] ⟨1, ![m]⟩)
    (hc : (⟨1, ![m]⟩ : Shape).ShapeCasts ⟨2, ![m, 1]⟩) (h0 : (⟨2, ![m, 1]⟩ : Shape).Reduces [0] ⟨1, ![1]⟩)
    (hc' : (⟨1, ![1]⟩ : Shape).ShapeCasts ⟨2, ![1, 1]⟩) (hφ hφ' : FKind.Formats .f32)
    (hacc : 0x00000000#32 = FKind.add.neutral .f32 hφ) (hacc' : 0x00000000#32 = FKind.add.neutral .f32 hφ') {c k : EReal} (hk : c = k)
    (hb : (⟨2, ![1, 1]⟩ : Shape).Broadcasts ⟨2, ![1, q]⟩) (hX : Reads X f) :
    Reads (broadcastTo ⟨2, ![1, q]⟩ (mulf (φ := .f32) (shapeCast ⟨2, ![1, 1]⟩ (multiReduction (F := Ideal) (φ := .f32) .add [0] ⟨1, ![1]⟩
      (shapeCast ⟨2, ![m, 1]⟩ (multiReduction .add [1] ⟨1, ![m]⟩ (mulf X X) 0x00000000#32 h hφ hacc) hc) 0x00000000#32 h0 hφ' hacc') hc')
        (broadcast ⟨2, ![1, 1]⟩ c)) hb) (fun _ _ => (∑ r ∈ range m, squares n (f r)) * k) := by
  refine reads_col (S := fun _ => (∑ r ∈ range m, squares n (f r)) * k) hb (reads_mul (f := fun _ _ => ∑ r ∈ range m, squares n (f r)) ?_ (reads_const hk))
  intro i
  obtain ⟨a, d, rfl⟩ : ∃ a d, i = ValueIdx.ix2 a d := ⟨i 0, i 1, by funext a; fin_cases a <;> rfl⟩
  refine (ValueIdx.shapeCast_a_a1_apply _ hc' a d).trans ?_
  refine (Ideal.multiReduction_add_single _ _ h0 hφ' hacc' (ValueIdx.ix1 a)).trans ?_
  refine Eq.trans ?_ (Fin.sum_univ_eq_sum_range (fun r => squares n (f r)) m)
  refine sum_congr rfl fun r _ => ?_
  exact (reads_squares h hφ hacc hc hX).at _ rfl rfl

/-- The words of 1/512, -/
theorem word_512 : (Scalar.ofBits .f32 0x3B000000#32 : Ideal .f32) = ((((512 : ℕ) : ℝ)⁻¹ : ℝ) : EReal) := by
  show Ideal.ofBits .f32 0x3B000000#32 = _
  simp [Ideal.ofBits, Ideal.ieee, -EReal.coe_mul]; norm_num
/-- of 1/2048 -/
theorem word_2048 : (Scalar.ofBits .f32 0x3A000000#32 : Ideal .f32) = ((((2048 : ℕ) : ℝ)⁻¹ : ℝ) : EReal) := by
  show Ideal.ofBits .f32 0x3A000000#32 = _
  simp [Ideal.ofBits, Ideal.ieee, -EReal.coe_mul]; norm_num
/-- and of one. -/
theorem word_one : (Scalar.ofBits .f32 0x3F800000#32 : Ideal .f32) = (1 : EReal) := by
  show Ideal.ofBits .f32 0x3F800000#32 = 1
  simp [Ideal.ofBits, Ideal.ieee, -EReal.coe_mul]; norm_num

end Cert.Middle

end
-- ==== Proof.Mid.Tiles.lean ====
/-
  What one block of rows of the kernel adds to the loss and the three weight gradients, from tables of what it reads.
-/
module

public import proofs.«01_k».proof.Proof.Mid.Spec
public import proofs.«01_k».proof.Proof.Mid.Reading
public import proofs.«01_k».proof.Proof.Gen.Kernel4Ideal.Skeleton

@[expose] public section

set_option maxRecDepth 16384

noncomputable section

namespace Cert.Kernel4Ideal.Run

open Cert.Kernel4Ideal Cert.Kernel4Ideal.Gen Cert.Project Cert.Middle
open Idealize.ShloMosaic
open Finset

variable {f g e q : ℕ → ℕ → EReal} {S : ℕ → EReal}

/-! ## The convolved product -/

/-- Whether a block has one before it. -/
theorem later (n : ℕ) (hn : n < 32) : (Scalar.sitofp (F := Ideal) .f32 (Scalar.extui (Scalar.cmpi .sgt (BitVec.ofNat 32 n) 0#32) : BitVec 32) : EReal)
    = if 0 < n then 1 else 0 := by
  have h : ∀ k : Fin 32, (Scalar.extui (Scalar.cmpi .sgt (BitVec.ofNat 32 k.val) 0#32) : BitVec 32) = if 0 < k.val then 1#32 else 0#32 := by
    decide +kernel
  rw [h ⟨n, hn⟩]
  show Scalar.sitofp (F := Ideal) .f32 (if 0 < n then 1#32 else 0#32) = _
  by_cases h0 : 0 < n
  · rw [if_pos h0, if_pos h0]
    show ((((1#32).toInt : ℤ) : ℝ) : EReal) = 1
    simp
  · rw [if_neg h0, if_neg h0]
    show ((((0#32).toInt : ℤ) : ℝ) : EReal) = 0
    simp

theorem pay26_reads {n : ℕ} (hn : n < 32) {v37 v39 : Vec Ideal S8x512 .f32} (h0 : Reads v37 f) (h1 : Reads v39 g) :
    Reads (k0_pay26 (F := Ideal) (BitVec.ofNat 32 n) v37 v39) (fun r c => f r c * g r c * if 0 < n then 1 else 0) := by
  unfold k0_pay26
  exact reads_mul (reads_mul (reads_cast _ h0) (reads_cast _ h1)) (reads_const (later n hn))
theorem pay25_reads {v7 v9 : FVec Ideal S256x512 .f32} (h0 : Reads v7 f) (h1 : Reads v9 g) :
    Reads (k0_pay25 (F := Ideal) v7 v9) (fun r c => f r c * g r c) := by
  unfold k0_pay25
  exact reads_mul h0 h1

section Shift
variable {a : BitVec 32} {v7 v9 : FVec Ideal S256x512 .f32} {v37 v39 : Vec Ideal S8x512 .f32}

/-- One row before, -/
theorem pay27_reads (h0 : Reads (k0_pay25 (F := Ideal) v7 v9) f) (h1 : Reads (k0_pay26 (F := Ideal) a v37 v39) q) :
    Reads (k0_pay27 (F := Ideal) a v7 v9 v37 v39) (fun r c => if 1 ≤ r then f (r - 1) c else q (8 + r - 1) c) := by
  unfold k0_pay27
  exact reads_back 1#32 1 rfl (by decide) (by decide +kernel) _ _ _ _ h0 h1
/-- and two. -/
theorem pay28_reads (h0 : Reads (k0_pay25 (F := Ideal) v7 v9) f) (h1 : Reads (k0_pay26 (F := Ideal) a v37 v39) q) :
    Reads (k0_pay28 (F := Ideal) a v7 v9 v37 v39) (fun r c => if 2 ≤ r then f (r - 2) c else q (8 + r - 2) c) := by
  unfold k0_pay28
  exact reads_back 2#32 2 rfl (by decide) (by decide +kernel) _ _ _ _ h0 h1
end Shift

/-! ## Both branches -/

variable {D : Rows}

theorem pay24_reads {v3 v4 : Vec Ideal S256x512 .f32} (h3 : Reads v3 D.o) (h4 : Reads v4 D.za) :
    Reads (k0_pay24 (F := Ideal) (k0_pay20 v3 v4) (k0_pay21 v3 v4) k0_pay22) (fun r c => D.attn r c * scale 512 (squares 512 (D.attn r))) := by
  have h5 := reads_cast shapeCasts_S256x512_S256x512 h4
  have h : Reads (k0_pay20 (F := Ideal) v3 v4) D.attn := by
    unfold k0_pay20 k0_pay19 k0_pay18 k0_pay10
    exact reads_mul h3 (reads_mul h5 (reads_logistic h5))
  unfold k0_pay24 k0_pay23 k0_pay22 k0_pay21
  exact reads_mul h (reads_col _ (reads_scale 512 word_512 (reads_squares _ _ _ _ h)))

section Branch
variable {a : BitVec 32} {v7 v9 v11 v13 : FVec Ideal S256x512 .f32} {v18 v20 v22 : FVec Ideal S1x512 .f32} {v37 v39 : Vec Ideal S8x512 .f32}
variable (hm : Reads (k0_pay25 (F := Ideal) v7 v9) D.m) (hm1 : Reads (k0_pay27 (F := Ideal) a v7 v9 v37 v39) D.m1)
variable (hm2 : Reads (k0_pay28 (F := Ideal) a v7 v9 v37 v39) D.m2)
variable (h18 : Reads v18 fun _ c => D.cw 0 c) (h20 : Reads v20 fun _ c => D.cw 1 c) (h22 : Reads v22 fun _ c => D.cw 2 c)
variable (h11 : Reads v11 D.cb) (h13 : Reads v13 D.zc)
include hm hm1 hm2 h18 h20 h22 h11 h13

theorem pay32_reads : Reads (k0_pay32 (F := Ideal) a v7 v9 v11 v13 v18 v20 v22 v37 v39) D.conv := by
  unfold k0_pay32 k0_pay31 k0_pay30 k0_pay29
  exact reads_mul (reads_mul h11 (reads_add (reads_add (reads_mul (reads_row _ h18) hm2) (reads_mul (reads_row _ h20) hm1))
    (reads_mul (reads_row _ h22) hm))) (reads_mul h13 (reads_logistic h13))
theorem pay33_reads : Reads (k0_pay33 (F := Ideal) a v7 v9 v11 v13 v18 v20 v22 v37 v39) (fun r _ => squares 512 (D.conv r)) := by
  unfold k0_pay33
  exact reads_squares _ _ _ _ (pay32_reads hm hm1 hm2 h18 h20 h22 h11 h13)
end Branch

/-! ## The stream, its gate and its error -/

section Stream
variable {v14 v15 : Vec Ideal S1x512 .f32} {v16 : Vec Ideal S1x1024 .f32} {v35 v72 : FVec Ideal S256x512 .f32} {v75 : FVec Ideal S256x1 .f32}
variable {k : Ideal .f32} {v89 : Vec Ideal S256x1024 .f32} {v90 v107 : Vec Ideal S1024x1024 .bf16} {v111 : Vec Ideal S256x256 .f32}
variable {v113 : Vec Ideal S256x1024 .bf16}
variable (hk : k = ((((512 : ℕ) : ℝ)⁻¹ : ℝ) : EReal)) (h14 : Reads v14 fun _ c => D.ga c) (h15 : Reads v15 fun _ c => D.gc c)
variable (h35 : Reads v35 fun r c => D.attn r c * scale 512 (squares 512 (D.attn r))) (h72 : Reads v72 D.conv)
variable (h75 : Reads v75 fun r _ => squares 512 (D.conv r)) (h89 : Reads v89 D.x) (h90 : Reads v90 D.wo)

include hk h14 h15 h35 h72 h75 in
theorem pay36_reads : Reads (k0_pay36 (F := Ideal) v14 v15 v35 v72 v75 k) D.both := by
  unfold k0_pay36 k0_pay35 k0_pay34
  exact reads_trunc _ (beside_two (reads_mul h35 (reads_row _ h14))
    (reads_mul (reads_mul h72 (reads_col _ (reads_scale 512 hk h75))) (reads_row _ h15)) _)

include hk h14 h15 h35 h72 h75 h89 h90 in
theorem pay37_reads : Reads (k0_pay37 (F := Ideal) v14 v15 v35 v72 v75 k v89 v90) D.x2 := by
  unfold k0_pay37
  exact reads_add h89 (reads_dot _ rfl (pay36_reads hk h14 h15 h35 h72 h75) (reads_cast _ h90))

include hk h14 h15 h35 h72 h75 h89 h90 in
theorem pay39_reads : Reads (k0_pay39 (F := Ideal) v14 v15 v35 v72 v75 k v89 v90)
    (fun r c => D.x2 r c * scale 1024 (squares 1024 (D.x2 r))) := by
  have h := pay37_reads hk h14 h15 h35 h72 h75 h89 h90
  unfold k0_pay39 k0_pay38
  exact reads_mul h (reads_col _ (reads_scale 1024 word_1024 (reads_squares _ _ _ _ h)))

variable (h16 : Reads v16 fun _ c => D.gp c)
include hk h14 h15 h35 h72 h75 h89 h90 h16 in
theorem pay40_reads : Reads (k0_pay40 (F := Ideal) v14 v15 v16 v35 v72 v75 k v89 v90) D.n2 := by
  have h := pay37_reads hk h14 h15 h35 h72 h75 h89 h90
  unfold k0_pay40 k0_pay39 k0_pay38
  exact reads_trunc _ (reads_mul (reads_mul h (reads_col _ (reads_scale 1024 word_1024 (reads_squares _ _ _ _ h)))) (reads_row _ h16))

variable (h107 : Reads v107 D.wg)
include hk h14 h15 h35 h72 h75 h89 h90 h16 h107 in
theorem pay41_reads : Reads (k0_pay41 (F := Ideal) v14 v15 v16 v35 v72 v75 k v89 v90 v107) D.gate := by
  unfold k0_pay41
  exact reads_logistic (reads_dot _ rfl (pay40_reads hk h14 h15 h35 h72 h75 h89 h90 h16) (reads_cast _ h107))

variable (h111 : Reads v111 D.p) (h113 : Reads v113 D.wp)
include h111 h113 in
theorem pay43_reads : Reads (k0_pay43 (F := Ideal) v111 v113) D.pw := by
  unfold k0_pay43 k0_pay42
  exact reads_dot _ rfl (reads_trunc _ h111) (reads_cast _ h113)

include hk h14 h15 h35 h72 h75 h89 h90 h16 h107 h111 h113 in
theorem pay44_reads : Reads (k0_pay44 (F := Ideal) v14 v15 v16 v35 v72 v75 k v89 v90 v107 v111 v113)
    (fun r c => D.x2 r c + D.gate r c * D.pw r c) := by
  unfold k0_pay44
  exact reads_add (pay37_reads hk h14 h15 h35 h72 h75 h89 h90)
    (reads_mul (pay41_reads hk h14 h15 h35 h72 h75 h89 h90 h16 h107) (pay43_reads h111 h113))
end Stream

/-! ## What the block adds -/

section Adds
variable {v106 : FVec Ideal S256x1024 .bf16} {v110 v115 v117 : FVec Ideal S256x1024 .f32} {v112 : FVec Ideal S256x256 .bf16}
variable {v118 : Vec Ideal S256x1024 .f32} {v120 : Vec Ideal S1x128 .f32} {v134 : Vec Ideal S256x1024 .f32} {v147 : Vec Ideal S1024x1024 .f32}
variable (h117 : Reads v117 fun r c => D.x2 r c + D.gate r c * D.pw r c) (h118 : Reads v118 D.tg)

include h117 h118 in
theorem pay45_reads : Reads (k0_pay45 (F := Ideal) v117 v118) D.err := by
  unfold k0_pay45
  exact reads_sub h117 h118
include h117 h118 in
theorem pay47_reads : Reads (k0_pay47 (F := Ideal) v117 v118) D.dOut := by
  unfold k0_pay47
  exact reads_mul (pay45_reads h117 h118) (reads_const word_1024)

/-- To the loss, -/
theorem pay46_reads (h117 : Reads v117 fun r c => D.x2 r c + D.gate r c * D.pw r c) (h118 : Reads v118 D.tg) (h : Reads v120 e) :
    Reads (k0_pay46 (F := Ideal) v117 v118 v120) (fun r c => e r c + D.loss 256) := by
  unfold k0_pay46
  exact reads_add (reads_cast _ h) (reads_total _ _ _ _ _ _ _ _ word_2048 _ (pay45_reads h117 h118))

/-- to the gated weights' gradient -/
theorem pay48_reads (h117 : Reads v117 fun r c => D.x2 r c + D.gate r c * D.pw r c) (h118 : Reads v118 D.tg)
    (h110 : Reads v110 D.gate) (h112 : Reads v112 D.p) (h : Reads v134 e) :
    Reads (k0_pay48 (F := Ideal) v110 v112 v117 v118 v134) (fun a b => e a b + ∑ r ∈ range 256, D.dPl r a b) := by
  unfold k0_pay48
  exact reads_add (reads_cast _ h) (reads_cols dot_S256x256_S256x1024_S256x1024_0_0_1_1_n_n rfl rfl
    (fun i k => ⟨rfl, rfl⟩) (fun i k => ⟨rfl, rfl⟩) h112 (reads_trunc _ (reads_mul (pay47_reads h117 h118) h110)))

/-- to that of the gate's weights -/
theorem pay50_reads (h117 : Reads v117 fun r c => D.x2 r c + D.gate r c * D.pw r c) (h118 : Reads v118 D.tg)
    (h110 : Reads v110 D.gate) (h115 : Reads v115 D.pw) (h106 : Reads v106 D.n2) (h : Reads v147 e) :
    Reads (k0_pay50 (F := Ideal) v106 v110 v115 v117 v118 v147) (fun a b => e a b + ∑ r ∈ range 256, D.dPlg r a b) := by
  unfold k0_pay50 k0_pay49
  exact reads_add (reads_cast _ h) (reads_cols dot_S256x1024_S256x1024_S1024x1024_0_0_1_1_n_n rfl rfl
    (fun i k => ⟨rfl, rfl⟩) (fun i k => ⟨rfl, rfl⟩) h106 (reads_trunc _ (reads_mul (reads_mul (reads_mul (pay47_reads h117 h118) h115) h110)
      (reads_sub (reads_const word_one) h110))))

/-- and to that of the normalisation's. -/
theorem pay52_reads {v103 : FVec Ideal S256x1024 .f32} {v152 : Vec Ideal S1024x1024 .bf16} {v155 : Vec Ideal S1x1024 .f32}
    (h117 : Reads v117 fun r c => D.x2 r c + D.gate r c * D.pw r c) (h118 : Reads v118 D.tg)
    (h110 : Reads v110 D.gate) (h115 : Reads v115 D.pw) (h103 : Reads v103 fun r c => D.x2 r c * scale 1024 (squares 1024 (D.x2 r)))
    (h152 : Reads v152 D.wg) (h : Reads v155 e) :
    Reads (k0_pay52 (F := Ideal) v103 (k0_pay49 v110 v115 v117 v118) v152 v155) (fun a b => e a b + ∑ r ∈ range 256, D.dGp r b) := by
  unfold k0_pay52 k0_pay51 k0_pay49
  exact reads_add (reads_cast _ h) (reads_down _ _ _ _ (reads_mul (reads_rows dot_S256x1024_S1024x1024_S256x1024_1_1_0_0_n_n rfl rfl
    (fun i k => ⟨rfl, rfl⟩) (fun i k => ⟨rfl, rfl⟩) (reads_trunc _ (reads_mul (reads_mul (reads_mul (pay47_reads h117 h118) h115) h110)
      (reads_sub (reads_const word_one) h110))) (reads_cast _ h152)) h103))
end Adds

end Cert.Kernel4Ideal.Run

end
-- ==== Proof.Mid.Host.lean ====
/-
  What the host code hands to the kernel, as functions of the program's arguments: the projection's columns in the kernel's
  order, and the convolution's weights filled up to eight rows.
-/
module

public import proofs.«01_k».proof.Proof.Mid.Spec
public import proofs.«01_k».proof.Proof.Project.Cubes
public import proofs.«01_k».proof.Proof.Gen.Kernel4Ideal.Frame.Runs

@[expose] public section

set_option maxRecDepth 65536

noncomputable section

namespace Cert.Middle

open Idealize.ShloMosaic
open Cert.Project

/-- Arrays as tables. -/
def argsOf (x0 : (⟨2, ![8192, 512]⟩ : Shape).Idx → EReal) (x1 : (⟨2, ![8192, 3008]⟩ : Shape).Idx → EReal)
    (x2 : (⟨2, ![8192, 1024]⟩ : Shape).Idx → EReal) (x3 : (⟨2, ![8192, 256]⟩ : Shape).Idx → EReal)
    (x4 : (⟨2, ![8192, 1024]⟩ : Shape).Idx → EReal) (x5 x6 : (⟨2, ![1024, 1024]⟩ : Shape).Idx → EReal)
    (x7 : (⟨2, ![256, 1024]⟩ : Shape).Idx → EReal) (x8 : (⟨2, ![3, 512]⟩ : Shape).Idx → EReal)
    (x9 x10 : (⟨2, ![1, 512]⟩ : Shape).Idx → EReal) (x11 : (⟨2, ![1, 1024]⟩ : Shape).Idx → EReal) : Rows where
  o := table x0
  za := fun r c => table x1 r (448 + c)
  m := fun r c => table x1 r (1472 + c) * table x1 r (1984 + c)
  m1 := fun r c => if 1 ≤ r then table x1 (r - 1) (1472 + c) * table x1 (r - 1) (1984 + c) else 0
  m2 := fun r c => if 2 ≤ r then table x1 (r - 2) (1472 + c) * table x1 (r - 2) (1984 + c) else 0
  cb := fun r c => table x1 r (960 + c)
  zc := fun r c => table x1 r (2496 + c)
  x := table x2
  p := table x3
  tg := table x4
  wo := table x5
  wg := table x6
  wp := table x7
  cw := table x8
  ga := table x9 0
  gc := table x10 0
  gp := table x11 0

theorem row_table {n : ℕ} (x : (⟨2, ![1, n]⟩ : Shape).Idx → EReal) : Reads x fun _ j => table x 0 j :=
  (reads_table x).congr fun a d ha _ => by rw [show a = 0 by omega]

end Cert.Middle

namespace Cert.Kernel4Ideal.Host

open Cert.Kernel4Ideal Cert.Kernel4Ideal.Gen Cert.Project Cert.Middle
open Idealize.ShloMosaic Idealize.ShloMosaic.TcCoe Idealize.ShloMosaic.StableHlo Idealize.SL.Sem

/-- The projection's columns: those not used here, filled up, and the five others. -/
def columns (x1 : FVec Ideal S8192x3008 .f32) : FVec Ideal S8192x3072 .f32 :=
  concatenate S8192x3072 1 [
    ⟨S8192x512, pad S8192x512 ![0, 0] ![0, 64] ![0, 0] (extractStridedSlice S8192x448 ![0, 0] x1 slices_S8192x3008_S8192x448_0_0)
      (sitofp (F := Ideal) .f32 (constantI S_ 32 0#32)) pads_S8192x448_S8192x512_000_0640 h_S_⟩,
    ⟨S8192x512, extractStridedSlice S8192x512 ![0, 448] x1 slices_S8192x3008_S8192x512_0_448⟩,
    ⟨S8192x512, extractStridedSlice S8192x512 ![0, 1472] x1 slices_S8192x3008_S8192x512_0_1472⟩,
    ⟨S8192x512, extractStridedSlice S8192x512 ![0, 1984] x1 slices_S8192x3008_S8192x512_0_1984⟩,
    ⟨S8192x512, extractStridedSlice S8192x512 ![0, 960] x1 slices_S8192x3008_S8192x512_0_960⟩,
    ⟨S8192x512, extractStridedSlice S8192x512 ![0, 2496] x1 slices_S8192x3008_S8192x512_0_2496⟩]
    concatenates_S8192x512_S8192x512_S8192x512_S8192x512_S8192x512_S8192x512_S8192x3072_d1

/-- The first column of each, -/
def column (j : ℕ) : ℕ :=
  if j < 1024 then 448 + (j - 512) else if j < 1536 then 1472 + (j - 1024) else if j < 2048 then 1984 + (j - 1536)
  else if j < 2560 then 960 + (j - 2048) else 2496 + (j - 2560)

theorem columns_at (x1 : FVec Ideal S8192x3008 .f32) (i : S8192x3072.Idx) {r j : ℕ} (hr : (i 0).val = r) (hj : (i 1).val = j) (h : 512 ≤ j) :
    columns x1 i = table x1 r (column j) := by
  have hi := (i 1).isLt
  change (i 1).val < 3072 at hi
  have e := reads_table (m := 8192) (n := 3008) x1
  refine (beside_six (reads_table (m := 8192) (n := 512) _) (reads_slice 448 slices_S8192x3008_S8192x512_0_448 e)
    (reads_slice 1472 slices_S8192x3008_S8192x512_0_1472 e) (reads_slice 1984 slices_S8192x3008_S8192x512_0_1984 e)
    (reads_slice 960 slices_S8192x3008_S8192x512_0_960 e) (reads_slice 2496 slices_S8192x3008_S8192x512_0_2496 e) _ i).trans ?_
  rw [hr]
  simp only [column, hj]
  rw [hj] at hi
  split_ifs <;> first | omega | rfl

/-- The convolution's weights. -/
def taps (x8 : FVec Ideal S3x512 .f32) : FVec Ideal S8x512 .f32 :=
  pad S8x512 ![0, 0] ![5, 0] ![0, 0] x8 (sitofp (F := Ideal) .f32 (constantI S_ 32 0#32)) pads_S3x512_S8x512_050_000 h_S_

theorem taps_at (x8 : FVec Ideal S3x512 .f32) (i : S8x512.Idx) {r j : ℕ} (hr : (i 0).val = r) (hj : (i 1).val = j) (h : r < 3) :
    taps x8 i = table (m := 3) (n := 512) x8 r j := by
  refine (pad_apply_of_inside _ _ _ x8 _ _ _ i (ValueIdx.ix2 (⟨r, h⟩ : Fin 3) (i 1)) fun y => ?_).trans
    ((reads_table (m := 3) (n := 512) x8).at _ rfl hj)
  match y with
  | ⟨0, _⟩ => show (i 0).val = 0 + r * 1; omega
  | ⟨1, _⟩ => show (i 1).val = 0 + (i 1).val * 1; omega

variable (m : (ℓ : Loc nD τ sig) → Buf (Elt Ideal) ℓ) (c : Dev nD)

/-- The program's arguments. -/
abbrev x₀ : FVec Ideal S8192x512 .f32 := m ⟨c, main_arg0⟩
abbrev x₁ : FVec Ideal S8192x3008 .f32 := m ⟨c, main_arg1⟩
abbrev x₂ : FVec Ideal S8192x1024 .f32 := m ⟨c, main_arg2⟩
abbrev x₃ : FVec Ideal S8192x256 .f32 := m ⟨c, main_arg3⟩
abbrev x₄ : FVec Ideal S8192x1024 .f32 := m ⟨c, main_arg4⟩
abbrev x₅ : FVec Ideal S1024x1024 .f32 := m ⟨c, main_arg5⟩
abbrev x₆ : FVec Ideal S1024x1024 .f32 := m ⟨c, main_arg6⟩
abbrev x₇ : FVec Ideal S256x1024 .f32 := m ⟨c, main_arg7⟩
abbrev x₈ : FVec Ideal S3x512 .f32 := m ⟨c, main_arg8⟩
abbrev x₉ : FVec Ideal S1x512 .f32 := m ⟨c, main_arg9⟩
abbrev x₁₀ : FVec Ideal S1x512 .f32 := m ⟨c, main_arg10⟩
abbrev x₁₁ : FVec Ideal S1x1024 .f32 := m ⟨c, main_arg11⟩

/-- They as tables. -/
abbrev args : Rows := argsOf (x₀ m c) (x₁ m c) (x₂ m c) (x₃ m c) (x₄ m c) (x₅ m c) (x₆ m c) (x₇ m c) (x₈ m c) (x₉ m c) (x₁₀ m c) (x₁₁ m c)

theorem V_main_v7 : (V m c main_v7 : FVec Ideal S8192x3072 .f32) = columns (x₁ m c) := by
  unfold V
  simp only [hostOps0, hostOps0_1, hostOps0_2, hostOps0_3, List.flatten_cons, List.flatten_nil,
    List.append_nil, List.cons_append, List.nil_append, TRef.binary, TRef.nullary, TRef.ternary, TRef.unary, TRef.toBuf, TRef.ofBuf, cast_eq]
  after_results_simp <;> rfl

theorem V_main_v8 : (V m c main_v8 : FVec Ideal S1024x1024 .bf16) = truncf .bf16 (x₅ m c) bitsLt_bf16_f32 := by
  unfold V
  simp only [hostOps0, hostOps0_1, hostOps0_2, hostOps0_3, List.flatten_cons, List.flatten_nil,
    List.append_nil, List.cons_append, List.nil_append, TRef.binary, TRef.nullary, TRef.ternary, TRef.unary, TRef.toBuf, TRef.ofBuf, cast_eq]
  after_results_simp <;> rfl

theorem V_main_v9 : (V m c main_v9 : FVec Ideal S1024x1024 .bf16) = truncf .bf16 (x₆ m c) bitsLt_bf16_f32 := by
  unfold V
  simp only [hostOps0, hostOps0_1, hostOps0_2, hostOps0_3, List.flatten_cons, List.flatten_nil,
    List.append_nil, List.cons_append, List.nil_append, TRef.binary, TRef.nullary, TRef.ternary, TRef.unary, TRef.toBuf, TRef.ofBuf, cast_eq]
  after_results_simp <;> rfl

theorem V_main_v10 : (V m c main_v10 : FVec Ideal S256x1024 .bf16) = truncf .bf16 (x₇ m c) bitsLt_bf16_f32 := by
  unfold V
  simp only [hostOps0, hostOps0_1, hostOps0_2, hostOps0_3, List.flatten_cons, List.flatten_nil,
    List.append_nil, List.cons_append, List.nil_append, TRef.binary, TRef.nullary, TRef.ternary, TRef.unary, TRef.toBuf, TRef.ofBuf, cast_eq]
  after_results_simp <;> rfl

theorem V_main_v11 : (V m c main_v11 : FVec Ideal S8x512 .f32) = taps (x₈ m c) := by
  unfold V
  simp only [hostOps0, hostOps0_1, hostOps0_2, hostOps0_3, List.flatten_cons, List.flatten_nil,
    List.append_nil, List.cons_append, List.nil_append, TRef.binary, TRef.nullary, TRef.ternary, TRef.unary, TRef.toBuf, TRef.ofBuf, cast_eq]
  after_results_simp <;> rfl

end Cert.Kernel4Ideal.Host

end
-- ==== Proof.Mid.Blocks.lean ====
/-
  What the kernel's windows hold at a grid point: rows `256 * t` on of the row arrays, the eight rows before them, and the
  weights.
-/
module

public import proofs.«01_k».proof.Proof.Mid.Host
public import Idealize.ShloMosaic.Lib.Pipeline.ValueKit

@[expose] public section

set_option maxRecDepth 16384

noncomputable section

namespace Cert.Kernel4Ideal.Run

open Cert.Kernel4Ideal Cert.Kernel4Ideal.Gen Cert.Kernel4Ideal.Host Cert.Project Cert.Middle
open Idealize.ShloMosaic Idealize.ShloMosaic.TcCoe Idealize.ShloMosaic.Tactic

variable (m : (ℓ : Loc nD τ sig) → Buf (Elt Ideal) ℓ) (c : Dev nD) (t : Fin cfg0.N)

/-- The rows of a point. -/
abbrev rows : Rows := (args m c).past (256 * t.val)

theorem index_0 : ∀ t : Fin cfg0.N, win0_0.index t = ![t.val, 0] := (by decide +kernel : ∀ t : Fin grid0.N, _)
theorem index_1 : ∀ t : Fin cfg0.N, win0_1.index t = ![t.val, 1] := (by decide +kernel : ∀ t : Fin grid0.N, _)
theorem index_2 : ∀ t : Fin cfg0.N, win0_2.index t = ![t.val, 1] := (by decide +kernel : ∀ t : Fin grid0.N, _)
theorem index_3 : ∀ t : Fin cfg0.N, win0_3.index t = ![t.val, 2] := (by decide +kernel : ∀ t : Fin grid0.N, _)
theorem index_4 : ∀ t : Fin cfg0.N, win0_4.index t = ![32 * t.val - 1, 1] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)
theorem index_13 : ∀ t : Fin cfg0.N, win0_13.index t = ![0, 0] := (by decide +kernel : ∀ t : Fin grid0.N, _)
theorem index_14 : ∀ t : Fin cfg0.N, win0_14.index t = ![0, 0] := (by decide +kernel : ∀ t : Fin grid0.N, _)
theorem index_22 : ∀ t : Fin cfg0.N, win0_22.index t = ![0, 0] := (by decide +kernel : ∀ t : Fin grid0.N, _)
theorem index_23 : ∀ t : Fin cfg0.N, win0_23.index t = ![0, 0] := (by decide +kernel : ∀ t : Fin grid0.N, _)
theorem index_27 : ∀ t : Fin cfg0.N, win0_27.index t = ![0, 0] := (by decide +kernel : ∀ t : Fin grid0.N, _)
theorem index_28 : ∀ t : Fin cfg0.N, win0_28.index t = ![0, 0] := (by decide +kernel : ∀ t : Fin grid0.N, _)

theorem block_0 : Reads (m := 256) (n := 512) (iblk m c 0 t) (rows m c t).o := fun i => by
  have e0 : ((win0_0.blk t).view.emb i 0).val = 256 * t.val + (i 0).val := by
    refine (show _ = t.val * 256 + (i 0).val by blk_simp [index_0]).trans ?_; omega
  have e1 : ((win0_0.blk t).view.emb i 1).val = (i 1).val := by blk_simp [index_0]
  blk_simp [iblk]
  rw [V_main_arg0]
  exact (reads_table (m := 8192) (n := 512) (x₀ m c)).at _ e0 e1
theorem block_1 : ∀ i : (⟨2, ![256, 512]⟩ : Shape).Idx, (iblk m c 1 t : (⟨2, ![256, 512]⟩ : Shape).Idx → EReal) i
    = table (m := 8192) (n := 3008) (x₁ m c) (256 * t.val + (i 0).val) (column (512 + (i 1).val)) := fun i => by
  have e0 : ((win0_1.blk t).view.emb i 0).val = 256 * t.val + (i 0).val := by
    refine (show _ = t.val * 256 + (i 0).val by blk_simp [index_1]).trans ?_; omega
  have e1 : ((win0_1.blk t).view.emb i 1).val = 512 + (i 1).val := by
    refine (show _ = 1 * 512 + (i 1).val by blk_simp [index_1]).trans ?_; omega
  blk_simp [iblk]
  rw [V_main_v7]
  exact columns_at (x₁ m c) _ e0 e1 (by omega)
theorem block_2 : ∀ i : (⟨2, ![256, 1024]⟩ : Shape).Idx, (iblk m c 2 t : (⟨2, ![256, 1024]⟩ : Shape).Idx → EReal) i
    = table (m := 8192) (n := 3008) (x₁ m c) (256 * t.val + (i 0).val) (column (1024 + (i 1).val)) := fun i => by
  have e0 : ((win0_2.blk t).view.emb i 0).val = 256 * t.val + (i 0).val := by
    refine (show _ = t.val * 256 + (i 0).val by blk_simp [index_2]).trans ?_; omega
  have e1 : ((win0_2.blk t).view.emb i 1).val = 1024 + (i 1).val := by
    refine (show _ = 1 * 1024 + (i 1).val by blk_simp [index_2]).trans ?_; omega
  blk_simp [iblk]
  rw [V_main_v7]
  exact columns_at (x₁ m c) _ e0 e1 (by omega)
theorem block_3 : ∀ i : (⟨2, ![256, 1024]⟩ : Shape).Idx, (iblk m c 3 t : (⟨2, ![256, 1024]⟩ : Shape).Idx → EReal) i
    = table (m := 8192) (n := 3008) (x₁ m c) (256 * t.val + (i 0).val) (column (2048 + (i 1).val)) := fun i => by
  have e0 : ((win0_3.blk t).view.emb i 0).val = 256 * t.val + (i 0).val := by
    refine (show _ = t.val * 256 + (i 0).val by blk_simp [index_3]).trans ?_; omega
  have e1 : ((win0_3.blk t).view.emb i 1).val = 2048 + (i 1).val := by
    refine (show _ = 2 * 1024 + (i 1).val by blk_simp [index_3]).trans ?_; omega
  blk_simp [iblk]
  rw [V_main_v7]
  exact columns_at (x₁ m c) _ e0 e1 (by omega)
theorem block_4 : ∀ i : (⟨2, ![8, 1024]⟩ : Shape).Idx, (iblk m c 4 t : (⟨2, ![8, 1024]⟩ : Shape).Idx → EReal) i
    = table (m := 8192) (n := 3008) (x₁ m c) (8 * (32 * t.val - 1) + (i 0).val) (column (1024 + (i 1).val)) := fun i => by
  have e0 : ((win0_4.blk t).view.emb i 0).val = 8 * (32 * t.val - 1) + (i 0).val := by
    refine (show _ = (32 * t.val - 1) * 8 + (i 0).val by blk_simp [index_4]).trans ?_; omega
  have e1 : ((win0_4.blk t).view.emb i 1).val = 1024 + (i 1).val := by
    refine (show _ = 1 * 1024 + (i 1).val by blk_simp [index_4]).trans ?_; omega
  blk_simp [iblk]
  rw [V_main_v7]
  exact columns_at (x₁ m c) _ e0 e1 (by omega)
theorem block_5 : Reads (m := 256) (n := 1024) (iblk m c 5 t) (rows m c t).x := fun i => by
  have e0 : ((win0_5.blk t).view.emb i 0).val = 256 * t.val + (i 0).val := by
    refine (show _ = t.val * 256 + (i 0).val by blk_simp [index_5]).trans ?_; omega
  have e1 : ((win0_5.blk t).view.emb i 1).val = (i 1).val := by blk_simp [index_5]
  blk_simp [iblk]
  rw [V_main_arg2]
  exact (reads_table (m := 8192) (n := 1024) (x₂ m c)).at _ e0 e1
theorem block_6 : Reads (m := 256) (n := 256) (iblk m c 6 t) (rows m c t).p := fun i => by
  have e0 : ((win0_6.blk t).view.emb i 0).val = 256 * t.val + (i 0).val := by
    refine (show _ = t.val * 256 + (i 0).val by blk_simp [index_6]).trans ?_; omega
  have e1 : ((win0_6.blk t).view.emb i 1).val = (i 1).val := by blk_simp [index_6]
  blk_simp [iblk]
  rw [V_main_arg3]
  exact (reads_table (m := 8192) (n := 256) (x₃ m c)).at _ e0 e1
theorem block_7 : Reads (m := 256) (n := 1024) (iblk m c 7 t) (rows m c t).tg := fun i => by
  have e0 : ((win0_7.blk t).view.emb i 0).val = 256 * t.val + (i 0).val := by
    refine (show _ = t.val * 256 + (i 0).val by blk_simp [index_7]).trans ?_; omega
  have e1 : ((win0_7.blk t).view.emb i 1).val = (i 1).val := by blk_simp [index_7]
  blk_simp [iblk]
  rw [V_main_arg4]
  exact (reads_table (m := 8192) (n := 1024) (x₄ m c)).at _ e0 e1
theorem block_8 : Reads (m := 1024) (n := 1024) (iblk m c 8 t) (rows m c t).wo := fun i => by
  have e0 : ((win0_8.blk t).view.emb i 0).val = (i 0).val := by blk_simp [index_8]
  have e1 : ((win0_8.blk t).view.emb i 1).val = (i 1).val := by blk_simp [index_8]
  blk_simp [iblk]
  rw [V_main_v8]
  exact (reads_table (m := 1024) (n := 1024) (x₅ m c)).at _ e0 e1
theorem block_9 : Reads (m := 1024) (n := 1024) (iblk m c 9 t) (rows m c t).wg := fun i => by
  have e0 : ((win0_9.blk t).view.emb i 0).val = (i 0).val := by blk_simp [index_9]
  have e1 : ((win0_9.blk t).view.emb i 1).val = (i 1).val := by blk_simp [index_9]
  blk_simp [iblk]
  rw [V_main_v9]
  exact (reads_table (m := 1024) (n := 1024) (x₆ m c)).at _ e0 e1
theorem block_10 : Reads (m := 256) (n := 1024) (iblk m c 10 t) (rows m c t).wp := fun i => by
  have e0 : ((win0_10.blk t).view.emb i 0).val = (i 0).val := by blk_simp [index_10]
  have e1 : ((win0_10.blk t).view.emb i 1).val = (i 1).val := by blk_simp [index_10]
  blk_simp [iblk]
  rw [V_main_v10]
  exact (reads_table (m := 256) (n := 1024) (x₇ m c)).at _ e0 e1
theorem block_11 : ∀ i : (⟨2, ![8, 512]⟩ : Shape).Idx, (i 0).val < 3 →
    (iblk m c 11 t : (⟨2, ![8, 512]⟩ : Shape).Idx → EReal) i = (rows m c t).cw (i 0).val (i 1).val := fun i h => by
  have e0 : ((win0_11.blk t).view.emb i 0).val = (i 0).val := by blk_simp [index_11]
  have e1 : ((win0_11.blk t).view.emb i 1).val = (i 1).val := by blk_simp [index_11]
  blk_simp [iblk]
  rw [V_main_v11]
  exact taps_at (x₈ m c) _ e0 e1 h
theorem block_12 : Reads (m := 1) (n := 512) (iblk m c 12 t) (fun _ j => (rows m c t).ga j) := fun i => by
  have e0 : ((win0_12.blk t).view.emb i 0).val = (i 0).val := by blk_simp [index_12]
  have e1 : ((win0_12.blk t).view.emb i 1).val = (i 1).val := by blk_simp [index_12]
  blk_simp [iblk]
  rw [V_main_arg9]
  exact (row_table (n := 512) (x₉ m c)).at _ e0 e1
theorem block_13 : Reads (m := 1) (n := 512) (iblk m c 13 t) (fun _ j => (rows m c t).gc j) := fun i => by
  have e0 : ((win0_13.blk t).view.emb i 0).val = (i 0).val := by blk_simp [index_13]
  have e1 : ((win0_13.blk t).view.emb i 1).val = (i 1).val := by blk_simp [index_13]
  blk_simp [iblk]
  rw [V_main_arg10]
  exact (row_table (n := 512) (x₁₀ m c)).at _ e0 e1
theorem block_14 : Reads (m := 1) (n := 1024) (iblk m c 14 t) (fun _ j => (rows m c t).gp j) := fun i => by
  have e0 : ((win0_14.blk t).view.emb i 0).val = (i 0).val := by blk_simp [index_14]
  have e1 : ((win0_14.blk t).view.emb i 1).val = (i 1).val := by blk_simp [index_14]
  blk_simp [iblk]
  rw [V_main_arg11]
  exact (row_table (n := 1024) (x₁₁ m c)).at _ e0 e1

end Cert.Kernel4Ideal.Run

end
-- ==== Proof.Mid.Point.lean ====
/-
  What a grid point reads from its windows, and what it gives the loss and the three weight gradients.
-/
module

public import proofs.«01_k».proof.Proof.Mid.Launch
public import proofs.«01_k».proof.Proof.Mid.Tiles
public import proofs.«01_k».proof.Proof.Mid.Blocks

@[expose] public section

set_option maxRecDepth 65536

noncomputable section

namespace Cert.Kernel4Ideal.Run

open Cert.Kernel4Ideal Cert.Kernel4Ideal.Gen Cert.Kernel4Ideal.Host Cert.Project Cert.Middle
open Idealize.ShloMosaic Idealize.ShloMosaic.TcCoe Idealize.ShloMosaic.Tactic
open Finset

/-- A part of an array, read at row and column numbers. -/
theorem reads_part {M N k n a b : ℕ} {X : (⟨2, ![M, N]⟩ : Shape).Idx → Elt Ideal .f32} {f : ℕ → ℕ → EReal}
    (inb : ∀ x, (![a, b] : Fin 2 → ℕ) x + (![k, n] : Fin 2 → ℕ) x ≤ (⟨2, ![M, N]⟩ : Shape).size x)
    (h : ∀ i : (⟨2, ![M, N]⟩ : Shape).Idx, (i 0).val < a + k → X i = f (i 0).val (i 1).val) :
    Reads (m := k) (n := n) (View.ld X (Rect.unit (s := ⟨2, ![M, N]⟩) ![a, b] ![k, n] inb)) (fun r j => f (a + r) (b + j)) := fun i => by
  have h0 := Rect.idx_unit_val (s := ⟨2, ![M, N]⟩) ![a, b] ![k, n] inb i 0
  have h1 := Rect.idx_unit_val (s := ⟨2, ![M, N]⟩) ![a, b] ![k, n] inb i 1
  have hi : (i 0).val < k := (i 0).isLt
  refine (h _ (by rw [h0]; exact Nat.add_lt_add_left hi a)).trans ?_
  rw [h0, h1]
  rfl

variable (m : (ℓ : Loc nD τ sig) → Buf (Elt Ideal) ℓ) (c : Dev nD) (t : Fin cfg0.N)

theorem coord_eq : ∀ t : Fin cfg0.N, ((grid0.coords t) 0).val = t.val := by decide +kernel
theorem point_lt : t.val < 32 := (show cfg0.N = 32 by decide) ▸ t.isLt

/-! ## The parts a point loads -/

abbrev vA := k0_pay11 (F := Ideal) (View.ld (iblk m c 2 t) (Rect.unit ![0, 0] ![256, 512] inb_S256x1024_S256x512_0_0))
abbrev vX := k0_pay12 (F := Ideal) (View.ld (iblk m c 2 t) (Rect.unit ![0, 512] ![256, 512] inb_S256x1024_S256x512_0_512))
abbrev vB := k0_pay13 (F := Ideal) (View.ld (iblk m c 3 t) (Rect.unit ![0, 0] ![256, 512] inb_S256x1024_S256x512_0_0))
abbrev vZ := k0_pay14 (F := Ideal) (View.ld (iblk m c 3 t) (Rect.unit ![0, 512] ![256, 512] inb_S256x1024_S256x512_0_512))
abbrev w0 := k0_pay15 (F := Ideal) (View.ld (iblk m c 11 t) (Rect.unit ![0, 0] ![1, 512] inb_S8x512_S1x512_0_0))
abbrev w1 := k0_pay16 (F := Ideal) (View.ld (iblk m c 11 t) (Rect.unit ![1, 0] ![1, 512] inb_S8x512_S1x512_1_0))
abbrev w2 := k0_pay17 (F := Ideal) (View.ld (iblk m c 11 t) (Rect.unit ![2, 0] ![1, 512] inb_S8x512_S1x512_2_0))
abbrev uA : Vec Ideal S8x512 .f32 := View.ld (iblk m c 4 t) (Rect.unit ![0, 0] ![8, 512] inb_S8x1024_S8x512_0_0)
abbrev uX : Vec Ideal S8x512 .f32 := View.ld (iblk m c 4 t) (Rect.unit ![0, 512] ![8, 512] inb_S8x1024_S8x512_0_512)
abbrev num : BitVec 32 := BitVec.ofNat 32 ((grid0.coords t) 0).val

theorem za_reads : Reads (m := 256) (n := 512) (iblk m c 1 t) (rows m c t).za :=
  Reads.congr (f := fun r j => table (m := 8192) (n := 3008) (x₁ m c) (256 * t.val + r) (column (512 + j))) (block_1 m c t) fun r j _ hj => by
    have e : column (512 + j) = 448 + j := by unfold column; split_ifs <;> omega
    beta_reduce
    rw [e]
    rfl
theorem vA_reads : Reads (vA m c t) (fun r j => table (m := 8192) (n := 3008) (x₁ m c) (256 * t.val + r) (1472 + j)) := by
  unfold vA k0_pay11
  refine (reads_cast _ (reads_part (f := fun r j => table (m := 8192) (n := 3008) (x₁ m c) (256 * t.val + r) (column (1024 + j))) _ fun i _ => block_2 m c t i)).congr fun r j _ hj => ?_
  have e : column (1024 + (0 + j)) = 1472 + j := by unfold column; split_ifs <;> omega
  beta_reduce
  rw [e, Nat.zero_add]
theorem vX_reads : Reads (vX m c t) (fun r j => table (m := 8192) (n := 3008) (x₁ m c) (256 * t.val + r) (1984 + j)) := by
  unfold vX k0_pay12
  refine (reads_cast _ (reads_part (f := fun r j => table (m := 8192) (n := 3008) (x₁ m c) (256 * t.val + r) (column (1024 + j))) _ fun i _ => block_2 m c t i)).congr fun r j _ hj => ?_
  have e : column (1024 + (512 + j)) = 1984 + j := by unfold column; split_ifs <;> omega
  beta_reduce
  rw [e, Nat.zero_add]
theorem vB_reads : Reads (vB m c t) (rows m c t).cb := by
  unfold vB k0_pay13
  refine (reads_cast _ (reads_part (f := fun r j => table (m := 8192) (n := 3008) (x₁ m c) (256 * t.val + r) (column (2048 + j))) _ fun i _ => block_3 m c t i)).congr fun r j _ hj => ?_
  have e : column (2048 + (0 + j)) = 960 + j := by unfold column; split_ifs <;> omega
  beta_reduce
  rw [e, Nat.zero_add]
  rfl
theorem vZ_reads : Reads (vZ m c t) (rows m c t).zc := by
  unfold vZ k0_pay14
  refine (reads_cast _ (reads_part (f := fun r j => table (m := 8192) (n := 3008) (x₁ m c) (256 * t.val + r) (column (2048 + j))) _ fun i _ => block_3 m c t i)).congr fun r j _ hj => ?_
  have e : column (2048 + (512 + j)) = 2496 + j := by unfold column; split_ifs <;> omega
  beta_reduce
  rw [e, Nat.zero_add]
  rfl
theorem uA_reads : Reads (uA m c t) (fun r j => table (m := 8192) (n := 3008) (x₁ m c) (8 * (32 * t.val - 1) + r) (1472 + j)) := by
  refine (reads_part (f := fun r j => table (m := 8192) (n := 3008) (x₁ m c) (8 * (32 * t.val - 1) + r) (column (1024 + j))) _ fun i _ => block_4 m c t i).congr fun r j _ hj => ?_
  have e : column (1024 + (0 + j)) = 1472 + j := by unfold column; split_ifs <;> omega
  beta_reduce
  rw [e, Nat.zero_add]
theorem uX_reads : Reads (uX m c t) (fun r j => table (m := 8192) (n := 3008) (x₁ m c) (8 * (32 * t.val - 1) + r) (1984 + j)) := by
  refine (reads_part (f := fun r j => table (m := 8192) (n := 3008) (x₁ m c) (8 * (32 * t.val - 1) + r) (column (1024 + j))) _ fun i _ => block_4 m c t i).congr fun r j _ hj => ?_
  have e : column (1024 + (512 + j)) = 1984 + j := by unfold column; split_ifs <;> omega
  beta_reduce
  rw [e, Nat.zero_add]
theorem w0_reads : Reads (w0 m c t) (fun _ j => (rows m c t).cw 0 j) := by
  unfold w0 k0_pay15
  refine (reads_cast _ (reads_part _ fun i hi => block_11 m c t i (by omega))).congr fun r j hr hj => ?_
  obtain rfl : r = 0 := by omega
  beta_reduce
  rw [Nat.zero_add, Nat.zero_add]
theorem w1_reads : Reads (w1 m c t) (fun _ j => (rows m c t).cw 1 j) := by
  unfold w1 k0_pay16
  refine (reads_cast _ (reads_part _ fun i hi => block_11 m c t i (by omega))).congr fun r j hr hj => ?_
  obtain rfl : r = 0 := by omega
  beta_reduce
  rw [Nat.zero_add]
theorem w2_reads : Reads (w2 m c t) (fun _ j => (rows m c t).cw 2 j) := by
  unfold w2 k0_pay17
  refine (reads_cast _ (reads_part _ fun i hi => block_11 m c t i (by omega))).congr fun r j hr hj => ?_
  obtain rfl : r = 0 := by omega
  beta_reduce
  rw [Nat.zero_add]

/-! ## The product, and what it was before -/

theorem m_reads : Reads (k0_pay25 (F := Ideal) (vA m c t) (vX m c t)) (rows m c t).m := pay25_reads (vA_reads m c t) (vX_reads m c t)

theorem last_reads : Reads (k0_pay26 (F := Ideal) (num t) (uA m c t) (uX m c t))
    (fun r j => table (m := 8192) (n := 3008) (x₁ m c) (8 * (32 * t.val - 1) + r) (1472 + j)
      * table (m := 8192) (n := 3008) (x₁ m c) (8 * (32 * t.val - 1) + r) (1984 + j) * if 0 < t.val then 1 else 0) := by
  unfold num
  rw [coord_eq t]
  exact pay26_reads (point_lt t) (uA_reads m c t) (uX_reads m c t)

theorem m1_reads : Reads (k0_pay27 (F := Ideal) (num t) (vA m c t) (vX m c t) (uA m c t) (uX m c t)) (rows m c t).m1 := by
  refine (pay27_reads (m_reads m c t) (last_reads m c t)).congr fun r j hr _ => ?_
  show (if 1 ≤ r then (args m c).m (256 * t.val + (r - 1)) j else _) = (args m c).m1 (256 * t.val + r) j
  show _ = if 1 ≤ 256 * t.val + r then (args m c).m (256 * t.val + r - 1) j else 0
  by_cases h : 1 ≤ r
  · rw [if_pos h, if_pos (by omega), show 256 * t.val + (r - 1) = 256 * t.val + r - 1 by omega]
  · rw [if_neg h]
    by_cases h0 : 0 < t.val
    · rw [if_pos h0, if_pos (by omega), mul_one, show 8 * (32 * t.val - 1) + (8 + r - 1) = 256 * t.val + r - 1 by omega]
      rfl
    · rw [if_neg h0, if_neg (by omega), mul_zero]
theorem m2_reads : Reads (k0_pay28 (F := Ideal) (num t) (vA m c t) (vX m c t) (uA m c t) (uX m c t)) (rows m c t).m2 := by
  refine (pay28_reads (m_reads m c t) (last_reads m c t)).congr fun r j hr _ => ?_
  show (if 2 ≤ r then (args m c).m (256 * t.val + (r - 2)) j else _) = (args m c).m2 (256 * t.val + r) j
  show _ = if 2 ≤ 256 * t.val + r then (args m c).m (256 * t.val + r - 2) j else 0
  by_cases h : 2 ≤ r
  · rw [if_pos h, if_pos (by omega), show 256 * t.val + (r - 2) = 256 * t.val + r - 2 by omega]
  · rw [if_neg h]
    by_cases h0 : 0 < t.val
    · rw [if_pos h0, if_pos (by omega), mul_one, show 8 * (32 * t.val - 1) + (8 + r - 2) = 256 * t.val + r - 2 by omega]
      rfl
    · rw [if_neg h0, if_neg (by omega), mul_zero]

/-! ## The stream's pieces -/

abbrev branchA := k0_pay24 (F := Ideal) (k0_pay20 (iblk m c 0 t) (iblk m c 1 t)) (k0_pay21 (iblk m c 0 t) (iblk m c 1 t)) k0_pay22
abbrev branchC := k0_pay32 (F := Ideal) (num t) (vA m c t) (vX m c t) (vB m c t) (vZ m c t) (w0 m c t) (w1 m c t) (w2 m c t) (uA m c t) (uX m c t)
abbrev sumC := k0_pay33 (F := Ideal) (num t) (vA m c t) (vX m c t) (vB m c t) (vZ m c t) (w0 m c t) (w1 m c t) (w2 m c t) (uA m c t) (uX m c t)
abbrev inv : Ideal .f32 := FloatOps.ofBits FTy.f32 989855744#32

theorem branchA_reads : Reads (branchA m c t) (fun r j => (rows m c t).attn r j * scale 512 (squares 512 ((rows m c t).attn r))) :=
  pay24_reads (block_0 m c t) (za_reads m c t)
theorem branchC_reads : Reads (branchC m c t) (rows m c t).conv :=
  pay32_reads (m_reads m c t) (m1_reads m c t) (m2_reads m c t) (w0_reads m c t) (w1_reads m c t) (w2_reads m c t) (vB_reads m c t) (vZ_reads m c t)
theorem sumC_reads : Reads (sumC m c t) (fun r _ => squares 512 ((rows m c t).conv r)) :=
  pay33_reads (m_reads m c t) (m1_reads m c t) (m2_reads m c t) (w0_reads m c t) (w1_reads m c t) (w2_reads m c t) (vB_reads m c t) (vZ_reads m c t)

abbrev tN := k0_pay40 (F := Ideal) (iblk m c 12 t) (iblk m c 13 t) (iblk m c 14 t) (branchA m c t) (branchC m c t) (sumC m c t) inv
  (iblk m c 5 t) (iblk m c 8 t)
abbrev tH := k0_pay39 (F := Ideal) (iblk m c 12 t) (iblk m c 13 t) (branchA m c t) (branchC m c t) (sumC m c t) inv (iblk m c 5 t) (iblk m c 8 t)
abbrev tG := k0_pay41 (F := Ideal) (iblk m c 12 t) (iblk m c 13 t) (iblk m c 14 t) (branchA m c t) (branchC m c t) (sumC m c t) inv
  (iblk m c 5 t) (iblk m c 8 t) (iblk m c 9 t)
abbrev tP := k0_pay43 (F := Ideal) (iblk m c 6 t) (iblk m c 10 t)
abbrev tS := k0_pay44 (F := Ideal) (iblk m c 12 t) (iblk m c 13 t) (iblk m c 14 t) (branchA m c t) (branchC m c t) (sumC m c t) inv
  (iblk m c 5 t) (iblk m c 8 t) (iblk m c 9 t) (iblk m c 6 t) (iblk m c 10 t)

theorem tN_reads : Reads (tN m c t) (rows m c t).n2 :=
  pay40_reads word_512 (block_12 m c t) (block_13 m c t) (branchA_reads m c t) (branchC_reads m c t) (sumC_reads m c t) (block_5 m c t)
    (block_8 m c t) (block_14 m c t)
theorem tH_reads : Reads (tH m c t) (fun r j => (rows m c t).x2 r j * scale 1024 (squares 1024 ((rows m c t).x2 r))) :=
  pay39_reads word_512 (block_12 m c t) (block_13 m c t) (branchA_reads m c t) (branchC_reads m c t) (sumC_reads m c t) (block_5 m c t)
    (block_8 m c t)
theorem tG_reads : Reads (tG m c t) (rows m c t).gate :=
  pay41_reads word_512 (block_12 m c t) (block_13 m c t) (branchA_reads m c t) (branchC_reads m c t) (sumC_reads m c t) (block_5 m c t)
    (block_8 m c t) (block_14 m c t) (block_9 m c t)
theorem tP_reads : Reads (tP m c t) (rows m c t).pw := pay43_reads (block_6 m c t) (block_10 m c t)
theorem tS_reads : Reads (tS m c t) (fun r j => (rows m c t).x2 r j + (rows m c t).gate r j * (rows m c t).pw r j) :=
  pay44_reads word_512 (block_12 m c t) (block_13 m c t) (branchA_reads m c t) (branchC_reads m c t) (sumC_reads m c t) (block_5 m c t)
    (block_8 m c t) (block_14 m c t) (block_9 m c t) (block_6 m c t) (block_10 m c t)

theorem word_zero : (Scalar.ofBits .f32 0x00000000#32 : Ideal .f32) = (0 : EReal) := by
  show Ideal.ofBits .f32 0x00000000#32 = 0
  simp [Ideal.ofBits, Ideal.ieee]

/-! ## What the first point leaves, and a later one -/

set_option maxHeartbeats 4000000 in
theorem first_22 (h0 : t.val % 32 = 0) : Reads (m := 1024) (n := 1024) (outsA m c t h0).2.2.2.2.2.2.2.1
    (fun a b => 0 + ∑ r ∈ range 256, (rows m c t).dPlg r a b) := fun y => by
  unfold outsA
  dsimp only
  unfold atA bodyA
  dsimp only
  frame_out
  exact pay50_reads (tS_reads m c t) (block_7 m c t) (tG_reads m c t) (tP_reads m c t) (tN_reads m c t)
    (reads_const (m := 1024) (n := 1024) word_zero) y
set_option maxHeartbeats 4000000 in
theorem first_23 (h0 : t.val % 32 = 0) : Reads (m := 256) (n := 1024) (outsA m c t h0).2.2.2.2.2.2.2.2.1
    (fun a b => 0 + ∑ r ∈ range 256, (rows m c t).dPl r a b) := fun y => by
  unfold outsA
  dsimp only
  unfold atA bodyA
  dsimp only
  frame_out
  exact pay48_reads (tS_reads m c t) (block_7 m c t) (tG_reads m c t) (block_6 m c t) (reads_const (m := 256) (n := 1024) word_zero) y
set_option maxHeartbeats 4000000 in
theorem first_27 (h0 : t.val % 32 = 0) : Reads (m := 1) (n := 1024) (outsA m c t h0).2.2.2.2.2.2.2.2.2.2.2.2.1
    (fun _ b => 0 + ∑ r ∈ range 256, (rows m c t).dGp r b) := fun y => by
  unfold outsA
  dsimp only
  unfold atA bodyA
  dsimp only
  frame_out
  exact pay52_reads (tS_reads m c t) (block_7 m c t) (tG_reads m c t) (tP_reads m c t) (tH_reads m c t) (block_9 m c t)
    (reads_const (m := 1) (n := 1024) word_zero) y
set_option maxHeartbeats 4000000 in
theorem first_28 (h0 : t.val % 32 = 0) : Reads (m := 1) (n := 128) (outsA m c t h0).2.2.2.2.2.2.2.2.2.2.2.2.2
    (fun _ _ => 0 + (rows m c t).loss 256) := fun y => by
  unfold outsA
  dsimp only
  unfold atA bodyA
  dsimp only
  frame_out
  exact pay46_reads (tS_reads m c t) (block_7 m c t) (reads_const (m := 1) (n := 128) word_zero) y

section Later
variable {t} {p : Outs Ideal} {e : ℕ → ℕ → EReal} (h0 : ¬t.val % 32 = 0)

set_option maxHeartbeats 4000000 in
theorem later_22 (h : Reads (m := 1024) (n := 1024) p.2.2.2.2.2.2.2.1 e) : Reads (m := 1024) (n := 1024) (outsB m c t h0 p).2.2.2.2.2.2.2.1
    (fun a b => e a b + ∑ r ∈ range 256, (rows m c t).dPlg r a b) := fun y => by
  unfold outsB
  dsimp only
  unfold atB bodyB
  dsimp only
  frame_out
  exact pay50_reads (tS_reads m c t) (block_7 m c t) (tG_reads m c t) (tP_reads m c t) (tN_reads m c t) h y
set_option maxHeartbeats 4000000 in
theorem later_23 (h : Reads (m := 256) (n := 1024) p.2.2.2.2.2.2.2.2.1 e) : Reads (m := 256) (n := 1024) (outsB m c t h0 p).2.2.2.2.2.2.2.2.1
    (fun a b => e a b + ∑ r ∈ range 256, (rows m c t).dPl r a b) := fun y => by
  unfold outsB
  dsimp only
  unfold atB bodyB
  dsimp only
  frame_out
  exact pay48_reads (tS_reads m c t) (block_7 m c t) (tG_reads m c t) (block_6 m c t) h y
set_option maxHeartbeats 4000000 in
theorem later_27 (h : Reads (m := 1) (n := 1024) p.2.2.2.2.2.2.2.2.2.2.2.2.1 e) : Reads (m := 1) (n := 1024) (outsB m c t h0 p).2.2.2.2.2.2.2.2.2.2.2.2.1
    (fun a b => e a b + ∑ r ∈ range 256, (rows m c t).dGp r b) := fun y => by
  unfold outsB
  dsimp only
  unfold atB bodyB
  dsimp only
  frame_out
  exact pay52_reads (tS_reads m c t) (block_7 m c t) (tG_reads m c t) (tP_reads m c t) (tH_reads m c t) (block_9 m c t) h y
set_option maxHeartbeats 4000000 in
theorem later_28 (h : Reads (m := 1) (n := 128) p.2.2.2.2.2.2.2.2.2.2.2.2.2 e) :
    Reads (m := 1) (n := 128) (outsB m c t h0 p).2.2.2.2.2.2.2.2.2.2.2.2.2 (fun a b => e a b + (rows m c t).loss 256) := fun y => by
  unfold outsB
  dsimp only
  unfold atB bodyB
  dsimp only
  frame_out
  exact pay46_reads (tS_reads m c t) (block_7 m c t) h y
end Later

end Cert.Kernel4Ideal.Run

end
-- ==== Proof.Mid.Results.lean ====
/-
  What the loss and the three weight gradients hold after the whole grid: every point adds its 256 rows' share.
-/
module

public import proofs.«01_k».proof.Proof.Mid.Point

@[expose] public section

set_option maxRecDepth 16384

noncomputable section

namespace Cert.Middle

open Idealize.ShloMosaic
open Finset

/-- The gradients and the loss of all the rows, as arrays. -/
def Rows.dPlgArr (D : Rows) : (⟨2, ![1024, 1024]⟩ : Shape).Idx → EReal := fun i => ∑ r ∈ range 8192, D.dPlg r (i 0).val (i 1).val
def Rows.dPlArr (D : Rows) : (⟨2, ![256, 1024]⟩ : Shape).Idx → EReal := fun i => ∑ r ∈ range 8192, D.dPl r (i 0).val (i 1).val
def Rows.dGpArr (D : Rows) : (⟨2, ![1, 1024]⟩ : Shape).Idx → EReal := fun i => ∑ r ∈ range 8192, D.dGp r (i 1).val
def Rows.lossArr (D : Rows) : (⟨2, ![1, 128]⟩ : Shape).Idx → EReal := fun _ => D.loss 8192

theorem Rows.loss_zero (D : Rows) : D.loss 0 = 0 := by
  unfold Rows.loss
  rw [sum_range_zero, zero_mul]

end Cert.Middle

namespace Cert.Kernel4Ideal.Run

open Cert.Kernel4Ideal Cert.Kernel4Ideal.Gen Cert.Kernel4Ideal.Host Cert.Project Cert.Middle
open Idealize.ShloMosaic Idealize.ShloMosaic.TcCoe Idealize.ShloMosaic.Tactic
open Finset

variable (m : (ℓ : Loc nD τ sig) → Buf (Elt Ideal) ℓ) (c : Dev nD)

theorem not_first (n : ℕ) (hn : n + 1 < cfg0.N) : ¬(n + 1) % 32 = 0 := by
  have h := point_lt ⟨n + 1, hn⟩
  dsimp only at h
  omega

theorem left_22 : ∀ (n : ℕ) (hn : n < cfg0.N), Reads (m := 1024) (n := 1024) (outsAt m c n hn).2.2.2.2.2.2.2.1
    (fun a b => ∑ r ∈ range (256 * (n + 1)), (args m c).dPlg r a b)
  | 0, hn => by
    rw [outsAt_A m c ⟨0, hn⟩ rfl]
    exact (first_22 m c ⟨0, hn⟩ rfl).congr fun a b _ _ =>
      (congrArg (· + _) (sum_range_zero _).symm).trans ((args m c).dPlg_add 0 256 a b)
  | n + 1, hn => by
    rw [outsAt_B m c ⟨n + 1, hn⟩ (not_first n hn)]
    exact (later_22 m c (t := ⟨n + 1, hn⟩) (not_first n hn) (left_22 n (Nat.lt_of_succ_lt hn))).congr fun a b _ _ =>
      (args m c).dPlg_add (256 * (n + 1)) 256 a b
theorem left_23 : ∀ (n : ℕ) (hn : n < cfg0.N), Reads (m := 256) (n := 1024) (outsAt m c n hn).2.2.2.2.2.2.2.2.1
    (fun a b => ∑ r ∈ range (256 * (n + 1)), (args m c).dPl r a b)
  | 0, hn => by
    rw [outsAt_A m c ⟨0, hn⟩ rfl]
    exact (first_23 m c ⟨0, hn⟩ rfl).congr fun a b _ _ =>
      (congrArg (· + _) (sum_range_zero _).symm).trans ((args m c).dPl_add 0 256 a b)
  | n + 1, hn => by
    rw [outsAt_B m c ⟨n + 1, hn⟩ (not_first n hn)]
    exact (later_23 m c (t := ⟨n + 1, hn⟩) (not_first n hn) (left_23 n (Nat.lt_of_succ_lt hn))).congr fun a b _ _ =>
      (args m c).dPl_add (256 * (n + 1)) 256 a b
theorem left_27 : ∀ (n : ℕ) (hn : n < cfg0.N), Reads (m := 1) (n := 1024) (outsAt m c n hn).2.2.2.2.2.2.2.2.2.2.2.2.1
    (fun _ b => ∑ r ∈ range (256 * (n + 1)), (args m c).dGp r b)
  | 0, hn => by
    rw [outsAt_A m c ⟨0, hn⟩ rfl]
    exact (first_27 m c ⟨0, hn⟩ rfl).congr fun _ b _ _ =>
      (congrArg (· + _) (sum_range_zero _).symm).trans ((args m c).dGp_add 0 256 b)
  | n + 1, hn => by
    rw [outsAt_B m c ⟨n + 1, hn⟩ (not_first n hn)]
    exact (later_27 m c (t := ⟨n + 1, hn⟩) (not_first n hn) (left_27 n (Nat.lt_of_succ_lt hn))).congr fun _ b _ _ =>
      (args m c).dGp_add (256 * (n + 1)) 256 b
theorem left_28 : ∀ (n : ℕ) (hn : n < cfg0.N), Reads (m := 1) (n := 128) (outsAt m c n hn).2.2.2.2.2.2.2.2.2.2.2.2.2
    (fun _ _ => (args m c).loss (256 * (n + 1)))
  | 0, hn => by
    rw [outsAt_A m c ⟨0, hn⟩ rfl]
    exact (first_28 m c ⟨0, hn⟩ rfl).congr fun _ _ _ _ =>
      (congrArg (· + _) (Rows.loss_zero _).symm).trans ((args m c).loss_add 0 256)
  | n + 1, hn => by
    rw [outsAt_B m c ⟨n + 1, hn⟩ (not_first n hn)]
    exact (later_28 m c (t := ⟨n + 1, hn⟩) (not_first n hn) (left_28 n (Nat.lt_of_succ_lt hn))).congr fun _ _ _ _ =>
      (args m c).loss_add (256 * (n + 1)) 256

/-! ## The arrays -/

theorem arr_22 : (dats m 0 c).arrAt 22 cfg0.N = (args m c).dPlgArr := by
  refine (dats m 0 c).arrAt_eq_of_covers 22 _ (by decide +kernel) fun t hf y => ?_
  have h := (flush0_22 t).mp hf
  have ht := point_lt t
  have e : t.val = 31 := by omega
  blk_simp
  rw [after22]
  refine (left_22 m c t.val t.isLt y).trans ?_
  rw [e]
  unfold Rows.dPlgArr
  blk_simp [index_22]
theorem arr_23 : (dats m 0 c).arrAt 23 cfg0.N = (args m c).dPlArr := by
  refine (dats m 0 c).arrAt_eq_of_covers 23 _ (by decide +kernel) fun t hf y => ?_
  have h := (flush0_23 t).mp hf
  have ht := point_lt t
  have e : t.val = 31 := by omega
  blk_simp
  rw [after23]
  refine (left_23 m c t.val t.isLt y).trans ?_
  rw [e]
  unfold Rows.dPlArr
  blk_simp [index_23]
theorem arr_27 : (dats m 0 c).arrAt 27 cfg0.N = (args m c).dGpArr := by
  refine (dats m 0 c).arrAt_eq_of_covers 27 _ (by decide +kernel) fun t hf y => ?_
  have h := (flush0_27 t).mp hf
  have ht := point_lt t
  have e : t.val = 31 := by omega
  blk_simp
  rw [after27]
  refine (left_27 m c t.val t.isLt y).trans ?_
  rw [e]
  unfold Rows.dGpArr
  blk_simp [index_27]
theorem arr_28 : (dats m 0 c).arrAt 28 cfg0.N = (args m c).lossArr := by
  refine (dats m 0 c).arrAt_eq_of_covers 28 _ (by decide +kernel) fun t hf y => ?_
  have h := (flush0_28 t).mp hf
  have ht := point_lt t
  have e : t.val = 31 := by omega
  blk_simp
  rw [after28]
  refine (left_28 m c t.val t.isLt y).trans ?_
  rw [e]
  rfl

end Cert.Kernel4Ideal.Run

end
-- ==== Proof.Mid.Reference.lean ====
/-
  The reference's results, entry by entry.
-/
module

public import proofs.«01_k».proof.Proof.Project.Rows
public import proofs.«01_k».proof.Proof.Mid.Host
public import proofs.«01_k».proof.Proof.Mid.Reading
public import proofs.«01_k».proof.Proof.Gen.Reference4Ideal.Read
public import Idealize.ShloMosaic.Lib.Pointwise.Index

@[expose] public section

noncomputable section

namespace Cert.Reference4Ideal.Elements

open Cert.Reference4Ideal Cert.Reference4Ideal.Gen Cert.Reference4Ideal.Read Cert.Project Cert.Middle Finset
open Idealize.ShloMosaic Idealize.ShloMosaic.TcCoe

theorem length_512 : Ideal.ofBits .f32 0x44000000#32 = ((512 : ℕ) : ℝ) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num

/-- One over one more than an exponential. -/
theorem logistic_entry {w x y : EReal} (hw : w = 1) (hx : x = y) : Ideal.div w (w + Ideal.exp (-x)) = Ideal.logistic y := by
  rw [hw, hx]; rfl

/-- Half of the mean's cotangent, times twice the error. -/
theorem cotangent_entry {h w N t e f : EReal} (hh : h = ((1 / 2 : ℝ) : EReal)) (hw : w = 1) (hN : N = ((1024 : ℕ) : ℝ)) (ht : t = ((2 : ℝ) : EReal)) (he : e = f) :
    Ideal.div (h * w) N * (t * e) = f * (((1024 : ℕ) : ℝ)⁻¹ : ℝ) := by
  rw [hh, hw, hN, ht, he, mul_one, Ideal.div_coe (by norm_num), one_div, ← mul_assoc, ← EReal.coe_mul, ← EReal.coe_mul, mul_comm]
  congr 2
  norm_num

/-- Half of the sum of some means. -/
theorem loss_entry (S : ℕ → EReal) (h0 : ∀ r, 0 ≤ S r) {h z N : EReal} (n : ℕ) (hh : h = ((1 / 2 : ℝ) : EReal)) (hz : z = 0) (hN : N = ((1024 : ℕ) : ℝ)) :
    h * (z + ∑ r ∈ range n, Ideal.div (z + S r) N) = (∑ r ∈ range n, S r) * (((2048 : ℕ) : ℝ)⁻¹ : ℝ) := by
  rw [hh, hz, hN, zero_add]
  have e : ∀ n, ∑ r ∈ range n, Ideal.div (0 + S r) ((1024 : ℕ) : ℝ) = (∑ r ∈ range n, S r) * (((1024 : ℕ) : ℝ)⁻¹ : ℝ) := fun n => by
    induction n with
    | zero => simp
    | succ n ih =>
      rw [sum_range_succ, sum_range_succ, ih, EReal.right_distrib_of_nonneg (sum_nonneg fun _ _ => h0 _) (h0 _), zero_add,
        Ideal.div_coe (by norm_num), one_div]
  rw [e, mul_left_comm, ← EReal.coe_mul]
  congr 2
  norm_num

/-- Rows below others, and the rows from one of them on. -/
theorem rows_below {X : S2x512.Idx → EReal} {Y : S8192x512.Idx → EReal} {f : ℕ → ℕ → EReal} (hX : ∀ i, X i = 0) (hY : Reads (m := 8192) (n := 512) Y f)
    (h : Shape.Concatenates [S2x512, S8192x512] S8194x512 0) (i : S8194x512.Idx) {r j : ℕ} (hr : (i 0).val = r) (hj : (i 1).val = j) :
    concatenate S8194x512 0 [⟨S2x512, X⟩, ⟨S8192x512, Y⟩] h i = if 2 ≤ r then f (r - 2) j else 0 := by
  refine ((concatenate_cons_apply ..).trans (concatenateAt_cons ..)).trans ?_
  by_cases h : (i 0).val < 2
  · rw [if_neg (by omega)]; exact (dif_pos h).trans (hX _)
  · rw [if_pos (by omega)]; exact ((dif_neg h).trans (concatenateAt_singleton ..)).trans (hY.at _ (by rw [← hr]; rfl) hj)

variable (x0 : (⟨S8192x512, .f32⟩ : BufTy).Contents (Elt Ideal)) (x1 : (⟨S8192x3008, .f32⟩ : BufTy).Contents (Elt Ideal))
variable (x2 : (⟨S8192x1024, .f32⟩ : BufTy).Contents (Elt Ideal)) (x3 : (⟨S8192x256, .f32⟩ : BufTy).Contents (Elt Ideal))
variable (x4 : (⟨S8192x1024, .f32⟩ : BufTy).Contents (Elt Ideal)) (x5 x6 : (⟨S1024x1024, .f32⟩ : BufTy).Contents (Elt Ideal))
variable (x7 : (⟨S256x1024, .f32⟩ : BufTy).Contents (Elt Ideal)) (x8 : (⟨S3x512, .f32⟩ : BufTy).Contents (Elt Ideal))
variable (x9 x10 : (⟨S1x512, .f32⟩ : BufTy).Contents (Elt Ideal)) (x11 : (⟨S1x1024, .f32⟩ : BufTy).Contents (Elt Ideal))

/-! ## The branches -/

/-- The attention branch, gated -/
theorem attn_reads : Reads (m := 8192) (n := 512) (val_main_v7 (F := Ideal) x0 x1) ((argsOf x0 x1 x2 x3 x4 x5 x6 x7 x8 x9 x10 x11).attn) := fun i => by
  rw [val_main_v7_apply, val_main_v6_apply, val_main_call0_v5_apply, val_main_call0_v4_apply, val_main_call0_cst_0_apply, val_main_call0_v3_apply, val_main_call0_v2_apply, val_main_call0_cst_apply, val_main_call0_v1_apply, val_main_call0_v0_apply, val_main_v1_apply]
  exact congrArg₂ (· * ·) ((reads_table (m := 8192) (n := 512) x0).at _ rfl rfl)
    (congrArg₂ (· * ·) ((reads_table (m := 8192) (n := 3008) x1).at _ rfl rfl) (logistic_entry word_one ((reads_table (m := 8192) (n := 3008) x1).at _ rfl rfl)))
/-- and normalised. -/
theorem attn_norm : Reads (m := 8192) (n := 512) (val_main_v19 (F := Ideal) x0 x1 x9) (fun r => normed 512 ((argsOf x0 x1 x2 x3 x4 x5 x6 x7 x8 x9 x10 x11).attn r) (argsOf x0 x1 x2 x3 x4 x5 x6 x7 x8 x9 x10 x11).ga) := fun i => by
  rw [val_main_v19_apply, val_main_v17_apply, val_main_v16_apply, val_main_v15_apply, val_main_v14_apply, val_main_v12_apply, val_main_v13_apply, val_main_cst_1_apply, val_main_v11_apply, val_main_cst_0_apply, val_main_v10_apply, val_main_v9_apply, val_main_cst_apply, val_main_v18_apply]
  exact norm_entry (u := ((argsOf x0 x1 x2 x3 x4 x5 x6 x7 x8 x9 x10 x11).attn (i 0).val)) (by decide) length_512 ((attn_reads x0 x1 x2 x3 x4 x5 x6 x7 x8 x9 x10 x11).at _ rfl rfl) ((row_table (n := 512) x9).at _ rfl rfl)
    (sum_squares fun k => congrArg₂ (· * ·) ((attn_reads x0 x1 x2 x3 x4 x5 x6 x7 x8 x9 x10 x11).at _ rfl rfl) ((attn_reads x0 x1 x2 x3 x4 x5 x6 x7 x8 x9 x10 x11).at _ rfl rfl))
/-- The product that is convolved -/
theorem product_reads : Reads (m := 8192) (n := 512) (val_main_v20 (F := Ideal) x1) (fun r j => table (m := 8192) (n := 3008) x1 r (1472 + j) * table (m := 8192) (n := 3008) x1 r (1984 + j)) := fun i => by
  rw [val_main_v20_apply, val_main_v3_apply, val_main_v4_apply]
  exact congrArg₂ (· * ·) ((reads_table (m := 8192) (n := 3008) x1).at _ rfl rfl) ((reads_table (m := 8192) (n := 3008) x1).at _ rfl rfl)
/-- with two rows of zeros before it. -/
theorem below (i : S8194x512.Idx) {r j : ℕ} (hr : (i 0).val = r) (hj : (i 1).val = j) : val_main_v22 (F := Ideal) x1 i
    = if 2 ≤ r then table (m := 8192) (n := 3008) x1 (r - 2) (1472 + j) * table (m := 8192) (n := 3008) x1 (r - 2) (1984 + j) else 0 := by
  unfold val_main_v22
  exact rows_below (fun i => by rw [val_main_v21_apply, val_main_cst_2_apply]; exact word_zero) (product_reads x1) _ i hr hj
theorem back_two : Reads (m := 8192) (n := 512) (val_main_v25 (F := Ideal) x1) ((argsOf x0 x1 x2 x3 x4 x5 x6 x7 x8 x9 x10 x11).m2) := fun i => by
  rw [val_main_v25_apply]
  exact below x1 _ rfl rfl
theorem back_one : Reads (m := 8192) (n := 512) (val_main_v31 (F := Ideal) x1) ((argsOf x0 x1 x2 x3 x4 x5 x6 x7 x8 x9 x10 x11).m1) := fun i => by
  rw [val_main_v31_apply]
  refine (below x1 _ (r := 1 + (i 0).val) (j := (i 1).val) rfl rfl).trans ?_
  show _ = if 1 ≤ (i 0).val then _ else _
  by_cases h : 1 ≤ (i 0).val
  · rw [if_pos h, if_pos (by omega), show 1 + (i 0).val - 2 = (i 0).val - 1 by omega]
  · rw [if_neg h, if_neg (by omega)]
theorem back_none : Reads (m := 8192) (n := 512) (val_main_v38 (F := Ideal) x1) ((argsOf x0 x1 x2 x3 x4 x5 x6 x7 x8 x9 x10 x11).m) := fun i => by
  rw [val_main_v38_apply]
  refine (below x1 _ (r := 2 + (i 0).val) (j := (i 1).val) rfl rfl).trans ?_
  rw [if_pos (by omega), show 2 + (i 0).val - 2 = (i 0).val by omega]
  rfl
/-- The short convolution -/
theorem mixed_reads : Reads (m := 8192) (n := 512) (val_main_v42 (F := Ideal) x1 x8) ((argsOf x0 x1 x2 x3 x4 x5 x6 x7 x8 x9 x10 x11).mixed) := fun i => by
  rw [val_main_v42_apply, val_main_v35_apply, val_main_v28_apply, val_main_v27_apply, val_main_v26_apply, val_main_v24_apply, val_main_v23_apply, val_main_v34_apply, val_main_v33_apply, val_main_v32_apply, val_main_v30_apply, val_main_v29_apply, val_main_v41_apply, val_main_v40_apply, val_main_v39_apply, val_main_v37_apply, val_main_v36_apply]
  exact congrArg₂ (· + ·) (congrArg₂ (· + ·) (congrArg₂ (· * ·) ((reads_table (m := 3) (n := 512) x8).at _ rfl (Nat.mod_eq_of_lt (i 1).isLt)) ((back_two x0 x1 x2 x3 x4 x5 x6 x7 x8 x9 x10 x11).at _ rfl rfl))
    (congrArg₂ (· * ·) ((reads_table (m := 3) (n := 512) x8).at _ rfl (Nat.mod_eq_of_lt (i 1).isLt)) ((back_one x0 x1 x2 x3 x4 x5 x6 x7 x8 x9 x10 x11).at _ rfl rfl))) (congrArg₂ (· * ·) ((reads_table (m := 3) (n := 512) x8).at _ rfl (Nat.mod_eq_of_lt (i 1).isLt)) ((back_none x0 x1 x2 x3 x4 x5 x6 x7 x8 x9 x10 x11).at _ rfl rfl))
/-- and its branch, gated -/
theorem conv_reads : Reads (m := 8192) (n := 512) (val_main_v45 (F := Ideal) x1 x8) ((argsOf x0 x1 x2 x3 x4 x5 x6 x7 x8 x9 x10 x11).conv) := fun i => by
  rw [val_main_v45_apply, val_main_v43_apply, val_main_v2_apply, val_main_v44_apply, val_main_v5_apply, val_main_call1_v5_apply, val_main_call1_v4_apply, val_main_call1_cst_0_apply, val_main_call1_v3_apply, val_main_call1_v2_apply, val_main_call1_cst_apply, val_main_call1_v1_apply, val_main_call1_v0_apply, val_main_v5_apply]
  exact congrArg₂ (· * ·) (congrArg₂ (· * ·) ((reads_table (m := 8192) (n := 3008) x1).at _ rfl rfl) ((mixed_reads x0 x1 x2 x3 x4 x5 x6 x7 x8 x9 x10 x11).at _ rfl rfl))
    (congrArg₂ (· * ·) ((reads_table (m := 8192) (n := 3008) x1).at _ rfl rfl) (logistic_entry word_one ((reads_table (m := 8192) (n := 3008) x1).at _ rfl rfl)))
/-- and normalised. -/
theorem conv_norm : Reads (m := 8192) (n := 512) (val_main_v57 (F := Ideal) x1 x8 x10) (fun r => normed 512 ((argsOf x0 x1 x2 x3 x4 x5 x6 x7 x8 x9 x10 x11).conv r) (argsOf x0 x1 x2 x3 x4 x5 x6 x7 x8 x9 x10 x11).gc) := fun i => by
  rw [val_main_v57_apply, val_main_v55_apply, val_main_v54_apply, val_main_v53_apply, val_main_v52_apply, val_main_v50_apply, val_main_v51_apply, val_main_cst_5_apply, val_main_v49_apply, val_main_cst_4_apply, val_main_v48_apply, val_main_v47_apply, val_main_cst_3_apply, val_main_v56_apply]
  exact norm_entry (u := ((argsOf x0 x1 x2 x3 x4 x5 x6 x7 x8 x9 x10 x11).conv (i 0).val)) (by decide) length_512 ((conv_reads x0 x1 x2 x3 x4 x5 x6 x7 x8 x9 x10 x11).at _ rfl rfl) ((row_table (n := 512) x10).at _ rfl rfl)
    (sum_squares fun k => congrArg₂ (· * ·) ((conv_reads x0 x1 x2 x3 x4 x5 x6 x7 x8 x9 x10 x11).at _ rfl rfl) ((conv_reads x0 x1 x2 x3 x4 x5 x6 x7 x8 x9 x10 x11).at _ rfl rfl))
theorem both_reads : Reads (m := 8192) (n := 1024) (val_main_v58 (F := Ideal) x0 x1 x8 x9 x10) (argsOf x0 x1 x2 x3 x4 x5 x6 x7 x8 x9 x10 x11).both := by
  unfold val_main_v58
  exact beside_two (attn_norm x0 x1 x2 x3 x4 x5 x6 x7 x8 x9 x10 x11) (conv_norm x0 x1 x2 x3 x4 x5 x6 x7 x8 x9 x10 x11) _

/-! ## The gated update -/

/-- The stream, -/
theorem x2_reads : Reads (m := 8192) (n := 1024) (val_main_v60 (F := Ideal) x0 x1 x2 x5 x8 x9 x10) ((argsOf x0 x1 x2 x3 x4 x5 x6 x7 x8 x9 x10 x11).x2) := fun i => by
  rw [val_main_v60_apply, val_main_v59_apply]
  exact congrArg₂ (· + ·) ((reads_table (m := 8192) (n := 1024) x2).at _ rfl rfl) (sum_against fun k => congrArg₂ (· * ·) ((both_reads x0 x1 x2 x3 x4 x5 x6 x7 x8 x9 x10 x11).at _ rfl rfl) ((reads_table (m := 1024) (n := 1024) x5).at _ rfl rfl))
/-- normalised, -/
theorem n2_reads : Reads (m := 8192) (n := 1024) (val_main_v72 (F := Ideal) x0 x1 x2 x5 x8 x9 x10 x11) (fun r => normed 1024 ((argsOf x0 x1 x2 x3 x4 x5 x6 x7 x8 x9 x10 x11).x2 r) (argsOf x0 x1 x2 x3 x4 x5 x6 x7 x8 x9 x10 x11).gp) := fun i => by
  rw [val_main_v72_apply, val_main_v70_apply, val_main_v69_apply, val_main_v68_apply, val_main_v67_apply, val_main_v65_apply, val_main_v66_apply, val_main_cst_8_apply, val_main_v64_apply, val_main_cst_7_apply, val_main_v63_apply, val_main_v62_apply, val_main_cst_6_apply, val_main_v71_apply]
  exact norm_entry (u := ((argsOf x0 x1 x2 x3 x4 x5 x6 x7 x8 x9 x10 x11).x2 (i 0).val)) (by decide) length_1024 ((x2_reads x0 x1 x2 x3 x4 x5 x6 x7 x8 x9 x10 x11).at _ rfl rfl) ((row_table (n := 1024) x11).at _ rfl rfl)
    (sum_squares fun k => congrArg₂ (· * ·) ((x2_reads x0 x1 x2 x3 x4 x5 x6 x7 x8 x9 x10 x11).at _ rfl rfl) ((x2_reads x0 x1 x2 x3 x4 x5 x6 x7 x8 x9 x10 x11).at _ rfl rfl))
/-- its gate, -/
theorem gate_reads : Reads (m := 8192) (n := 1024) (val_main_v79 (F := Ideal) x0 x1 x2 x5 x6 x8 x9 x10 x11) ((argsOf x0 x1 x2 x3 x4 x5 x6 x7 x8 x9 x10 x11).gate) := fun i => by
  rw [val_main_v79_apply, val_main_v78_apply, val_main_cst_10_apply, val_main_v77_apply, val_main_v76_apply, val_main_cst_9_apply, val_main_v75_apply, val_main_v74_apply, val_main_v73_apply]
  exact logistic_entry word_one (sum_against fun k => congrArg₂ (· * ·) ((n2_reads x0 x1 x2 x3 x4 x5 x6 x7 x8 x9 x10 x11).at _ rfl rfl) ((reads_table (m := 1024) (n := 1024) x6).at _ rfl rfl))
/-- what that lets through -/
theorem pw_reads : Reads (m := 8192) (n := 1024) (val_main_v83 (F := Ideal) x3 x7) ((argsOf x0 x1 x2 x3 x4 x5 x6 x7 x8 x9 x10 x11).pw) := fun i => by
  rw [val_main_v83_apply]
  exact sum_against fun k => congrArg₂ (· * ·) ((reads_table (m := 8192) (n := 256) x3).at _ rfl rfl) ((reads_table (m := 256) (n := 1024) x7).at _ rfl rfl)
/-- and the error. -/
theorem err_reads : Reads (m := 8192) (n := 1024) (val_main_v86 (F := Ideal) x0 x1 x2 x3 x4 x5 x6 x7 x8 x9 x10 x11) ((argsOf x0 x1 x2 x3 x4 x5 x6 x7 x8 x9 x10 x11).err) := fun i => by
  rw [val_main_v86_apply, val_main_v85_apply, val_main_v84_apply]
  exact congrArg₂ (· - ·) (congrArg₂ (· + ·) ((x2_reads x0 x1 x2 x3 x4 x5 x6 x7 x8 x9 x10 x11).at _ rfl rfl) (congrArg₂ (· * ·) ((gate_reads x0 x1 x2 x3 x4 x5 x6 x7 x8 x9 x10 x11).at _ rfl rfl) ((pw_reads x0 x1 x2 x3 x4 x5 x6 x7 x8 x9 x10 x11).at _ rfl rfl)))
    ((reads_table (m := 8192) (n := 1024) x4).at _ rfl rfl)
/-- Its cotangent. -/
theorem dOut_reads : Reads (m := 8192) (n := 1024) (val_main_v100 (F := Ideal) x0 x1 x2 x3 x4 x5 x6 x7 x8 x9 x10 x11) ((argsOf x0 x1 x2 x3 x4 x5 x6 x7 x8 x9 x10 x11).dOut) := fun i => by
  rw [val_main_v100_apply, val_main_v99_apply, val_main_v98_apply, val_main_v96_apply, val_main_v95_apply, val_main_cst_17_apply, val_main_cst_18_apply, val_main_v97_apply, val_main_cst_19_apply, val_main_v89_apply, val_main_v88_apply, val_main_cst_12_apply]
  exact cotangent_entry word_half word_one length_1024 word_two ((err_reads x0 x1 x2 x3 x4 x5 x6 x7 x8 x9 x10 x11).at _ rfl rfl)
/-! ## The results -/

theorem sum_rows {n : ℕ} {y : Fin n → EReal} {f : ℕ → EReal} (h : ∀ k, y k = f k.val) : ∑ k, y k = ∑ r ∈ range n, f r :=
  (sum_congr rfl fun k _ => h k).trans (Fin.sum_univ_eq_sum_range f n)

theorem dPl_reads : Reads (m := 256) (n := 1024) (val_main_v104 (F := Ideal) x0 x1 x2 x3 x4 x5 x6 x7 x8 x9 x10 x11) (fun a b => ∑ r ∈ range 8192, (argsOf x0 x1 x2 x3 x4 x5 x6 x7 x8 x9 x10 x11).dPl r a b) := fun i => by
  rw [val_main_v104_apply, val_main_v103_apply]
  exact sum_rows (f := fun r => (argsOf x0 x1 x2 x3 x4 x5 x6 x7 x8 x9 x10 x11).dPl r (i 0).val (i 1).val) fun k => by
    rw [val_main_v101_apply]
    exact (congrArg₂ (· * ·) (congrArg₂ (· * ·) ((gate_reads x0 x1 x2 x3 x4 x5 x6 x7 x8 x9 x10 x11).at _ rfl rfl) ((dOut_reads x0 x1 x2 x3 x4 x5 x6 x7 x8 x9 x10 x11).at _ rfl rfl)) ((reads_table (m := 8192) (n := 256) x3).at _ rfl rfl)).trans
      ((mul_comm _ _).trans (congrArg _ (mul_comm _ _)))
theorem dPlg_reads : Reads (m := 1024) (n := 1024) (val_main_v107 (F := Ideal) x0 x1 x2 x3 x4 x5 x6 x7 x8 x9 x10 x11) (fun a b => ∑ r ∈ range 8192, (argsOf x0 x1 x2 x3 x4 x5 x6 x7 x8 x9 x10 x11).dPlg r a b) := fun i => by
  rw [val_main_v107_apply, val_main_v106_apply]
  exact sum_rows (f := fun r => (argsOf x0 x1 x2 x3 x4 x5 x6 x7 x8 x9 x10 x11).dPlg r (i 0).val (i 1).val) fun k => by
    rw [val_main_v105_apply, val_main_v102_apply, val_main_v82_apply, val_main_v81_apply, val_main_v80_apply, val_main_cst_11_apply]
    exact (congrArg₂ (· * ·) (congrArg₂ (· * ·) (congrArg₂ (· * ·) ((dOut_reads x0 x1 x2 x3 x4 x5 x6 x7 x8 x9 x10 x11).at _ rfl rfl) ((pw_reads x0 x1 x2 x3 x4 x5 x6 x7 x8 x9 x10 x11).at _ rfl rfl))
      (congrArg₂ (· * ·) ((gate_reads x0 x1 x2 x3 x4 x5 x6 x7 x8 x9 x10 x11).at _ rfl rfl) (congrArg₂ (· - ·) word_one ((gate_reads x0 x1 x2 x3 x4 x5 x6 x7 x8 x9 x10 x11).at _ rfl rfl)))) ((n2_reads x0 x1 x2 x3 x4 x5 x6 x7 x8 x9 x10 x11).at _ rfl rfl)).trans
      ((mul_comm _ _).trans (congrArg _ (mul_assoc _ _ _).symm))
/-- The stream over its root mean square, -/
theorem unit_reads : Reads (m := 8192) (n := 1024) (val_main_v70 (F := Ideal) x0 x1 x2 x5 x8 x9 x10) (fun r c => (argsOf x0 x1 x2 x3 x4 x5 x6 x7 x8 x9 x10 x11).x2 r c * scale 1024 (squares 1024 ((argsOf x0 x1 x2 x3 x4 x5 x6 x7 x8 x9 x10 x11).x2 r))) := fun i => by
  rw [val_main_v70_apply, val_main_v69_apply, val_main_v68_apply, val_main_v67_apply, val_main_v65_apply, val_main_v66_apply, val_main_cst_8_apply, val_main_v64_apply, val_main_cst_7_apply, val_main_v63_apply, val_main_v62_apply, val_main_cst_6_apply]
  refine (mul_one _).symm.trans ((norm_entry (u := (argsOf x0 x1 x2 x3 x4 x5 x6 x7 x8 x9 x10 x11).x2 (i 0).val) (g := fun _ => 1) (j := (i 1).val) (by decide) length_1024 ((x2_reads x0 x1 x2 x3 x4 x5 x6 x7 x8 x9 x10 x11).at _ rfl rfl) rfl ?_).trans (mul_one _))
  exact sum_squares fun k => congrArg₂ (· * ·) ((x2_reads x0 x1 x2 x3 x4 x5 x6 x7 x8 x9 x10 x11).at _ rfl rfl) ((x2_reads x0 x1 x2 x3 x4 x5 x6 x7 x8 x9 x10 x11).at _ rfl rfl)
/-- the gate's cotangent -/
theorem dGlog_reads : Reads (m := 8192) (n := 1024) (val_main_v105 (F := Ideal) x0 x1 x2 x3 x4 x5 x6 x7 x8 x9 x10 x11) ((argsOf x0 x1 x2 x3 x4 x5 x6 x7 x8 x9 x10 x11).dGlog) := fun i => by
  rw [val_main_v105_apply, val_main_v102_apply, val_main_v82_apply, val_main_v81_apply, val_main_v80_apply, val_main_cst_11_apply]
  exact (congrArg₂ (· * ·) (congrArg₂ (· * ·) ((dOut_reads x0 x1 x2 x3 x4 x5 x6 x7 x8 x9 x10 x11).at _ rfl rfl) ((pw_reads x0 x1 x2 x3 x4 x5 x6 x7 x8 x9 x10 x11).at _ rfl rfl))
    (congrArg₂ (· * ·) ((gate_reads x0 x1 x2 x3 x4 x5 x6 x7 x8 x9 x10 x11).at _ rfl rfl) (congrArg₂ (· - ·) word_one ((gate_reads x0 x1 x2 x3 x4 x5 x6 x7 x8 x9 x10 x11).at _ rfl rfl)))).trans (mul_assoc _ _ _).symm
/-- and the normalised stream's. -/
theorem dN2_reads : Reads (m := 8192) (n := 1024) (val_main_v108 (F := Ideal) x0 x1 x2 x3 x4 x5 x6 x7 x8 x9 x10 x11) ((argsOf x0 x1 x2 x3 x4 x5 x6 x7 x8 x9 x10 x11).dN2) := fun i => by
  rw [val_main_v108_apply]
  exact sum_rows (f := fun k => (argsOf x0 x1 x2 x3 x4 x5 x6 x7 x8 x9 x10 x11).dGlog (i 0).val k * (argsOf x0 x1 x2 x3 x4 x5 x6 x7 x8 x9 x10 x11).wg (i 1).val k) fun k =>
    congrArg₂ (· * ·) ((dGlog_reads x0 x1 x2 x3 x4 x5 x6 x7 x8 x9 x10 x11).at _ rfl rfl) ((reads_table (m := 1024) (n := 1024) x6).at _ rfl rfl)
theorem dGp_reads : Reads (m := 1) (n := 1024) (val_main_v111 (F := Ideal) x0 x1 x2 x3 x4 x5 x6 x7 x8 x9 x10 x11) (fun _ b => ∑ r ∈ range 8192, (argsOf x0 x1 x2 x3 x4 x5 x6 x7 x8 x9 x10 x11).dGp r b) := fun i => by
  have h0 : (i 0).val < 1 := (i 0).isLt
  have e : (i 0).val * 1024 + (i 1).val = (i 1).val := by omega
  rw [val_main_v111_apply, val_main_v110_apply, val_main_cst_20_apply]
  refine (congrArg₂ (· + ·) word_zero (sum_rows (f := fun r => (argsOf x0 x1 x2 x3 x4 x5 x6 x7 x8 x9 x10 x11).dGp r (i 1).val) fun k => ?_)).trans (zero_add _)
  rw [val_main_v109_apply]
  exact (congrArg₂ (· * ·) ((unit_reads x0 x1 x2 x3 x4 x5 x6 x7 x8 x9 x10 x11).at _ rfl e) ((dN2_reads x0 x1 x2 x3 x4 x5 x6 x7 x8 x9 x10 x11).at _ rfl e)).trans (mul_comm _ _)
theorem loss_reads : Reads (m := 1) (n := 128) (val_main_v112 (F := Ideal) x0 x1 x2 x3 x4 x5 x6 x7 x8 x9 x10 x11) (fun _ _ => (argsOf x0 x1 x2 x3 x4 x5 x6 x7 x8 x9 x10 x11).loss 8192) := fun i => by
  rw [val_main_v112_apply, val_main_v94_apply, val_main_cst_16_apply, val_main_v93_apply, val_main_cst_15_apply]
  refine Eq.trans (congrArg₂ (· * ·) rfl (congrArg₂ (· + ·) rfl ?_)) (loss_entry (fun r => squares 1024 ((argsOf x0 x1 x2 x3 x4 x5 x6 x7 x8 x9 x10 x11).err r)) (fun _ => squares_nonneg _ _) 8192 word_half word_zero length_1024)
  rw [sum_idx1]
  exact sum_rows (f := fun r => Ideal.div (Ideal.ofBits .f32 0x00000000#32 + squares 1024 ((argsOf x0 x1 x2 x3 x4 x5 x6 x7 x8 x9 x10 x11).err r)) (Ideal.ofBits .f32 0x44800000#32)) fun k => by
    rw [val_main_v92_apply, val_main_v91_apply, val_main_cst_14_apply, val_main_v90_apply, val_main_cst_13_apply]
    exact congrArg₂ Ideal.div (congrArg₂ (· + ·) rfl (sum_squares fun j => congrArg₂ (· * ·) ((err_reads x0 x1 x2 x3 x4 x5 x6 x7 x8 x9 x10 x11).at _ rfl rfl) ((err_reads x0 x1 x2 x3 x4 x5 x6 x7 x8 x9 x10 x11).at _ rfl rfl))) rfl

end Cert.Reference4Ideal.Elements

end
-- ==== Proof.Mid.Join.lean ====
/-
  The runs of the two programs of the step's middle, each with its four results written as the same arrays; and the
  kernel's run on words.
-/
module

public import proofs.«01_k».proof.Proof.Mid.Results
public import proofs.«01_k».proof.Proof.Mid.Reference
public import proofs.«01_k».proof.Proof.Gen.Kernel4
public import proofs.«01_k».proof.Proof.Gen.Reference4Ideal.Run

@[expose] public section

set_option maxRecDepth 65536

noncomputable section

open Idealize.ShloMosaic Idealize.ShloMosaic.TcCoe Idealize.SL.Sem Cert.Project Cert.Middle

namespace Cert.Kernel4Ideal.Run

open Cert.Kernel4Ideal Cert.Kernel4Ideal.Gen Cert.Kernel4Ideal.Host

theorem values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12_7) = (args m c).dPlgArr
      ∧ r.2.mem ((c.tc : Thread nD τ).loc main_v12_8) = (args m c).dPlArr
      ∧ r.2.mem ((c.tc : Thread nD τ).loc main_v12_12) = (args m c).dGpArr
      ∧ r.2.mem ((c.tc : Thread nD τ).loc main_v12_13) = (args m c).lossArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h.1.out_eq c 22).trans (arr_22 m c), (h.1.out_eq c 23).trans (arr_23 m c),
    (h.1.out_eq c 27).trans (arr_27 m c), (h.1.out_eq c 28).trans (arr_28 m c),
    ((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).1 5).trans (((dats m 0 c).arrAt_in 5 rfl _).trans ((A_eq m c 5).trans (V_main_arg2 m c))),
    ((h.1 c).1 6).trans (((dats m 0 c).arrAt_in 6 rfl _).trans ((A_eq m c 6).trans (V_main_arg3 m c))),
    ((h.1 c).1 7).trans (((dats m 0 c).arrAt_in 7 rfl _).trans ((A_eq m c 7).trans (V_main_arg4 m c))),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).1 12).trans (((dats m 0 c).arrAt_in 12 rfl _).trans ((A_eq m c 12).trans (V_main_arg9 m c))),
    ((h.1 c).1 13).trans (((dats m 0 c).arrAt_in 13 rfl _).trans ((A_eq m c 13).trans (V_main_arg10 m c))),
    ((h.1 c).1 14).trans (((dats m 0 c).arrAt_in 14 rfl _).trans ((A_eq m c 14).trans (V_main_arg11 m c)))⟩) (run_main m ρ)

end Cert.Kernel4Ideal.Run

namespace Cert.Reference4Ideal.Elements

open Cert.Reference4Ideal
open Cert.Kernel4Ideal.Host (args x₀ x₁ x₂ x₃ x₄ x₅ x₆ x₇ x₈ x₉ x₁₀ x₁₁)

variable (m : (ℓ : Loc Kernel4Ideal.nD Kernel4Ideal.τ Kernel4Ideal.sig) → Buf (Elt Ideal) ℓ)
variable (m' : (ℓ : Loc nD τ sig) → Buf (Elt Ideal) ℓ)

/-- The reference's run, at the arrays the kernel's argument buffers hold. -/
theorem values (ρ : Dev nD → PrngReg)
    (e : ∀ c : Dev nD, m' ((c.tc : Thread nD τ).loc main_arg0) = x₀ m c
      ∧ m' ((c.tc : Thread nD τ).loc main_arg1) = x₁ m c
      ∧ m' ((c.tc : Thread nD τ).loc main_arg2) = x₂ m c
      ∧ m' ((c.tc : Thread nD τ).loc main_arg3) = x₃ m c
      ∧ m' ((c.tc : Thread nD τ).loc main_arg4) = x₄ m c
      ∧ m' ((c.tc : Thread nD τ).loc main_arg5) = x₅ m c
      ∧ m' ((c.tc : Thread nD τ).loc main_arg6) = x₆ m c
      ∧ m' ((c.tc : Thread nD τ).loc main_arg7) = x₇ m c
      ∧ m' ((c.tc : Thread nD τ).loc main_arg8) = x₈ m c
      ∧ m' ((c.tc : Thread nD τ).loc main_arg9) = x₉ m c
      ∧ m' ((c.tc : Thread nD τ).loc main_arg10) = x₁₀ m c
      ∧ m' ((c.tc : Thread nD τ).loc main_arg11) = x₁₁ m c) :
    θ_run defs (onTc (τ := τ) (main (F := Ideal))) ⟨m', fun _ => 0, ρ⟩ (fun r => ∀ c : Dev nD,
      r.2.mem ((c.tc : Thread nD τ).loc main_v107) = (args m c).dPlgArr
      ∧ r.2.mem ((c.tc : Thread nD τ).loc main_v104) = (args m c).dPlArr
      ∧ r.2.mem ((c.tc : Thread nD τ).loc main_v111) = (args m c).dGpArr
      ∧ r.2.mem ((c.tc : Thread nD τ).loc main_v112) = (args m c).lossArr
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)) :=
  (θ_run defs _ _).mono (fun r h c => by
    obtain ⟨e0, e1, e2, e3, e4, e5, e6, e7, e8, e9, e10, e11⟩ := e c
    have f0 : StableHlo.launchContents m' c (Proc.devRef .tc main_arg0) = x₀ m c := e0
    have f1 : StableHlo.launchContents m' c (Proc.devRef .tc main_arg1) = x₁ m c := e1
    have f2 : StableHlo.launchContents m' c (Proc.devRef .tc main_arg2) = x₂ m c := e2
    have f3 : StableHlo.launchContents m' c (Proc.devRef .tc main_arg3) = x₃ m c := e3
    have f4 : StableHlo.launchContents m' c (Proc.devRef .tc main_arg4) = x₄ m c := e4
    have f5 : StableHlo.launchContents m' c (Proc.devRef .tc main_arg5) = x₅ m c := e5
    have f6 : StableHlo.launchContents m' c (Proc.devRef .tc main_arg6) = x₆ m c := e6
    have f7 : StableHlo.launchContents m' c (Proc.devRef .tc main_arg7) = x₇ m c := e7
    have f8 : StableHlo.launchContents m' c (Proc.devRef .tc main_arg8) = x₈ m c := e8
    have f9 : StableHlo.launchContents m' c (Proc.devRef .tc main_arg9) = x₉ m c := e9
    have f10 : StableHlo.launchContents m' c (Proc.devRef .tc main_arg10) = x₁₀ m c := e10
    have f11 : StableHlo.launchContents m' c (Proc.devRef .tc main_arg11) = x₁₁ m c := e11
    obtain ⟨r0, r1, r2, r3, hr⟩ := h c
    refine ⟨r0.trans ?_, r1.trans ?_, r2.trans ?_, r3.trans ?_, hr⟩
    · rw [Read.val_main_v107_eq, f0, f1, f2, f3, f4, f5, f6, f7, f8, f9, f10, f11]
      exact funext fun i => dPlg_reads (x₀ m c) (x₁ m c) (x₂ m c) (x₃ m c) (x₄ m c) (x₅ m c) (x₆ m c) (x₇ m c) (x₈ m c) (x₉ m c) (x₁₀ m c) (x₁₁ m c) i
    · rw [Read.val_main_v104_eq, f0, f1, f2, f3, f4, f5, f6, f7, f8, f9, f10, f11]
      exact funext fun i => dPl_reads (x₀ m c) (x₁ m c) (x₂ m c) (x₃ m c) (x₄ m c) (x₅ m c) (x₆ m c) (x₇ m c) (x₈ m c) (x₉ m c) (x₁₀ m c) (x₁₁ m c) i
    · rw [Read.val_main_v111_eq, f0, f1, f2, f3, f4, f5, f6, f7, f8, f9, f10, f11]
      exact funext fun i => dGp_reads (x₀ m c) (x₁ m c) (x₂ m c) (x₃ m c) (x₄ m c) (x₅ m c) (x₆ m c) (x₇ m c) (x₈ m c) (x₉ m c) (x₁₀ m c) (x₁₁ m c) i
    · rw [Read.val_main_v112_eq, f0, f1, f2, f3, f4, f5, f6, f7, f8, f9, f10, f11]
      exact funext fun i => loss_reads (x₀ m c) (x₁ m c) (x₂ m c) (x₃ m c) (x₄ m c) (x₅ m c) (x₆ m c) (x₇ m c) (x₈ m c) (x₉ m c) (x₁₀ m c) (x₁₁ m c) i
    ) (Cert.Reference4Ideal.Value.run (F := Ideal) m' ρ)

end Cert.Reference4Ideal.Elements

namespace Cert.Kernel4.Run

/-- On words the kernel's program is the same one. -/
theorem same (m : (ℓ : Loc Kernel4Ideal.nD Kernel4Ideal.τ Kernel4Ideal.sig) → Buf (Elt Bits) ℓ) (ρ : Dev Kernel4Ideal.nD → PrngReg) :
    (θ_run Kernel4.defs (onTc (τ := Kernel4.τ) (Kernel4.main (F := Bits))) ⟨m, fun _ => 0, ρ⟩ (fun r => (∀ c : Dev Kernel4.nD,
      r.2.mem ((c.tc : Thread Kernel4.nD Kernel4.τ).loc Kernel4.main_arg0) = m ((c.tc : Thread Kernel4.nD Kernel4.τ).loc Kernel4.main_arg0)
      ∧ r.2.mem ((c.tc : Thread Kernel4.nD Kernel4.τ).loc Kernel4.main_arg1) = m ((c.tc : Thread Kernel4.nD Kernel4.τ).loc Kernel4.main_arg1)
      ∧ r.2.mem ((c.tc : Thread Kernel4.nD Kernel4.τ).loc Kernel4.main_arg2) = m ((c.tc : Thread Kernel4.nD Kernel4.τ).loc Kernel4.main_arg2)
      ∧ r.2.mem ((c.tc : Thread Kernel4.nD Kernel4.τ).loc Kernel4.main_arg3) = m ((c.tc : Thread Kernel4.nD Kernel4.τ).loc Kernel4.main_arg3)
      ∧ r.2.mem ((c.tc : Thread Kernel4.nD Kernel4.τ).loc Kernel4.main_arg4) = m ((c.tc : Thread Kernel4.nD Kernel4.τ).loc Kernel4.main_arg4)
      ∧ r.2.mem ((c.tc : Thread Kernel4.nD Kernel4.τ).loc Kernel4.main_arg5) = m ((c.tc : Thread Kernel4.nD Kernel4.τ).loc Kernel4.main_arg5)
      ∧ r.2.mem ((c.tc : Thread Kernel4.nD Kernel4.τ).loc Kernel4.main_arg6) = m ((c.tc : Thread Kernel4.nD Kernel4.τ).loc Kernel4.main_arg6)
      ∧ r.2.mem ((c.tc : Thread Kernel4.nD Kernel4.τ).loc Kernel4.main_arg7) = m ((c.tc : Thread Kernel4.nD Kernel4.τ).loc Kernel4.main_arg7)
      ∧ r.2.mem ((c.tc : Thread Kernel4.nD Kernel4.τ).loc Kernel4.main_arg8) = m ((c.tc : Thread Kernel4.nD Kernel4.τ).loc Kernel4.main_arg8)
      ∧ r.2.mem ((c.tc : Thread Kernel4.nD Kernel4.τ).loc Kernel4.main_arg9) = m ((c.tc : Thread Kernel4.nD Kernel4.τ).loc Kernel4.main_arg9)
      ∧ r.2.mem ((c.tc : Thread Kernel4.nD Kernel4.τ).loc Kernel4.main_arg10) = m ((c.tc : Thread Kernel4.nD Kernel4.τ).loc Kernel4.main_arg10)
      ∧ r.2.mem ((c.tc : Thread Kernel4.nD Kernel4.τ).loc Kernel4.main_arg11) = m ((c.tc : Thread Kernel4.nD Kernel4.τ).loc Kernel4.main_arg11))
      ∧ r.2.sem = fun _ => 0))
    = (θ_run Kernel4Ideal.defs (onTc (τ := Kernel4Ideal.τ) (Kernel4Ideal.main (F := Bits))) ⟨m, fun _ => 0, ρ⟩ (fun r => (∀ c : Dev Kernel4Ideal.nD,
      r.2.mem ((c.tc : Thread Kernel4Ideal.nD Kernel4Ideal.τ).loc Kernel4Ideal.main_arg0) = m ((c.tc : Thread Kernel4Ideal.nD Kernel4Ideal.τ).loc Kernel4Ideal.main_arg0)
      ∧ r.2.mem ((c.tc : Thread Kernel4Ideal.nD Kernel4Ideal.τ).loc Kernel4Ideal.main_arg1) = m ((c.tc : Thread Kernel4Ideal.nD Kernel4Ideal.τ).loc Kernel4Ideal.main_arg1)
      ∧ r.2.mem ((c.tc : Thread Kernel4Ideal.nD Kernel4Ideal.τ).loc Kernel4Ideal.main_arg2) = m ((c.tc : Thread Kernel4Ideal.nD Kernel4Ideal.τ).loc Kernel4Ideal.main_arg2)
      ∧ r.2.mem ((c.tc : Thread Kernel4Ideal.nD Kernel4Ideal.τ).loc Kernel4Ideal.main_arg3) = m ((c.tc : Thread Kernel4Ideal.nD Kernel4Ideal.τ).loc Kernel4Ideal.main_arg3)
      ∧ r.2.mem ((c.tc : Thread Kernel4Ideal.nD Kernel4Ideal.τ).loc Kernel4Ideal.main_arg4) = m ((c.tc : Thread Kernel4Ideal.nD Kernel4Ideal.τ).loc Kernel4Ideal.main_arg4)
      ∧ r.2.mem ((c.tc : Thread Kernel4Ideal.nD Kernel4Ideal.τ).loc Kernel4Ideal.main_arg5) = m ((c.tc : Thread Kernel4Ideal.nD Kernel4Ideal.τ).loc Kernel4Ideal.main_arg5)
      ∧ r.2.mem ((c.tc : Thread Kernel4Ideal.nD Kernel4Ideal.τ).loc Kernel4Ideal.main_arg6) = m ((c.tc : Thread Kernel4Ideal.nD Kernel4Ideal.τ).loc Kernel4Ideal.main_arg6)
      ∧ r.2.mem ((c.tc : Thread Kernel4Ideal.nD Kernel4Ideal.τ).loc Kernel4Ideal.main_arg7) = m ((c.tc : Thread Kernel4Ideal.nD Kernel4Ideal.τ).loc Kernel4Ideal.main_arg7)
      ∧ r.2.mem ((c.tc : Thread Kernel4Ideal.nD Kernel4Ideal.τ).loc Kernel4Ideal.main_arg8) = m ((c.tc : Thread Kernel4Ideal.nD Kernel4Ideal.τ).loc Kernel4Ideal.main_arg8)
      ∧ r.2.mem ((c.tc : Thread Kernel4Ideal.nD Kernel4Ideal.τ).loc Kernel4Ideal.main_arg9) = m ((c.tc : Thread Kernel4Ideal.nD Kernel4Ideal.τ).loc Kernel4Ideal.main_arg9)
      ∧ r.2.mem ((c.tc : Thread Kernel4Ideal.nD Kernel4Ideal.τ).loc Kernel4Ideal.main_arg10) = m ((c.tc : Thread Kernel4Ideal.nD Kernel4Ideal.τ).loc Kernel4Ideal.main_arg10)
      ∧ r.2.mem ((c.tc : Thread Kernel4Ideal.nD Kernel4Ideal.τ).loc Kernel4Ideal.main_arg11) = m ((c.tc : Thread Kernel4Ideal.nD Kernel4Ideal.τ).loc Kernel4Ideal.main_arg11))
      ∧ r.2.sem = fun _ => 0)) := by
  sl_kernel_rfl

/-- So its arguments, too, are left as they were. -/
theorem frame_main (m : (ℓ : Loc Kernel4.nD Kernel4.τ Kernel4.sig) → Buf (Elt Bits) ℓ) (ρ : Dev Kernel4.nD → PrngReg) :
    θ_run Kernel4.defs (onTc (τ := Kernel4.τ) (Kernel4.main (F := Bits))) ⟨m, fun _ => 0, ρ⟩ (fun r => (∀ c : Dev Kernel4.nD,
      r.2.mem ((c.tc : Thread Kernel4.nD Kernel4.τ).loc Kernel4.main_arg0) = m ((c.tc : Thread Kernel4.nD Kernel4.τ).loc Kernel4.main_arg0)
      ∧ r.2.mem ((c.tc : Thread Kernel4.nD Kernel4.τ).loc Kernel4.main_arg1) = m ((c.tc : Thread Kernel4.nD Kernel4.τ).loc Kernel4.main_arg1)
      ∧ r.2.mem ((c.tc : Thread Kernel4.nD Kernel4.τ).loc Kernel4.main_arg2) = m ((c.tc : Thread Kernel4.nD Kernel4.τ).loc Kernel4.main_arg2)
      ∧ r.2.mem ((c.tc : Thread Kernel4.nD Kernel4.τ).loc Kernel4.main_arg3) = m ((c.tc : Thread Kernel4.nD Kernel4.τ).loc Kernel4.main_arg3)
      ∧ r.2.mem ((c.tc : Thread Kernel4.nD Kernel4.τ).loc Kernel4.main_arg4) = m ((c.tc : Thread Kernel4.nD Kernel4.τ).loc Kernel4.main_arg4)
      ∧ r.2.mem ((c.tc : Thread Kernel4.nD Kernel4.τ).loc Kernel4.main_arg5) = m ((c.tc : Thread Kernel4.nD Kernel4.τ).loc Kernel4.main_arg5)
      ∧ r.2.mem ((c.tc : Thread Kernel4.nD Kernel4.τ).loc Kernel4.main_arg6) = m ((c.tc : Thread Kernel4.nD Kernel4.τ).loc Kernel4.main_arg6)
      ∧ r.2.mem ((c.tc : Thread Kernel4.nD Kernel4.τ).loc Kernel4.main_arg7) = m ((c.tc : Thread Kernel4.nD Kernel4.τ).loc Kernel4.main_arg7)
      ∧ r.2.mem ((c.tc : Thread Kernel4.nD Kernel4.τ).loc Kernel4.main_arg8) = m ((c.tc : Thread Kernel4.nD Kernel4.τ).loc Kernel4.main_arg8)
      ∧ r.2.mem ((c.tc : Thread Kernel4.nD Kernel4.τ).loc Kernel4.main_arg9) = m ((c.tc : Thread Kernel4.nD Kernel4.τ).loc Kernel4.main_arg9)
      ∧ r.2.mem ((c.tc : Thread Kernel4.nD Kernel4.τ).loc Kernel4.main_arg10) = m ((c.tc : Thread Kernel4.nD Kernel4.τ).loc Kernel4.main_arg10)
      ∧ r.2.mem ((c.tc : Thread Kernel4.nD Kernel4.τ).loc Kernel4.main_arg11) = m ((c.tc : Thread Kernel4.nD Kernel4.τ).loc Kernel4.main_arg11))
      ∧ r.2.sem = fun _ => 0) :=
  (same m ρ).mpr (Kernel4Ideal.Run.frame_main (F := Bits) m ρ)

end Cert.Kernel4.Run

end
-- ==== Proof.lean ====
/-
  The claims of `Cert.Claim`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Run.Launch
public import proofs.«01_k».proof.Proof.RunBits.Launch
public import proofs.«01_k».proof.Proof.Value.Finite
public import proofs.«01_k».proof.Proof.Value.Join
public import proofs.«01_k».proof.Proof.Forward.Finite
public import proofs.«01_k».proof.Proof.Forward.Join
public import proofs.«01_k».proof.Proof.ForwardBits.Launch
public import proofs.«01_k».proof.Proof.Project.Join
public import proofs.«01_k».proof.Proof.Mid.Join
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Run.frame_main (F := Bits) m ρ
theorem frame_kernelIdeal : Cert.quiescent_KernelIdeal := fun m ρ _ => Cert.KernelIdeal.Run.frame_main (F := Ideal) m ρ
theorem frame_kernelIdeal_finite : Cert.quiescent_KernelIdeal_pre_finite := fun m ρ _ => Cert.KernelIdeal.Run.frame_main (F := Ideal) m ρ

theorem frame_reference : Cert.quiescent_ReferenceIdeal := fun m ρ _ => (θ_run Cert.ReferenceIdeal.defs _ _).mono
  (fun r h => ⟨fun c => (h c).2.2.2, sem_eq_zero_of_no_sems (by decide) r.2⟩) (Cert.ReferenceIdeal.Value.run (F := Ideal) m ρ)
theorem frame_reference_finite : Cert.quiescent_ReferenceIdeal_pre_finite := fun m ρ _ => (θ_run Cert.ReferenceIdeal.defs _ _).mono
  (fun r h => ⟨fun c => (h c).2.2.2, sem_eq_zero_of_no_sems (by decide) r.2⟩) (Cert.ReferenceIdeal.Value.run (F := Ideal) m ρ)

/-- Both named constants stand for the rounded words they replace. -/
theorem preserves : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3DD53B95#32 ((((Real.sqrt 192) * (Real.log 2))⁻¹ : ℝ) : EReal) rfl⟩

/-- On real arguments both programs compute the attention's gradients. -/
theorem algebraic : Cert.algebraic_KernelIdeal_ReferenceIdeal_pre_finite := fun m g m' g' hpre hargs =>
  have hm := fun c => Cert.Pre_finite.real_of_pre _ _ _ _ (hpre c)
  ⟨fun c => Cert.KernelIdeal.Run.dqArr m c, fun c => Cert.KernelIdeal.Run.dkArr m c, fun c => Cert.KernelIdeal.Run.dvArr m c,
    Cert.KernelIdeal.Run.values m g hm, Cert.ReferenceIdeal.Elements.values m m' g' hm hargs⟩

/-! The forward call. -/

theorem frame_kernel2 : Cert.quiescent_Kernel2 := fun m ρ _ => Cert.Kernel2.Run.frame_main (F := Bits) m ρ
theorem frame_kernel2Ideal : Cert.quiescent_Kernel2Ideal := fun m ρ _ => Cert.Kernel2Ideal.Run.frame_main (F := Ideal) m ρ
theorem frame_kernel2Ideal_finite : Cert.quiescent_Kernel2Ideal_pre_finite2 := fun m ρ _ => Cert.Kernel2Ideal.Run.frame_main (F := Ideal) m ρ

theorem frame_reference2 : Cert.quiescent_Reference2Ideal := fun m ρ _ => (θ_run Cert.Reference2Ideal.defs _ _).mono
  (fun r h => ⟨fun c => (h c).2.2, sem_eq_zero_of_no_sems (by decide) r.2⟩) (Cert.Reference2Ideal.Value.run (F := Ideal) m ρ)
theorem frame_reference2_finite : Cert.quiescent_Reference2Ideal_pre_finite2 := fun m ρ _ => (θ_run Cert.Reference2Ideal.defs _ _).mono
  (fun r h => ⟨fun c => (h c).2.2, sem_eq_zero_of_no_sems (by decide) r.2⟩) (Cert.Reference2Ideal.Value.run (F := Ideal) m ρ)

/-- The three named constants stand for the rounded words they replace. -/
theorem preserves2 : Cert.preserves_Kernel2_Kernel2Ideal :=
  ⟨IdealRules.named_const.statement Cert.Kernel2Ideal.κ "mask" .f32 0xF149F2CA#32 ⊥ rfl,
    IdealRules.named_const.statement Cert.Kernel2Ideal.κ "scale_log2e" .f32 0x3DD53B95#32 ((((Real.sqrt 192) * (Real.log 2))⁻¹ : ℝ) : EReal) rfl,
    IdealRules.named_const.statement Cert.Kernel2Ideal.κ "log2e" .f32 0x3FB8AA3B#32 (((Real.log 2)⁻¹ : ℝ) : EReal) rfl⟩

/-- On real arguments both programs compute the attention's output and its log-sums. -/
theorem algebraic2 : Cert.algebraic_Kernel2Ideal_Reference2Ideal_pre_finite2 := fun m g m' g' hpre hargs =>
  have hm := fun c => Cert.Pre_finite2.real_of_pre _ _ _ (hpre c)
  ⟨fun c => Cert.Kernel2Ideal.Run.oArr m c, fun c => Cert.Kernel2Ideal.Run.lseArr m c,
    Cert.Kernel2Ideal.Run.values m g hm, Cert.Reference2Ideal.Elements.values m m' g' hm hargs⟩

/-! The projections' call. -/

theorem frame_kernel3 : Cert.quiescent_Kernel3 := fun m ρ _ => Cert.Kernel3.Gen.frame (F := Bits) m ρ
theorem frame_kernel3Ideal : Cert.quiescent_Kernel3Ideal := fun m ρ _ => Cert.Kernel3Ideal.Gen.frame (F := Ideal) m ρ
theorem frame_reference3 : Cert.quiescent_Reference3Ideal := fun m ρ _ => (θ_run Cert.Reference3Ideal.defs _ _).mono
  (fun r h => ⟨fun c => (h c).2.2.2.2, sem_eq_zero_of_no_sems (by decide) r.2⟩) (Cert.Reference3Ideal.Value.run (F := Ideal) m ρ)

/-- The named constant stands for the rounded word it replaces. -/
theorem preserves3 : Cert.preserves_Kernel3_Kernel3Ideal :=
  IdealRules.named_const.statement Cert.Kernel3Ideal.κ "inv_width" .f32 0x3BAAAAAB#32 (((192 : ℝ)⁻¹ : ℝ) : EReal) rfl

/-- On any arguments both programs compute the projections, and the heads' queries, keys and values. -/
theorem algebraic3 : Cert.algebraic_Kernel3Ideal_Reference3Ideal := fun m g m' g' _ hargs =>
  ⟨fun c => (Cert.Kernel3Ideal.Host.args m c).projArr, fun c => (Cert.Kernel3Ideal.Host.args m c).qArr,
    fun c => (Cert.Kernel3Ideal.Host.args m c).kArr, fun c => (Cert.Kernel3Ideal.Host.args m c).vArr,
    Cert.Kernel3Ideal.Run.values m g, Cert.Reference3Ideal.Elements.values m m' g' hargs⟩

/-! The middle call. -/

theorem frame_kernel4 : Cert.quiescent_Kernel4 := fun m ρ _ => Cert.Kernel4.Run.frame_main m ρ
theorem frame_kernel4Ideal : Cert.quiescent_Kernel4Ideal := fun m ρ _ => Cert.Kernel4Ideal.Run.frame_main (F := Ideal) m ρ
theorem frame_reference4 : Cert.quiescent_Reference4Ideal := fun m ρ _ => (θ_run Cert.Reference4Ideal.defs _ _).mono
  (fun r h => ⟨fun c => (h c).2.2.2.2, sem_eq_zero_of_no_sems (by decide) r.2⟩) (Cert.Reference4Ideal.Value.run (F := Ideal) m ρ)

/-- No operation is replaced. -/
theorem preserves4 : Cert.preserves_Kernel4_Kernel4Ideal := trivial

/-- On any arguments both programs compute the three weight gradients and the loss. -/
theorem algebraic4 : Cert.algebraic_Kernel4Ideal_Reference4Ideal := fun m g m' g' _ hargs =>
  ⟨fun c => (Cert.Kernel4Ideal.Host.args m c).dPlgArr, fun c => (Cert.Kernel4Ideal.Host.args m c).dPlArr,
    fun c => (Cert.Kernel4Ideal.Host.args m c).dGpArr, fun c => (Cert.Kernel4Ideal.Host.args m c).lossArr,
    Cert.Kernel4Ideal.Run.values m g, Cert.Reference4Ideal.Elements.values m m' g' hargs⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Pre_finite.Gen.facts, Cert.Pre_finite2.Gen.facts,
  frame_kernel, frame_kernelIdeal, frame_kernelIdeal_finite, frame_reference, frame_reference_finite,
  frame_kernel2, frame_kernel2Ideal, frame_kernel2Ideal_finite, frame_reference2, frame_reference2_finite,
  frame_kernel3, frame_kernel3Ideal, frame_reference3,
  frame_kernel4, frame_kernel4Ideal, frame_reference4,
  preserves, algebraic, preserves2, algebraic2, preserves3, algebraic3, preserves4, algebraic4⟩

end Cert.Proof

end
